-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1419) = v0 c
          ∧ r.2.mem ((c.tc : Thread Cert.ReferenceIdeal.nD Cert.ReferenceIdeal.τ).loc Cert.ReferenceIdeal.main_v1428) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S512x8x2 : Shape := ⟨3, ![512, 8, 2]⟩
abbrev S512x8 : Shape := ⟨2, ![512, 8]⟩
abbrev S512 : Shape := ⟨1, ![512]⟩
abbrev S42x128 : Shape := ⟨2, ![42, 128]⟩
abbrev S128 : Shape := ⟨1, ![128]⟩
abbrev S2x128x128 : Shape := ⟨3, ![2, 128, 128]⟩
abbrev S2x128 : Shape := ⟨2, ![2, 128]⟩
abbrev S128x128 : Shape := ⟨2, ![128, 128]⟩
abbrev S257x128 : Shape := ⟨2, ![257, 128]⟩
abbrev S256x128 : Shape := ⟨2, ![256, 128]⟩
abbrev S128x16 : Shape := ⟨2, ![128, 16]⟩
abbrev S16 : Shape := ⟨1, ![16]⟩
abbrev S256x512 : Shape := ⟨2, ![256, 512]⟩
abbrev S_ : Shape := ⟨0, ![]⟩
abbrev S512x1 : Shape := ⟨2, ![512, 1]⟩

class Facts : Prop where
  bcast_S_S512 : S_.BroadcastsInDim S512 (![] : Fin 0 → Fin S512.rank)
  bcast_S_S512x8 : S_.BroadcastsInDim S512x8 (![] : Fin 0 → Fin S512x8.rank)
  bcast_S512_S512x1_0 : S512.BroadcastsInDim S512x1 (![0] : Fin 1 → Fin S512x1.rank)
  bcast_S512x1_S512x8_0_1 : S512x1.BroadcastsInDim S512x8 (![0, 1] : Fin 2 → Fin S512x8.rank)

variable [Facts]

def fn_part1 {F : FTy → Type} [FloatOps F] (main_arg1 : IVec S512x8 32) (main_arg2 : IVec S512x8 32) (main_v16 : IVec S512 1) (main_c_5 : IVec S_ 32) : IVec S512x8 1 :=
  let main_v17 : IVec S512x8 32 := broadcastInDim S512x8 ![] bcast_S_S512x8 main_c_5
  let main_v18 : IVec S512x8 1 := cmpi .sge main_arg1 main_v17
  let main_c_6 : IVec S_ 32 := constantI S_ 32 8#32
  let main_v19 : IVec S512x8 32 := broadcastInDim S512x8 ![] bcast_S_S512x8 main_c_6
  let main_v20 : IVec S512x8 1 := cmpi .slt main_arg1 main_v19
  let main_v21 : IVec S512x8 1 := andi main_v18 main_v20
  let main_c_7 : IVec S_ 32 := constantI S_ 32 0#32
  let main_v22 : IVec S512x8 32 := broadcastInDim S512x8 ![] bcast_S_S512x8 main_c_7
  let main_v23 : IVec S512x8 1 := cmpi .sge main_arg2 main_v22
  let main_v24 : IVec S512x8 1 := andi main_v21 main_v23
  let main_c_8 : IVec S_ 32 := constantI S_ 32 8#32
  let main_v25 : IVec S512x8 32 := broadcastInDim S512x8 ![] bcast_S_S512x8 main_c_8
  let main_v26 : IVec S512x8 1 := cmpi .slt main_arg2 main_v25
  let main_v27 : IVec S512x8 1 := andi main_v24 main_v26
  let main_v28 : IVec S512x1 1 := broadcastInDim S512x1 ![0] bcast_S512_S512x1_0 main_v16
  let main_v29 : IVec S512x8 1 := broadcastInDim S512x8 ![0, 1] bcast_S512x1_S512x8_0_1 main_v28
  let main_v30 : IVec S512x8 1 := andi main_v27 main_v29
  main_v30

def fn {F : FTy → Type} [FloatOps F] (main_arg0 : FVec F S512x8x2 .f32) (main_arg1 : IVec S512x8 32) (main_arg2 : IVec S512x8 32) (main_arg3 : IVec S512 32) (main_arg4 : IVec S512 32) (main_arg5 : IVec S512 32) (main_arg6 : FVec F S42x128 .f32) (main_arg7 : FVec F S128 .f32) (main_arg8 : FVec F S2x128x128 .f32) (main_arg9 : FVec F S2x128 .f32) (main_arg10 : FVec F S128x128 .f32) (main_arg11 : FVec F S128 .f32) (main_arg12 : FVec F S257x128 .f32) (main_arg13 : FVec F S128 .f32) (main_arg14 : FVec F S2x128x128 .f32) (main_arg15 : FVec F S2x128 .f32) (main_arg16 : FVec F S128x128 .f32) (main_arg17 : FVec F S128 .f32) (main_arg18 : FVec F S256x128 .f32) (main_arg19 : FVec F S128 .f32) (main_arg20 : FVec F S2x128x128 .f32) (main_arg21 : FVec F S2x128 .f32) (main_arg22 : FVec F S128x128 .f32) (main_arg23 : FVec F S128 .f32) (main_arg24 : FVec F S128x128 .f32) (main_arg25 : FVec F S128 .f32) (main_arg26 : FVec F S2x128x128 .f32) (main_arg27 : FVec F S2x128 .f32) (main_arg28 : FVec F S128x16 .f32) (main_arg29 : FVec F S16 .f32) (main_arg30 : FVec F S128 .f32) (main_arg31 : FVec F S128 .f32) (main_arg32 : FVec F S256x512 .f32) (main_arg33 : FVec F S512 .f32) : IVec S512x8 1 :=
  let main_c : IVec S_ 32 := constantI S_ 32 0#32
  let main_v0 : IVec S512 32 := broadcastInDim S512 ![] bcast_S_S512 main_c
  let main_v1 : IVec S512 1 := cmpi .sge main_arg3 main_v0
  let main_c_0 : IVec S_ 32 := constantI S_ 32 16#32
  let main_v2 : IVec S512 32 := broadcastInDim S512 ![] bcast_S_S512 main_c_0
  let main_v3 : IVec S512 1 := cmpi .slt main_arg3 main_v2
  let main_v4 : IVec S512 1 := andi main_v1 main_v3
  let main_c_1 : IVec S_ 32 := constantI S_ 32 0#32
  let main_v5 : IVec S512 32 := broadcastInDim S512 ![] bcast_S_S512 main_c_1
  let main_v6 : IVec S512 1 := cmpi .sge main_arg4 main_v5
  let main_v7 : IVec S512 1 := andi main_v4 main_v6
  let main_c_2 : IVec S_ 32 := constantI S_ 32 8#32
  let main_v8 : IVec S512 32 := broadcastInDim S512 ![] bcast_S_S512 main_c_2
  let main_v9 : IVec S512 1 := cmpi .slt main_arg4 main_v8
  let main_v10 : IVec S512 1 := andi main_v7 main_v9
  let main_c_3 : IVec S_ 32 := constantI S_ 32 0#32
  let main_v11 : IVec S512 32 := broadcastInDim S512 ![] bcast_S_S512 main_c_3
  let main_v12 : IVec S512 1 := cmpi .sge main_arg5 main_v11
  let main_v13 : IVec S512 1 := andi main_v10 main_v12
  let main_c_4 : IVec S_ 32 := constantI S_ 32 16#32
  let main_v14 : IVec S512 32 := broadcastInDim S512 ![] bcast_S_S512 main_c_4
  let main_v15 : IVec S512 1 := cmpi .slt main_arg5 main_v14
  let main_v16 : IVec S512 1 := andi main_v13 main_v15
  let main_c_5 : IVec S_ 32 := constantI S_ 32 0#32
  fn_part1 (F := F) main_arg1 main_arg2 main_v16 main_c_5
-- ==== Kernel.lean ====
abbrev S512x8x2 : Shape := ⟨3, ![512, 8, 2]⟩
abbrev S512x8 : Shape := ⟨2, ![512, 8]⟩
abbrev S512 : Shape := ⟨1, ![512]⟩
abbrev S42x128 : Shape := ⟨2, ![42, 128]⟩
abbrev S128 : Shape := ⟨1, ![128]⟩
abbrev S2x128x128 : Shape := ⟨3, ![2, 128, 128]⟩
abbrev S2x128 : Shape := ⟨2, ![2, 128]⟩
abbrev S128x128 : Shape := ⟨2, ![128, 128]⟩
abbrev S257x128 : Shape := ⟨2, ![257, 128]⟩
abbrev S256x128 : Shape := ⟨2, ![256, 128]⟩
abbrev S128x16 : Shape := ⟨2, ![128, 16]⟩
abbrev S16 : Shape := ⟨1, ![16]⟩
abbrev S256x512 : Shape := ⟨2, ![256, 512]⟩
abbrev S512x8x1 : Shape := ⟨3, ![512, 8, 1]⟩
abbrev S512x1 : Shape := ⟨2, ![512, 1]⟩
abbrev S8x1 : Shape := ⟨2, ![8, 1]⟩
abbrev S8x512 : Shape := ⟨2, ![8, 512]⟩
abbrev S4096x256 : Shape := ⟨2, ![4096, 256]⟩
abbrev S512x8x128 : Shape := ⟨3, ![512, 8, 128]⟩
abbrev S512x1x1 : Shape := ⟨3, ![512, 1, 1]⟩
abbrev S4096x128 : Shape := ⟨2, ![4096, 128]⟩
abbrev S86x128 : Shape := ⟨2, ![86, 128]⟩
abbrev S512x16 : Shape := ⟨2, ![512, 16]⟩
abbrev S1x128x128 : Shape := ⟨3, ![1, 128, 128]⟩
abbrev S1x128 : Shape := ⟨2, ![1, 128]⟩
abbrev S512x1x128 : Shape := ⟨3, ![512, 1, 128]⟩
abbrev S512x128 : Shape := ⟨2, ![512, 128]⟩
abbrev S4096x512 : Shape := ⟨2, ![4096, 512]⟩
abbrev S1x512 : Shape := ⟨2, ![1, 512]⟩
abbrev S1x16 : Shape := ⟨2, ![1, 16]⟩
abbrev S1 : Shape := ⟨1, ![1]⟩
abbrev S1x1 : Shape := ⟨2, ![1, 1]⟩
abbrev S8 : Shape := ⟨1, ![8]⟩

abbrev nBuf : Space → Nat
  | .hbm => 43
  | .vmem => 39
  | .smem => 0
  | _ => 0

abbrev bufTy : (tb : Table) → Fin (tcTables nBuf tb) → BufTy
  | .hbm, ⟨0, _⟩ => ⟨S512x8x2, .f32⟩
  | .hbm, ⟨1, _⟩ => ⟨S512x8, .i32⟩
  | .hbm, ⟨2, _⟩ => ⟨S512x8, .i32⟩
  | .hbm, ⟨3, _⟩ => ⟨S512, .i32⟩
  | .hbm, ⟨4, _⟩ => ⟨S512, .i32⟩
  | .hbm, ⟨5, _⟩ => ⟨S512, .i32⟩
  | .hbm, ⟨6, _⟩ => ⟨S42x128, .f32⟩
  | .hbm, ⟨7, _⟩ => ⟨S128, .f32⟩
  | .hbm, ⟨8, _⟩ => ⟨S2x128x128, .f32⟩
  | .hbm, ⟨9, _⟩ => ⟨S2x128, .f32⟩
  | .hbm, ⟨10, _⟩ => ⟨S128x128, .f32⟩
  | .hbm, ⟨11, _⟩ => ⟨S128, .f32⟩
  | .hbm, ⟨12, _⟩ => ⟨S257x128, .f32⟩
  | .hbm, ⟨13, _⟩ => ⟨S128, .f32⟩
  | .hbm, ⟨14, _⟩ => ⟨S2x128x128, .f32⟩
  | .hbm, ⟨15, _⟩ => ⟨S2x128, .f32⟩
  | .hbm, ⟨16, _⟩ => ⟨S128x128, .f32⟩
  | .hbm, ⟨17, _⟩ => ⟨S128, .f32⟩
  | .hbm, ⟨18, _⟩ => ⟨S256x128, .f32⟩
  | .hbm, ⟨19, _⟩ => ⟨S128, .f32⟩
  | .hbm, ⟨20, _⟩ => ⟨S2x128x128, .f32⟩
  | .hbm, ⟨21, _⟩ => ⟨S2x128, .f32⟩
  | .hbm, ⟨22, _⟩ => ⟨S128x128, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S2x128x128, .f32⟩
  | .hbm, ⟨27, _⟩ => ⟨S2x128, .f32⟩
  | .hbm, ⟨28, _⟩ => ⟨S128x16, .f32⟩
  | .hbm, ⟨29, _⟩ => ⟨S16, .f32⟩
  | .hbm, ⟨30, _⟩ => ⟨S128, .f32⟩
  | .hbm, ⟨31, _⟩ => ⟨S128, .f32⟩
  | .hbm, ⟨32, _⟩ => ⟨S256x512, .f32⟩
  | .hbm, ⟨33, _⟩ => ⟨S512, .f32⟩
  | .hbm, ⟨34, _⟩ => ⟨S512x8x1, .f32⟩
  | .hbm, ⟨35, _⟩ => ⟨S512x8, .f32⟩
  | .hbm, ⟨36, _⟩ => ⟨S512x8x1, .f32⟩
  | .hbm, ⟨37, _⟩ => ⟨S512x8, .f32⟩
  | .hbm, ⟨38, _⟩ => ⟨S512x1, .i32⟩
  | .hbm, ⟨39, _⟩ => ⟨S512x1, .i32⟩
  | .hbm, ⟨40, _⟩ => ⟨S512x1, .i32⟩
  | .hbm, ⟨41, _⟩ => ⟨S8x1, .f32⟩
  | .hbm, ⟨42, _⟩ => ⟨S8x512, .i32⟩
  | .local _ .vmem, ⟨0, _⟩ => ⟨S512x8, .f32⟩
  | .local _ .vmem, ⟨1, _⟩ => ⟨S512x8, .f32⟩
  | .local _ .vmem, ⟨2, _⟩ => ⟨S512x8, .i32⟩
  | .local _ .vmem, ⟨3, _⟩ => ⟨S512x8, .i32⟩
  | .local _ .vmem, ⟨4, _⟩ => ⟨S512x1, .i32⟩
  | .local _ .vmem, ⟨5, _⟩ => ⟨S512x1, .i32⟩
  | .local _ .vmem, ⟨6, _⟩ => ⟨S512x1, .i32⟩
  | .local _ .vmem, ⟨7, _⟩ => ⟨S42x128, .f32⟩
  | .local _ .vmem, ⟨8, _⟩ => ⟨S128, .f32⟩
  | .local _ .vmem, ⟨9, _⟩ => ⟨S2x128x128, .f32⟩
  | .local _ .vmem, ⟨10, _⟩ => ⟨S2x128, .f32⟩
  | .local _ .vmem, ⟨11, _⟩ => ⟨S128x128, .f32⟩
  | .local _ .vmem, ⟨12, _⟩ => ⟨S128, .f32⟩
  | .local _ .vmem, ⟨13, _⟩ => ⟨S257x128, .f32⟩
  | .local _ .vmem, ⟨14, _⟩ => ⟨S128, .f32⟩
  | .local _ .vmem, ⟨15, _⟩ => ⟨S2x128x128, .f32⟩
  | .local _ .vmem, ⟨16, _⟩ => ⟨S2x128, .f32⟩
  | .local _ .vmem, ⟨17, _⟩ => ⟨S128x128, .f32⟩
  | .local _ .vmem, ⟨18, _⟩ => ⟨S128, .f32⟩
  | .local _ .vmem, ⟨19, _⟩ => ⟨S256x128, .f32⟩
  | .local _ .vmem, ⟨20, _⟩ => ⟨S128, .f32⟩
  | .local _ .vmem, ⟨21, _⟩ => ⟨S2x128x128, .f32⟩
  | .local _ .vmem, ⟨22, _⟩ => ⟨S2x128, .f32⟩
  | .local _ .vmem, ⟨23, _⟩ => ⟨S128x128, .f32⟩
  | .local _ .vmem, ⟨24, _⟩ => ⟨S128, .f32⟩
  | .local _ .vmem, ⟨25, _⟩ => ⟨S128x128, .f32⟩
  | .local _ .vmem, ⟨26, _⟩ => ⟨S128, .f32⟩
  | .local _ .vmem, ⟨27, _⟩ => ⟨S2x128x128, .f32⟩
  | .local _ .vmem, ⟨28, _⟩ => ⟨S2x128, .f32⟩
  | .local _ .vmem, ⟨29, _⟩ => ⟨S128x16, .f32⟩
  | .local _ .vmem, ⟨30, _⟩ => ⟨S16, .f32⟩
  | .local _ .vmem, ⟨31, _⟩ => ⟨S128, .f32⟩
  | .local _ .vmem, ⟨32, _⟩ => ⟨S128, .f32⟩
  | .local _ .vmem, ⟨33, _⟩ => ⟨S256x512, .f32⟩
  | .local _ .vmem, ⟨34, _⟩ => ⟨S512, .f32⟩
  | .local _ .vmem, ⟨35, _⟩ => ⟨S8x1, .f32⟩
  | .local _ .vmem, ⟨36, _⟩ => ⟨S8x512, .i32⟩
  | .local _ .vmem, ⟨37, _⟩ => ⟨S4096x256, .f32⟩
  | .local _ .vmem, ⟨38, _⟩ => ⟨S4096x256, .f32⟩
  | _, _ => ⟨S512x8x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7_0 : Ref sig .tc := ⟨.hbm, 41, rfl⟩
abbrev main_v7_1 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36

abbrev nD : Nat := 1
abbrev τ : Topo := Topo.v7x

variable {F : FTy → Type} [FloatOps F]

abbrev grid0 : Pipeline.Grid := .none

abbrev stage0_0 : Fin 1 → Memref sig .tc .vmem S512x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S42x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S257x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x128x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S2x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S128x16 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S16 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S256x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S8x1 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S8x512 .i32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
-- ==== KernelIdeal.lean ====
variable {F : FTy → Type} [FloatOps F] [Named F]
def κ : String → Option EReal := fun
  | "ln2" => some ((Real.log 2 : ℝ) : EReal)
  | _ => none
-- ==== ReferenceIdeal.lean ====
abbrev S512x8x2 : Shape := ⟨3, ![512, 8, 2]⟩
abbrev S512x8 : Shape := ⟨2, ![512, 8]⟩
abbrev S512 : Shape := ⟨1, ![512]⟩
abbrev S42x128 : Shape := ⟨2, ![42, 128]⟩
abbrev S128 : Shape := ⟨1, ![128]⟩
abbrev S2x128x128 : Shape := ⟨3, ![2, 128, 128]⟩
abbrev S2x128 : Shape := ⟨2, ![2, 128]⟩
abbrev S128x128 : Shape := ⟨2, ![128, 128]⟩
abbrev S257x128 : Shape := ⟨2, ![257, 128]⟩
abbrev S256x128 : Shape := ⟨2, ![256, 128]⟩
abbrev S128x16 : Shape := ⟨2, ![128, 16]⟩
abbrev S16 : Shape := ⟨1, ![16]⟩
abbrev S256x512 : Shape := ⟨2, ![256, 512]⟩
abbrev S512x8x8 : Shape := ⟨3, ![512, 8, 8]⟩
abbrev S_ : Shape := ⟨0, ![]⟩
abbrev S512x8x8x1 : Shape := ⟨4, ![512, 8, 8, 1]⟩
abbrev S512x8x8x2 : Shape := ⟨4, ![512, 8, 8, 2]⟩
abbrev S32768x2 : Shape := ⟨2, ![32768, 2]⟩
abbrev S32768x1 : Shape := ⟨2, ![32768, 1]⟩
abbrev S4096x2 : Shape := ⟨2, ![4096, 2]⟩
abbrev S512x8x1 : Shape := ⟨3, ![512, 8, 1]⟩
abbrev S1x1x8 : Shape := ⟨3, ![1, 1, 8]⟩
abbrev S4096x8 : Shape := ⟨2, ![4096, 8]⟩
abbrev S4096x18 : Shape := ⟨2, ![4096, 18]⟩
abbrev S512x1 : Shape := ⟨2, ![512, 1]⟩
abbrev S1x16 : Shape := ⟨2, ![1, 16]⟩
abbrev S512x16 : Shape := ⟨2, ![512, 16]⟩
abbrev S1x8 : Shape := ⟨2, ![1, 8]⟩
abbrev S512x24 : Shape := ⟨2, ![512, 24]⟩
abbrev S512x1x24 : Shape := ⟨3, ![512, 1, 24]⟩
abbrev S1x512x1x1x1x24 : Shape := ⟨6, ![1, 512, 1, 1, 1, 24]⟩
abbrev S1x512x8x1x1x24 : Shape := ⟨6, ![1, 512, 8, 1, 1, 24]⟩
abbrev S512x8x24 : Shape := ⟨3, ![512, 8, 24]⟩
abbrev S4096x24 : Shape := ⟨2, ![4096, 24]⟩
abbrev S4096x42 : Shape := ⟨2, ![4096, 42]⟩
abbrev S4096x128 : Shape := ⟨2, ![4096, 128]⟩
abbrev S1x128 : Shape := ⟨2, ![1, 128]⟩
abbrev S1x128x128 : Shape := ⟨3, ![1, 128, 128]⟩
abbrev S65536 : Shape := ⟨1, ![65536]⟩
abbrev S65536x1 : Shape := ⟨2, ![65536, 1]⟩
abbrev S65536x128 : Shape := ⟨2, ![65536, 128]⟩
abbrev S32768x256 : Shape := ⟨2, ![32768, 256]⟩
abbrev S32768x257 : Shape := ⟨2, ![32768, 257]⟩
abbrev S32768x128 : Shape := ⟨2, ![32768, 128]⟩
abbrev S32768 : Shape := ⟨1, ![32768]⟩
abbrev S4096x256 : Shape := ⟨2, ![4096, 256]⟩
abbrev S4096x512 : Shape := ⟨2, ![4096, 512]⟩
abbrev S1x512 : Shape := ⟨2, ![1, 512]⟩
abbrev S512x8x128 : Shape := ⟨3, ![512, 8, 128]⟩
abbrev S512x128 : Shape := ⟨2, ![512, 128]⟩
abbrev S512x1x1 : Shape := ⟨3, ![512, 1, 1]⟩
abbrev S1 : Shape := ⟨1, ![1]⟩
abbrev S1x1x1 : Shape := ⟨3, ![1, 1, 1]⟩
abbrev S8 : Shape := ⟨1, ![8]⟩
abbrev S8x1 : Shape := ⟨2, ![8, 1]⟩
abbrev S8x512 : Shape := ⟨2, ![8, 512]⟩

abbrev nBuf : Space → Nat
  | .hbm => 2262
  | .vmem => 0
  | .smem => 0
  | _ => 0

abbrev hbmTy0_0 (i : Nat) : BufTy := match i % 128 with
  | 0 => ⟨S512x8x2, .f32⟩
  | 1 => ⟨S512x8, .i32⟩
  | 2 => ⟨S512x8, .i32⟩
  | 3 => ⟨S512, .i32⟩
  | 4 => ⟨S512, .i32⟩
  | 5 => ⟨S512, .i32⟩
  | 6 => ⟨S42x128, .f32⟩
  | 7 => ⟨S128, .f32⟩
  | 8 => ⟨S2x128x128, .f32⟩
  | 9 => ⟨S2x128, .f32⟩
  | 10 => ⟨S128x128, .f32⟩
  | 11 => ⟨S128, .f32⟩
  | 12 => ⟨S257x128, .f32⟩
  | 13 => ⟨S128, .f32⟩
  | 14 => ⟨S2x128x128, .f32⟩
  | 15 => ⟨S2x128, .f32⟩
  | 16 => ⟨S128x128, .f32⟩
  | 17 => ⟨S128, .f32⟩
  | 18 => ⟨S256x128, .f32⟩
  | 19 => ⟨S128, .f32⟩
  | 20 => ⟨S2x128x128, .f32⟩
  | 21 => ⟨S2x128, .f32⟩
  | 22 => ⟨S128x128, .f32⟩
  | 23 => ⟨S128, .f32⟩
  | 24 => ⟨S128x128, .f32⟩
  | 25 => ⟨S128, .f32⟩
  | 26 => ⟨S2x128x128, .f32⟩
  | 27 => ⟨S2x128, .f32⟩
  | 28 => ⟨S128x16, .f32⟩
  | 29 => ⟨S16, .f32⟩
  | 30 => ⟨S128, .f32⟩
  | 31 => ⟨S128, .f32⟩
  | 32 => ⟨S256x512, .f32⟩
  | 33 => ⟨S512, .f32⟩
  | 34 => ⟨S512x8x8, .i32⟩
  | 35 => ⟨S512x8x8, .i32⟩
  | 36 => ⟨S512x8x8, .i32⟩
  | 37 => ⟨S_, .i32⟩
  | 38 => ⟨S512x8x8, .i32⟩
  | 39 => ⟨S512x8x8, .i32⟩
  | 40 => ⟨S512x8x8, .i32⟩
  | 41 => ⟨S_, .i32⟩
  | 42 => ⟨S512x8x8, .i32⟩
  | 43 => ⟨S512x8x8, .i32⟩
  | 44 => ⟨S512x8x8, .i32⟩
  | 45 => ⟨S512x8x8x1, .i32⟩
  | 46 => ⟨S512x8x8x1, .i32⟩
  | 47 => ⟨S512x8x8x2, .i32⟩
  | 48 => ⟨S32768x2, .i32⟩
  | 49 => ⟨S_, .f32⟩
  | 50 => ⟨S32768x1, .f32⟩
  | 51 => ⟨S4096x2, .f32⟩
  | 52 => ⟨S512x8x1, .i32⟩
  | 53 => ⟨S1x1x8, .i32⟩
  | 54 => ⟨S512x8x8, .i32⟩
  | 55 => ⟨S512x8x8, .i32⟩
  | 56 => ⟨S512x8x8, .i1⟩
  | 57 => ⟨S512x8x8, .f32⟩
  | 58 => ⟨S4096x8, .f32⟩
  | 59 => ⟨S512x8x1, .i32⟩
  | 60 => ⟨S1x1x8, .i32⟩
  | 61 => ⟨S512x8x8, .i32⟩
  | 62 => ⟨S512x8x8, .i32⟩
  | 63 => ⟨S512x8x8, .i1⟩
  | 64 => ⟨S512x8x8, .f32⟩
  | 65 => ⟨S4096x8, .f32⟩
  | 66 => ⟨S4096x18, .f32⟩
  | 67 => ⟨S512x1, .i32⟩
  | 68 => ⟨S1x16, .i32⟩
  | 69 => ⟨S512x16, .i32⟩
  | 70 => ⟨S512x16, .i32⟩
  | 71 => ⟨S512x16, .i1⟩
  | 72 => ⟨S512x16, .f32⟩
  | 73 => ⟨S512x1, .i32⟩
  | 74 => ⟨S1x8, .i32⟩
  | 75 => ⟨S512x8, .i32⟩
  | 76 => ⟨S512x8, .i32⟩
  | 77 => ⟨S512x8, .i1⟩
  | 78 => ⟨S512x8, .f32⟩
  | 79 => ⟨S512x24, .f32⟩
  | 80 => ⟨S512x1x24, .f32⟩
  | 81 => ⟨S1x512x1x1x1x24, .f32⟩
  | 82 => ⟨S1x512x8x1x1x24, .f32⟩
  | 83 => ⟨S512x8x24, .f32⟩
  | 84 => ⟨S4096x24, .f32⟩
  | 85 => ⟨S4096x42, .f32⟩
  | 86 => ⟨S4096x128, .f32⟩
  | 87 => ⟨S1x128, .f32⟩
  | 88 => ⟨S4096x128, .f32⟩
  | 89 => ⟨S4096x128, .f32⟩
  | 90 => ⟨S_, .f32⟩
  | 91 => ⟨S4096x128, .f32⟩
  | 92 => ⟨S4096x128, .f32⟩
  | 93 => ⟨S1x128x128, .f32⟩
  | 94 => ⟨S128x128, .f32⟩
  | 95 => ⟨S4096x128, .f32⟩
  | 96 => ⟨S1x128, .f32⟩
  | 97 => ⟨S128, .f32⟩
  | 98 => ⟨S1x128, .f32⟩
  | 99 => ⟨S4096x128, .f32⟩
  | 100 => ⟨S4096x128, .f32⟩
  | 101 => ⟨S_, .f32⟩
  | 102 => ⟨S4096x128, .f32⟩
  | 103 => ⟨S4096x128, .f32⟩
  | 104 => ⟨S1x128x128, .f32⟩
  | 105 => ⟨S128x128, .f32⟩
  | 106 => ⟨S4096x128, .f32⟩
  | 107 => ⟨S1x128, .f32⟩
  | 108 => ⟨S128, .f32⟩
  | 109 => ⟨S1x128, .f32⟩
  | 110 => ⟨S4096x128, .f32⟩
  | 111 => ⟨S4096x128, .f32⟩
  | 112 => ⟨S_, .f32⟩
  | 113 => ⟨S4096x128, .f32⟩
  | 114 => ⟨S4096x128, .f32⟩
  | 115 => ⟨S4096x128, .f32⟩
  | 116 => ⟨S1x128, .f32⟩
  | 117 => ⟨S4096x128, .f32⟩
  | 118 => ⟨S4096x128, .f32⟩
  | 119 => ⟨S_, .f32⟩
  | 120 => ⟨S4096x128, .f32⟩
  | 121 => ⟨S_, .f32⟩
  | 122 => ⟨S4096x128, .f32⟩
  | 123 => ⟨S65536, .i32⟩
  | 124 => ⟨S_, .i32⟩
  | 125 => ⟨S65536, .i32⟩
  | 126 => ⟨S65536, .i1⟩
  | 127 => ⟨S_, .i32⟩
  | _ => ⟨S512x8x2, .f32⟩

abbrev hbmTy0_1 (i : Nat) : BufTy := match i % 128 with
  | 0 => ⟨S65536, .i32⟩
  | 1 => ⟨S65536, .i32⟩
  | 2 => ⟨S65536, .i32⟩
  | 3 => ⟨S65536x1, .i32⟩
  | 4 => ⟨S65536x128, .f32⟩
  | 5 => ⟨S32768x256, .f32⟩
  | 6 => ⟨S32768x257, .f32⟩
  | 7 => ⟨S32768x128, .f32⟩
  | 8 => ⟨S1x128, .f32⟩
  | 9 => ⟨S32768x128, .f32⟩
  | 10 => ⟨S32768x128, .f32⟩
  | 11 => ⟨S_, .f32⟩
  | 12 => ⟨S32768x128, .f32⟩
  | 13 => ⟨S32768x128, .f32⟩
  | 14 => ⟨S1x128x128, .f32⟩
  | 15 => ⟨S128x128, .f32⟩
  | 16 => ⟨S32768x128, .f32⟩
  | 17 => ⟨S1x128, .f32⟩
  | 18 => ⟨S128, .f32⟩
  | 19 => ⟨S1x128, .f32⟩
  | 20 => ⟨S32768x128, .f32⟩
  | 21 => ⟨S32768x128, .f32⟩
  | 22 => ⟨S_, .f32⟩
  | 23 => ⟨S32768x128, .f32⟩
  | 24 => ⟨S32768x128, .f32⟩
  | 25 => ⟨S1x128x128, .f32⟩
  | 26 => ⟨S128x128, .f32⟩
  | 27 => ⟨S32768x128, .f32⟩
  | 28 => ⟨S1x128, .f32⟩
  | 29 => ⟨S128, .f32⟩
  | 30 => ⟨S1x128, .f32⟩
  | 31 => ⟨S32768x128, .f32⟩
  | 32 => ⟨S32768x128, .f32⟩
  | 33 => ⟨S_, .f32⟩
  | 34 => ⟨S32768x128, .f32⟩
  | 35 => ⟨S32768x128, .f32⟩
  | 36 => ⟨S32768x128, .f32⟩
  | 37 => ⟨S1x128, .f32⟩
  | 38 => ⟨S32768x128, .f32⟩
  | 39 => ⟨S32768x128, .f32⟩
  | 40 => ⟨S_, .f32⟩
  | 41 => ⟨S4096x128, .f32⟩
  | 42 => ⟨S32768x1, .i32⟩
  | 43 => ⟨S32768, .i32⟩
  | 44 => ⟨S_, .i32⟩
  | 45 => ⟨S32768, .i32⟩
  | 46 => ⟨S32768, .i1⟩
  | 47 => ⟨S_, .i32⟩
  | 48 => ⟨S32768, .i32⟩
  | 49 => ⟨S32768, .i32⟩
  | 50 => ⟨S32768, .i32⟩
  | 51 => ⟨S32768x1, .i32⟩
  | 52 => ⟨S4096x128, .f32⟩
  | 53 => ⟨S4096x256, .f32⟩
  | 54 => ⟨S4096x128, .f32⟩
  | 55 => ⟨S1x128, .f32⟩
  | 56 => ⟨S4096x128, .f32⟩
  | 57 => ⟨S4096x128, .f32⟩
  | 58 => ⟨S_, .f32⟩
  | 59 => ⟨S4096x128, .f32⟩
  | 60 => ⟨S4096x128, .f32⟩
  | 61 => ⟨S1x128x128, .f32⟩
  | 62 => ⟨S128x128, .f32⟩
  | 63 => ⟨S4096x128, .f32⟩
  | 64 => ⟨S1x128, .f32⟩
  | 65 => ⟨S128, .f32⟩
  | 66 => ⟨S1x128, .f32⟩
  | 67 => ⟨S4096x128, .f32⟩
  | 68 => ⟨S4096x128, .f32⟩
  | 69 => ⟨S_, .f32⟩
  | 70 => ⟨S4096x128, .f32⟩
  | 71 => ⟨S4096x128, .f32⟩
  | 72 => ⟨S1x128x128, .f32⟩
  | 73 => ⟨S128x128, .f32⟩
  | 74 => ⟨S4096x128, .f32⟩
  | 75 => ⟨S1x128, .f32⟩
  | 76 => ⟨S128, .f32⟩
  | 77 => ⟨S1x128, .f32⟩
  | 78 => ⟨S4096x128, .f32⟩
  | 79 => ⟨S4096x128, .f32⟩
  | 80 => ⟨S_, .f32⟩
  | 81 => ⟨S4096x128, .f32⟩
  | 82 => ⟨S4096x128, .f32⟩
  | 83 => ⟨S4096x128, .f32⟩
  | 84 => ⟨S1x128, .f32⟩
  | 85 => ⟨S4096x128, .f32⟩
  | 86 => ⟨S4096x128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S4096x128, .f32⟩
  | 100 => ⟨S4096x128, .f32⟩
  | 101 => ⟨S4096x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S4096x128, .f32⟩
  | 117 => ⟨S4096x128, .f32⟩
  | 118 => ⟨S_, .f32⟩
  | 119 => ⟨S128, .f32⟩
  | 120 => ⟨S128, .f32⟩
  | 121 => ⟨S128, .f32⟩
  | 122 => ⟨S1x128, .f32⟩
  | 123 => ⟨S4096x128, .f32⟩
  | 124 => ⟨S4096x128, .f32⟩
  | 125 => ⟨S1x128, .f32⟩
  | 126 => ⟨S4096x128, .f32⟩
  | 127 => ⟨S4096x128, .f32⟩
  | _ => ⟨S512x8x2, .f32⟩

abbrev hbmTy0_2 (i : Nat) : BufTy := match i % 128 with
  | 0 => ⟨S1x128, .f32⟩
  | 1 => ⟨S4096x128, .f32⟩
  | 2 => ⟨S4096x128, .f32⟩
  | 3 => ⟨S4096x256, .f32⟩
  | 4 => ⟨S4096x512, .f32⟩
  | 5 => ⟨S1x512, .f32⟩
  | 6 => ⟨S4096x512, .f32⟩
  | 7 => ⟨S4096x512, .f32⟩
  | 8 => ⟨S4096x128, .f32⟩
  | 9 => ⟨S4096x128, .f32⟩
  | 10 => ⟨S4096x128, .f32⟩
  | 11 => ⟨S4096x128, .f32⟩
  | 12 => ⟨S_, .f32⟩
  | 13 => ⟨S4096x128, .f32⟩
  | 14 => ⟨S4096x128, .f32⟩
  | 15 => ⟨S4096x128, .f32⟩
  | 16 => ⟨S4096x128, .f32⟩
  | 17 => ⟨S_, .f32⟩
  | 18 => ⟨S4096x128, .f32⟩
  | 19 => ⟨S4096x128, .f32⟩
  | 20 => ⟨S_, .f32⟩
  | 21 => ⟨S4096x128, .f32⟩
  | 22 => ⟨S4096x128, .f32⟩
  | 23 => ⟨S4096x128, .f32⟩
  | 24 => ⟨S4096x128, .f32⟩
  | 25 => ⟨S4096x128, .f32⟩
  | 26 => ⟨S_, .f32⟩
  | 27 => ⟨S4096x128, .f32⟩
  | 28 => ⟨S4096x128, .f32⟩
  | 29 => ⟨S_, .f32⟩
  | 30 => ⟨S4096x128, .f32⟩
  | 31 => ⟨S4096x128, .f32⟩
  | 32 => ⟨S4096x128, .f32⟩
  | 33 => ⟨S4096x128, .f32⟩
  | 34 => ⟨S4096x128, .f32⟩
  | 35 => ⟨S4096x128, .f32⟩
  | 36 => ⟨S4096x128, .f32⟩
  | 37 => ⟨S4096x128, .f32⟩
  | 38 => ⟨S_, .f32⟩
  | 39 => ⟨S4096x128, .f32⟩
  | 40 => ⟨S4096x128, .f32⟩
  | 41 => ⟨S_, .f32⟩
  | 42 => ⟨S4096x128, .f32⟩
  | 43 => ⟨S4096x128, .f32⟩
  | 44 => ⟨S4096x128, .f32⟩
  | 45 => ⟨S512x8x128, .f32⟩
  | 46 => ⟨S_, .f32⟩
  | 47 => ⟨S512x128, .f32⟩
  | 48 => ⟨S512x128, .f32⟩
  | 49 => ⟨S1x128, .f32⟩
  | 50 => ⟨S512x128, .f32⟩
  | 51 => ⟨S512x128, .f32⟩
  | 52 => ⟨S_, .f32⟩
  | 53 => ⟨S512x128, .f32⟩
  | 54 => ⟨S512x128, .f32⟩
  | 55 => ⟨S1x128x128, .f32⟩
  | 56 => ⟨S128x128, .f32⟩
  | 57 => ⟨S512x128, .f32⟩
  | 58 => ⟨S1x128, .f32⟩
  | 59 => ⟨S128, .f32⟩
  | 60 => ⟨S1x128, .f32⟩
  | 61 => ⟨S512x128, .f32⟩
  | 62 => ⟨S512x128, .f32⟩
  | 63 => ⟨S_, .f32⟩
  | 64 => ⟨S512x128, .f32⟩
  | 65 => ⟨S512x128, .f32⟩
  | 66 => ⟨S1x128x128, .f32⟩
  | 67 => ⟨S128x128, .f32⟩
  | 68 => ⟨S512x128, .f32⟩
  | 69 => ⟨S1x128, .f32⟩
  | 70 => ⟨S128, .f32⟩
  | 71 => ⟨S1x128, .f32⟩
  | 72 => ⟨S512x128, .f32⟩
  | 73 => ⟨S512x128, .f32⟩
  | 74 => ⟨S_, .f32⟩
  | 75 => ⟨S512x128, .f32⟩
  | 76 => ⟨S512x128, .f32⟩
  | 77 => ⟨S512x16, .f32⟩
  | 78 => ⟨S1x16, .f32⟩
  | 79 => ⟨S512x16, .f32⟩
  | 80 => ⟨S512x16, .f32⟩
  | 81 => ⟨S512x1, .f32⟩
  | 82 => ⟨S512x1, .i32⟩
  | 83 => ⟨S512, .i32⟩
  | 84 => ⟨S_, .f32⟩
  | 85 => ⟨S512, .f32⟩
  | 86 => ⟨S_, .f32⟩
  | 87 => ⟨S512, .f32⟩
  | 88 => ⟨S512, .f32⟩
  | 89 => ⟨S512x1, .f32⟩
  | 90 => ⟨S512x16, .f32⟩
  | 91 => ⟨S512x16, .f32⟩
  | 92 => ⟨S512x16, .f32⟩
  | 93 => ⟨S_, .f32⟩
  | 94 => ⟨S512, .f32⟩
  | 95 => ⟨S512x1, .f32⟩
  | 96 => ⟨S512x1, .f32⟩
  | 97 => ⟨S512x16, .f32⟩
  | 98 => ⟨S512x16, .f32⟩
  | 99 => ⟨S512x1, .i32⟩
  | 100 => ⟨S_, .i32⟩
  | 101 => ⟨S512x1, .i32⟩
  | 102 => ⟨S512x1, .i1⟩
  | 103 => ⟨S_, .i32⟩
  | 104 => ⟨S512x1, .i32⟩
  | 105 => ⟨S512x1, .i32⟩
  | 106 => ⟨S512x1, .i32⟩
  | 107 => ⟨S512x1x1, .i32⟩
  | 108 => ⟨S1, .i32⟩
  | 109 => ⟨S_, .i32⟩
  | 110 => ⟨S512x1x1, .i32⟩
  | 111 => ⟨S512x1x1, .i1⟩
  | 112 => ⟨S1x1x1, .i32⟩
  | 113 => ⟨S512x1x1, .i32⟩
  | 114 => ⟨S512x1x1, .i1⟩
  | 115 => ⟨S512x1x1, .i1⟩
  | 116 => ⟨S_, .i1⟩
  | 117 => ⟨S512x1, .i1⟩
  | 118 => ⟨S512x1, .f32⟩
  | 119 => ⟨S_, .f32⟩
  | 120 => ⟨S512x1, .f32⟩
  | 121 => ⟨S512x1, .f32⟩
  | 122 => ⟨S512, .f32⟩
  | 123 => ⟨S512, .f32⟩
  | 124 => ⟨S_, .f32⟩
  | 125 => ⟨S_, .f32⟩
  | 126 => ⟨S_, .f32⟩
  | 127 => ⟨S_, .f32⟩
  | _ => ⟨S512x8x2, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S65536, .i32⟩
  | 5 => ⟨S_, .i32⟩
  | 6 => ⟨S65536, .i32⟩
  | 7 => ⟨S65536, .i1⟩
  | 8 => ⟨S_, .i32⟩
  | 9 => ⟨S65536, .i32⟩
  | 10 => ⟨S65536, .i32⟩
  | 11 => ⟨S65536, .i32⟩
  | 12 => ⟨S65536x1, .i32⟩
  | 13 => ⟨S65536x128, .f32⟩
  | 14 => ⟨S32768x256, .f32⟩
  | 15 => ⟨S32768x257, .f32⟩
  | 16 => ⟨S32768x128, .f32⟩
  | 17 => ⟨S1x128, .f32⟩
  | 18 => ⟨S32768x128, .f32⟩
  | 19 => ⟨S32768x128, .f32⟩
  | 20 => ⟨S_, .f32⟩
  | 21 => ⟨S32768x128, .f32⟩
  | 22 => ⟨S32768x128, .f32⟩
  | 23 => ⟨S1x128x128, .f32⟩
  | 24 => ⟨S128x128, .f32⟩
  | 25 => ⟨S32768x128, .f32⟩
  | 26 => ⟨S1x128, .f32⟩
  | 27 => ⟨S128, .f32⟩
  | 28 => ⟨S1x128, .f32⟩
  | 29 => ⟨S32768x128, .f32⟩
  | 30 => ⟨S32768x128, .f32⟩
  | 31 => ⟨S_, .f32⟩
  | 32 => ⟨S32768x128, .f32⟩
  | 33 => ⟨S32768x128, .f32⟩
  | 34 => ⟨S1x128x128, .f32⟩
  | 35 => ⟨S128x128, .f32⟩
  | 36 => ⟨S32768x128, .f32⟩
  | 37 => ⟨S1x128, .f32⟩
  | 38 => ⟨S128, .f32⟩
  | 39 => ⟨S1x128, .f32⟩
  | 40 => ⟨S32768x128, .f32⟩
  | 41 => ⟨S32768x128, .f32⟩
  | 42 => ⟨S_, .f32⟩
  | 43 => ⟨S32768x128, .f32⟩
  | 44 => ⟨S32768x128, .f32⟩
  | 45 => ⟨S32768x128, .f32⟩
  | 46 => ⟨S1x128, .f32⟩
  | 47 => ⟨S32768x128, .f32⟩
  | 48 => ⟨S32768x128, .f32⟩
  | 49 => ⟨S_, .f32⟩
  | 50 => ⟨S4096x128, .f32⟩
  | 51 => ⟨S32768x1, .i32⟩
  | 52 => ⟨S32768, .i32⟩
  | 53 => ⟨S_, .i32⟩
  | 54 => ⟨S32768, .i32⟩
  | 55 => ⟨S32768, .i1⟩
  | 56 => ⟨S_, .i32⟩
  | 57 => ⟨S32768, .i32⟩
  | 58 => ⟨S32768, .i32⟩
  | 59 => ⟨S32768, .i32⟩
  | 60 => ⟨S32768x1, .i32⟩
  | 61 => ⟨S4096x128, .f32⟩
  | 62 => ⟨S4096x256, .f32⟩
  | 63 => ⟨S4096x128, .f32⟩
  | 64 => ⟨S1x128, .f32⟩
  | 65 => ⟨S4096x128, .f32⟩
  | 66 => ⟨S4096x128, .f32⟩
  | 67 => ⟨S_, .f32⟩
  | 68 => ⟨S4096x128, .f32⟩
  | 69 => ⟨S4096x128, .f32⟩
  | 70 => ⟨S1x128x128, .f32⟩
  | 71 => ⟨S128x128, .f32⟩
  | 72 => ⟨S4096x128, .f32⟩
  | 73 => ⟨S1x128, .f32⟩
  | 74 => ⟨S128, .f32⟩
  | 75 => ⟨S1x128, .f32⟩
  | 76 => ⟨S4096x128, .f32⟩
  | 77 => ⟨S4096x128, .f32⟩
  | 78 => ⟨S_, .f32⟩
  | 79 => ⟨S4096x128, .f32⟩
  | 80 => ⟨S4096x128, .f32⟩
  | 81 => ⟨S1x128x128, .f32⟩
  | 82 => ⟨S128x128, .f32⟩
  | 83 => ⟨S4096x128, .f32⟩
  | 84 => ⟨S1x128, .f32⟩
  | 85 => ⟨S128, .f32⟩
  | 86 => ⟨S1x128, .f32⟩
  | 87 => ⟨S4096x128, .f32⟩
  | 88 => ⟨S4096x128, .f32⟩
  | 89 => ⟨S_, .f32⟩
  | 90 => ⟨S4096x128, .f32⟩
  | 91 => ⟨S4096x128, .f32⟩
  | 92 => ⟨S4096x128, .f32⟩
  | 93 => ⟨S1x128, .f32⟩
  | 94 => ⟨S4096x128, .f32⟩
  | 95 => ⟨S4096x128, .f32⟩
  | 96 => ⟨S_, .f32⟩
  | 97 => ⟨S128, .f32⟩
  | 98 => ⟨S_, .f32⟩
  | 99 => ⟨S128, .f32⟩
  | 100 => ⟨S128, .f32⟩
  | 101 => ⟨S_, .i32⟩
  | 102 => ⟨S_, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S4096x128, .f32⟩
  | 109 => ⟨S4096x128, .f32⟩
  | 110 => ⟨S4096x128, .f32⟩
  | 111 => ⟨S_, .f32⟩
  | 112 => ⟨S_, .f32⟩
  | 113 => ⟨S_, .f32⟩
  | 114 => ⟨S_, .f32⟩
  | 115 => ⟨S128, .f32⟩
  | 116 => ⟨S128, .f32⟩
  | 117 => ⟨S128, .f32⟩
  | 118 => ⟨S_, .f32⟩
  | 119 => ⟨S_, .i1⟩
  | 120 => ⟨S_, .f32⟩
  | 121 => ⟨S_, .f32⟩
  | 122 => ⟨S128, .f32⟩
  | 123 => ⟨S128, .f32⟩
  | 124 => ⟨S1x128, .f32⟩
  | 125 => ⟨S4096x128, .f32⟩
  | 126 => ⟨S4096x128, .f32⟩
  | 127 => ⟨S_, .f32⟩
  | _ => ⟨S512x8x2, .f32⟩

abbrev hbmTy0_4 (i : Nat) : BufTy := match i % 128 with
  | 0 => ⟨S128, .f32⟩
  | 1 => ⟨S128, .f32⟩
  | 2 => ⟨S128, .f32⟩
  | 3 => ⟨S1x128, .f32⟩
  | 4 => ⟨S4096x128, .f32⟩
  | 5 => ⟨S4096x128, .f32⟩
  | 6 => ⟨S1x128, .f32⟩
  | 7 => ⟨S4096x128, .f32⟩
  | 8 => ⟨S4096x128, .f32⟩
  | 9 => ⟨S1x128, .f32⟩
  | 10 => ⟨S4096x128, .f32⟩
  | 11 => ⟨S4096x128, .f32⟩
  | 12 => ⟨S4096x256, .f32⟩
  | 13 => ⟨S4096x512, .f32⟩
  | 14 => ⟨S1x512, .f32⟩
  | 15 => ⟨S4096x512, .f32⟩
  | 16 => ⟨S4096x512, .f32⟩
  | 17 => ⟨S4096x128, .f32⟩
  | 18 => ⟨S4096x128, .f32⟩
  | 19 => ⟨S4096x128, .f32⟩
  | 20 => ⟨S4096x128, .f32⟩
  | 21 => ⟨S_, .f32⟩
  | 22 => ⟨S4096x128, .f32⟩
  | 23 => ⟨S4096x128, .f32⟩
  | 24 => ⟨S4096x128, .f32⟩
  | 25 => ⟨S4096x128, .f32⟩
  | 26 => ⟨S_, .f32⟩
  | 27 => ⟨S4096x128, .f32⟩
  | 28 => ⟨S4096x128, .f32⟩
  | 29 => ⟨S_, .f32⟩
  | 30 => ⟨S4096x128, .f32⟩
  | 31 => ⟨S4096x128, .f32⟩
  | 32 => ⟨S4096x128, .f32⟩
  | 33 => ⟨S4096x128, .f32⟩
  | 34 => ⟨S4096x128, .f32⟩
  | 35 => ⟨S_, .f32⟩
  | 36 => ⟨S4096x128, .f32⟩
  | 37 => ⟨S4096x128, .f32⟩
  | 38 => ⟨S_, .f32⟩
  | 39 => ⟨S4096x128, .f32⟩
  | 40 => ⟨S4096x128, .f32⟩
  | 41 => ⟨S4096x128, .f32⟩
  | 42 => ⟨S4096x128, .f32⟩
  | 43 => ⟨S4096x128, .f32⟩
  | 44 => ⟨S4096x128, .f32⟩
  | 45 => ⟨S4096x128, .f32⟩
  | 46 => ⟨S4096x128, .f32⟩
  | 47 => ⟨S_, .f32⟩
  | 48 => ⟨S4096x128, .f32⟩
  | 49 => ⟨S4096x128, .f32⟩
  | 50 => ⟨S_, .f32⟩
  | 51 => ⟨S4096x128, .f32⟩
  | 52 => ⟨S4096x128, .f32⟩
  | 53 => ⟨S4096x128, .f32⟩
  | 54 => ⟨S512x8x128, .f32⟩
  | 55 => ⟨S_, .f32⟩
  | 56 => ⟨S512x128, .f32⟩
  | 57 => ⟨S512x128, .f32⟩
  | 58 => ⟨S1x128, .f32⟩
  | 59 => ⟨S512x128, .f32⟩
  | 60 => ⟨S512x128, .f32⟩
  | 61 => ⟨S_, .f32⟩
  | 62 => ⟨S512x128, .f32⟩
  | 63 => ⟨S512x128, .f32⟩
  | 64 => ⟨S1x128x128, .f32⟩
  | 65 => ⟨S128x128, .f32⟩
  | 66 => ⟨S512x128, .f32⟩
  | 67 => ⟨S1x128, .f32⟩
  | 68 => ⟨S128, .f32⟩
  | 69 => ⟨S1x128, .f32⟩
  | 70 => ⟨S512x128, .f32⟩
  | 71 => ⟨S512x128, .f32⟩
  | 72 => ⟨S_, .f32⟩
  | 73 => ⟨S512x128, .f32⟩
  | 74 => ⟨S512x128, .f32⟩
  | 75 => ⟨S1x128x128, .f32⟩
  | 76 => ⟨S128x128, .f32⟩
  | 77 => ⟨S512x128, .f32⟩
  | 78 => ⟨S1x128, .f32⟩
  | 79 => ⟨S128, .f32⟩
  | 80 => ⟨S1x128, .f32⟩
  | 81 => ⟨S512x128, .f32⟩
  | 82 => ⟨S512x128, .f32⟩
  | 83 => ⟨S_, .f32⟩
  | 84 => ⟨S512x128, .f32⟩
  | 85 => ⟨S512x128, .f32⟩
  | 86 => ⟨S512x16, .f32⟩
  | 87 => ⟨S1x16, .f32⟩
  | 88 => ⟨S512x16, .f32⟩
  | 89 => ⟨S512x16, .f32⟩
  | 90 => ⟨S512x1, .f32⟩
  | 91 => ⟨S512x1, .i32⟩
  | 92 => ⟨S512, .i32⟩
  | 93 => ⟨S_, .f32⟩
  | 94 => ⟨S512, .f32⟩
  | 95 => ⟨S_, .f32⟩
  | 96 => ⟨S512, .f32⟩
  | 97 => ⟨S512, .f32⟩
  | 98 => ⟨S512x1, .f32⟩
  | 99 => ⟨S512x16, .f32⟩
  | 100 => ⟨S512x16, .f32⟩
  | 101 => ⟨S512x16, .f32⟩
  | 102 => ⟨S_, .f32⟩
  | 103 => ⟨S512, .f32⟩
  | 104 => ⟨S512x1, .f32⟩
  | 105 => ⟨S512x1, .f32⟩
  | 106 => ⟨S512x16, .f32⟩
  | 107 => ⟨S512x16, .f32⟩
  | 108 => ⟨S512x1, .i32⟩
  | 109 => ⟨S_, .i32⟩
  | 110 => ⟨S512x1, .i32⟩
  | 111 => ⟨S512x1, .i1⟩
  | 112 => ⟨S_, .i32⟩
  | 113 => ⟨S512x1, .i32⟩
  | 114 => ⟨S512x1, .i32⟩
  | 115 => ⟨S512x1, .i32⟩
  | 116 => ⟨S512x1x1, .i32⟩
  | 117 => ⟨S1, .i32⟩
  | 118 => ⟨S_, .i32⟩
  | 119 => ⟨S512x1x1, .i32⟩
  | 120 => ⟨S512x1x1, .i1⟩
  | 121 => ⟨S1x1x1, .i32⟩
  | 122 => ⟨S512x1x1, .i32⟩
  | 123 => ⟨S512x1x1, .i1⟩
  | 124 => ⟨S512x1x1, .i1⟩
  | 125 => ⟨S_, .i1⟩
  | 126 => ⟨S512x1, .i1⟩
  | 127 => ⟨S512x1, .f32⟩
  | _ => ⟨S512x8x2, .f32⟩

abbrev hbmTy0_5 (i : Nat) : BufTy := match i % 128 with
  | 0 => ⟨S_, .f32⟩
  | 1 => ⟨S512x1, .f32⟩
  | 2 => ⟨S512x1, .f32⟩
  | 3 => ⟨S512, .f32⟩
  | 4 => ⟨S512, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S65536, .i32⟩
  | 14 => ⟨S_, .i32⟩
  | 15 => ⟨S65536, .i32⟩
  | 16 => ⟨S65536, .i1⟩
  | 17 => ⟨S_, .i32⟩
  | 18 => ⟨S65536, .i32⟩
  | 19 => ⟨S65536, .i32⟩
  | 20 => ⟨S65536, .i32⟩
  | 21 => ⟨S65536x1, .i32⟩
  | 22 => ⟨S65536x128, .f32⟩
  | 23 => ⟨S32768x256, .f32⟩
  | 24 => ⟨S32768x257, .f32⟩
  | 25 => ⟨S32768x128, .f32⟩
  | 26 => ⟨S1x128, .f32⟩
  | 27 => ⟨S32768x128, .f32⟩
  | 28 => ⟨S32768x128, .f32⟩
  | 29 => ⟨S_, .f32⟩
  | 30 => ⟨S32768x128, .f32⟩
  | 31 => ⟨S32768x128, .f32⟩
  | 32 => ⟨S1x128x128, .f32⟩
  | 33 => ⟨S128x128, .f32⟩
  | 34 => ⟨S32768x128, .f32⟩
  | 35 => ⟨S1x128, .f32⟩
  | 36 => ⟨S128, .f32⟩
  | 37 => ⟨S1x128, .f32⟩
  | 38 => ⟨S32768x128, .f32⟩
  | 39 => ⟨S32768x128, .f32⟩
  | 40 => ⟨S_, .f32⟩
  | 41 => ⟨S32768x128, .f32⟩
  | 42 => ⟨S32768x128, .f32⟩
  | 43 => ⟨S1x128x128, .f32⟩
  | 44 => ⟨S128x128, .f32⟩
  | 45 => ⟨S32768x128, .f32⟩
  | 46 => ⟨S1x128, .f32⟩
  | 47 => ⟨S128, .f32⟩
  | 48 => ⟨S1x128, .f32⟩
  | 49 => ⟨S32768x128, .f32⟩
  | 50 => ⟨S32768x128, .f32⟩
  | 51 => ⟨S_, .f32⟩
  | 52 => ⟨S32768x128, .f32⟩
  | 53 => ⟨S32768x128, .f32⟩
  | 54 => ⟨S32768x128, .f32⟩
  | 55 => ⟨S1x128, .f32⟩
  | 56 => ⟨S32768x128, .f32⟩
  | 57 => ⟨S32768x128, .f32⟩
  | 58 => ⟨S_, .f32⟩
  | 59 => ⟨S4096x128, .f32⟩
  | 60 => ⟨S32768x1, .i32⟩
  | 61 => ⟨S32768, .i32⟩
  | 62 => ⟨S_, .i32⟩
  | 63 => ⟨S32768, .i32⟩
  | 64 => ⟨S32768, .i1⟩
  | 65 => ⟨S_, .i32⟩
  | 66 => ⟨S32768, .i32⟩
  | 67 => ⟨S32768, .i32⟩
  | 68 => ⟨S32768, .i32⟩
  | 69 => ⟨S32768x1, .i32⟩
  | 70 => ⟨S4096x128, .f32⟩
  | 71 => ⟨S4096x256, .f32⟩
  | 72 => ⟨S4096x128, .f32⟩
  | 73 => ⟨S1x128, .f32⟩
  | 74 => ⟨S4096x128, .f32⟩
  | 75 => ⟨S4096x128, .f32⟩
  | 76 => ⟨S_, .f32⟩
  | 77 => ⟨S4096x128, .f32⟩
  | 78 => ⟨S4096x128, .f32⟩
  | 79 => ⟨S1x128x128, .f32⟩
  | 80 => ⟨S128x128, .f32⟩
  | 81 => ⟨S4096x128, .f32⟩
  | 82 => ⟨S1x128, .f32⟩
  | 83 => ⟨S128, .f32⟩
  | 84 => ⟨S1x128, .f32⟩
  | 85 => ⟨S4096x128, .f32⟩
  | 86 => ⟨S4096x128, .f32⟩
  | 87 => ⟨S_, .f32⟩
  | 88 => ⟨S4096x128, .f32⟩
  | 89 => ⟨S4096x128, .f32⟩
  | 90 => ⟨S1x128x128, .f32⟩
  | 91 => ⟨S128x128, .f32⟩
  | 92 => ⟨S4096x128, .f32⟩
  | 93 => ⟨S1x128, .f32⟩
  | 94 => ⟨S128, .f32⟩
  | 95 => ⟨S1x128, .f32⟩
  | 96 => ⟨S4096x128, .f32⟩
  | 97 => ⟨S4096x128, .f32⟩
  | 98 => ⟨S_, .f32⟩
  | 99 => ⟨S4096x128, .f32⟩
  | 100 => ⟨S4096x128, .f32⟩
  | 101 => ⟨S4096x128, .f32⟩
  | 102 => ⟨S1x128, .f32⟩
  | 103 => ⟨S4096x128, .f32⟩
  | 104 => ⟨S4096x128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S4096x128, .f32⟩
  | 118 => ⟨S4096x128, .f32⟩
  | 119 => ⟨S4096x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S512x8x2, .f32⟩

abbrev hbmTy0_6 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S4096x128, .f32⟩
  | 7 => ⟨S4096x128, .f32⟩
  | 8 => ⟨S_, .f32⟩
  | 9 => ⟨S128, .f32⟩
  | 10 => ⟨S128, .f32⟩
  | 11 => ⟨S128, .f32⟩
  | 12 => ⟨S1x128, .f32⟩
  | 13 => ⟨S4096x128, .f32⟩
  | 14 => ⟨S4096x128, .f32⟩
  | 15 => ⟨S1x128, .f32⟩
  | 16 => ⟨S4096x128, .f32⟩
  | 17 => ⟨S4096x128, .f32⟩
  | 18 => ⟨S1x128, .f32⟩
  | 19 => ⟨S4096x128, .f32⟩
  | 20 => ⟨S4096x128, .f32⟩
  | 21 => ⟨S4096x256, .f32⟩
  | 22 => ⟨S4096x512, .f32⟩
  | 23 => ⟨S1x512, .f32⟩
  | 24 => ⟨S4096x512, .f32⟩
  | 25 => ⟨S4096x512, .f32⟩
  | 26 => ⟨S4096x128, .f32⟩
  | 27 => ⟨S4096x128, .f32⟩
  | 28 => ⟨S4096x128, .f32⟩
  | 29 => ⟨S4096x128, .f32⟩
  | 30 => ⟨S_, .f32⟩
  | 31 => ⟨S4096x128, .f32⟩
  | 32 => ⟨S4096x128, .f32⟩
  | 33 => ⟨S4096x128, .f32⟩
  | 34 => ⟨S4096x128, .f32⟩
  | 35 => ⟨S_, .f32⟩
  | 36 => ⟨S4096x128, .f32⟩
  | 37 => ⟨S4096x128, .f32⟩
  | 38 => ⟨S_, .f32⟩
  | 39 => ⟨S4096x128, .f32⟩
  | 40 => ⟨S4096x128, .f32⟩
  | 41 => ⟨S4096x128, .f32⟩
  | 42 => ⟨S4096x128, .f32⟩
  | 43 => ⟨S4096x128, .f32⟩
  | 44 => ⟨S_, .f32⟩
  | 45 => ⟨S4096x128, .f32⟩
  | 46 => ⟨S4096x128, .f32⟩
  | 47 => ⟨S_, .f32⟩
  | 48 => ⟨S4096x128, .f32⟩
  | 49 => ⟨S4096x128, .f32⟩
  | 50 => ⟨S4096x128, .f32⟩
  | 51 => ⟨S4096x128, .f32⟩
  | 52 => ⟨S4096x128, .f32⟩
  | 53 => ⟨S4096x128, .f32⟩
  | 54 => ⟨S4096x128, .f32⟩
  | 55 => ⟨S4096x128, .f32⟩
  | 56 => ⟨S_, .f32⟩
  | 57 => ⟨S4096x128, .f32⟩
  | 58 => ⟨S4096x128, .f32⟩
  | 59 => ⟨S_, .f32⟩
  | 60 => ⟨S4096x128, .f32⟩
  | 61 => ⟨S4096x128, .f32⟩
  | 62 => ⟨S4096x128, .f32⟩
  | 63 => ⟨S512x8x128, .f32⟩
  | 64 => ⟨S_, .f32⟩
  | 65 => ⟨S512x128, .f32⟩
  | 66 => ⟨S512x128, .f32⟩
  | 67 => ⟨S1x128, .f32⟩
  | 68 => ⟨S512x128, .f32⟩
  | 69 => ⟨S512x128, .f32⟩
  | 70 => ⟨S_, .f32⟩
  | 71 => ⟨S512x128, .f32⟩
  | 72 => ⟨S512x128, .f32⟩
  | 73 => ⟨S1x128x128, .f32⟩
  | 74 => ⟨S128x128, .f32⟩
  | 75 => ⟨S512x128, .f32⟩
  | 76 => ⟨S1x128, .f32⟩
  | 77 => ⟨S128, .f32⟩
  | 78 => ⟨S1x128, .f32⟩
  | 79 => ⟨S512x128, .f32⟩
  | 80 => ⟨S512x128, .f32⟩
  | 81 => ⟨S_, .f32⟩
  | 82 => ⟨S512x128, .f32⟩
  | 83 => ⟨S512x128, .f32⟩
  | 84 => ⟨S1x128x128, .f32⟩
  | 85 => ⟨S128x128, .f32⟩
  | 86 => ⟨S512x128, .f32⟩
  | 87 => ⟨S1x128, .f32⟩
  | 88 => ⟨S128, .f32⟩
  | 89 => ⟨S1x128, .f32⟩
  | 90 => ⟨S512x128, .f32⟩
  | 91 => ⟨S512x128, .f32⟩
  | 92 => ⟨S_, .f32⟩
  | 93 => ⟨S512x128, .f32⟩
  | 94 => ⟨S512x128, .f32⟩
  | 95 => ⟨S512x16, .f32⟩
  | 96 => ⟨S1x16, .f32⟩
  | 97 => ⟨S512x16, .f32⟩
  | 98 => ⟨S512x16, .f32⟩
  | 99 => ⟨S512x1, .f32⟩
  | 100 => ⟨S512x1, .i32⟩
  | 101 => ⟨S512, .i32⟩
  | 102 => ⟨S_, .f32⟩
  | 103 => ⟨S512, .f32⟩
  | 104 => ⟨S_, .f32⟩
  | 105 => ⟨S512, .f32⟩
  | 106 => ⟨S512, .f32⟩
  | 107 => ⟨S512x1, .f32⟩
  | 108 => ⟨S512x16, .f32⟩
  | 109 => ⟨S512x16, .f32⟩
  | 110 => ⟨S512x16, .f32⟩
  | 111 => ⟨S_, .f32⟩
  | 112 => ⟨S512, .f32⟩
  | 113 => ⟨S512x1, .f32⟩
  | 114 => ⟨S512x1, .f32⟩
  | 115 => ⟨S512x16, .f32⟩
  | 116 => ⟨S512x16, .f32⟩
  | 117 => ⟨S512x1, .i32⟩
  | 118 => ⟨S_, .i32⟩
  | 119 => ⟨S512x1, .i32⟩
  | 120 => ⟨S512x1, .i1⟩
  | 121 => ⟨S_, .i32⟩
  | 122 => ⟨S512x1, .i32⟩
  | 123 => ⟨S512x1, .i32⟩
  | 124 => ⟨S512x1, .i32⟩
  | 125 => ⟨S512x1x1, .i32⟩
  | 126 => ⟨S1, .i32⟩
  | 127 => ⟨S_, .i32⟩
  | _ => ⟨S512x8x2, .f32⟩

abbrev hbmTy0_7 (i : Nat) : BufTy := match i % 128 with
  | 0 => ⟨S512x1x1, .i32⟩
  | 1 => ⟨S512x1x1, .i1⟩
  | 2 => ⟨S1x1x1, .i32⟩
  | 3 => ⟨S512x1x1, .i32⟩
  | 4 => ⟨S512x1x1, .i1⟩
  | 5 => ⟨S512x1x1, .i1⟩
  | 6 => ⟨S_, .i1⟩
  | 7 => ⟨S512x1, .i1⟩
  | 8 => ⟨S512x1, .f32⟩
  | 9 => ⟨S_, .f32⟩
  | 10 => ⟨S512x1, .f32⟩
  | 11 => ⟨S512x1, .f32⟩
  | 12 => ⟨S512, .f32⟩
  | 13 => ⟨S512, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S65536, .i32⟩
  | 23 => ⟨S_, .i32⟩
  | 24 => ⟨S65536, .i32⟩
  | 25 => ⟨S65536, .i1⟩
  | 26 => ⟨S_, .i32⟩
  | 27 => ⟨S65536, .i32⟩
  | 28 => ⟨S65536, .i32⟩
  | 29 => ⟨S65536, .i32⟩
  | 30 => ⟨S65536x1, .i32⟩
  | 31 => ⟨S65536x128, .f32⟩
  | 32 => ⟨S32768x256, .f32⟩
  | 33 => ⟨S32768x257, .f32⟩
  | 34 => ⟨S32768x128, .f32⟩
  | 35 => ⟨S1x128, .f32⟩
  | 36 => ⟨S32768x128, .f32⟩
  | 37 => ⟨S32768x128, .f32⟩
  | 38 => ⟨S_, .f32⟩
  | 39 => ⟨S32768x128, .f32⟩
  | 40 => ⟨S32768x128, .f32⟩
  | 41 => ⟨S1x128x128, .f32⟩
  | 42 => ⟨S128x128, .f32⟩
  | 43 => ⟨S32768x128, .f32⟩
  | 44 => ⟨S1x128, .f32⟩
  | 45 => ⟨S128, .f32⟩
  | 46 => ⟨S1x128, .f32⟩
  | 47 => ⟨S32768x128, .f32⟩
  | 48 => ⟨S32768x128, .f32⟩
  | 49 => ⟨S_, .f32⟩
  | 50 => ⟨S32768x128, .f32⟩
  | 51 => ⟨S32768x128, .f32⟩
  | 52 => ⟨S1x128x128, .f32⟩
  | 53 => ⟨S128x128, .f32⟩
  | 54 => ⟨S32768x128, .f32⟩
  | 55 => ⟨S1x128, .f32⟩
  | 56 => ⟨S128, .f32⟩
  | 57 => ⟨S1x128, .f32⟩
  | 58 => ⟨S32768x128, .f32⟩
  | 59 => ⟨S32768x128, .f32⟩
  | 60 => ⟨S_, .f32⟩
  | 61 => ⟨S32768x128, .f32⟩
  | 62 => ⟨S32768x128, .f32⟩
  | 63 => ⟨S32768x128, .f32⟩
  | 64 => ⟨S1x128, .f32⟩
  | 65 => ⟨S32768x128, .f32⟩
  | 66 => ⟨S32768x128, .f32⟩
  | 67 => ⟨S_, .f32⟩
  | 68 => ⟨S4096x128, .f32⟩
  | 69 => ⟨S32768x1, .i32⟩
  | 70 => ⟨S32768, .i32⟩
  | 71 => ⟨S_, .i32⟩
  | 72 => ⟨S32768, .i32⟩
  | 73 => ⟨S32768, .i1⟩
  | 74 => ⟨S_, .i32⟩
  | 75 => ⟨S32768, .i32⟩
  | 76 => ⟨S32768, .i32⟩
  | 77 => ⟨S32768, .i32⟩
  | 78 => ⟨S32768x1, .i32⟩
  | 79 => ⟨S4096x128, .f32⟩
  | 80 => ⟨S4096x256, .f32⟩
  | 81 => ⟨S4096x128, .f32⟩
  | 82 => ⟨S1x128, .f32⟩
  | 83 => ⟨S4096x128, .f32⟩
  | 84 => ⟨S4096x128, .f32⟩
  | 85 => ⟨S_, .f32⟩
  | 86 => ⟨S4096x128, .f32⟩
  | 87 => ⟨S4096x128, .f32⟩
  | 88 => ⟨S1x128x128, .f32⟩
  | 89 => ⟨S128x128, .f32⟩
  | 90 => ⟨S4096x128, .f32⟩
  | 91 => ⟨S1x128, .f32⟩
  | 92 => ⟨S128, .f32⟩
  | 93 => ⟨S1x128, .f32⟩
  | 94 => ⟨S4096x128, .f32⟩
  | 95 => ⟨S4096x128, .f32⟩
  | 96 => ⟨S_, .f32⟩
  | 97 => ⟨S4096x128, .f32⟩
  | 98 => ⟨S4096x128, .f32⟩
  | 99 => ⟨S1x128x128, .f32⟩
  | 100 => ⟨S128x128, .f32⟩
  | 101 => ⟨S4096x128, .f32⟩
  | 102 => ⟨S1x128, .f32⟩
  | 103 => ⟨S128, .f32⟩
  | 104 => ⟨S1x128, .f32⟩
  | 105 => ⟨S4096x128, .f32⟩
  | 106 => ⟨S4096x128, .f32⟩
  | 107 => ⟨S_, .f32⟩
  | 108 => ⟨S4096x128, .f32⟩
  | 109 => ⟨S4096x128, .f32⟩
  | 110 => ⟨S4096x128, .f32⟩
  | 111 => ⟨S1x128, .f32⟩
  | 112 => ⟨S4096x128, .f32⟩
  | 113 => ⟨S4096x128, .f32⟩
  | 114 => ⟨S_, .f32⟩
  | 115 => ⟨S128, .f32⟩
  | 116 => ⟨S_, .f32⟩
  | 117 => ⟨S128, .f32⟩
  | 118 => ⟨S128, .f32⟩
  | 119 => ⟨S_, .i32⟩
  | 120 => ⟨S_, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S4096x128, .f32⟩
  | 127 => ⟨S4096x128, .f32⟩
  | _ => ⟨S512x8x2, .f32⟩

abbrev hbmTy0_8 (i : Nat) : BufTy := match i % 128 with
  | 0 => ⟨S4096x128, .f32⟩
  | 1 => ⟨S_, .f32⟩
  | 2 => ⟨S_, .f32⟩
  | 3 => ⟨S_, .f32⟩
  | 4 => ⟨S_, .f32⟩
  | 5 => ⟨S128, .f32⟩
  | 6 => ⟨S128, .f32⟩
  | 7 => ⟨S128, .f32⟩
  | 8 => ⟨S_, .f32⟩
  | 9 => ⟨S_, .i1⟩
  | 10 => ⟨S_, .f32⟩
  | 11 => ⟨S_, .f32⟩
  | 12 => ⟨S128, .f32⟩
  | 13 => ⟨S128, .f32⟩
  | 14 => ⟨S1x128, .f32⟩
  | 15 => ⟨S4096x128, .f32⟩
  | 16 => ⟨S4096x128, .f32⟩
  | 17 => ⟨S_, .f32⟩
  | 18 => ⟨S128, .f32⟩
  | 19 => ⟨S128, .f32⟩
  | 20 => ⟨S128, .f32⟩
  | 21 => ⟨S1x128, .f32⟩
  | 22 => ⟨S4096x128, .f32⟩
  | 23 => ⟨S4096x128, .f32⟩
  | 24 => ⟨S1x128, .f32⟩
  | 25 => ⟨S4096x128, .f32⟩
  | 26 => ⟨S4096x128, .f32⟩
  | 27 => ⟨S1x128, .f32⟩
  | 28 => ⟨S4096x128, .f32⟩
  | 29 => ⟨S4096x128, .f32⟩
  | 30 => ⟨S4096x256, .f32⟩
  | 31 => ⟨S4096x512, .f32⟩
  | 32 => ⟨S1x512, .f32⟩
  | 33 => ⟨S4096x512, .f32⟩
  | 34 => ⟨S4096x512, .f32⟩
  | 35 => ⟨S4096x128, .f32⟩
  | 36 => ⟨S4096x128, .f32⟩
  | 37 => ⟨S4096x128, .f32⟩
  | 38 => ⟨S4096x128, .f32⟩
  | 39 => ⟨S_, .f32⟩
  | 40 => ⟨S4096x128, .f32⟩
  | 41 => ⟨S4096x128, .f32⟩
  | 42 => ⟨S4096x128, .f32⟩
  | 43 => ⟨S4096x128, .f32⟩
  | 44 => ⟨S_, .f32⟩
  | 45 => ⟨S4096x128, .f32⟩
  | 46 => ⟨S4096x128, .f32⟩
  | 47 => ⟨S_, .f32⟩
  | 48 => ⟨S4096x128, .f32⟩
  | 49 => ⟨S4096x128, .f32⟩
  | 50 => ⟨S4096x128, .f32⟩
  | 51 => ⟨S4096x128, .f32⟩
  | 52 => ⟨S4096x128, .f32⟩
  | 53 => ⟨S_, .f32⟩
  | 54 => ⟨S4096x128, .f32⟩
  | 55 => ⟨S4096x128, .f32⟩
  | 56 => ⟨S_, .f32⟩
  | 57 => ⟨S4096x128, .f32⟩
  | 58 => ⟨S4096x128, .f32⟩
  | 59 => ⟨S4096x128, .f32⟩
  | 60 => ⟨S4096x128, .f32⟩
  | 61 => ⟨S4096x128, .f32⟩
  | 62 => ⟨S4096x128, .f32⟩
  | 63 => ⟨S4096x128, .f32⟩
  | 64 => ⟨S4096x128, .f32⟩
  | 65 => ⟨S_, .f32⟩
  | 66 => ⟨S4096x128, .f32⟩
  | 67 => ⟨S4096x128, .f32⟩
  | 68 => ⟨S_, .f32⟩
  | 69 => ⟨S4096x128, .f32⟩
  | 70 => ⟨S4096x128, .f32⟩
  | 71 => ⟨S4096x128, .f32⟩
  | 72 => ⟨S512x8x128, .f32⟩
  | 73 => ⟨S_, .f32⟩
  | 74 => ⟨S512x128, .f32⟩
  | 75 => ⟨S512x128, .f32⟩
  | 76 => ⟨S1x128, .f32⟩
  | 77 => ⟨S512x128, .f32⟩
  | 78 => ⟨S512x128, .f32⟩
  | 79 => ⟨S_, .f32⟩
  | 80 => ⟨S512x128, .f32⟩
  | 81 => ⟨S512x128, .f32⟩
  | 82 => ⟨S1x128x128, .f32⟩
  | 83 => ⟨S128x128, .f32⟩
  | 84 => ⟨S512x128, .f32⟩
  | 85 => ⟨S1x128, .f32⟩
  | 86 => ⟨S128, .f32⟩
  | 87 => ⟨S1x128, .f32⟩
  | 88 => ⟨S512x128, .f32⟩
  | 89 => ⟨S512x128, .f32⟩
  | 90 => ⟨S_, .f32⟩
  | 91 => ⟨S512x128, .f32⟩
  | 92 => ⟨S512x128, .f32⟩
  | 93 => ⟨S1x128x128, .f32⟩
  | 94 => ⟨S128x128, .f32⟩
  | 95 => ⟨S512x128, .f32⟩
  | 96 => ⟨S1x128, .f32⟩
  | 97 => ⟨S128, .f32⟩
  | 98 => ⟨S1x128, .f32⟩
  | 99 => ⟨S512x128, .f32⟩
  | 100 => ⟨S512x128, .f32⟩
  | 101 => ⟨S_, .f32⟩
  | 102 => ⟨S512x128, .f32⟩
  | 103 => ⟨S512x128, .f32⟩
  | 104 => ⟨S512x16, .f32⟩
  | 105 => ⟨S1x16, .f32⟩
  | 106 => ⟨S512x16, .f32⟩
  | 107 => ⟨S512x16, .f32⟩
  | 108 => ⟨S512x1, .f32⟩
  | 109 => ⟨S512x1, .i32⟩
  | 110 => ⟨S512, .i32⟩
  | 111 => ⟨S_, .f32⟩
  | 112 => ⟨S512, .f32⟩
  | 113 => ⟨S_, .f32⟩
  | 114 => ⟨S512, .f32⟩
  | 115 => ⟨S512, .f32⟩
  | 116 => ⟨S512x1, .f32⟩
  | 117 => ⟨S512x16, .f32⟩
  | 118 => ⟨S512x16, .f32⟩
  | 119 => ⟨S512x16, .f32⟩
  | 120 => ⟨S_, .f32⟩
  | 121 => ⟨S512, .f32⟩
  | 122 => ⟨S512x1, .f32⟩
  | 123 => ⟨S512x1, .f32⟩
  | 124 => ⟨S512x16, .f32⟩
  | 125 => ⟨S512x16, .f32⟩
  | 126 => ⟨S512x1, .i32⟩
  | 127 => ⟨S_, .i32⟩
  | _ => ⟨S512x8x2, .f32⟩

abbrev hbmTy0_9 (i : Nat) : BufTy := match i % 128 with
  | 0 => ⟨S512x1, .i32⟩
  | 1 => ⟨S512x1, .i1⟩
  | 2 => ⟨S_, .i32⟩
  | 3 => ⟨S512x1, .i32⟩
  | 4 => ⟨S512x1, .i32⟩
  | 5 => ⟨S512x1, .i32⟩
  | 6 => ⟨S512x1x1, .i32⟩
  | 7 => ⟨S1, .i32⟩
  | 8 => ⟨S_, .i32⟩
  | 9 => ⟨S512x1x1, .i32⟩
  | 10 => ⟨S512x1x1, .i1⟩
  | 11 => ⟨S1x1x1, .i32⟩
  | 12 => ⟨S512x1x1, .i32⟩
  | 13 => ⟨S512x1x1, .i1⟩
  | 14 => ⟨S512x1x1, .i1⟩
  | 15 => ⟨S_, .i1⟩
  | 16 => ⟨S512x1, .i1⟩
  | 17 => ⟨S512x1, .f32⟩
  | 18 => ⟨S_, .f32⟩
  | 19 => ⟨S512x1, .f32⟩
  | 20 => ⟨S512x1, .f32⟩
  | 21 => ⟨S512, .f32⟩
  | 22 => ⟨S512, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S65536, .i32⟩
  | 32 => ⟨S_, .i32⟩
  | 33 => ⟨S65536, .i32⟩
  | 34 => ⟨S65536, .i1⟩
  | 35 => ⟨S_, .i32⟩
  | 36 => ⟨S65536, .i32⟩
  | 37 => ⟨S65536, .i32⟩
  | 38 => ⟨S65536, .i32⟩
  | 39 => ⟨S65536x1, .i32⟩
  | 40 => ⟨S65536x128, .f32⟩
  | 41 => ⟨S32768x256, .f32⟩
  | 42 => ⟨S32768x257, .f32⟩
  | 43 => ⟨S32768x128, .f32⟩
  | 44 => ⟨S1x128, .f32⟩
  | 45 => ⟨S32768x128, .f32⟩
  | 46 => ⟨S32768x128, .f32⟩
  | 47 => ⟨S_, .f32⟩
  | 48 => ⟨S32768x128, .f32⟩
  | 49 => ⟨S32768x128, .f32⟩
  | 50 => ⟨S1x128x128, .f32⟩
  | 51 => ⟨S128x128, .f32⟩
  | 52 => ⟨S32768x128, .f32⟩
  | 53 => ⟨S1x128, .f32⟩
  | 54 => ⟨S128, .f32⟩
  | 55 => ⟨S1x128, .f32⟩
  | 56 => ⟨S32768x128, .f32⟩
  | 57 => ⟨S32768x128, .f32⟩
  | 58 => ⟨S_, .f32⟩
  | 59 => ⟨S32768x128, .f32⟩
  | 60 => ⟨S32768x128, .f32⟩
  | 61 => ⟨S1x128x128, .f32⟩
  | 62 => ⟨S128x128, .f32⟩
  | 63 => ⟨S32768x128, .f32⟩
  | 64 => ⟨S1x128, .f32⟩
  | 65 => ⟨S128, .f32⟩
  | 66 => ⟨S1x128, .f32⟩
  | 67 => ⟨S32768x128, .f32⟩
  | 68 => ⟨S32768x128, .f32⟩
  | 69 => ⟨S_, .f32⟩
  | 70 => ⟨S32768x128, .f32⟩
  | 71 => ⟨S32768x128, .f32⟩
  | 72 => ⟨S32768x128, .f32⟩
  | 73 => ⟨S1x128, .f32⟩
  | 74 => ⟨S32768x128, .f32⟩
  | 75 => ⟨S32768x128, .f32⟩
  | 76 => ⟨S_, .f32⟩
  | 77 => ⟨S4096x128, .f32⟩
  | 78 => ⟨S32768x1, .i32⟩
  | 79 => ⟨S32768, .i32⟩
  | 80 => ⟨S_, .i32⟩
  | 81 => ⟨S32768, .i32⟩
  | 82 => ⟨S32768, .i1⟩
  | 83 => ⟨S_, .i32⟩
  | 84 => ⟨S32768, .i32⟩
  | 85 => ⟨S32768, .i32⟩
  | 86 => ⟨S32768, .i32⟩
  | 87 => ⟨S32768x1, .i32⟩
  | 88 => ⟨S4096x128, .f32⟩
  | 89 => ⟨S4096x256, .f32⟩
  | 90 => ⟨S4096x128, .f32⟩
  | 91 => ⟨S1x128, .f32⟩
  | 92 => ⟨S4096x128, .f32⟩
  | 93 => ⟨S4096x128, .f32⟩
  | 94 => ⟨S_, .f32⟩
  | 95 => ⟨S4096x128, .f32⟩
  | 96 => ⟨S4096x128, .f32⟩
  | 97 => ⟨S1x128x128, .f32⟩
  | 98 => ⟨S128x128, .f32⟩
  | 99 => ⟨S4096x128, .f32⟩
  | 100 => ⟨S1x128, .f32⟩
  | 101 => ⟨S128, .f32⟩
  | 102 => ⟨S1x128, .f32⟩
  | 103 => ⟨S4096x128, .f32⟩
  | 104 => ⟨S4096x128, .f32⟩
  | 105 => ⟨S_, .f32⟩
  | 106 => ⟨S4096x128, .f32⟩
  | 107 => ⟨S4096x128, .f32⟩
  | 108 => ⟨S1x128x128, .f32⟩
  | 109 => ⟨S128x128, .f32⟩
  | 110 => ⟨S4096x128, .f32⟩
  | 111 => ⟨S1x128, .f32⟩
  | 112 => ⟨S128, .f32⟩
  | 113 => ⟨S1x128, .f32⟩
  | 114 => ⟨S4096x128, .f32⟩
  | 115 => ⟨S4096x128, .f32⟩
  | 116 => ⟨S_, .f32⟩
  | 117 => ⟨S4096x128, .f32⟩
  | 118 => ⟨S4096x128, .f32⟩
  | 119 => ⟨S4096x128, .f32⟩
  | 120 => ⟨S1x128, .f32⟩
  | 121 => ⟨S4096x128, .f32⟩
  | 122 => ⟨S4096x128, .f32⟩
  | 123 => ⟨S_, .f32⟩
  | 124 => ⟨S128, .f32⟩
  | 125 => ⟨S_, .f32⟩
  | 126 => ⟨S128, .f32⟩
  | 127 => ⟨S128, .f32⟩
  | _ => ⟨S512x8x2, .f32⟩

abbrev hbmTy0_10 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S4096x128, .f32⟩
  | 8 => ⟨S4096x128, .f32⟩
  | 9 => ⟨S4096x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S4096x128, .f32⟩
  | 25 => ⟨S4096x128, .f32⟩
  | 26 => ⟨S_, .f32⟩
  | 27 => ⟨S128, .f32⟩
  | 28 => ⟨S128, .f32⟩
  | 29 => ⟨S128, .f32⟩
  | 30 => ⟨S1x128, .f32⟩
  | 31 => ⟨S4096x128, .f32⟩
  | 32 => ⟨S4096x128, .f32⟩
  | 33 => ⟨S1x128, .f32⟩
  | 34 => ⟨S4096x128, .f32⟩
  | 35 => ⟨S4096x128, .f32⟩
  | 36 => ⟨S1x128, .f32⟩
  | 37 => ⟨S4096x128, .f32⟩
  | 38 => ⟨S4096x128, .f32⟩
  | 39 => ⟨S4096x256, .f32⟩
  | 40 => ⟨S4096x512, .f32⟩
  | 41 => ⟨S1x512, .f32⟩
  | 42 => ⟨S4096x512, .f32⟩
  | 43 => ⟨S4096x512, .f32⟩
  | 44 => ⟨S4096x128, .f32⟩
  | 45 => ⟨S4096x128, .f32⟩
  | 46 => ⟨S4096x128, .f32⟩
  | 47 => ⟨S4096x128, .f32⟩
  | 48 => ⟨S_, .f32⟩
  | 49 => ⟨S4096x128, .f32⟩
  | 50 => ⟨S4096x128, .f32⟩
  | 51 => ⟨S4096x128, .f32⟩
  | 52 => ⟨S4096x128, .f32⟩
  | 53 => ⟨S_, .f32⟩
  | 54 => ⟨S4096x128, .f32⟩
  | 55 => ⟨S4096x128, .f32⟩
  | 56 => ⟨S_, .f32⟩
  | 57 => ⟨S4096x128, .f32⟩
  | 58 => ⟨S4096x128, .f32⟩
  | 59 => ⟨S4096x128, .f32⟩
  | 60 => ⟨S4096x128, .f32⟩
  | 61 => ⟨S4096x128, .f32⟩
  | 62 => ⟨S_, .f32⟩
  | 63 => ⟨S4096x128, .f32⟩
  | 64 => ⟨S4096x128, .f32⟩
  | 65 => ⟨S_, .f32⟩
  | 66 => ⟨S4096x128, .f32⟩
  | 67 => ⟨S4096x128, .f32⟩
  | 68 => ⟨S4096x128, .f32⟩
  | 69 => ⟨S4096x128, .f32⟩
  | 70 => ⟨S4096x128, .f32⟩
  | 71 => ⟨S4096x128, .f32⟩
  | 72 => ⟨S4096x128, .f32⟩
  | 73 => ⟨S4096x128, .f32⟩
  | 74 => ⟨S_, .f32⟩
  | 75 => ⟨S4096x128, .f32⟩
  | 76 => ⟨S4096x128, .f32⟩
  | 77 => ⟨S_, .f32⟩
  | 78 => ⟨S4096x128, .f32⟩
  | 79 => ⟨S4096x128, .f32⟩
  | 80 => ⟨S4096x128, .f32⟩
  | 81 => ⟨S512x8x128, .f32⟩
  | 82 => ⟨S_, .f32⟩
  | 83 => ⟨S512x128, .f32⟩
  | 84 => ⟨S512x128, .f32⟩
  | 85 => ⟨S1x128, .f32⟩
  | 86 => ⟨S512x128, .f32⟩
  | 87 => ⟨S512x128, .f32⟩
  | 88 => ⟨S_, .f32⟩
  | 89 => ⟨S512x128, .f32⟩
  | 90 => ⟨S512x128, .f32⟩
  | 91 => ⟨S1x128x128, .f32⟩
  | 92 => ⟨S128x128, .f32⟩
  | 93 => ⟨S512x128, .f32⟩
  | 94 => ⟨S1x128, .f32⟩
  | 95 => ⟨S128, .f32⟩
  | 96 => ⟨S1x128, .f32⟩
  | 97 => ⟨S512x128, .f32⟩
  | 98 => ⟨S512x128, .f32⟩
  | 99 => ⟨S_, .f32⟩
  | 100 => ⟨S512x128, .f32⟩
  | 101 => ⟨S512x128, .f32⟩
  | 102 => ⟨S1x128x128, .f32⟩
  | 103 => ⟨S128x128, .f32⟩
  | 104 => ⟨S512x128, .f32⟩
  | 105 => ⟨S1x128, .f32⟩
  | 106 => ⟨S128, .f32⟩
  | 107 => ⟨S1x128, .f32⟩
  | 108 => ⟨S512x128, .f32⟩
  | 109 => ⟨S512x128, .f32⟩
  | 110 => ⟨S_, .f32⟩
  | 111 => ⟨S512x128, .f32⟩
  | 112 => ⟨S512x128, .f32⟩
  | 113 => ⟨S512x16, .f32⟩
  | 114 => ⟨S1x16, .f32⟩
  | 115 => ⟨S512x16, .f32⟩
  | 116 => ⟨S512x16, .f32⟩
  | 117 => ⟨S512x1, .f32⟩
  | 118 => ⟨S512x1, .i32⟩
  | 119 => ⟨S512, .i32⟩
  | 120 => ⟨S_, .f32⟩
  | 121 => ⟨S512, .f32⟩
  | 122 => ⟨S_, .f32⟩
  | 123 => ⟨S512, .f32⟩
  | 124 => ⟨S512, .f32⟩
  | 125 => ⟨S512x1, .f32⟩
  | 126 => ⟨S512x16, .f32⟩
  | 127 => ⟨S512x16, .f32⟩
  | _ => ⟨S512x8x2, .f32⟩

abbrev hbmTy0_11 (i : Nat) : BufTy := match i % 128 with
  | 0 => ⟨S512x16, .f32⟩
  | 1 => ⟨S_, .f32⟩
  | 2 => ⟨S512, .f32⟩
  | 3 => ⟨S512x1, .f32⟩
  | 4 => ⟨S512x1, .f32⟩
  | 5 => ⟨S512x16, .f32⟩
  | 6 => ⟨S512x16, .f32⟩
  | 7 => ⟨S512x1, .i32⟩
  | 8 => ⟨S_, .i32⟩
  | 9 => ⟨S512x1, .i32⟩
  | 10 => ⟨S512x1, .i1⟩
  | 11 => ⟨S_, .i32⟩
  | 12 => ⟨S512x1, .i32⟩
  | 13 => ⟨S512x1, .i32⟩
  | 14 => ⟨S512x1, .i32⟩
  | 15 => ⟨S512x1x1, .i32⟩
  | 16 => ⟨S1, .i32⟩
  | 17 => ⟨S_, .i32⟩
  | 18 => ⟨S512x1x1, .i32⟩
  | 19 => ⟨S512x1x1, .i1⟩
  | 20 => ⟨S1x1x1, .i32⟩
  | 21 => ⟨S512x1x1, .i32⟩
  | 22 => ⟨S512x1x1, .i1⟩
  | 23 => ⟨S512x1x1, .i1⟩
  | 24 => ⟨S_, .i1⟩
  | 25 => ⟨S512x1, .i1⟩
  | 26 => ⟨S512x1, .f32⟩
  | 27 => ⟨S_, .f32⟩
  | 28 => ⟨S512x1, .f32⟩
  | 29 => ⟨S512x1, .f32⟩
  | 30 => ⟨S512, .f32⟩
  | 31 => ⟨S512, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S65536, .i32⟩
  | 41 => ⟨S_, .i32⟩
  | 42 => ⟨S65536, .i32⟩
  | 43 => ⟨S65536, .i1⟩
  | 44 => ⟨S_, .i32⟩
  | 45 => ⟨S65536, .i32⟩
  | 46 => ⟨S65536, .i32⟩
  | 47 => ⟨S65536, .i32⟩
  | 48 => ⟨S65536x1, .i32⟩
  | 49 => ⟨S65536x128, .f32⟩
  | 50 => ⟨S32768x256, .f32⟩
  | 51 => ⟨S32768x257, .f32⟩
  | 52 => ⟨S32768x128, .f32⟩
  | 53 => ⟨S1x128, .f32⟩
  | 54 => ⟨S32768x128, .f32⟩
  | 55 => ⟨S32768x128, .f32⟩
  | 56 => ⟨S_, .f32⟩
  | 57 => ⟨S32768x128, .f32⟩
  | 58 => ⟨S32768x128, .f32⟩
  | 59 => ⟨S1x128x128, .f32⟩
  | 60 => ⟨S128x128, .f32⟩
  | 61 => ⟨S32768x128, .f32⟩
  | 62 => ⟨S1x128, .f32⟩
  | 63 => ⟨S128, .f32⟩
  | 64 => ⟨S1x128, .f32⟩
  | 65 => ⟨S32768x128, .f32⟩
  | 66 => ⟨S32768x128, .f32⟩
  | 67 => ⟨S_, .f32⟩
  | 68 => ⟨S32768x128, .f32⟩
  | 69 => ⟨S32768x128, .f32⟩
  | 70 => ⟨S1x128x128, .f32⟩
  | 71 => ⟨S128x128, .f32⟩
  | 72 => ⟨S32768x128, .f32⟩
  | 73 => ⟨S1x128, .f32⟩
  | 74 => ⟨S128, .f32⟩
  | 75 => ⟨S1x128, .f32⟩
  | 76 => ⟨S32768x128, .f32⟩
  | 77 => ⟨S32768x128, .f32⟩
  | 78 => ⟨S_, .f32⟩
  | 79 => ⟨S32768x128, .f32⟩
  | 80 => ⟨S32768x128, .f32⟩
  | 81 => ⟨S32768x128, .f32⟩
  | 82 => ⟨S1x128, .f32⟩
  | 83 => ⟨S32768x128, .f32⟩
  | 84 => ⟨S32768x128, .f32⟩
  | 85 => ⟨S_, .f32⟩
  | 86 => ⟨S4096x128, .f32⟩
  | 87 => ⟨S32768x1, .i32⟩
  | 88 => ⟨S32768, .i32⟩
  | 89 => ⟨S_, .i32⟩
  | 90 => ⟨S32768, .i32⟩
  | 91 => ⟨S32768, .i1⟩
  | 92 => ⟨S_, .i32⟩
  | 93 => ⟨S32768, .i32⟩
  | 94 => ⟨S32768, .i32⟩
  | 95 => ⟨S32768, .i32⟩
  | 96 => ⟨S32768x1, .i32⟩
  | 97 => ⟨S4096x128, .f32⟩
  | 98 => ⟨S4096x256, .f32⟩
  | 99 => ⟨S4096x128, .f32⟩
  | 100 => ⟨S1x128, .f32⟩
  | 101 => ⟨S4096x128, .f32⟩
  | 102 => ⟨S4096x128, .f32⟩
  | 103 => ⟨S_, .f32⟩
  | 104 => ⟨S4096x128, .f32⟩
  | 105 => ⟨S4096x128, .f32⟩
  | 106 => ⟨S1x128x128, .f32⟩
  | 107 => ⟨S128x128, .f32⟩
  | 108 => ⟨S4096x128, .f32⟩
  | 109 => ⟨S1x128, .f32⟩
  | 110 => ⟨S128, .f32⟩
  | 111 => ⟨S1x128, .f32⟩
  | 112 => ⟨S4096x128, .f32⟩
  | 113 => ⟨S4096x128, .f32⟩
  | 114 => ⟨S_, .f32⟩
  | 115 => ⟨S4096x128, .f32⟩
  | 116 => ⟨S4096x128, .f32⟩
  | 117 => ⟨S1x128x128, .f32⟩
  | 118 => ⟨S128x128, .f32⟩
  | 119 => ⟨S4096x128, .f32⟩
  | 120 => ⟨S1x128, .f32⟩
  | 121 => ⟨S128, .f32⟩
  | 122 => ⟨S1x128, .f32⟩
  | 123 => ⟨S4096x128, .f32⟩
  | 124 => ⟨S4096x128, .f32⟩
  | 125 => ⟨S_, .f32⟩
  | 126 => ⟨S4096x128, .f32⟩
  | 127 => ⟨S4096x128, .f32⟩
  | _ => ⟨S512x8x2, .f32⟩

abbrev hbmTy0_12 (i : Nat) : BufTy := match i % 128 with
  | 0 => ⟨S4096x128, .f32⟩
  | 1 => ⟨S1x128, .f32⟩
  | 2 => ⟨S4096x128, .f32⟩
  | 3 => ⟨S4096x128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S4096x128, .f32⟩
  | 17 => ⟨S4096x128, .f32⟩
  | 18 => ⟨S4096x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S4096x128, .f32⟩
  | 34 => ⟨S4096x128, .f32⟩
  | 35 => ⟨S_, .f32⟩
  | 36 => ⟨S128, .f32⟩
  | 37 => ⟨S128, .f32⟩
  | 38 => ⟨S128, .f32⟩
  | 39 => ⟨S1x128, .f32⟩
  | 40 => ⟨S4096x128, .f32⟩
  | 41 => ⟨S4096x128, .f32⟩
  | 42 => ⟨S1x128, .f32⟩
  | 43 => ⟨S4096x128, .f32⟩
  | 44 => ⟨S4096x128, .f32⟩
  | 45 => ⟨S1x128, .f32⟩
  | 46 => ⟨S4096x128, .f32⟩
  | 47 => ⟨S4096x128, .f32⟩
  | 48 => ⟨S4096x256, .f32⟩
  | 49 => ⟨S4096x512, .f32⟩
  | 50 => ⟨S1x512, .f32⟩
  | 51 => ⟨S4096x512, .f32⟩
  | 52 => ⟨S4096x512, .f32⟩
  | 53 => ⟨S4096x128, .f32⟩
  | 54 => ⟨S4096x128, .f32⟩
  | 55 => ⟨S4096x128, .f32⟩
  | 56 => ⟨S4096x128, .f32⟩
  | 57 => ⟨S_, .f32⟩
  | 58 => ⟨S4096x128, .f32⟩
  | 59 => ⟨S4096x128, .f32⟩
  | 60 => ⟨S4096x128, .f32⟩
  | 61 => ⟨S4096x128, .f32⟩
  | 62 => ⟨S_, .f32⟩
  | 63 => ⟨S4096x128, .f32⟩
  | 64 => ⟨S4096x128, .f32⟩
  | 65 => ⟨S_, .f32⟩
  | 66 => ⟨S4096x128, .f32⟩
  | 67 => ⟨S4096x128, .f32⟩
  | 68 => ⟨S4096x128, .f32⟩
  | 69 => ⟨S4096x128, .f32⟩
  | 70 => ⟨S4096x128, .f32⟩
  | 71 => ⟨S_, .f32⟩
  | 72 => ⟨S4096x128, .f32⟩
  | 73 => ⟨S4096x128, .f32⟩
  | 74 => ⟨S_, .f32⟩
  | 75 => ⟨S4096x128, .f32⟩
  | 76 => ⟨S4096x128, .f32⟩
  | 77 => ⟨S4096x128, .f32⟩
  | 78 => ⟨S4096x128, .f32⟩
  | 79 => ⟨S4096x128, .f32⟩
  | 80 => ⟨S4096x128, .f32⟩
  | 81 => ⟨S4096x128, .f32⟩
  | 82 => ⟨S4096x128, .f32⟩
  | 83 => ⟨S_, .f32⟩
  | 84 => ⟨S4096x128, .f32⟩
  | 85 => ⟨S4096x128, .f32⟩
  | 86 => ⟨S_, .f32⟩
  | 87 => ⟨S4096x128, .f32⟩
  | 88 => ⟨S4096x128, .f32⟩
  | 89 => ⟨S4096x128, .f32⟩
  | 90 => ⟨S512x8x128, .f32⟩
  | 91 => ⟨S_, .f32⟩
  | 92 => ⟨S512x128, .f32⟩
  | 93 => ⟨S512x128, .f32⟩
  | 94 => ⟨S1x128, .f32⟩
  | 95 => ⟨S512x128, .f32⟩
  | 96 => ⟨S512x128, .f32⟩
  | 97 => ⟨S_, .f32⟩
  | 98 => ⟨S512x128, .f32⟩
  | 99 => ⟨S512x128, .f32⟩
  | 100 => ⟨S1x128x128, .f32⟩
  | 101 => ⟨S128x128, .f32⟩
  | 102 => ⟨S512x128, .f32⟩
  | 103 => ⟨S1x128, .f32⟩
  | 104 => ⟨S128, .f32⟩
  | 105 => ⟨S1x128, .f32⟩
  | 106 => ⟨S512x128, .f32⟩
  | 107 => ⟨S512x128, .f32⟩
  | 108 => ⟨S_, .f32⟩
  | 109 => ⟨S512x128, .f32⟩
  | 110 => ⟨S512x128, .f32⟩
  | 111 => ⟨S1x128x128, .f32⟩
  | 112 => ⟨S128x128, .f32⟩
  | 113 => ⟨S512x128, .f32⟩
  | 114 => ⟨S1x128, .f32⟩
  | 115 => ⟨S128, .f32⟩
  | 116 => ⟨S1x128, .f32⟩
  | 117 => ⟨S512x128, .f32⟩
  | 118 => ⟨S512x128, .f32⟩
  | 119 => ⟨S_, .f32⟩
  | 120 => ⟨S512x128, .f32⟩
  | 121 => ⟨S512x128, .f32⟩
  | 122 => ⟨S512x16, .f32⟩
  | 123 => ⟨S1x16, .f32⟩
  | 124 => ⟨S512x16, .f32⟩
  | 125 => ⟨S512x16, .f32⟩
  | 126 => ⟨S512x1, .f32⟩
  | 127 => ⟨S512x1, .i32⟩
  | _ => ⟨S512x8x2, .f32⟩

abbrev hbmTy0_13 (i : Nat) : BufTy := match i % 128 with
  | 0 => ⟨S512, .i32⟩
  | 1 => ⟨S_, .f32⟩
  | 2 => ⟨S512, .f32⟩
  | 3 => ⟨S_, .f32⟩
  | 4 => ⟨S512, .f32⟩
  | 5 => ⟨S512, .f32⟩
  | 6 => ⟨S512x1, .f32⟩
  | 7 => ⟨S512x16, .f32⟩
  | 8 => ⟨S512x16, .f32⟩
  | 9 => ⟨S512x16, .f32⟩
  | 10 => ⟨S_, .f32⟩
  | 11 => ⟨S512, .f32⟩
  | 12 => ⟨S512x1, .f32⟩
  | 13 => ⟨S512x1, .f32⟩
  | 14 => ⟨S512x16, .f32⟩
  | 15 => ⟨S512x16, .f32⟩
  | 16 => ⟨S512x1, .i32⟩
  | 17 => ⟨S_, .i32⟩
  | 18 => ⟨S512x1, .i32⟩
  | 19 => ⟨S512x1, .i1⟩
  | 20 => ⟨S_, .i32⟩
  | 21 => ⟨S512x1, .i32⟩
  | 22 => ⟨S512x1, .i32⟩
  | 23 => ⟨S512x1, .i32⟩
  | 24 => ⟨S512x1x1, .i32⟩
  | 25 => ⟨S1, .i32⟩
  | 26 => ⟨S_, .i32⟩
  | 27 => ⟨S512x1x1, .i32⟩
  | 28 => ⟨S512x1x1, .i1⟩
  | 29 => ⟨S1x1x1, .i32⟩
  | 30 => ⟨S512x1x1, .i32⟩
  | 31 => ⟨S512x1x1, .i1⟩
  | 32 => ⟨S512x1x1, .i1⟩
  | 33 => ⟨S_, .i1⟩
  | 34 => ⟨S512x1, .i1⟩
  | 35 => ⟨S512x1, .f32⟩
  | 36 => ⟨S_, .f32⟩
  | 37 => ⟨S512x1, .f32⟩
  | 38 => ⟨S512x1, .f32⟩
  | 39 => ⟨S512, .f32⟩
  | 40 => ⟨S512, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S65536, .i32⟩
  | 50 => ⟨S_, .i32⟩
  | 51 => ⟨S65536, .i32⟩
  | 52 => ⟨S65536, .i1⟩
  | 53 => ⟨S_, .i32⟩
  | 54 => ⟨S65536, .i32⟩
  | 55 => ⟨S65536, .i32⟩
  | 56 => ⟨S65536, .i32⟩
  | 57 => ⟨S65536x1, .i32⟩
  | 58 => ⟨S65536x128, .f32⟩
  | 59 => ⟨S32768x256, .f32⟩
  | 60 => ⟨S32768x257, .f32⟩
  | 61 => ⟨S32768x128, .f32⟩
  | 62 => ⟨S1x128, .f32⟩
  | 63 => ⟨S32768x128, .f32⟩
  | 64 => ⟨S32768x128, .f32⟩
  | 65 => ⟨S_, .f32⟩
  | 66 => ⟨S32768x128, .f32⟩
  | 67 => ⟨S32768x128, .f32⟩
  | 68 => ⟨S1x128x128, .f32⟩
  | 69 => ⟨S128x128, .f32⟩
  | 70 => ⟨S32768x128, .f32⟩
  | 71 => ⟨S1x128, .f32⟩
  | 72 => ⟨S128, .f32⟩
  | 73 => ⟨S1x128, .f32⟩
  | 74 => ⟨S32768x128, .f32⟩
  | 75 => ⟨S32768x128, .f32⟩
  | 76 => ⟨S_, .f32⟩
  | 77 => ⟨S32768x128, .f32⟩
  | 78 => ⟨S32768x128, .f32⟩
  | 79 => ⟨S1x128x128, .f32⟩
  | 80 => ⟨S128x128, .f32⟩
  | 81 => ⟨S32768x128, .f32⟩
  | 82 => ⟨S1x128, .f32⟩
  | 83 => ⟨S128, .f32⟩
  | 84 => ⟨S1x128, .f32⟩
  | 85 => ⟨S32768x128, .f32⟩
  | 86 => ⟨S32768x128, .f32⟩
  | 87 => ⟨S_, .f32⟩
  | 88 => ⟨S32768x128, .f32⟩
  | 89 => ⟨S32768x128, .f32⟩
  | 90 => ⟨S32768x128, .f32⟩
  | 91 => ⟨S1x128, .f32⟩
  | 92 => ⟨S32768x128, .f32⟩
  | 93 => ⟨S32768x128, .f32⟩
  | 94 => ⟨S_, .f32⟩
  | 95 => ⟨S4096x128, .f32⟩
  | 96 => ⟨S32768x1, .i32⟩
  | 97 => ⟨S32768, .i32⟩
  | 98 => ⟨S_, .i32⟩
  | 99 => ⟨S32768, .i32⟩
  | 100 => ⟨S32768, .i1⟩
  | 101 => ⟨S_, .i32⟩
  | 102 => ⟨S32768, .i32⟩
  | 103 => ⟨S32768, .i32⟩
  | 104 => ⟨S32768, .i32⟩
  | 105 => ⟨S32768x1, .i32⟩
  | 106 => ⟨S4096x128, .f32⟩
  | 107 => ⟨S4096x256, .f32⟩
  | 108 => ⟨S4096x128, .f32⟩
  | 109 => ⟨S1x128, .f32⟩
  | 110 => ⟨S4096x128, .f32⟩
  | 111 => ⟨S4096x128, .f32⟩
  | 112 => ⟨S_, .f32⟩
  | 113 => ⟨S4096x128, .f32⟩
  | 114 => ⟨S4096x128, .f32⟩
  | 115 => ⟨S1x128x128, .f32⟩
  | 116 => ⟨S128x128, .f32⟩
  | 117 => ⟨S4096x128, .f32⟩
  | 118 => ⟨S1x128, .f32⟩
  | 119 => ⟨S128, .f32⟩
  | 120 => ⟨S1x128, .f32⟩
  | 121 => ⟨S4096x128, .f32⟩
  | 122 => ⟨S4096x128, .f32⟩
  | 123 => ⟨S_, .f32⟩
  | 124 => ⟨S4096x128, .f32⟩
  | 125 => ⟨S4096x128, .f32⟩
  | 126 => ⟨S1x128x128, .f32⟩
  | 127 => ⟨S128x128, .f32⟩
  | _ => ⟨S512x8x2, .f32⟩

abbrev hbmTy0_14 (i : Nat) : BufTy := match i % 128 with
  | 0 => ⟨S4096x128, .f32⟩
  | 1 => ⟨S1x128, .f32⟩
  | 2 => ⟨S128, .f32⟩
  | 3 => ⟨S1x128, .f32⟩
  | 4 => ⟨S4096x128, .f32⟩
  | 5 => ⟨S4096x128, .f32⟩
  | 6 => ⟨S_, .f32⟩
  | 7 => ⟨S4096x128, .f32⟩
  | 8 => ⟨S4096x128, .f32⟩
  | 9 => ⟨S4096x128, .f32⟩
  | 10 => ⟨S1x128, .f32⟩
  | 11 => ⟨S4096x128, .f32⟩
  | 12 => ⟨S4096x128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S4096x128, .f32⟩
  | 26 => ⟨S4096x128, .f32⟩
  | 27 => ⟨S4096x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S4096x128, .f32⟩
  | 43 => ⟨S4096x128, .f32⟩
  | 44 => ⟨S_, .f32⟩
  | 45 => ⟨S128, .f32⟩
  | 46 => ⟨S128, .f32⟩
  | 47 => ⟨S128, .f32⟩
  | 48 => ⟨S1x128, .f32⟩
  | 49 => ⟨S4096x128, .f32⟩
  | 50 => ⟨S4096x128, .f32⟩
  | 51 => ⟨S1x128, .f32⟩
  | 52 => ⟨S4096x128, .f32⟩
  | 53 => ⟨S4096x128, .f32⟩
  | 54 => ⟨S1x128, .f32⟩
  | 55 => ⟨S4096x128, .f32⟩
  | 56 => ⟨S4096x128, .f32⟩
  | 57 => ⟨S4096x256, .f32⟩
  | 58 => ⟨S4096x512, .f32⟩
  | 59 => ⟨S1x512, .f32⟩
  | 60 => ⟨S4096x512, .f32⟩
  | 61 => ⟨S4096x512, .f32⟩
  | 62 => ⟨S4096x128, .f32⟩
  | 63 => ⟨S4096x128, .f32⟩
  | 64 => ⟨S4096x128, .f32⟩
  | 65 => ⟨S4096x128, .f32⟩
  | 66 => ⟨S_, .f32⟩
  | 67 => ⟨S4096x128, .f32⟩
  | 68 => ⟨S4096x128, .f32⟩
  | 69 => ⟨S4096x128, .f32⟩
  | 70 => ⟨S4096x128, .f32⟩
  | 71 => ⟨S_, .f32⟩
  | 72 => ⟨S4096x128, .f32⟩
  | 73 => ⟨S4096x128, .f32⟩
  | 74 => ⟨S_, .f32⟩
  | 75 => ⟨S4096x128, .f32⟩
  | 76 => ⟨S4096x128, .f32⟩
  | 77 => ⟨S4096x128, .f32⟩
  | 78 => ⟨S4096x128, .f32⟩
  | 79 => ⟨S4096x128, .f32⟩
  | 80 => ⟨S_, .f32⟩
  | 81 => ⟨S4096x128, .f32⟩
  | 82 => ⟨S4096x128, .f32⟩
  | 83 => ⟨S_, .f32⟩
  | 84 => ⟨S4096x128, .f32⟩
  | 85 => ⟨S4096x128, .f32⟩
  | 86 => ⟨S4096x128, .f32⟩
  | 87 => ⟨S4096x128, .f32⟩
  | 88 => ⟨S4096x128, .f32⟩
  | 89 => ⟨S4096x128, .f32⟩
  | 90 => ⟨S4096x128, .f32⟩
  | 91 => ⟨S4096x128, .f32⟩
  | 92 => ⟨S_, .f32⟩
  | 93 => ⟨S4096x128, .f32⟩
  | 94 => ⟨S4096x128, .f32⟩
  | 95 => ⟨S_, .f32⟩
  | 96 => ⟨S4096x128, .f32⟩
  | 97 => ⟨S4096x128, .f32⟩
  | 98 => ⟨S4096x128, .f32⟩
  | 99 => ⟨S512x8x128, .f32⟩
  | 100 => ⟨S_, .f32⟩
  | 101 => ⟨S512x128, .f32⟩
  | 102 => ⟨S512x128, .f32⟩
  | 103 => ⟨S1x128, .f32⟩
  | 104 => ⟨S512x128, .f32⟩
  | 105 => ⟨S512x128, .f32⟩
  | 106 => ⟨S_, .f32⟩
  | 107 => ⟨S512x128, .f32⟩
  | 108 => ⟨S512x128, .f32⟩
  | 109 => ⟨S1x128x128, .f32⟩
  | 110 => ⟨S128x128, .f32⟩
  | 111 => ⟨S512x128, .f32⟩
  | 112 => ⟨S1x128, .f32⟩
  | 113 => ⟨S128, .f32⟩
  | 114 => ⟨S1x128, .f32⟩
  | 115 => ⟨S512x128, .f32⟩
  | 116 => ⟨S512x128, .f32⟩
  | 117 => ⟨S_, .f32⟩
  | 118 => ⟨S512x128, .f32⟩
  | 119 => ⟨S512x128, .f32⟩
  | 120 => ⟨S1x128x128, .f32⟩
  | 121 => ⟨S128x128, .f32⟩
  | 122 => ⟨S512x128, .f32⟩
  | 123 => ⟨S1x128, .f32⟩
  | 124 => ⟨S128, .f32⟩
  | 125 => ⟨S1x128, .f32⟩
  | 126 => ⟨S512x128, .f32⟩
  | 127 => ⟨S512x128, .f32⟩
  | _ => ⟨S512x8x2, .f32⟩

abbrev hbmTy0_15 (i : Nat) : BufTy := match i % 128 with
  | 0 => ⟨S_, .f32⟩
  | 1 => ⟨S512x128, .f32⟩
  | 2 => ⟨S512x128, .f32⟩
  | 3 => ⟨S512x16, .f32⟩
  | 4 => ⟨S1x16, .f32⟩
  | 5 => ⟨S512x16, .f32⟩
  | 6 => ⟨S512x16, .f32⟩
  | 7 => ⟨S512x1, .f32⟩
  | 8 => ⟨S512x1, .i32⟩
  | 9 => ⟨S512, .i32⟩
  | 10 => ⟨S_, .f32⟩
  | 11 => ⟨S512, .f32⟩
  | 12 => ⟨S_, .f32⟩
  | 13 => ⟨S512, .f32⟩
  | 14 => ⟨S512, .f32⟩
  | 15 => ⟨S512x1, .f32⟩
  | 16 => ⟨S512x16, .f32⟩
  | 17 => ⟨S512x16, .f32⟩
  | 18 => ⟨S512x16, .f32⟩
  | 19 => ⟨S_, .f32⟩
  | 20 => ⟨S512, .f32⟩
  | 21 => ⟨S512x1, .f32⟩
  | 22 => ⟨S512x1, .f32⟩
  | 23 => ⟨S512x16, .f32⟩
  | 24 => ⟨S512x16, .f32⟩
  | 25 => ⟨S512x1, .i32⟩
  | 26 => ⟨S_, .i32⟩
  | 27 => ⟨S512x1, .i32⟩
  | 28 => ⟨S512x1, .i1⟩
  | 29 => ⟨S_, .i32⟩
  | 30 => ⟨S512x1, .i32⟩
  | 31 => ⟨S512x1, .i32⟩
  | 32 => ⟨S512x1, .i32⟩
  | 33 => ⟨S512x1x1, .i32⟩
  | 34 => ⟨S1, .i32⟩
  | 35 => ⟨S_, .i32⟩
  | 36 => ⟨S512x1x1, .i32⟩
  | 37 => ⟨S512x1x1, .i1⟩
  | 38 => ⟨S1x1x1, .i32⟩
  | 39 => ⟨S512x1x1, .i32⟩
  | 40 => ⟨S512x1x1, .i1⟩
  | 41 => ⟨S512x1x1, .i1⟩
  | 42 => ⟨S_, .i1⟩
  | 43 => ⟨S512x1, .i1⟩
  | 44 => ⟨S512x1, .f32⟩
  | 45 => ⟨S_, .f32⟩
  | 46 => ⟨S512x1, .f32⟩
  | 47 => ⟨S512x1, .f32⟩
  | 48 => ⟨S512, .f32⟩
  | 49 => ⟨S512, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S65536, .i32⟩
  | 59 => ⟨S_, .i32⟩
  | 60 => ⟨S65536, .i32⟩
  | 61 => ⟨S65536, .i1⟩
  | 62 => ⟨S_, .i32⟩
  | 63 => ⟨S65536, .i32⟩
  | 64 => ⟨S65536, .i32⟩
  | 65 => ⟨S65536, .i32⟩
  | 66 => ⟨S65536x1, .i32⟩
  | 67 => ⟨S65536x128, .f32⟩
  | 68 => ⟨S32768x256, .f32⟩
  | 69 => ⟨S32768x257, .f32⟩
  | 70 => ⟨S32768x128, .f32⟩
  | 71 => ⟨S1x128, .f32⟩
  | 72 => ⟨S32768x128, .f32⟩
  | 73 => ⟨S32768x128, .f32⟩
  | 74 => ⟨S_, .f32⟩
  | 75 => ⟨S32768x128, .f32⟩
  | 76 => ⟨S32768x128, .f32⟩
  | 77 => ⟨S1x128x128, .f32⟩
  | 78 => ⟨S128x128, .f32⟩
  | 79 => ⟨S32768x128, .f32⟩
  | 80 => ⟨S1x128, .f32⟩
  | 81 => ⟨S128, .f32⟩
  | 82 => ⟨S1x128, .f32⟩
  | 83 => ⟨S32768x128, .f32⟩
  | 84 => ⟨S32768x128, .f32⟩
  | 85 => ⟨S_, .f32⟩
  | 86 => ⟨S32768x128, .f32⟩
  | 87 => ⟨S32768x128, .f32⟩
  | 88 => ⟨S1x128x128, .f32⟩
  | 89 => ⟨S128x128, .f32⟩
  | 90 => ⟨S32768x128, .f32⟩
  | 91 => ⟨S1x128, .f32⟩
  | 92 => ⟨S128, .f32⟩
  | 93 => ⟨S1x128, .f32⟩
  | 94 => ⟨S32768x128, .f32⟩
  | 95 => ⟨S32768x128, .f32⟩
  | 96 => ⟨S_, .f32⟩
  | 97 => ⟨S32768x128, .f32⟩
  | 98 => ⟨S32768x128, .f32⟩
  | 99 => ⟨S32768x128, .f32⟩
  | 100 => ⟨S1x128, .f32⟩
  | 101 => ⟨S32768x128, .f32⟩
  | 102 => ⟨S32768x128, .f32⟩
  | 103 => ⟨S_, .f32⟩
  | 104 => ⟨S4096x128, .f32⟩
  | 105 => ⟨S32768x1, .i32⟩
  | 106 => ⟨S32768, .i32⟩
  | 107 => ⟨S_, .i32⟩
  | 108 => ⟨S32768, .i32⟩
  | 109 => ⟨S32768, .i1⟩
  | 110 => ⟨S_, .i32⟩
  | 111 => ⟨S32768, .i32⟩
  | 112 => ⟨S32768, .i32⟩
  | 113 => ⟨S32768, .i32⟩
  | 114 => ⟨S32768x1, .i32⟩
  | 115 => ⟨S4096x128, .f32⟩
  | 116 => ⟨S4096x256, .f32⟩
  | 117 => ⟨S4096x128, .f32⟩
  | 118 => ⟨S1x128, .f32⟩
  | 119 => ⟨S4096x128, .f32⟩
  | 120 => ⟨S4096x128, .f32⟩
  | 121 => ⟨S_, .f32⟩
  | 122 => ⟨S4096x128, .f32⟩
  | 123 => ⟨S4096x128, .f32⟩
  | 124 => ⟨S1x128x128, .f32⟩
  | 125 => ⟨S128x128, .f32⟩
  | 126 => ⟨S4096x128, .f32⟩
  | 127 => ⟨S1x128, .f32⟩
  | _ => ⟨S512x8x2, .f32⟩

abbrev hbmTy0_16 (i : Nat) : BufTy := match i % 128 with
  | 0 => ⟨S128, .f32⟩
  | 1 => ⟨S1x128, .f32⟩
  | 2 => ⟨S4096x128, .f32⟩
  | 3 => ⟨S4096x128, .f32⟩
  | 4 => ⟨S_, .f32⟩
  | 5 => ⟨S4096x128, .f32⟩
  | 6 => ⟨S4096x128, .f32⟩
  | 7 => ⟨S1x128x128, .f32⟩
  | 8 => ⟨S128x128, .f32⟩
  | 9 => ⟨S4096x128, .f32⟩
  | 10 => ⟨S1x128, .f32⟩
  | 11 => ⟨S128, .f32⟩
  | 12 => ⟨S1x128, .f32⟩
  | 13 => ⟨S4096x128, .f32⟩
  | 14 => ⟨S4096x128, .f32⟩
  | 15 => ⟨S_, .f32⟩
  | 16 => ⟨S4096x128, .f32⟩
  | 17 => ⟨S4096x128, .f32⟩
  | 18 => ⟨S4096x128, .f32⟩
  | 19 => ⟨S1x128, .f32⟩
  | 20 => ⟨S4096x128, .f32⟩
  | 21 => ⟨S4096x128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S4096x128, .f32⟩
  | 35 => ⟨S4096x128, .f32⟩
  | 36 => ⟨S4096x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S4096x128, .f32⟩
  | 52 => ⟨S4096x128, .f32⟩
  | 53 => ⟨S_, .f32⟩
  | 54 => ⟨S128, .f32⟩
  | 55 => ⟨S128, .f32⟩
  | 56 => ⟨S128, .f32⟩
  | 57 => ⟨S1x128, .f32⟩
  | 58 => ⟨S4096x128, .f32⟩
  | 59 => ⟨S4096x128, .f32⟩
  | 60 => ⟨S1x128, .f32⟩
  | 61 => ⟨S4096x128, .f32⟩
  | 62 => ⟨S4096x128, .f32⟩
  | 63 => ⟨S1x128, .f32⟩
  | 64 => ⟨S4096x128, .f32⟩
  | 65 => ⟨S4096x128, .f32⟩
  | 66 => ⟨S4096x256, .f32⟩
  | 67 => ⟨S4096x512, .f32⟩
  | 68 => ⟨S1x512, .f32⟩
  | 69 => ⟨S4096x512, .f32⟩
  | 70 => ⟨S4096x512, .f32⟩
  | 71 => ⟨S4096x128, .f32⟩
  | 72 => ⟨S4096x128, .f32⟩
  | 73 => ⟨S4096x128, .f32⟩
  | 74 => ⟨S4096x128, .f32⟩
  | 75 => ⟨S_, .f32⟩
  | 76 => ⟨S4096x128, .f32⟩
  | 77 => ⟨S4096x128, .f32⟩
  | 78 => ⟨S4096x128, .f32⟩
  | 79 => ⟨S4096x128, .f32⟩
  | 80 => ⟨S_, .f32⟩
  | 81 => ⟨S4096x128, .f32⟩
  | 82 => ⟨S4096x128, .f32⟩
  | 83 => ⟨S_, .f32⟩
  | 84 => ⟨S4096x128, .f32⟩
  | 85 => ⟨S4096x128, .f32⟩
  | 86 => ⟨S4096x128, .f32⟩
  | 87 => ⟨S4096x128, .f32⟩
  | 88 => ⟨S4096x128, .f32⟩
  | 89 => ⟨S_, .f32⟩
  | 90 => ⟨S4096x128, .f32⟩
  | 91 => ⟨S4096x128, .f32⟩
  | 92 => ⟨S_, .f32⟩
  | 93 => ⟨S4096x128, .f32⟩
  | 94 => ⟨S4096x128, .f32⟩
  | 95 => ⟨S4096x128, .f32⟩
  | 96 => ⟨S4096x128, .f32⟩
  | 97 => ⟨S4096x128, .f32⟩
  | 98 => ⟨S4096x128, .f32⟩
  | 99 => ⟨S4096x128, .f32⟩
  | 100 => ⟨S4096x128, .f32⟩
  | 101 => ⟨S_, .f32⟩
  | 102 => ⟨S4096x128, .f32⟩
  | 103 => ⟨S4096x128, .f32⟩
  | 104 => ⟨S_, .f32⟩
  | 105 => ⟨S4096x128, .f32⟩
  | 106 => ⟨S4096x128, .f32⟩
  | 107 => ⟨S4096x128, .f32⟩
  | 108 => ⟨S512x8x128, .f32⟩
  | 109 => ⟨S_, .f32⟩
  | 110 => ⟨S512x128, .f32⟩
  | 111 => ⟨S512x128, .f32⟩
  | 112 => ⟨S1x128, .f32⟩
  | 113 => ⟨S512x128, .f32⟩
  | 114 => ⟨S512x128, .f32⟩
  | 115 => ⟨S_, .f32⟩
  | 116 => ⟨S512x128, .f32⟩
  | 117 => ⟨S512x128, .f32⟩
  | 118 => ⟨S1x128x128, .f32⟩
  | 119 => ⟨S128x128, .f32⟩
  | 120 => ⟨S512x128, .f32⟩
  | 121 => ⟨S1x128, .f32⟩
  | 122 => ⟨S128, .f32⟩
  | 123 => ⟨S1x128, .f32⟩
  | 124 => ⟨S512x128, .f32⟩
  | 125 => ⟨S512x128, .f32⟩
  | 126 => ⟨S_, .f32⟩
  | 127 => ⟨S512x128, .f32⟩
  | _ => ⟨S512x8x2, .f32⟩

abbrev hbmTy0_17 (i : Nat) : BufTy := match i % 128 with
  | 0 => ⟨S512x128, .f32⟩
  | 1 => ⟨S1x128x128, .f32⟩
  | 2 => ⟨S128x128, .f32⟩
  | 3 => ⟨S512x128, .f32⟩
  | 4 => ⟨S1x128, .f32⟩
  | 5 => ⟨S128, .f32⟩
  | 6 => ⟨S1x128, .f32⟩
  | 7 => ⟨S512x128, .f32⟩
  | 8 => ⟨S512x128, .f32⟩
  | 9 => ⟨S_, .f32⟩
  | 10 => ⟨S512x128, .f32⟩
  | 11 => ⟨S512x128, .f32⟩
  | 12 => ⟨S512x16, .f32⟩
  | 13 => ⟨S1x16, .f32⟩
  | 14 => ⟨S512x16, .f32⟩
  | 15 => ⟨S512x16, .f32⟩
  | 16 => ⟨S512x1, .f32⟩
  | 17 => ⟨S512x1, .i32⟩
  | 18 => ⟨S512, .i32⟩
  | 19 => ⟨S_, .f32⟩
  | 20 => ⟨S512, .f32⟩
  | 21 => ⟨S_, .f32⟩
  | 22 => ⟨S512, .f32⟩
  | 23 => ⟨S512, .f32⟩
  | 24 => ⟨S512x1, .f32⟩
  | 25 => ⟨S512x16, .f32⟩
  | 26 => ⟨S512x16, .f32⟩
  | 27 => ⟨S512x16, .f32⟩
  | 28 => ⟨S_, .f32⟩
  | 29 => ⟨S512, .f32⟩
  | 30 => ⟨S512x1, .f32⟩
  | 31 => ⟨S512x1, .f32⟩
  | 32 => ⟨S512x16, .f32⟩
  | 33 => ⟨S512x16, .f32⟩
  | 34 => ⟨S512x1, .i32⟩
  | 35 => ⟨S_, .i32⟩
  | 36 => ⟨S512x1, .i32⟩
  | 37 => ⟨S512x1, .i1⟩
  | 38 => ⟨S_, .i32⟩
  | 39 => ⟨S512x1, .i32⟩
  | 40 => ⟨S512x1, .i32⟩
  | 41 => ⟨S512x1, .i32⟩
  | 42 => ⟨S512x1x1, .i32⟩
  | 43 => ⟨S1, .i32⟩
  | 44 => ⟨S_, .i32⟩
  | 45 => ⟨S512x1x1, .i32⟩
  | 46 => ⟨S512x1x1, .i1⟩
  | 47 => ⟨S1x1x1, .i32⟩
  | 48 => ⟨S512x1x1, .i32⟩
  | 49 => ⟨S512x1x1, .i1⟩
  | 50 => ⟨S512x1x1, .i1⟩
  | 51 => ⟨S_, .i1⟩
  | 52 => ⟨S512x1, .i1⟩
  | 53 => ⟨S512x1, .f32⟩
  | 54 => ⟨S_, .f32⟩
  | 55 => ⟨S512x1, .f32⟩
  | 56 => ⟨S512x1, .f32⟩
  | 57 => ⟨S512, .f32⟩
  | 58 => ⟨S512, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S1, .f32⟩
  | 68 => ⟨S1, .f32⟩
  | 69 => ⟨S1, .f32⟩
  | 70 => ⟨S1, .f32⟩
  | 71 => ⟨S1, .f32⟩
  | 72 => ⟨S1, .f32⟩
  | 73 => ⟨S1, .f32⟩
  | 74 => ⟨S1, .f32⟩
  | 75 => ⟨S8, .f32⟩
  | 76 => ⟨S8x1, .f32⟩
  | 77 => ⟨S1x512, .i32⟩
  | 78 => ⟨S1x512, .i32⟩
  | 79 => ⟨S1x512, .i32⟩
  | 80 => ⟨S1x512, .i32⟩
  | 81 => ⟨S1x512, .i32⟩
  | 82 => ⟨S1x512, .i32⟩
  | 83 => ⟨S1x512, .i32⟩
  | 84 => ⟨S1x512, .i32⟩
  | 85 => ⟨S8x512, .i32⟩
  | _ => ⟨S512x8x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | _ => ⟨S512x8x2, .f32⟩

abbrev bufTy : (tb : Table) → Fin (tcTables nBuf tb) → BufTy
  | .hbm, ⟨i, _⟩ => hbmTy i
  | _, _ => ⟨S512x8x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_c : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_c_0 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_cst : Ref sig .tc := ⟨.hbm, 49, rfl⟩
abbrev main_v13 : Ref sig .tc := ⟨.hbm, 50, rfl⟩
abbrev main_v14 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v15 : Ref sig .tc := ⟨.hbm, 57, rfl⟩
abbrev main_v16 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v20 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_call4_cst : Ref sig .tc := ⟨.hbm, 90, rfl⟩
abbrev main_call4_v0 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_call5_cst : Ref sig .tc := ⟨.hbm, 101, rfl⟩
abbrev main_call5_v0 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_call6_cst : Ref sig .tc := ⟨.hbm, 112, rfl⟩
abbrev main_call6_v0 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_cst_1 : Ref sig .tc := ⟨.hbm, 119, rfl⟩
abbrev main_v56 : Ref sig .tc := ⟨.hbm, 120, rfl⟩
abbrev main_cst_2 : Ref sig .tc := ⟨.hbm, 121, rfl⟩
abbrev main_v57 : Ref sig .tc := ⟨.hbm, 122, rfl⟩
abbrev main_v58 : Ref sig .tc := ⟨.hbm, 123, rfl⟩
abbrev main_c_3 : Ref sig .tc := ⟨.hbm, 124, rfl⟩
abbrev main_v59 : Ref sig .tc := ⟨.hbm, 125, rfl⟩
abbrev main_v60 : Ref sig .tc := ⟨.hbm, 126, rfl⟩
abbrev main_c_4 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_call7_cst : Ref sig .tc := ⟨.hbm, 139, rfl⟩
abbrev main_call7_v0 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_call8_cst : Ref sig .tc := ⟨.hbm, 150, rfl⟩
abbrev main_call8_v0 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_call9_cst : Ref sig .tc := ⟨.hbm, 161, rfl⟩
abbrev main_call9_v0 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_cst_5 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_c_6 : Ref sig .tc := ⟨.hbm, 172, rfl⟩
abbrev main_v98 : Ref sig .tc := ⟨.hbm, 173, rfl⟩
abbrev main_v99 : Ref sig .tc := ⟨.hbm, 174, rfl⟩
abbrev main_c_7 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_call10_cst : Ref sig .tc := ⟨.hbm, 186, rfl⟩
abbrev main_call10_v0 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_call11_cst : Ref sig .tc := ⟨.hbm, 197, rfl⟩
abbrev main_call11_v0 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_call12_cst : Ref sig .tc := ⟨.hbm, 208, rfl⟩
abbrev main_call12_v0 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_cst_8 : Ref sig .tc := ⟨.hbm, 215, rfl⟩
abbrev main_v133 : Ref sig .tc := ⟨.hbm, 216, rfl⟩
abbrev main_cst_9 : Ref sig .tc := ⟨.hbm, 217, rfl⟩
abbrev main_v134 : Ref sig .tc := ⟨.hbm, 218, rfl⟩
abbrev main_v135 : Ref sig .tc := ⟨.hbm, 219, rfl⟩
abbrev main_c_10 : Ref sig .tc := ⟨.hbm, 220, rfl⟩
abbrev main_call13_cst : Ref sig .tc := ⟨.hbm, 221, rfl⟩
abbrev main_call13_v0 : Ref sig .tc := ⟨.hbm, 222, rfl⟩
abbrev main_call13_v1 : Ref sig .tc := ⟨.hbm, 223, rfl⟩
abbrev main_call13_cst_0 : Ref sig .tc := ⟨.hbm, 224, rfl⟩
abbrev main_call13_v2 : Ref sig .tc := ⟨.hbm, 225, rfl⟩
abbrev main_call13_v3 : Ref sig .tc := ⟨.hbm, 226, rfl⟩
abbrev main_call13_v4 : Ref sig .tc := ⟨.hbm, 227, rfl⟩
abbrev main_call13_v5 : Ref sig .tc := ⟨.hbm, 228, rfl⟩
abbrev main_call13_v6 : Ref sig .tc := ⟨.hbm, 229, rfl⟩
abbrev main_call13_v7 : Ref sig .tc := ⟨.hbm, 230, rfl⟩
abbrev main_call13_cst_1 : Ref sig .tc := ⟨.hbm, 231, rfl⟩
abbrev main_call13_v8 : Ref sig .tc := ⟨.hbm, 232, rfl⟩
abbrev main_call13_cst_2 : Ref sig .tc := ⟨.hbm, 233, rfl⟩
abbrev main_call13_v9 : Ref sig .tc := ⟨.hbm, 234, rfl⟩
abbrev main_call13_v10 : Ref sig .tc := ⟨.hbm, 235, rfl⟩
abbrev main_call13_v11 : Ref sig .tc := ⟨.hbm, 236, rfl⟩
abbrev main_call13_cst_3 : Ref sig .tc := ⟨.hbm, 237, rfl⟩
abbrev main_call13_v12 : Ref sig .tc := ⟨.hbm, 238, rfl⟩
abbrev main_call13_cst_4 : Ref sig .tc := ⟨.hbm, 239, rfl⟩
abbrev main_call13_call0_v0 : Ref sig .tc := ⟨.hbm, 240, rfl⟩
abbrev main_call13_call0_v1 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_cst_11 : Ref sig .tc := ⟨.hbm, 246, rfl⟩
abbrev main_v140 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_cst_12 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_v164 : Ref sig .tc := ⟨.hbm, 272, rfl⟩
abbrev main_cst_13 : Ref sig .tc := ⟨.hbm, 273, rfl⟩
abbrev main_v165 : Ref sig .tc := ⟨.hbm, 274, rfl⟩
abbrev main_v166 : Ref sig .tc := ⟨.hbm, 275, rfl⟩
abbrev main_cst_14 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_cst_15 : Ref sig .tc := ⟨.hbm, 282, rfl⟩
abbrev main_v172 : Ref sig .tc := ⟨.hbm, 283, rfl⟩
abbrev main_v173 : Ref sig .tc := ⟨.hbm, 284, rfl⟩
abbrev main_cst_16 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_cst_17 : Ref sig .tc := ⟨.hbm, 294, rfl⟩
abbrev main_v182 : Ref sig .tc := ⟨.hbm, 295, rfl⟩
abbrev main_v183 : Ref sig .tc := ⟨.hbm, 296, rfl⟩
abbrev main_cst_18 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_cst_19 : Ref sig .tc := ⟨.hbm, 302, rfl⟩
abbrev main_v188 : Ref sig .tc := ⟨.hbm, 303, rfl⟩
abbrev main_v189 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_call14_cst : Ref sig .tc := ⟨.hbm, 308, rfl⟩
abbrev main_call14_v0 : Ref sig .tc := ⟨.hbm, 309, rfl⟩
abbrev main_v193 : Ref sig .tc := ⟨.hbm, 310, rfl⟩
abbrev main_v194 : Ref sig .tc := ⟨.hbm, 311, rfl⟩
abbrev main_v195 : Ref sig .tc := ⟨.hbm, 312, rfl⟩
abbrev main_v196 : Ref sig .tc := ⟨.hbm, 313, rfl⟩
abbrev main_v197 : Ref sig .tc := ⟨.hbm, 314, rfl⟩
abbrev main_v198 : Ref sig .tc := ⟨.hbm, 315, rfl⟩
abbrev main_v199 : Ref sig .tc := ⟨.hbm, 316, rfl⟩
abbrev main_v200 : Ref sig .tc := ⟨.hbm, 317, rfl⟩
abbrev main_v201 : Ref sig .tc := ⟨.hbm, 318, rfl⟩
abbrev main_call15_cst : Ref sig .tc := ⟨.hbm, 319, rfl⟩
abbrev main_call15_v0 : Ref sig .tc := ⟨.hbm, 320, rfl⟩
abbrev main_v202 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_v206 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_call16_cst : Ref sig .tc := ⟨.hbm, 330, rfl⟩
abbrev main_call16_v0 : Ref sig .tc := ⟨.hbm, 331, rfl⟩
abbrev main_v211 : Ref sig .tc := ⟨.hbm, 332, rfl⟩
abbrev main_v212 : Ref sig .tc := ⟨.hbm, 333, rfl⟩
abbrev main_v213 : Ref sig .tc := ⟨.hbm, 334, rfl⟩
abbrev main_v214 : Ref sig .tc := ⟨.hbm, 335, rfl⟩
abbrev main_v215 : Ref sig .tc := ⟨.hbm, 336, rfl⟩
abbrev main_values : Ref sig .tc := ⟨.hbm, 337, rfl⟩
abbrev main_indices : Ref sig .tc := ⟨.hbm, 338, rfl⟩
abbrev main_v216 : Ref sig .tc := ⟨.hbm, 339, rfl⟩
abbrev main_call17_cst : Ref sig .tc := ⟨.hbm, 340, rfl⟩
abbrev main_call17_v0 : Ref sig .tc := ⟨.hbm, 341, rfl⟩
abbrev main_call17_cst_0 : Ref sig .tc := ⟨.hbm, 342, rfl⟩
abbrev main_call17_v1 : Ref sig .tc := ⟨.hbm, 343, rfl⟩
abbrev main_call17_v2 : Ref sig .tc := ⟨.hbm, 344, rfl⟩
abbrev main_call17_v3 : Ref sig .tc := ⟨.hbm, 345, rfl⟩
abbrev main_call17_v4 : Ref sig .tc := ⟨.hbm, 346, rfl⟩
abbrev main_call17_v5 : Ref sig .tc := ⟨.hbm, 347, rfl⟩
abbrev main_call17_v6 : Ref sig .tc := ⟨.hbm, 348, rfl⟩
abbrev main_call17_cst_1 : Ref sig .tc := ⟨.hbm, 349, rfl⟩
abbrev main_call17_v7 : Ref sig .tc := ⟨.hbm, 350, rfl⟩
abbrev main_call17_v8 : Ref sig .tc := ⟨.hbm, 351, rfl⟩
abbrev main_call17_v9 : Ref sig .tc := ⟨.hbm, 352, rfl⟩
abbrev main_call17_v10 : Ref sig .tc := ⟨.hbm, 353, rfl⟩
abbrev main_v217 : Ref sig .tc := ⟨.hbm, 354, rfl⟩
abbrev main_v218 : Ref sig .tc := ⟨.hbm, 355, rfl⟩
abbrev main_call18_c : Ref sig .tc := ⟨.hbm, 356, rfl⟩
abbrev main_call18_v0 : Ref sig .tc := ⟨.hbm, 357, rfl⟩
abbrev main_call18_v1 : Ref sig .tc := ⟨.hbm, 358, rfl⟩
abbrev main_call18_c_0 : Ref sig .tc := ⟨.hbm, 359, rfl⟩
abbrev main_call18_v2 : Ref sig .tc := ⟨.hbm, 360, rfl⟩
abbrev main_call18_v3 : Ref sig .tc := ⟨.hbm, 361, rfl⟩
abbrev main_call18_v4 : Ref sig .tc := ⟨.hbm, 362, rfl⟩
abbrev main_call18_v5 : Ref sig .tc := ⟨.hbm, 363, rfl⟩
abbrev main_call18_c_1 : Ref sig .tc := ⟨.hbm, 364, rfl⟩
abbrev main_call18_c_2 : Ref sig .tc := ⟨.hbm, 365, rfl⟩
abbrev main_call18_v6 : Ref sig .tc := ⟨.hbm, 366, rfl⟩
abbrev main_call18_v7 : Ref sig .tc := ⟨.hbm, 367, rfl⟩
abbrev main_call18_v8 : Ref sig .tc := ⟨.hbm, 368, rfl⟩
abbrev main_call18_v9 : Ref sig .tc := ⟨.hbm, 369, rfl⟩
abbrev main_call18_v10 : Ref sig .tc := ⟨.hbm, 370, rfl⟩
abbrev main_call18_v11 : Ref sig .tc := ⟨.hbm, 371, rfl⟩
abbrev main_call18_c_3 : Ref sig .tc := ⟨.hbm, 372, rfl⟩
abbrev main_call18_v12 : Ref sig .tc := ⟨.hbm, 373, rfl⟩
abbrev main_call18_v13 : Ref sig .tc := ⟨.hbm, 374, rfl⟩
abbrev main_call18_cst : Ref sig .tc := ⟨.hbm, 375, rfl⟩
abbrev main_call18_v14 : Ref sig .tc := ⟨.hbm, 376, rfl⟩
abbrev main_v219 : Ref sig .tc := ⟨.hbm, 377, rfl⟩
abbrev main_v220 : Ref sig .tc := ⟨.hbm, 378, rfl⟩
abbrev main_v221 : Ref sig .tc := ⟨.hbm, 379, rfl⟩
abbrev main_cst_20 : Ref sig .tc := ⟨.hbm, 380, rfl⟩
abbrev main_v222 : Ref sig .tc := ⟨.hbm, 381, rfl⟩
abbrev main_cst_21 : Ref sig .tc := ⟨.hbm, 382, rfl⟩
abbrev main_v223 : Ref sig .tc := ⟨.hbm, 383, rfl⟩
abbrev main_cst_22 : Ref sig .tc := ⟨.hbm, 384, rfl⟩
abbrev main_v224 : Ref sig .tc := ⟨.hbm, 385, rfl⟩
abbrev main_v225 : Ref sig .tc := ⟨.hbm, 386, rfl⟩
abbrev main_v226 : Ref sig .tc := ⟨.hbm, 387, rfl⟩
abbrev main_v227 : Ref sig .tc := ⟨.hbm, 388, rfl⟩
abbrev main_c_23 : Ref sig .tc := ⟨.hbm, 389, rfl⟩
abbrev main_v228 : Ref sig .tc := ⟨.hbm, 390, rfl⟩
abbrev main_v229 : Ref sig .tc := ⟨.hbm, 391, rfl⟩
abbrev main_c_24 : Ref sig .tc := ⟨.hbm, 392, rfl⟩
abbrev main_v230 : Ref sig .tc := ⟨.hbm, 393, rfl⟩
abbrev main_v231 : Ref sig .tc := ⟨.hbm, 394, rfl⟩
abbrev main_v232 : Ref sig .tc := ⟨.hbm, 395, rfl⟩
abbrev main_v233 : Ref sig .tc := ⟨.hbm, 396, rfl⟩
abbrev main_v234 : Ref sig .tc := ⟨.hbm, 397, rfl⟩
abbrev main_v235 : Ref sig .tc := ⟨.hbm, 398, rfl⟩
abbrev main_v236 : Ref sig .tc := ⟨.hbm, 399, rfl⟩
abbrev main_v237 : Ref sig .tc := ⟨.hbm, 400, rfl⟩
abbrev main_v238 : Ref sig .tc := ⟨.hbm, 401, rfl⟩
abbrev main_v239 : Ref sig .tc := ⟨.hbm, 402, rfl⟩
abbrev main_v240 : Ref sig .tc := ⟨.hbm, 403, rfl⟩
abbrev main_call19_cst : Ref sig .tc := ⟨.hbm, 404, rfl⟩
abbrev main_call19_v0 : Ref sig .tc := ⟨.hbm, 405, rfl⟩
abbrev main_v241 : Ref sig .tc := ⟨.hbm, 406, rfl⟩
abbrev main_v242 : Ref sig .tc := ⟨.hbm, 407, rfl⟩
abbrev main_v243 : Ref sig .tc := ⟨.hbm, 408, rfl⟩
abbrev main_v244 : Ref sig .tc := ⟨.hbm, 409, rfl⟩
abbrev main_v245 : Ref sig .tc := ⟨.hbm, 410, rfl⟩
abbrev main_v246 : Ref sig .tc := ⟨.hbm, 411, rfl⟩
abbrev main_v247 : Ref sig .tc := ⟨.hbm, 412, rfl⟩
abbrev main_v248 : Ref sig .tc := ⟨.hbm, 413, rfl⟩
abbrev main_v249 : Ref sig .tc := ⟨.hbm, 414, rfl⟩
abbrev main_call20_cst : Ref sig .tc := ⟨.hbm, 415, rfl⟩
abbrev main_call20_v0 : Ref sig .tc := ⟨.hbm, 416, rfl⟩
abbrev main_v250 : Ref sig .tc := ⟨.hbm, 417, rfl⟩
abbrev main_v251 : Ref sig .tc := ⟨.hbm, 418, rfl⟩
abbrev main_v252 : Ref sig .tc := ⟨.hbm, 419, rfl⟩
abbrev main_v253 : Ref sig .tc := ⟨.hbm, 420, rfl⟩
abbrev main_v254 : Ref sig .tc := ⟨.hbm, 421, rfl⟩
abbrev main_v255 : Ref sig .tc := ⟨.hbm, 422, rfl⟩
abbrev main_v256 : Ref sig .tc := ⟨.hbm, 423, rfl⟩
abbrev main_v257 : Ref sig .tc := ⟨.hbm, 424, rfl⟩
abbrev main_v258 : Ref sig .tc := ⟨.hbm, 425, rfl⟩
abbrev main_call21_cst : Ref sig .tc := ⟨.hbm, 426, rfl⟩
abbrev main_call21_v0 : Ref sig .tc := ⟨.hbm, 427, rfl⟩
abbrev main_v259 : Ref sig .tc := ⟨.hbm, 428, rfl⟩
abbrev main_v260 : Ref sig .tc := ⟨.hbm, 429, rfl⟩
abbrev main_v261 : Ref sig .tc := ⟨.hbm, 430, rfl⟩
abbrev main_v262 : Ref sig .tc := ⟨.hbm, 431, rfl⟩
abbrev main_v263 : Ref sig .tc := ⟨.hbm, 432, rfl⟩
abbrev main_cst_25 : Ref sig .tc := ⟨.hbm, 433, rfl⟩
abbrev main_v264 : Ref sig .tc := ⟨.hbm, 434, rfl⟩
abbrev main_v265 : Ref sig .tc := ⟨.hbm, 435, rfl⟩
abbrev main_v266 : Ref sig .tc := ⟨.hbm, 436, rfl⟩
abbrev main_c_26 : Ref sig .tc := ⟨.hbm, 437, rfl⟩
abbrev main_v267 : Ref sig .tc := ⟨.hbm, 438, rfl⟩
abbrev main_v268 : Ref sig .tc := ⟨.hbm, 439, rfl⟩
abbrev main_c_27 : Ref sig .tc := ⟨.hbm, 440, rfl⟩
abbrev main_v269 : Ref sig .tc := ⟨.hbm, 441, rfl⟩
abbrev main_v270 : Ref sig .tc := ⟨.hbm, 442, rfl⟩
abbrev main_v271 : Ref sig .tc := ⟨.hbm, 443, rfl⟩
abbrev main_v272 : Ref sig .tc := ⟨.hbm, 444, rfl⟩
abbrev main_v273 : Ref sig .tc := ⟨.hbm, 445, rfl⟩
abbrev main_v274 : Ref sig .tc := ⟨.hbm, 446, rfl⟩
abbrev main_v275 : Ref sig .tc := ⟨.hbm, 447, rfl⟩
abbrev main_v276 : Ref sig .tc := ⟨.hbm, 448, rfl⟩
abbrev main_v277 : Ref sig .tc := ⟨.hbm, 449, rfl⟩
abbrev main_v278 : Ref sig .tc := ⟨.hbm, 450, rfl⟩
abbrev main_call22_cst : Ref sig .tc := ⟨.hbm, 451, rfl⟩
abbrev main_call22_v0 : Ref sig .tc := ⟨.hbm, 452, rfl⟩
abbrev main_v279 : Ref sig .tc := ⟨.hbm, 453, rfl⟩
abbrev main_v280 : Ref sig .tc := ⟨.hbm, 454, rfl⟩
abbrev main_v281 : Ref sig .tc := ⟨.hbm, 455, rfl⟩
abbrev main_v282 : Ref sig .tc := ⟨.hbm, 456, rfl⟩
abbrev main_v283 : Ref sig .tc := ⟨.hbm, 457, rfl⟩
abbrev main_v284 : Ref sig .tc := ⟨.hbm, 458, rfl⟩
abbrev main_v285 : Ref sig .tc := ⟨.hbm, 459, rfl⟩
abbrev main_v286 : Ref sig .tc := ⟨.hbm, 460, rfl⟩
abbrev main_v287 : Ref sig .tc := ⟨.hbm, 461, rfl⟩
abbrev main_call23_cst : Ref sig .tc := ⟨.hbm, 462, rfl⟩
abbrev main_call23_v0 : Ref sig .tc := ⟨.hbm, 463, rfl⟩
abbrev main_v288 : Ref sig .tc := ⟨.hbm, 464, rfl⟩
abbrev main_v289 : Ref sig .tc := ⟨.hbm, 465, rfl⟩
abbrev main_v290 : Ref sig .tc := ⟨.hbm, 466, rfl⟩
abbrev main_v291 : Ref sig .tc := ⟨.hbm, 467, rfl⟩
abbrev main_v292 : Ref sig .tc := ⟨.hbm, 468, rfl⟩
abbrev main_v293 : Ref sig .tc := ⟨.hbm, 469, rfl⟩
abbrev main_v294 : Ref sig .tc := ⟨.hbm, 470, rfl⟩
abbrev main_v295 : Ref sig .tc := ⟨.hbm, 471, rfl⟩
abbrev main_v296 : Ref sig .tc := ⟨.hbm, 472, rfl⟩
abbrev main_call24_cst : Ref sig .tc := ⟨.hbm, 473, rfl⟩
abbrev main_call24_v0 : Ref sig .tc := ⟨.hbm, 474, rfl⟩
abbrev main_v297 : Ref sig .tc := ⟨.hbm, 475, rfl⟩
abbrev main_v298 : Ref sig .tc := ⟨.hbm, 476, rfl⟩
abbrev main_v299 : Ref sig .tc := ⟨.hbm, 477, rfl⟩
abbrev main_v300 : Ref sig .tc := ⟨.hbm, 478, rfl⟩
abbrev main_v301 : Ref sig .tc := ⟨.hbm, 479, rfl⟩
abbrev main_cst_28 : Ref sig .tc := ⟨.hbm, 480, rfl⟩
abbrev main_v302 : Ref sig .tc := ⟨.hbm, 481, rfl⟩
abbrev main_cst_29 : Ref sig .tc := ⟨.hbm, 482, rfl⟩
abbrev main_v303 : Ref sig .tc := ⟨.hbm, 483, rfl⟩
abbrev main_v304 : Ref sig .tc := ⟨.hbm, 484, rfl⟩
abbrev main_c_30 : Ref sig .tc := ⟨.hbm, 485, rfl⟩
abbrev main_call25_cst : Ref sig .tc := ⟨.hbm, 486, rfl⟩
abbrev main_call25_v0 : Ref sig .tc := ⟨.hbm, 487, rfl⟩
abbrev main_call25_v1 : Ref sig .tc := ⟨.hbm, 488, rfl⟩
abbrev main_call25_cst_0 : Ref sig .tc := ⟨.hbm, 489, rfl⟩
abbrev main_call25_v2 : Ref sig .tc := ⟨.hbm, 490, rfl⟩
abbrev main_call25_v3 : Ref sig .tc := ⟨.hbm, 491, rfl⟩
abbrev main_call25_v4 : Ref sig .tc := ⟨.hbm, 492, rfl⟩
abbrev main_call25_v5 : Ref sig .tc := ⟨.hbm, 493, rfl⟩
abbrev main_call25_v6 : Ref sig .tc := ⟨.hbm, 494, rfl⟩
abbrev main_call25_v7 : Ref sig .tc := ⟨.hbm, 495, rfl⟩
abbrev main_call25_cst_1 : Ref sig .tc := ⟨.hbm, 496, rfl⟩
abbrev main_call25_v8 : Ref sig .tc := ⟨.hbm, 497, rfl⟩
abbrev main_call25_cst_2 : Ref sig .tc := ⟨.hbm, 498, rfl⟩
abbrev main_call25_v9 : Ref sig .tc := ⟨.hbm, 499, rfl⟩
abbrev main_call25_v10 : Ref sig .tc := ⟨.hbm, 500, rfl⟩
abbrev main_call25_v11 : Ref sig .tc := ⟨.hbm, 501, rfl⟩
abbrev main_call25_cst_3 : Ref sig .tc := ⟨.hbm, 502, rfl⟩
abbrev main_call25_v12 : Ref sig .tc := ⟨.hbm, 503, rfl⟩
abbrev main_call25_cst_4 : Ref sig .tc := ⟨.hbm, 504, rfl⟩
abbrev main_call25_call0_v0 : Ref sig .tc := ⟨.hbm, 505, rfl⟩
abbrev main_call25_call0_v1 : Ref sig .tc := ⟨.hbm, 506, rfl⟩
abbrev main_v305 : Ref sig .tc := ⟨.hbm, 507, rfl⟩
abbrev main_v306 : Ref sig .tc := ⟨.hbm, 508, rfl⟩
abbrev main_v307 : Ref sig .tc := ⟨.hbm, 509, rfl⟩
abbrev main_v308 : Ref sig .tc := ⟨.hbm, 510, rfl⟩
abbrev main_cst_31 : Ref sig .tc := ⟨.hbm, 511, rfl⟩
abbrev main_v309 : Ref sig .tc := ⟨.hbm, 512, rfl⟩
abbrev main_v310 : Ref sig .tc := ⟨.hbm, 513, rfl⟩
abbrev main_v311 : Ref sig .tc := ⟨.hbm, 514, rfl⟩
abbrev main_v312 : Ref sig .tc := ⟨.hbm, 515, rfl⟩
abbrev main_v313 : Ref sig .tc := ⟨.hbm, 516, rfl⟩
abbrev main_v314 : Ref sig .tc := ⟨.hbm, 517, rfl⟩
abbrev main_v315 : Ref sig .tc := ⟨.hbm, 518, rfl⟩
abbrev main_v316 : Ref sig .tc := ⟨.hbm, 519, rfl⟩
abbrev main_v317 : Ref sig .tc := ⟨.hbm, 520, rfl⟩
abbrev main_v318 : Ref sig .tc := ⟨.hbm, 521, rfl⟩
abbrev main_v319 : Ref sig .tc := ⟨.hbm, 522, rfl⟩
abbrev main_v320 : Ref sig .tc := ⟨.hbm, 523, rfl⟩
abbrev main_v321 : Ref sig .tc := ⟨.hbm, 524, rfl⟩
abbrev main_v322 : Ref sig .tc := ⟨.hbm, 525, rfl⟩
abbrev main_v323 : Ref sig .tc := ⟨.hbm, 526, rfl⟩
abbrev main_v324 : Ref sig .tc := ⟨.hbm, 527, rfl⟩
abbrev main_v325 : Ref sig .tc := ⟨.hbm, 528, rfl⟩
abbrev main_v326 : Ref sig .tc := ⟨.hbm, 529, rfl⟩
abbrev main_v327 : Ref sig .tc := ⟨.hbm, 530, rfl⟩
abbrev main_v328 : Ref sig .tc := ⟨.hbm, 531, rfl⟩
abbrev main_v329 : Ref sig .tc := ⟨.hbm, 532, rfl⟩
abbrev main_cst_32 : Ref sig .tc := ⟨.hbm, 533, rfl⟩
abbrev main_v330 : Ref sig .tc := ⟨.hbm, 534, rfl⟩
abbrev main_v331 : Ref sig .tc := ⟨.hbm, 535, rfl⟩
abbrev main_v332 : Ref sig .tc := ⟨.hbm, 536, rfl⟩
abbrev main_v333 : Ref sig .tc := ⟨.hbm, 537, rfl⟩
abbrev main_cst_33 : Ref sig .tc := ⟨.hbm, 538, rfl⟩
abbrev main_v334 : Ref sig .tc := ⟨.hbm, 539, rfl⟩
abbrev main_v335 : Ref sig .tc := ⟨.hbm, 540, rfl⟩
abbrev main_cst_34 : Ref sig .tc := ⟨.hbm, 541, rfl⟩
abbrev main_v336 : Ref sig .tc := ⟨.hbm, 542, rfl⟩
abbrev main_v337 : Ref sig .tc := ⟨.hbm, 543, rfl⟩
abbrev main_v338 : Ref sig .tc := ⟨.hbm, 544, rfl⟩
abbrev main_v339 : Ref sig .tc := ⟨.hbm, 545, rfl⟩
abbrev main_v340 : Ref sig .tc := ⟨.hbm, 546, rfl⟩
abbrev main_cst_35 : Ref sig .tc := ⟨.hbm, 547, rfl⟩
abbrev main_v341 : Ref sig .tc := ⟨.hbm, 548, rfl⟩
abbrev main_v342 : Ref sig .tc := ⟨.hbm, 549, rfl⟩
abbrev main_cst_36 : Ref sig .tc := ⟨.hbm, 550, rfl⟩
abbrev main_v343 : Ref sig .tc := ⟨.hbm, 551, rfl⟩
abbrev main_v344 : Ref sig .tc := ⟨.hbm, 552, rfl⟩
abbrev main_v345 : Ref sig .tc := ⟨.hbm, 553, rfl⟩
abbrev main_v346 : Ref sig .tc := ⟨.hbm, 554, rfl⟩
abbrev main_v347 : Ref sig .tc := ⟨.hbm, 555, rfl⟩
abbrev main_v348 : Ref sig .tc := ⟨.hbm, 556, rfl⟩
abbrev main_v349 : Ref sig .tc := ⟨.hbm, 557, rfl⟩
abbrev main_v350 : Ref sig .tc := ⟨.hbm, 558, rfl⟩
abbrev main_cst_37 : Ref sig .tc := ⟨.hbm, 559, rfl⟩
abbrev main_v351 : Ref sig .tc := ⟨.hbm, 560, rfl⟩
abbrev main_v352 : Ref sig .tc := ⟨.hbm, 561, rfl⟩
abbrev main_cst_38 : Ref sig .tc := ⟨.hbm, 562, rfl⟩
abbrev main_v353 : Ref sig .tc := ⟨.hbm, 563, rfl⟩
abbrev main_v354 : Ref sig .tc := ⟨.hbm, 564, rfl⟩
abbrev main_v355 : Ref sig .tc := ⟨.hbm, 565, rfl⟩
abbrev main_v356 : Ref sig .tc := ⟨.hbm, 566, rfl⟩
abbrev main_cst_39 : Ref sig .tc := ⟨.hbm, 567, rfl⟩
abbrev main_v357 : Ref sig .tc := ⟨.hbm, 568, rfl⟩
abbrev main_v358 : Ref sig .tc := ⟨.hbm, 569, rfl⟩
abbrev main_v359 : Ref sig .tc := ⟨.hbm, 570, rfl⟩
abbrev main_v360 : Ref sig .tc := ⟨.hbm, 571, rfl⟩
abbrev main_v361 : Ref sig .tc := ⟨.hbm, 572, rfl⟩
abbrev main_call26_cst : Ref sig .tc := ⟨.hbm, 573, rfl⟩
abbrev main_call26_v0 : Ref sig .tc := ⟨.hbm, 574, rfl⟩
abbrev main_v362 : Ref sig .tc := ⟨.hbm, 575, rfl⟩
abbrev main_v363 : Ref sig .tc := ⟨.hbm, 576, rfl⟩
abbrev main_v364 : Ref sig .tc := ⟨.hbm, 577, rfl⟩
abbrev main_v365 : Ref sig .tc := ⟨.hbm, 578, rfl⟩
abbrev main_v366 : Ref sig .tc := ⟨.hbm, 579, rfl⟩
abbrev main_v367 : Ref sig .tc := ⟨.hbm, 580, rfl⟩
abbrev main_v368 : Ref sig .tc := ⟨.hbm, 581, rfl⟩
abbrev main_v369 : Ref sig .tc := ⟨.hbm, 582, rfl⟩
abbrev main_v370 : Ref sig .tc := ⟨.hbm, 583, rfl⟩
abbrev main_call27_cst : Ref sig .tc := ⟨.hbm, 584, rfl⟩
abbrev main_call27_v0 : Ref sig .tc := ⟨.hbm, 585, rfl⟩
abbrev main_v371 : Ref sig .tc := ⟨.hbm, 586, rfl⟩
abbrev main_v372 : Ref sig .tc := ⟨.hbm, 587, rfl⟩
abbrev main_v373 : Ref sig .tc := ⟨.hbm, 588, rfl⟩
abbrev main_v374 : Ref sig .tc := ⟨.hbm, 589, rfl⟩
abbrev main_v375 : Ref sig .tc := ⟨.hbm, 590, rfl⟩
abbrev main_v376 : Ref sig .tc := ⟨.hbm, 591, rfl⟩
abbrev main_v377 : Ref sig .tc := ⟨.hbm, 592, rfl⟩
abbrev main_v378 : Ref sig .tc := ⟨.hbm, 593, rfl⟩
abbrev main_v379 : Ref sig .tc := ⟨.hbm, 594, rfl⟩
abbrev main_call28_cst : Ref sig .tc := ⟨.hbm, 595, rfl⟩
abbrev main_call28_v0 : Ref sig .tc := ⟨.hbm, 596, rfl⟩
abbrev main_v380 : Ref sig .tc := ⟨.hbm, 597, rfl⟩
abbrev main_v381 : Ref sig .tc := ⟨.hbm, 598, rfl⟩
abbrev main_v382 : Ref sig .tc := ⟨.hbm, 599, rfl⟩
abbrev main_v383 : Ref sig .tc := ⟨.hbm, 600, rfl⟩
abbrev main_v384 : Ref sig .tc := ⟨.hbm, 601, rfl⟩
abbrev main_values_40 : Ref sig .tc := ⟨.hbm, 602, rfl⟩
abbrev main_indices_41 : Ref sig .tc := ⟨.hbm, 603, rfl⟩
abbrev main_v385 : Ref sig .tc := ⟨.hbm, 604, rfl⟩
abbrev main_call29_cst : Ref sig .tc := ⟨.hbm, 605, rfl⟩
abbrev main_call29_v0 : Ref sig .tc := ⟨.hbm, 606, rfl⟩
abbrev main_call29_cst_0 : Ref sig .tc := ⟨.hbm, 607, rfl⟩
abbrev main_call29_v1 : Ref sig .tc := ⟨.hbm, 608, rfl⟩
abbrev main_call29_v2 : Ref sig .tc := ⟨.hbm, 609, rfl⟩
abbrev main_call29_v3 : Ref sig .tc := ⟨.hbm, 610, rfl⟩
abbrev main_call29_v4 : Ref sig .tc := ⟨.hbm, 611, rfl⟩
abbrev main_call29_v5 : Ref sig .tc := ⟨.hbm, 612, rfl⟩
abbrev main_call29_v6 : Ref sig .tc := ⟨.hbm, 613, rfl⟩
abbrev main_call29_cst_1 : Ref sig .tc := ⟨.hbm, 614, rfl⟩
abbrev main_call29_v7 : Ref sig .tc := ⟨.hbm, 615, rfl⟩
abbrev main_call29_v8 : Ref sig .tc := ⟨.hbm, 616, rfl⟩
abbrev main_call29_v9 : Ref sig .tc := ⟨.hbm, 617, rfl⟩
abbrev main_call29_v10 : Ref sig .tc := ⟨.hbm, 618, rfl⟩
abbrev main_v386 : Ref sig .tc := ⟨.hbm, 619, rfl⟩
abbrev main_v387 : Ref sig .tc := ⟨.hbm, 620, rfl⟩
abbrev main_call30_c : Ref sig .tc := ⟨.hbm, 621, rfl⟩
abbrev main_call30_v0 : Ref sig .tc := ⟨.hbm, 622, rfl⟩
abbrev main_call30_v1 : Ref sig .tc := ⟨.hbm, 623, rfl⟩
abbrev main_call30_c_0 : Ref sig .tc := ⟨.hbm, 624, rfl⟩
abbrev main_call30_v2 : Ref sig .tc := ⟨.hbm, 625, rfl⟩
abbrev main_call30_v3 : Ref sig .tc := ⟨.hbm, 626, rfl⟩
abbrev main_call30_v4 : Ref sig .tc := ⟨.hbm, 627, rfl⟩
abbrev main_call30_v5 : Ref sig .tc := ⟨.hbm, 628, rfl⟩
abbrev main_call30_c_1 : Ref sig .tc := ⟨.hbm, 629, rfl⟩
abbrev main_call30_c_2 : Ref sig .tc := ⟨.hbm, 630, rfl⟩
abbrev main_call30_v6 : Ref sig .tc := ⟨.hbm, 631, rfl⟩
abbrev main_call30_v7 : Ref sig .tc := ⟨.hbm, 632, rfl⟩
abbrev main_call30_v8 : Ref sig .tc := ⟨.hbm, 633, rfl⟩
abbrev main_call30_v9 : Ref sig .tc := ⟨.hbm, 634, rfl⟩
abbrev main_call30_v10 : Ref sig .tc := ⟨.hbm, 635, rfl⟩
abbrev main_call30_v11 : Ref sig .tc := ⟨.hbm, 636, rfl⟩
abbrev main_call30_c_3 : Ref sig .tc := ⟨.hbm, 637, rfl⟩
abbrev main_call30_v12 : Ref sig .tc := ⟨.hbm, 638, rfl⟩
abbrev main_call30_v13 : Ref sig .tc := ⟨.hbm, 639, rfl⟩
abbrev main_call30_cst : Ref sig .tc := ⟨.hbm, 640, rfl⟩
abbrev main_call30_v14 : Ref sig .tc := ⟨.hbm, 641, rfl⟩
abbrev main_v388 : Ref sig .tc := ⟨.hbm, 642, rfl⟩
abbrev main_v389 : Ref sig .tc := ⟨.hbm, 643, rfl⟩
abbrev main_v390 : Ref sig .tc := ⟨.hbm, 644, rfl⟩
abbrev main_cst_42 : Ref sig .tc := ⟨.hbm, 645, rfl⟩
abbrev main_v391 : Ref sig .tc := ⟨.hbm, 646, rfl⟩
abbrev main_cst_43 : Ref sig .tc := ⟨.hbm, 647, rfl⟩
abbrev main_v392 : Ref sig .tc := ⟨.hbm, 648, rfl⟩
abbrev main_cst_44 : Ref sig .tc := ⟨.hbm, 649, rfl⟩
abbrev main_v393 : Ref sig .tc := ⟨.hbm, 650, rfl⟩
abbrev main_v394 : Ref sig .tc := ⟨.hbm, 651, rfl⟩
abbrev main_v395 : Ref sig .tc := ⟨.hbm, 652, rfl⟩
abbrev main_v396 : Ref sig .tc := ⟨.hbm, 653, rfl⟩
abbrev main_c_45 : Ref sig .tc := ⟨.hbm, 654, rfl⟩
abbrev main_v397 : Ref sig .tc := ⟨.hbm, 655, rfl⟩
abbrev main_v398 : Ref sig .tc := ⟨.hbm, 656, rfl⟩
abbrev main_c_46 : Ref sig .tc := ⟨.hbm, 657, rfl⟩
abbrev main_v399 : Ref sig .tc := ⟨.hbm, 658, rfl⟩
abbrev main_v400 : Ref sig .tc := ⟨.hbm, 659, rfl⟩
abbrev main_v401 : Ref sig .tc := ⟨.hbm, 660, rfl⟩
abbrev main_v402 : Ref sig .tc := ⟨.hbm, 661, rfl⟩
abbrev main_v403 : Ref sig .tc := ⟨.hbm, 662, rfl⟩
abbrev main_v404 : Ref sig .tc := ⟨.hbm, 663, rfl⟩
abbrev main_v405 : Ref sig .tc := ⟨.hbm, 664, rfl⟩
abbrev main_v406 : Ref sig .tc := ⟨.hbm, 665, rfl⟩
abbrev main_v407 : Ref sig .tc := ⟨.hbm, 666, rfl⟩
abbrev main_v408 : Ref sig .tc := ⟨.hbm, 667, rfl⟩
abbrev main_v409 : Ref sig .tc := ⟨.hbm, 668, rfl⟩
abbrev main_call31_cst : Ref sig .tc := ⟨.hbm, 669, rfl⟩
abbrev main_call31_v0 : Ref sig .tc := ⟨.hbm, 670, rfl⟩
abbrev main_v410 : Ref sig .tc := ⟨.hbm, 671, rfl⟩
abbrev main_v411 : Ref sig .tc := ⟨.hbm, 672, rfl⟩
abbrev main_v412 : Ref sig .tc := ⟨.hbm, 673, rfl⟩
abbrev main_v413 : Ref sig .tc := ⟨.hbm, 674, rfl⟩
abbrev main_v414 : Ref sig .tc := ⟨.hbm, 675, rfl⟩
abbrev main_v415 : Ref sig .tc := ⟨.hbm, 676, rfl⟩
abbrev main_v416 : Ref sig .tc := ⟨.hbm, 677, rfl⟩
abbrev main_v417 : Ref sig .tc := ⟨.hbm, 678, rfl⟩
abbrev main_v418 : Ref sig .tc := ⟨.hbm, 679, rfl⟩
abbrev main_call32_cst : Ref sig .tc := ⟨.hbm, 680, rfl⟩
abbrev main_call32_v0 : Ref sig .tc := ⟨.hbm, 681, rfl⟩
abbrev main_v419 : Ref sig .tc := ⟨.hbm, 682, rfl⟩
abbrev main_v420 : Ref sig .tc := ⟨.hbm, 683, rfl⟩
abbrev main_v421 : Ref sig .tc := ⟨.hbm, 684, rfl⟩
abbrev main_v422 : Ref sig .tc := ⟨.hbm, 685, rfl⟩
abbrev main_v423 : Ref sig .tc := ⟨.hbm, 686, rfl⟩
abbrev main_v424 : Ref sig .tc := ⟨.hbm, 687, rfl⟩
abbrev main_v425 : Ref sig .tc := ⟨.hbm, 688, rfl⟩
abbrev main_v426 : Ref sig .tc := ⟨.hbm, 689, rfl⟩
abbrev main_v427 : Ref sig .tc := ⟨.hbm, 690, rfl⟩
abbrev main_call33_cst : Ref sig .tc := ⟨.hbm, 691, rfl⟩
abbrev main_call33_v0 : Ref sig .tc := ⟨.hbm, 692, rfl⟩
abbrev main_v428 : Ref sig .tc := ⟨.hbm, 693, rfl⟩
abbrev main_v429 : Ref sig .tc := ⟨.hbm, 694, rfl⟩
abbrev main_v430 : Ref sig .tc := ⟨.hbm, 695, rfl⟩
abbrev main_v431 : Ref sig .tc := ⟨.hbm, 696, rfl⟩
abbrev main_v432 : Ref sig .tc := ⟨.hbm, 697, rfl⟩
abbrev main_cst_47 : Ref sig .tc := ⟨.hbm, 698, rfl⟩
abbrev main_v433 : Ref sig .tc := ⟨.hbm, 699, rfl⟩
abbrev main_v434 : Ref sig .tc := ⟨.hbm, 700, rfl⟩
abbrev main_v435 : Ref sig .tc := ⟨.hbm, 701, rfl⟩
abbrev main_c_48 : Ref sig .tc := ⟨.hbm, 702, rfl⟩
abbrev main_v436 : Ref sig .tc := ⟨.hbm, 703, rfl⟩
abbrev main_v437 : Ref sig .tc := ⟨.hbm, 704, rfl⟩
abbrev main_c_49 : Ref sig .tc := ⟨.hbm, 705, rfl⟩
abbrev main_v438 : Ref sig .tc := ⟨.hbm, 706, rfl⟩
abbrev main_v439 : Ref sig .tc := ⟨.hbm, 707, rfl⟩
abbrev main_v440 : Ref sig .tc := ⟨.hbm, 708, rfl⟩
abbrev main_v441 : Ref sig .tc := ⟨.hbm, 709, rfl⟩
abbrev main_v442 : Ref sig .tc := ⟨.hbm, 710, rfl⟩
abbrev main_v443 : Ref sig .tc := ⟨.hbm, 711, rfl⟩
abbrev main_v444 : Ref sig .tc := ⟨.hbm, 712, rfl⟩
abbrev main_v445 : Ref sig .tc := ⟨.hbm, 713, rfl⟩
abbrev main_v446 : Ref sig .tc := ⟨.hbm, 714, rfl⟩
abbrev main_v447 : Ref sig .tc := ⟨.hbm, 715, rfl⟩
abbrev main_call34_cst : Ref sig .tc := ⟨.hbm, 716, rfl⟩
abbrev main_call34_v0 : Ref sig .tc := ⟨.hbm, 717, rfl⟩
abbrev main_v448 : Ref sig .tc := ⟨.hbm, 718, rfl⟩
abbrev main_v449 : Ref sig .tc := ⟨.hbm, 719, rfl⟩
abbrev main_v450 : Ref sig .tc := ⟨.hbm, 720, rfl⟩
abbrev main_v451 : Ref sig .tc := ⟨.hbm, 721, rfl⟩
abbrev main_v452 : Ref sig .tc := ⟨.hbm, 722, rfl⟩
abbrev main_v453 : Ref sig .tc := ⟨.hbm, 723, rfl⟩
abbrev main_v454 : Ref sig .tc := ⟨.hbm, 724, rfl⟩
abbrev main_v455 : Ref sig .tc := ⟨.hbm, 725, rfl⟩
abbrev main_v456 : Ref sig .tc := ⟨.hbm, 726, rfl⟩
abbrev main_call35_cst : Ref sig .tc := ⟨.hbm, 727, rfl⟩
abbrev main_call35_v0 : Ref sig .tc := ⟨.hbm, 728, rfl⟩
abbrev main_v457 : Ref sig .tc := ⟨.hbm, 729, rfl⟩
abbrev main_v458 : Ref sig .tc := ⟨.hbm, 730, rfl⟩
abbrev main_v459 : Ref sig .tc := ⟨.hbm, 731, rfl⟩
abbrev main_v460 : Ref sig .tc := ⟨.hbm, 732, rfl⟩
abbrev main_v461 : Ref sig .tc := ⟨.hbm, 733, rfl⟩
abbrev main_v462 : Ref sig .tc := ⟨.hbm, 734, rfl⟩
abbrev main_v463 : Ref sig .tc := ⟨.hbm, 735, rfl⟩
abbrev main_v464 : Ref sig .tc := ⟨.hbm, 736, rfl⟩
abbrev main_v465 : Ref sig .tc := ⟨.hbm, 737, rfl⟩
abbrev main_call36_cst : Ref sig .tc := ⟨.hbm, 738, rfl⟩
abbrev main_call36_v0 : Ref sig .tc := ⟨.hbm, 739, rfl⟩
abbrev main_v466 : Ref sig .tc := ⟨.hbm, 740, rfl⟩
abbrev main_v467 : Ref sig .tc := ⟨.hbm, 741, rfl⟩
abbrev main_v468 : Ref sig .tc := ⟨.hbm, 742, rfl⟩
abbrev main_v469 : Ref sig .tc := ⟨.hbm, 743, rfl⟩
abbrev main_v470 : Ref sig .tc := ⟨.hbm, 744, rfl⟩
abbrev main_cst_50 : Ref sig .tc := ⟨.hbm, 745, rfl⟩
abbrev main_v471 : Ref sig .tc := ⟨.hbm, 746, rfl⟩
abbrev main_cst_51 : Ref sig .tc := ⟨.hbm, 747, rfl⟩
abbrev main_v472 : Ref sig .tc := ⟨.hbm, 748, rfl⟩
abbrev main_v473 : Ref sig .tc := ⟨.hbm, 749, rfl⟩
abbrev main_c_52 : Ref sig .tc := ⟨.hbm, 750, rfl⟩
abbrev main_call37_cst : Ref sig .tc := ⟨.hbm, 751, rfl⟩
abbrev main_call37_v0 : Ref sig .tc := ⟨.hbm, 752, rfl⟩
abbrev main_call37_v1 : Ref sig .tc := ⟨.hbm, 753, rfl⟩
abbrev main_call37_cst_0 : Ref sig .tc := ⟨.hbm, 754, rfl⟩
abbrev main_call37_v2 : Ref sig .tc := ⟨.hbm, 755, rfl⟩
abbrev main_call37_v3 : Ref sig .tc := ⟨.hbm, 756, rfl⟩
abbrev main_call37_v4 : Ref sig .tc := ⟨.hbm, 757, rfl⟩
abbrev main_call37_v5 : Ref sig .tc := ⟨.hbm, 758, rfl⟩
abbrev main_call37_v6 : Ref sig .tc := ⟨.hbm, 759, rfl⟩
abbrev main_call37_v7 : Ref sig .tc := ⟨.hbm, 760, rfl⟩
abbrev main_call37_cst_1 : Ref sig .tc := ⟨.hbm, 761, rfl⟩
abbrev main_call37_v8 : Ref sig .tc := ⟨.hbm, 762, rfl⟩
abbrev main_call37_cst_2 : Ref sig .tc := ⟨.hbm, 763, rfl⟩
abbrev main_call37_v9 : Ref sig .tc := ⟨.hbm, 764, rfl⟩
abbrev main_call37_v10 : Ref sig .tc := ⟨.hbm, 765, rfl⟩
abbrev main_call37_v11 : Ref sig .tc := ⟨.hbm, 766, rfl⟩
abbrev main_call37_cst_3 : Ref sig .tc := ⟨.hbm, 767, rfl⟩
abbrev main_call37_v12 : Ref sig .tc := ⟨.hbm, 768, rfl⟩
abbrev main_call37_cst_4 : Ref sig .tc := ⟨.hbm, 769, rfl⟩
abbrev main_call37_call0_v0 : Ref sig .tc := ⟨.hbm, 770, rfl⟩
abbrev main_call37_call0_v1 : Ref sig .tc := ⟨.hbm, 771, rfl⟩
abbrev main_v474 : Ref sig .tc := ⟨.hbm, 772, rfl⟩
abbrev main_v475 : Ref sig .tc := ⟨.hbm, 773, rfl⟩
abbrev main_v476 : Ref sig .tc := ⟨.hbm, 774, rfl⟩
abbrev main_v477 : Ref sig .tc := ⟨.hbm, 775, rfl⟩
abbrev main_cst_53 : Ref sig .tc := ⟨.hbm, 776, rfl⟩
abbrev main_v478 : Ref sig .tc := ⟨.hbm, 777, rfl⟩
abbrev main_v479 : Ref sig .tc := ⟨.hbm, 778, rfl⟩
abbrev main_v480 : Ref sig .tc := ⟨.hbm, 779, rfl⟩
abbrev main_v481 : Ref sig .tc := ⟨.hbm, 780, rfl⟩
abbrev main_v482 : Ref sig .tc := ⟨.hbm, 781, rfl⟩
abbrev main_v483 : Ref sig .tc := ⟨.hbm, 782, rfl⟩
abbrev main_v484 : Ref sig .tc := ⟨.hbm, 783, rfl⟩
abbrev main_v485 : Ref sig .tc := ⟨.hbm, 784, rfl⟩
abbrev main_v486 : Ref sig .tc := ⟨.hbm, 785, rfl⟩
abbrev main_v487 : Ref sig .tc := ⟨.hbm, 786, rfl⟩
abbrev main_v488 : Ref sig .tc := ⟨.hbm, 787, rfl⟩
abbrev main_v489 : Ref sig .tc := ⟨.hbm, 788, rfl⟩
abbrev main_v490 : Ref sig .tc := ⟨.hbm, 789, rfl⟩
abbrev main_v491 : Ref sig .tc := ⟨.hbm, 790, rfl⟩
abbrev main_v492 : Ref sig .tc := ⟨.hbm, 791, rfl⟩
abbrev main_v493 : Ref sig .tc := ⟨.hbm, 792, rfl⟩
abbrev main_v494 : Ref sig .tc := ⟨.hbm, 793, rfl⟩
abbrev main_v495 : Ref sig .tc := ⟨.hbm, 794, rfl⟩
abbrev main_v496 : Ref sig .tc := ⟨.hbm, 795, rfl⟩
abbrev main_v497 : Ref sig .tc := ⟨.hbm, 796, rfl⟩
abbrev main_v498 : Ref sig .tc := ⟨.hbm, 797, rfl⟩
abbrev main_cst_54 : Ref sig .tc := ⟨.hbm, 798, rfl⟩
abbrev main_v499 : Ref sig .tc := ⟨.hbm, 799, rfl⟩
abbrev main_v500 : Ref sig .tc := ⟨.hbm, 800, rfl⟩
abbrev main_v501 : Ref sig .tc := ⟨.hbm, 801, rfl⟩
abbrev main_v502 : Ref sig .tc := ⟨.hbm, 802, rfl⟩
abbrev main_cst_55 : Ref sig .tc := ⟨.hbm, 803, rfl⟩
abbrev main_v503 : Ref sig .tc := ⟨.hbm, 804, rfl⟩
abbrev main_v504 : Ref sig .tc := ⟨.hbm, 805, rfl⟩
abbrev main_cst_56 : Ref sig .tc := ⟨.hbm, 806, rfl⟩
abbrev main_v505 : Ref sig .tc := ⟨.hbm, 807, rfl⟩
abbrev main_v506 : Ref sig .tc := ⟨.hbm, 808, rfl⟩
abbrev main_v507 : Ref sig .tc := ⟨.hbm, 809, rfl⟩
abbrev main_v508 : Ref sig .tc := ⟨.hbm, 810, rfl⟩
abbrev main_v509 : Ref sig .tc := ⟨.hbm, 811, rfl⟩
abbrev main_cst_57 : Ref sig .tc := ⟨.hbm, 812, rfl⟩
abbrev main_v510 : Ref sig .tc := ⟨.hbm, 813, rfl⟩
abbrev main_v511 : Ref sig .tc := ⟨.hbm, 814, rfl⟩
abbrev main_cst_58 : Ref sig .tc := ⟨.hbm, 815, rfl⟩
abbrev main_v512 : Ref sig .tc := ⟨.hbm, 816, rfl⟩
abbrev main_v513 : Ref sig .tc := ⟨.hbm, 817, rfl⟩
abbrev main_v514 : Ref sig .tc := ⟨.hbm, 818, rfl⟩
abbrev main_v515 : Ref sig .tc := ⟨.hbm, 819, rfl⟩
abbrev main_v516 : Ref sig .tc := ⟨.hbm, 820, rfl⟩
abbrev main_v517 : Ref sig .tc := ⟨.hbm, 821, rfl⟩
abbrev main_v518 : Ref sig .tc := ⟨.hbm, 822, rfl⟩
abbrev main_v519 : Ref sig .tc := ⟨.hbm, 823, rfl⟩
abbrev main_cst_59 : Ref sig .tc := ⟨.hbm, 824, rfl⟩
abbrev main_v520 : Ref sig .tc := ⟨.hbm, 825, rfl⟩
abbrev main_v521 : Ref sig .tc := ⟨.hbm, 826, rfl⟩
abbrev main_cst_60 : Ref sig .tc := ⟨.hbm, 827, rfl⟩
abbrev main_v522 : Ref sig .tc := ⟨.hbm, 828, rfl⟩
abbrev main_v523 : Ref sig .tc := ⟨.hbm, 829, rfl⟩
abbrev main_v524 : Ref sig .tc := ⟨.hbm, 830, rfl⟩
abbrev main_v525 : Ref sig .tc := ⟨.hbm, 831, rfl⟩
abbrev main_cst_61 : Ref sig .tc := ⟨.hbm, 832, rfl⟩
abbrev main_v526 : Ref sig .tc := ⟨.hbm, 833, rfl⟩
abbrev main_v527 : Ref sig .tc := ⟨.hbm, 834, rfl⟩
abbrev main_v528 : Ref sig .tc := ⟨.hbm, 835, rfl⟩
abbrev main_v529 : Ref sig .tc := ⟨.hbm, 836, rfl⟩
abbrev main_v530 : Ref sig .tc := ⟨.hbm, 837, rfl⟩
abbrev main_call38_cst : Ref sig .tc := ⟨.hbm, 838, rfl⟩
abbrev main_call38_v0 : Ref sig .tc := ⟨.hbm, 839, rfl⟩
abbrev main_v531 : Ref sig .tc := ⟨.hbm, 840, rfl⟩
abbrev main_v532 : Ref sig .tc := ⟨.hbm, 841, rfl⟩
abbrev main_v533 : Ref sig .tc := ⟨.hbm, 842, rfl⟩
abbrev main_v534 : Ref sig .tc := ⟨.hbm, 843, rfl⟩
abbrev main_v535 : Ref sig .tc := ⟨.hbm, 844, rfl⟩
abbrev main_v536 : Ref sig .tc := ⟨.hbm, 845, rfl⟩
abbrev main_v537 : Ref sig .tc := ⟨.hbm, 846, rfl⟩
abbrev main_v538 : Ref sig .tc := ⟨.hbm, 847, rfl⟩
abbrev main_v539 : Ref sig .tc := ⟨.hbm, 848, rfl⟩
abbrev main_call39_cst : Ref sig .tc := ⟨.hbm, 849, rfl⟩
abbrev main_call39_v0 : Ref sig .tc := ⟨.hbm, 850, rfl⟩
abbrev main_v540 : Ref sig .tc := ⟨.hbm, 851, rfl⟩
abbrev main_v541 : Ref sig .tc := ⟨.hbm, 852, rfl⟩
abbrev main_v542 : Ref sig .tc := ⟨.hbm, 853, rfl⟩
abbrev main_v543 : Ref sig .tc := ⟨.hbm, 854, rfl⟩
abbrev main_v544 : Ref sig .tc := ⟨.hbm, 855, rfl⟩
abbrev main_v545 : Ref sig .tc := ⟨.hbm, 856, rfl⟩
abbrev main_v546 : Ref sig .tc := ⟨.hbm, 857, rfl⟩
abbrev main_v547 : Ref sig .tc := ⟨.hbm, 858, rfl⟩
abbrev main_v548 : Ref sig .tc := ⟨.hbm, 859, rfl⟩
abbrev main_call40_cst : Ref sig .tc := ⟨.hbm, 860, rfl⟩
abbrev main_call40_v0 : Ref sig .tc := ⟨.hbm, 861, rfl⟩
abbrev main_v549 : Ref sig .tc := ⟨.hbm, 862, rfl⟩
abbrev main_v550 : Ref sig .tc := ⟨.hbm, 863, rfl⟩
abbrev main_v551 : Ref sig .tc := ⟨.hbm, 864, rfl⟩
abbrev main_v552 : Ref sig .tc := ⟨.hbm, 865, rfl⟩
abbrev main_v553 : Ref sig .tc := ⟨.hbm, 866, rfl⟩
abbrev main_values_62 : Ref sig .tc := ⟨.hbm, 867, rfl⟩
abbrev main_indices_63 : Ref sig .tc := ⟨.hbm, 868, rfl⟩
abbrev main_v554 : Ref sig .tc := ⟨.hbm, 869, rfl⟩
abbrev main_call41_cst : Ref sig .tc := ⟨.hbm, 870, rfl⟩
abbrev main_call41_v0 : Ref sig .tc := ⟨.hbm, 871, rfl⟩
abbrev main_call41_cst_0 : Ref sig .tc := ⟨.hbm, 872, rfl⟩
abbrev main_call41_v1 : Ref sig .tc := ⟨.hbm, 873, rfl⟩
abbrev main_call41_v2 : Ref sig .tc := ⟨.hbm, 874, rfl⟩
abbrev main_call41_v3 : Ref sig .tc := ⟨.hbm, 875, rfl⟩
abbrev main_call41_v4 : Ref sig .tc := ⟨.hbm, 876, rfl⟩
abbrev main_call41_v5 : Ref sig .tc := ⟨.hbm, 877, rfl⟩
abbrev main_call41_v6 : Ref sig .tc := ⟨.hbm, 878, rfl⟩
abbrev main_call41_cst_1 : Ref sig .tc := ⟨.hbm, 879, rfl⟩
abbrev main_call41_v7 : Ref sig .tc := ⟨.hbm, 880, rfl⟩
abbrev main_call41_v8 : Ref sig .tc := ⟨.hbm, 881, rfl⟩
abbrev main_call41_v9 : Ref sig .tc := ⟨.hbm, 882, rfl⟩
abbrev main_call41_v10 : Ref sig .tc := ⟨.hbm, 883, rfl⟩
abbrev main_v555 : Ref sig .tc := ⟨.hbm, 884, rfl⟩
abbrev main_v556 : Ref sig .tc := ⟨.hbm, 885, rfl⟩
abbrev main_call42_c : Ref sig .tc := ⟨.hbm, 886, rfl⟩
abbrev main_call42_v0 : Ref sig .tc := ⟨.hbm, 887, rfl⟩
abbrev main_call42_v1 : Ref sig .tc := ⟨.hbm, 888, rfl⟩
abbrev main_call42_c_0 : Ref sig .tc := ⟨.hbm, 889, rfl⟩
abbrev main_call42_v2 : Ref sig .tc := ⟨.hbm, 890, rfl⟩
abbrev main_call42_v3 : Ref sig .tc := ⟨.hbm, 891, rfl⟩
abbrev main_call42_v4 : Ref sig .tc := ⟨.hbm, 892, rfl⟩
abbrev main_call42_v5 : Ref sig .tc := ⟨.hbm, 893, rfl⟩
abbrev main_call42_c_1 : Ref sig .tc := ⟨.hbm, 894, rfl⟩
abbrev main_call42_c_2 : Ref sig .tc := ⟨.hbm, 895, rfl⟩
abbrev main_call42_v6 : Ref sig .tc := ⟨.hbm, 896, rfl⟩
abbrev main_call42_v7 : Ref sig .tc := ⟨.hbm, 897, rfl⟩
abbrev main_call42_v8 : Ref sig .tc := ⟨.hbm, 898, rfl⟩
abbrev main_call42_v9 : Ref sig .tc := ⟨.hbm, 899, rfl⟩
abbrev main_call42_v10 : Ref sig .tc := ⟨.hbm, 900, rfl⟩
abbrev main_call42_v11 : Ref sig .tc := ⟨.hbm, 901, rfl⟩
abbrev main_call42_c_3 : Ref sig .tc := ⟨.hbm, 902, rfl⟩
abbrev main_call42_v12 : Ref sig .tc := ⟨.hbm, 903, rfl⟩
abbrev main_call42_v13 : Ref sig .tc := ⟨.hbm, 904, rfl⟩
abbrev main_call42_cst : Ref sig .tc := ⟨.hbm, 905, rfl⟩
abbrev main_call42_v14 : Ref sig .tc := ⟨.hbm, 906, rfl⟩
abbrev main_v557 : Ref sig .tc := ⟨.hbm, 907, rfl⟩
abbrev main_v558 : Ref sig .tc := ⟨.hbm, 908, rfl⟩
abbrev main_v559 : Ref sig .tc := ⟨.hbm, 909, rfl⟩
abbrev main_cst_64 : Ref sig .tc := ⟨.hbm, 910, rfl⟩
abbrev main_v560 : Ref sig .tc := ⟨.hbm, 911, rfl⟩
abbrev main_cst_65 : Ref sig .tc := ⟨.hbm, 912, rfl⟩
abbrev main_v561 : Ref sig .tc := ⟨.hbm, 913, rfl⟩
abbrev main_cst_66 : Ref sig .tc := ⟨.hbm, 914, rfl⟩
abbrev main_v562 : Ref sig .tc := ⟨.hbm, 915, rfl⟩
abbrev main_v563 : Ref sig .tc := ⟨.hbm, 916, rfl⟩
abbrev main_v564 : Ref sig .tc := ⟨.hbm, 917, rfl⟩
abbrev main_v565 : Ref sig .tc := ⟨.hbm, 918, rfl⟩
abbrev main_c_67 : Ref sig .tc := ⟨.hbm, 919, rfl⟩
abbrev main_v566 : Ref sig .tc := ⟨.hbm, 920, rfl⟩
abbrev main_v567 : Ref sig .tc := ⟨.hbm, 921, rfl⟩
abbrev main_c_68 : Ref sig .tc := ⟨.hbm, 922, rfl⟩
abbrev main_v568 : Ref sig .tc := ⟨.hbm, 923, rfl⟩
abbrev main_v569 : Ref sig .tc := ⟨.hbm, 924, rfl⟩
abbrev main_v570 : Ref sig .tc := ⟨.hbm, 925, rfl⟩
abbrev main_v571 : Ref sig .tc := ⟨.hbm, 926, rfl⟩
abbrev main_v572 : Ref sig .tc := ⟨.hbm, 927, rfl⟩
abbrev main_v573 : Ref sig .tc := ⟨.hbm, 928, rfl⟩
abbrev main_v574 : Ref sig .tc := ⟨.hbm, 929, rfl⟩
abbrev main_v575 : Ref sig .tc := ⟨.hbm, 930, rfl⟩
abbrev main_v576 : Ref sig .tc := ⟨.hbm, 931, rfl⟩
abbrev main_v577 : Ref sig .tc := ⟨.hbm, 932, rfl⟩
abbrev main_v578 : Ref sig .tc := ⟨.hbm, 933, rfl⟩
abbrev main_call43_cst : Ref sig .tc := ⟨.hbm, 934, rfl⟩
abbrev main_call43_v0 : Ref sig .tc := ⟨.hbm, 935, rfl⟩
abbrev main_v579 : Ref sig .tc := ⟨.hbm, 936, rfl⟩
abbrev main_v580 : Ref sig .tc := ⟨.hbm, 937, rfl⟩
abbrev main_v581 : Ref sig .tc := ⟨.hbm, 938, rfl⟩
abbrev main_v582 : Ref sig .tc := ⟨.hbm, 939, rfl⟩
abbrev main_v583 : Ref sig .tc := ⟨.hbm, 940, rfl⟩
abbrev main_v584 : Ref sig .tc := ⟨.hbm, 941, rfl⟩
abbrev main_v585 : Ref sig .tc := ⟨.hbm, 942, rfl⟩
abbrev main_v586 : Ref sig .tc := ⟨.hbm, 943, rfl⟩
abbrev main_v587 : Ref sig .tc := ⟨.hbm, 944, rfl⟩
abbrev main_call44_cst : Ref sig .tc := ⟨.hbm, 945, rfl⟩
abbrev main_call44_v0 : Ref sig .tc := ⟨.hbm, 946, rfl⟩
abbrev main_v588 : Ref sig .tc := ⟨.hbm, 947, rfl⟩
abbrev main_v589 : Ref sig .tc := ⟨.hbm, 948, rfl⟩
abbrev main_v590 : Ref sig .tc := ⟨.hbm, 949, rfl⟩
abbrev main_v591 : Ref sig .tc := ⟨.hbm, 950, rfl⟩
abbrev main_v592 : Ref sig .tc := ⟨.hbm, 951, rfl⟩
abbrev main_v593 : Ref sig .tc := ⟨.hbm, 952, rfl⟩
abbrev main_v594 : Ref sig .tc := ⟨.hbm, 953, rfl⟩
abbrev main_v595 : Ref sig .tc := ⟨.hbm, 954, rfl⟩
abbrev main_v596 : Ref sig .tc := ⟨.hbm, 955, rfl⟩
abbrev main_call45_cst : Ref sig .tc := ⟨.hbm, 956, rfl⟩
abbrev main_call45_v0 : Ref sig .tc := ⟨.hbm, 957, rfl⟩
abbrev main_v597 : Ref sig .tc := ⟨.hbm, 958, rfl⟩
abbrev main_v598 : Ref sig .tc := ⟨.hbm, 959, rfl⟩
abbrev main_v599 : Ref sig .tc := ⟨.hbm, 960, rfl⟩
abbrev main_v600 : Ref sig .tc := ⟨.hbm, 961, rfl⟩
abbrev main_v601 : Ref sig .tc := ⟨.hbm, 962, rfl⟩
abbrev main_cst_69 : Ref sig .tc := ⟨.hbm, 963, rfl⟩
abbrev main_v602 : Ref sig .tc := ⟨.hbm, 964, rfl⟩
abbrev main_v603 : Ref sig .tc := ⟨.hbm, 965, rfl⟩
abbrev main_v604 : Ref sig .tc := ⟨.hbm, 966, rfl⟩
abbrev main_c_70 : Ref sig .tc := ⟨.hbm, 967, rfl⟩
abbrev main_v605 : Ref sig .tc := ⟨.hbm, 968, rfl⟩
abbrev main_v606 : Ref sig .tc := ⟨.hbm, 969, rfl⟩
abbrev main_c_71 : Ref sig .tc := ⟨.hbm, 970, rfl⟩
abbrev main_v607 : Ref sig .tc := ⟨.hbm, 971, rfl⟩
abbrev main_v608 : Ref sig .tc := ⟨.hbm, 972, rfl⟩
abbrev main_v609 : Ref sig .tc := ⟨.hbm, 973, rfl⟩
abbrev main_v610 : Ref sig .tc := ⟨.hbm, 974, rfl⟩
abbrev main_v611 : Ref sig .tc := ⟨.hbm, 975, rfl⟩
abbrev main_v612 : Ref sig .tc := ⟨.hbm, 976, rfl⟩
abbrev main_v613 : Ref sig .tc := ⟨.hbm, 977, rfl⟩
abbrev main_v614 : Ref sig .tc := ⟨.hbm, 978, rfl⟩
abbrev main_v615 : Ref sig .tc := ⟨.hbm, 979, rfl⟩
abbrev main_v616 : Ref sig .tc := ⟨.hbm, 980, rfl⟩
abbrev main_call46_cst : Ref sig .tc := ⟨.hbm, 981, rfl⟩
abbrev main_call46_v0 : Ref sig .tc := ⟨.hbm, 982, rfl⟩
abbrev main_v617 : Ref sig .tc := ⟨.hbm, 983, rfl⟩
abbrev main_v618 : Ref sig .tc := ⟨.hbm, 984, rfl⟩
abbrev main_v619 : Ref sig .tc := ⟨.hbm, 985, rfl⟩
abbrev main_v620 : Ref sig .tc := ⟨.hbm, 986, rfl⟩
abbrev main_v621 : Ref sig .tc := ⟨.hbm, 987, rfl⟩
abbrev main_v622 : Ref sig .tc := ⟨.hbm, 988, rfl⟩
abbrev main_v623 : Ref sig .tc := ⟨.hbm, 989, rfl⟩
abbrev main_v624 : Ref sig .tc := ⟨.hbm, 990, rfl⟩
abbrev main_v625 : Ref sig .tc := ⟨.hbm, 991, rfl⟩
abbrev main_call47_cst : Ref sig .tc := ⟨.hbm, 992, rfl⟩
abbrev main_call47_v0 : Ref sig .tc := ⟨.hbm, 993, rfl⟩
abbrev main_v626 : Ref sig .tc := ⟨.hbm, 994, rfl⟩
abbrev main_v627 : Ref sig .tc := ⟨.hbm, 995, rfl⟩
abbrev main_v628 : Ref sig .tc := ⟨.hbm, 996, rfl⟩
abbrev main_v629 : Ref sig .tc := ⟨.hbm, 997, rfl⟩
abbrev main_v630 : Ref sig .tc := ⟨.hbm, 998, rfl⟩
abbrev main_v631 : Ref sig .tc := ⟨.hbm, 999, rfl⟩
abbrev main_v632 : Ref sig .tc := ⟨.hbm, 1000, rfl⟩
abbrev main_v633 : Ref sig .tc := ⟨.hbm, 1001, rfl⟩
abbrev main_v634 : Ref sig .tc := ⟨.hbm, 1002, rfl⟩
abbrev main_call48_cst : Ref sig .tc := ⟨.hbm, 1003, rfl⟩
abbrev main_call48_v0 : Ref sig .tc := ⟨.hbm, 1004, rfl⟩
abbrev main_v635 : Ref sig .tc := ⟨.hbm, 1005, rfl⟩
abbrev main_v636 : Ref sig .tc := ⟨.hbm, 1006, rfl⟩
abbrev main_v637 : Ref sig .tc := ⟨.hbm, 1007, rfl⟩
abbrev main_v638 : Ref sig .tc := ⟨.hbm, 1008, rfl⟩
abbrev main_v639 : Ref sig .tc := ⟨.hbm, 1009, rfl⟩
abbrev main_cst_72 : Ref sig .tc := ⟨.hbm, 1010, rfl⟩
abbrev main_v640 : Ref sig .tc := ⟨.hbm, 1011, rfl⟩
abbrev main_cst_73 : Ref sig .tc := ⟨.hbm, 1012, rfl⟩
abbrev main_v641 : Ref sig .tc := ⟨.hbm, 1013, rfl⟩
abbrev main_v642 : Ref sig .tc := ⟨.hbm, 1014, rfl⟩
abbrev main_c_74 : Ref sig .tc := ⟨.hbm, 1015, rfl⟩
abbrev main_call49_cst : Ref sig .tc := ⟨.hbm, 1016, rfl⟩
abbrev main_call49_v0 : Ref sig .tc := ⟨.hbm, 1017, rfl⟩
abbrev main_call49_v1 : Ref sig .tc := ⟨.hbm, 1018, rfl⟩
abbrev main_call49_cst_0 : Ref sig .tc := ⟨.hbm, 1019, rfl⟩
abbrev main_call49_v2 : Ref sig .tc := ⟨.hbm, 1020, rfl⟩
abbrev main_call49_v3 : Ref sig .tc := ⟨.hbm, 1021, rfl⟩
abbrev main_call49_v4 : Ref sig .tc := ⟨.hbm, 1022, rfl⟩
abbrev main_call49_v5 : Ref sig .tc := ⟨.hbm, 1023, rfl⟩
abbrev main_call49_v6 : Ref sig .tc := ⟨.hbm, 1024, rfl⟩
abbrev main_call49_v7 : Ref sig .tc := ⟨.hbm, 1025, rfl⟩
abbrev main_call49_cst_1 : Ref sig .tc := ⟨.hbm, 1026, rfl⟩
abbrev main_call49_v8 : Ref sig .tc := ⟨.hbm, 1027, rfl⟩
abbrev main_call49_cst_2 : Ref sig .tc := ⟨.hbm, 1028, rfl⟩
abbrev main_call49_v9 : Ref sig .tc := ⟨.hbm, 1029, rfl⟩
abbrev main_call49_v10 : Ref sig .tc := ⟨.hbm, 1030, rfl⟩
abbrev main_call49_v11 : Ref sig .tc := ⟨.hbm, 1031, rfl⟩
abbrev main_call49_cst_3 : Ref sig .tc := ⟨.hbm, 1032, rfl⟩
abbrev main_call49_v12 : Ref sig .tc := ⟨.hbm, 1033, rfl⟩
abbrev main_call49_cst_4 : Ref sig .tc := ⟨.hbm, 1034, rfl⟩
abbrev main_call49_call0_v0 : Ref sig .tc := ⟨.hbm, 1035, rfl⟩
abbrev main_call49_call0_v1 : Ref sig .tc := ⟨.hbm, 1036, rfl⟩
abbrev main_v643 : Ref sig .tc := ⟨.hbm, 1037, rfl⟩
abbrev main_v644 : Ref sig .tc := ⟨.hbm, 1038, rfl⟩
abbrev main_v645 : Ref sig .tc := ⟨.hbm, 1039, rfl⟩
abbrev main_v646 : Ref sig .tc := ⟨.hbm, 1040, rfl⟩
abbrev main_cst_75 : Ref sig .tc := ⟨.hbm, 1041, rfl⟩
abbrev main_v647 : Ref sig .tc := ⟨.hbm, 1042, rfl⟩
abbrev main_v648 : Ref sig .tc := ⟨.hbm, 1043, rfl⟩
abbrev main_v649 : Ref sig .tc := ⟨.hbm, 1044, rfl⟩
abbrev main_v650 : Ref sig .tc := ⟨.hbm, 1045, rfl⟩
abbrev main_v651 : Ref sig .tc := ⟨.hbm, 1046, rfl⟩
abbrev main_v652 : Ref sig .tc := ⟨.hbm, 1047, rfl⟩
abbrev main_v653 : Ref sig .tc := ⟨.hbm, 1048, rfl⟩
abbrev main_v654 : Ref sig .tc := ⟨.hbm, 1049, rfl⟩
abbrev main_v655 : Ref sig .tc := ⟨.hbm, 1050, rfl⟩
abbrev main_v656 : Ref sig .tc := ⟨.hbm, 1051, rfl⟩
abbrev main_v657 : Ref sig .tc := ⟨.hbm, 1052, rfl⟩
abbrev main_v658 : Ref sig .tc := ⟨.hbm, 1053, rfl⟩
abbrev main_v659 : Ref sig .tc := ⟨.hbm, 1054, rfl⟩
abbrev main_v660 : Ref sig .tc := ⟨.hbm, 1055, rfl⟩
abbrev main_v661 : Ref sig .tc := ⟨.hbm, 1056, rfl⟩
abbrev main_v662 : Ref sig .tc := ⟨.hbm, 1057, rfl⟩
abbrev main_v663 : Ref sig .tc := ⟨.hbm, 1058, rfl⟩
abbrev main_v664 : Ref sig .tc := ⟨.hbm, 1059, rfl⟩
abbrev main_v665 : Ref sig .tc := ⟨.hbm, 1060, rfl⟩
abbrev main_v666 : Ref sig .tc := ⟨.hbm, 1061, rfl⟩
abbrev main_v667 : Ref sig .tc := ⟨.hbm, 1062, rfl⟩
abbrev main_cst_76 : Ref sig .tc := ⟨.hbm, 1063, rfl⟩
abbrev main_v668 : Ref sig .tc := ⟨.hbm, 1064, rfl⟩
abbrev main_v669 : Ref sig .tc := ⟨.hbm, 1065, rfl⟩
abbrev main_v670 : Ref sig .tc := ⟨.hbm, 1066, rfl⟩
abbrev main_v671 : Ref sig .tc := ⟨.hbm, 1067, rfl⟩
abbrev main_cst_77 : Ref sig .tc := ⟨.hbm, 1068, rfl⟩
abbrev main_v672 : Ref sig .tc := ⟨.hbm, 1069, rfl⟩
abbrev main_v673 : Ref sig .tc := ⟨.hbm, 1070, rfl⟩
abbrev main_cst_78 : Ref sig .tc := ⟨.hbm, 1071, rfl⟩
abbrev main_v674 : Ref sig .tc := ⟨.hbm, 1072, rfl⟩
abbrev main_v675 : Ref sig .tc := ⟨.hbm, 1073, rfl⟩
abbrev main_v676 : Ref sig .tc := ⟨.hbm, 1074, rfl⟩
abbrev main_v677 : Ref sig .tc := ⟨.hbm, 1075, rfl⟩
abbrev main_v678 : Ref sig .tc := ⟨.hbm, 1076, rfl⟩
abbrev main_cst_79 : Ref sig .tc := ⟨.hbm, 1077, rfl⟩
abbrev main_v679 : Ref sig .tc := ⟨.hbm, 1078, rfl⟩
abbrev main_v680 : Ref sig .tc := ⟨.hbm, 1079, rfl⟩
abbrev main_cst_80 : Ref sig .tc := ⟨.hbm, 1080, rfl⟩
abbrev main_v681 : Ref sig .tc := ⟨.hbm, 1081, rfl⟩
abbrev main_v682 : Ref sig .tc := ⟨.hbm, 1082, rfl⟩
abbrev main_v683 : Ref sig .tc := ⟨.hbm, 1083, rfl⟩
abbrev main_v684 : Ref sig .tc := ⟨.hbm, 1084, rfl⟩
abbrev main_v685 : Ref sig .tc := ⟨.hbm, 1085, rfl⟩
abbrev main_v686 : Ref sig .tc := ⟨.hbm, 1086, rfl⟩
abbrev main_v687 : Ref sig .tc := ⟨.hbm, 1087, rfl⟩
abbrev main_v688 : Ref sig .tc := ⟨.hbm, 1088, rfl⟩
abbrev main_cst_81 : Ref sig .tc := ⟨.hbm, 1089, rfl⟩
abbrev main_v689 : Ref sig .tc := ⟨.hbm, 1090, rfl⟩
abbrev main_v690 : Ref sig .tc := ⟨.hbm, 1091, rfl⟩
abbrev main_cst_82 : Ref sig .tc := ⟨.hbm, 1092, rfl⟩
abbrev main_v691 : Ref sig .tc := ⟨.hbm, 1093, rfl⟩
abbrev main_v692 : Ref sig .tc := ⟨.hbm, 1094, rfl⟩
abbrev main_v693 : Ref sig .tc := ⟨.hbm, 1095, rfl⟩
abbrev main_v694 : Ref sig .tc := ⟨.hbm, 1096, rfl⟩
abbrev main_cst_83 : Ref sig .tc := ⟨.hbm, 1097, rfl⟩
abbrev main_v695 : Ref sig .tc := ⟨.hbm, 1098, rfl⟩
abbrev main_v696 : Ref sig .tc := ⟨.hbm, 1099, rfl⟩
abbrev main_v697 : Ref sig .tc := ⟨.hbm, 1100, rfl⟩
abbrev main_v698 : Ref sig .tc := ⟨.hbm, 1101, rfl⟩
abbrev main_v699 : Ref sig .tc := ⟨.hbm, 1102, rfl⟩
abbrev main_call50_cst : Ref sig .tc := ⟨.hbm, 1103, rfl⟩
abbrev main_call50_v0 : Ref sig .tc := ⟨.hbm, 1104, rfl⟩
abbrev main_v700 : Ref sig .tc := ⟨.hbm, 1105, rfl⟩
abbrev main_v701 : Ref sig .tc := ⟨.hbm, 1106, rfl⟩
abbrev main_v702 : Ref sig .tc := ⟨.hbm, 1107, rfl⟩
abbrev main_v703 : Ref sig .tc := ⟨.hbm, 1108, rfl⟩
abbrev main_v704 : Ref sig .tc := ⟨.hbm, 1109, rfl⟩
abbrev main_v705 : Ref sig .tc := ⟨.hbm, 1110, rfl⟩
abbrev main_v706 : Ref sig .tc := ⟨.hbm, 1111, rfl⟩
abbrev main_v707 : Ref sig .tc := ⟨.hbm, 1112, rfl⟩
abbrev main_v708 : Ref sig .tc := ⟨.hbm, 1113, rfl⟩
abbrev main_call51_cst : Ref sig .tc := ⟨.hbm, 1114, rfl⟩
abbrev main_call51_v0 : Ref sig .tc := ⟨.hbm, 1115, rfl⟩
abbrev main_v709 : Ref sig .tc := ⟨.hbm, 1116, rfl⟩
abbrev main_v710 : Ref sig .tc := ⟨.hbm, 1117, rfl⟩
abbrev main_v711 : Ref sig .tc := ⟨.hbm, 1118, rfl⟩
abbrev main_v712 : Ref sig .tc := ⟨.hbm, 1119, rfl⟩
abbrev main_v713 : Ref sig .tc := ⟨.hbm, 1120, rfl⟩
abbrev main_v714 : Ref sig .tc := ⟨.hbm, 1121, rfl⟩
abbrev main_v715 : Ref sig .tc := ⟨.hbm, 1122, rfl⟩
abbrev main_v716 : Ref sig .tc := ⟨.hbm, 1123, rfl⟩
abbrev main_v717 : Ref sig .tc := ⟨.hbm, 1124, rfl⟩
abbrev main_call52_cst : Ref sig .tc := ⟨.hbm, 1125, rfl⟩
abbrev main_call52_v0 : Ref sig .tc := ⟨.hbm, 1126, rfl⟩
abbrev main_v718 : Ref sig .tc := ⟨.hbm, 1127, rfl⟩
abbrev main_v719 : Ref sig .tc := ⟨.hbm, 1128, rfl⟩
abbrev main_v720 : Ref sig .tc := ⟨.hbm, 1129, rfl⟩
abbrev main_v721 : Ref sig .tc := ⟨.hbm, 1130, rfl⟩
abbrev main_v722 : Ref sig .tc := ⟨.hbm, 1131, rfl⟩
abbrev main_values_84 : Ref sig .tc := ⟨.hbm, 1132, rfl⟩
abbrev main_indices_85 : Ref sig .tc := ⟨.hbm, 1133, rfl⟩
abbrev main_v723 : Ref sig .tc := ⟨.hbm, 1134, rfl⟩
abbrev main_call53_cst : Ref sig .tc := ⟨.hbm, 1135, rfl⟩
abbrev main_call53_v0 : Ref sig .tc := ⟨.hbm, 1136, rfl⟩
abbrev main_call53_cst_0 : Ref sig .tc := ⟨.hbm, 1137, rfl⟩
abbrev main_call53_v1 : Ref sig .tc := ⟨.hbm, 1138, rfl⟩
abbrev main_call53_v2 : Ref sig .tc := ⟨.hbm, 1139, rfl⟩
abbrev main_call53_v3 : Ref sig .tc := ⟨.hbm, 1140, rfl⟩
abbrev main_call53_v4 : Ref sig .tc := ⟨.hbm, 1141, rfl⟩
abbrev main_call53_v5 : Ref sig .tc := ⟨.hbm, 1142, rfl⟩
abbrev main_call53_v6 : Ref sig .tc := ⟨.hbm, 1143, rfl⟩
abbrev main_call53_cst_1 : Ref sig .tc := ⟨.hbm, 1144, rfl⟩
abbrev main_call53_v7 : Ref sig .tc := ⟨.hbm, 1145, rfl⟩
abbrev main_call53_v8 : Ref sig .tc := ⟨.hbm, 1146, rfl⟩
abbrev main_call53_v9 : Ref sig .tc := ⟨.hbm, 1147, rfl⟩
abbrev main_call53_v10 : Ref sig .tc := ⟨.hbm, 1148, rfl⟩
abbrev main_v724 : Ref sig .tc := ⟨.hbm, 1149, rfl⟩
abbrev main_v725 : Ref sig .tc := ⟨.hbm, 1150, rfl⟩
abbrev main_call54_c : Ref sig .tc := ⟨.hbm, 1151, rfl⟩
abbrev main_call54_v0 : Ref sig .tc := ⟨.hbm, 1152, rfl⟩
abbrev main_call54_v1 : Ref sig .tc := ⟨.hbm, 1153, rfl⟩
abbrev main_call54_c_0 : Ref sig .tc := ⟨.hbm, 1154, rfl⟩
abbrev main_call54_v2 : Ref sig .tc := ⟨.hbm, 1155, rfl⟩
abbrev main_call54_v3 : Ref sig .tc := ⟨.hbm, 1156, rfl⟩
abbrev main_call54_v4 : Ref sig .tc := ⟨.hbm, 1157, rfl⟩
abbrev main_call54_v5 : Ref sig .tc := ⟨.hbm, 1158, rfl⟩
abbrev main_call54_c_1 : Ref sig .tc := ⟨.hbm, 1159, rfl⟩
abbrev main_call54_c_2 : Ref sig .tc := ⟨.hbm, 1160, rfl⟩
abbrev main_call54_v6 : Ref sig .tc := ⟨.hbm, 1161, rfl⟩
abbrev main_call54_v7 : Ref sig .tc := ⟨.hbm, 1162, rfl⟩
abbrev main_call54_v8 : Ref sig .tc := ⟨.hbm, 1163, rfl⟩
abbrev main_call54_v9 : Ref sig .tc := ⟨.hbm, 1164, rfl⟩
abbrev main_call54_v10 : Ref sig .tc := ⟨.hbm, 1165, rfl⟩
abbrev main_call54_v11 : Ref sig .tc := ⟨.hbm, 1166, rfl⟩
abbrev main_call54_c_3 : Ref sig .tc := ⟨.hbm, 1167, rfl⟩
abbrev main_call54_v12 : Ref sig .tc := ⟨.hbm, 1168, rfl⟩
abbrev main_call54_v13 : Ref sig .tc := ⟨.hbm, 1169, rfl⟩
abbrev main_call54_cst : Ref sig .tc := ⟨.hbm, 1170, rfl⟩
abbrev main_call54_v14 : Ref sig .tc := ⟨.hbm, 1171, rfl⟩
abbrev main_v726 : Ref sig .tc := ⟨.hbm, 1172, rfl⟩
abbrev main_v727 : Ref sig .tc := ⟨.hbm, 1173, rfl⟩
abbrev main_v728 : Ref sig .tc := ⟨.hbm, 1174, rfl⟩
abbrev main_cst_86 : Ref sig .tc := ⟨.hbm, 1175, rfl⟩
abbrev main_v729 : Ref sig .tc := ⟨.hbm, 1176, rfl⟩
abbrev main_cst_87 : Ref sig .tc := ⟨.hbm, 1177, rfl⟩
abbrev main_v730 : Ref sig .tc := ⟨.hbm, 1178, rfl⟩
abbrev main_cst_88 : Ref sig .tc := ⟨.hbm, 1179, rfl⟩
abbrev main_v731 : Ref sig .tc := ⟨.hbm, 1180, rfl⟩
abbrev main_v732 : Ref sig .tc := ⟨.hbm, 1181, rfl⟩
abbrev main_v733 : Ref sig .tc := ⟨.hbm, 1182, rfl⟩
abbrev main_v734 : Ref sig .tc := ⟨.hbm, 1183, rfl⟩
abbrev main_c_89 : Ref sig .tc := ⟨.hbm, 1184, rfl⟩
abbrev main_v735 : Ref sig .tc := ⟨.hbm, 1185, rfl⟩
abbrev main_v736 : Ref sig .tc := ⟨.hbm, 1186, rfl⟩
abbrev main_c_90 : Ref sig .tc := ⟨.hbm, 1187, rfl⟩
abbrev main_v737 : Ref sig .tc := ⟨.hbm, 1188, rfl⟩
abbrev main_v738 : Ref sig .tc := ⟨.hbm, 1189, rfl⟩
abbrev main_v739 : Ref sig .tc := ⟨.hbm, 1190, rfl⟩
abbrev main_v740 : Ref sig .tc := ⟨.hbm, 1191, rfl⟩
abbrev main_v741 : Ref sig .tc := ⟨.hbm, 1192, rfl⟩
abbrev main_v742 : Ref sig .tc := ⟨.hbm, 1193, rfl⟩
abbrev main_v743 : Ref sig .tc := ⟨.hbm, 1194, rfl⟩
abbrev main_v744 : Ref sig .tc := ⟨.hbm, 1195, rfl⟩
abbrev main_v745 : Ref sig .tc := ⟨.hbm, 1196, rfl⟩
abbrev main_v746 : Ref sig .tc := ⟨.hbm, 1197, rfl⟩
abbrev main_v747 : Ref sig .tc := ⟨.hbm, 1198, rfl⟩
abbrev main_call55_cst : Ref sig .tc := ⟨.hbm, 1199, rfl⟩
abbrev main_call55_v0 : Ref sig .tc := ⟨.hbm, 1200, rfl⟩
abbrev main_v748 : Ref sig .tc := ⟨.hbm, 1201, rfl⟩
abbrev main_v749 : Ref sig .tc := ⟨.hbm, 1202, rfl⟩
abbrev main_v750 : Ref sig .tc := ⟨.hbm, 1203, rfl⟩
abbrev main_v751 : Ref sig .tc := ⟨.hbm, 1204, rfl⟩
abbrev main_v752 : Ref sig .tc := ⟨.hbm, 1205, rfl⟩
abbrev main_v753 : Ref sig .tc := ⟨.hbm, 1206, rfl⟩
abbrev main_v754 : Ref sig .tc := ⟨.hbm, 1207, rfl⟩
abbrev main_v755 : Ref sig .tc := ⟨.hbm, 1208, rfl⟩
abbrev main_v756 : Ref sig .tc := ⟨.hbm, 1209, rfl⟩
abbrev main_call56_cst : Ref sig .tc := ⟨.hbm, 1210, rfl⟩
abbrev main_call56_v0 : Ref sig .tc := ⟨.hbm, 1211, rfl⟩
abbrev main_v757 : Ref sig .tc := ⟨.hbm, 1212, rfl⟩
abbrev main_v758 : Ref sig .tc := ⟨.hbm, 1213, rfl⟩
abbrev main_v759 : Ref sig .tc := ⟨.hbm, 1214, rfl⟩
abbrev main_v760 : Ref sig .tc := ⟨.hbm, 1215, rfl⟩
abbrev main_v761 : Ref sig .tc := ⟨.hbm, 1216, rfl⟩
abbrev main_v762 : Ref sig .tc := ⟨.hbm, 1217, rfl⟩
abbrev main_v763 : Ref sig .tc := ⟨.hbm, 1218, rfl⟩
abbrev main_v764 : Ref sig .tc := ⟨.hbm, 1219, rfl⟩
abbrev main_v765 : Ref sig .tc := ⟨.hbm, 1220, rfl⟩
abbrev main_call57_cst : Ref sig .tc := ⟨.hbm, 1221, rfl⟩
abbrev main_call57_v0 : Ref sig .tc := ⟨.hbm, 1222, rfl⟩
abbrev main_v766 : Ref sig .tc := ⟨.hbm, 1223, rfl⟩
abbrev main_v767 : Ref sig .tc := ⟨.hbm, 1224, rfl⟩
abbrev main_v768 : Ref sig .tc := ⟨.hbm, 1225, rfl⟩
abbrev main_v769 : Ref sig .tc := ⟨.hbm, 1226, rfl⟩
abbrev main_v770 : Ref sig .tc := ⟨.hbm, 1227, rfl⟩
abbrev main_cst_91 : Ref sig .tc := ⟨.hbm, 1228, rfl⟩
abbrev main_v771 : Ref sig .tc := ⟨.hbm, 1229, rfl⟩
abbrev main_v772 : Ref sig .tc := ⟨.hbm, 1230, rfl⟩
abbrev main_v773 : Ref sig .tc := ⟨.hbm, 1231, rfl⟩
abbrev main_c_92 : Ref sig .tc := ⟨.hbm, 1232, rfl⟩
abbrev main_v774 : Ref sig .tc := ⟨.hbm, 1233, rfl⟩
abbrev main_v775 : Ref sig .tc := ⟨.hbm, 1234, rfl⟩
abbrev main_c_93 : Ref sig .tc := ⟨.hbm, 1235, rfl⟩
abbrev main_v776 : Ref sig .tc := ⟨.hbm, 1236, rfl⟩
abbrev main_v777 : Ref sig .tc := ⟨.hbm, 1237, rfl⟩
abbrev main_v778 : Ref sig .tc := ⟨.hbm, 1238, rfl⟩
abbrev main_v779 : Ref sig .tc := ⟨.hbm, 1239, rfl⟩
abbrev main_v780 : Ref sig .tc := ⟨.hbm, 1240, rfl⟩
abbrev main_v781 : Ref sig .tc := ⟨.hbm, 1241, rfl⟩
abbrev main_v782 : Ref sig .tc := ⟨.hbm, 1242, rfl⟩
abbrev main_v783 : Ref sig .tc := ⟨.hbm, 1243, rfl⟩
abbrev main_v784 : Ref sig .tc := ⟨.hbm, 1244, rfl⟩
abbrev main_v785 : Ref sig .tc := ⟨.hbm, 1245, rfl⟩
abbrev main_call58_cst : Ref sig .tc := ⟨.hbm, 1246, rfl⟩
abbrev main_call58_v0 : Ref sig .tc := ⟨.hbm, 1247, rfl⟩
abbrev main_v786 : Ref sig .tc := ⟨.hbm, 1248, rfl⟩
abbrev main_v787 : Ref sig .tc := ⟨.hbm, 1249, rfl⟩
abbrev main_v788 : Ref sig .tc := ⟨.hbm, 1250, rfl⟩
abbrev main_v789 : Ref sig .tc := ⟨.hbm, 1251, rfl⟩
abbrev main_v790 : Ref sig .tc := ⟨.hbm, 1252, rfl⟩
abbrev main_v791 : Ref sig .tc := ⟨.hbm, 1253, rfl⟩
abbrev main_v792 : Ref sig .tc := ⟨.hbm, 1254, rfl⟩
abbrev main_v793 : Ref sig .tc := ⟨.hbm, 1255, rfl⟩
abbrev main_v794 : Ref sig .tc := ⟨.hbm, 1256, rfl⟩
abbrev main_call59_cst : Ref sig .tc := ⟨.hbm, 1257, rfl⟩
abbrev main_call59_v0 : Ref sig .tc := ⟨.hbm, 1258, rfl⟩
abbrev main_v795 : Ref sig .tc := ⟨.hbm, 1259, rfl⟩
abbrev main_v796 : Ref sig .tc := ⟨.hbm, 1260, rfl⟩
abbrev main_v797 : Ref sig .tc := ⟨.hbm, 1261, rfl⟩
abbrev main_v798 : Ref sig .tc := ⟨.hbm, 1262, rfl⟩
abbrev main_v799 : Ref sig .tc := ⟨.hbm, 1263, rfl⟩
abbrev main_v800 : Ref sig .tc := ⟨.hbm, 1264, rfl⟩
abbrev main_v801 : Ref sig .tc := ⟨.hbm, 1265, rfl⟩
abbrev main_v802 : Ref sig .tc := ⟨.hbm, 1266, rfl⟩
abbrev main_v803 : Ref sig .tc := ⟨.hbm, 1267, rfl⟩
abbrev main_call60_cst : Ref sig .tc := ⟨.hbm, 1268, rfl⟩
abbrev main_call60_v0 : Ref sig .tc := ⟨.hbm, 1269, rfl⟩
abbrev main_v804 : Ref sig .tc := ⟨.hbm, 1270, rfl⟩
abbrev main_v805 : Ref sig .tc := ⟨.hbm, 1271, rfl⟩
abbrev main_v806 : Ref sig .tc := ⟨.hbm, 1272, rfl⟩
abbrev main_v807 : Ref sig .tc := ⟨.hbm, 1273, rfl⟩
abbrev main_v808 : Ref sig .tc := ⟨.hbm, 1274, rfl⟩
abbrev main_cst_94 : Ref sig .tc := ⟨.hbm, 1275, rfl⟩
abbrev main_v809 : Ref sig .tc := ⟨.hbm, 1276, rfl⟩
abbrev main_cst_95 : Ref sig .tc := ⟨.hbm, 1277, rfl⟩
abbrev main_v810 : Ref sig .tc := ⟨.hbm, 1278, rfl⟩
abbrev main_v811 : Ref sig .tc := ⟨.hbm, 1279, rfl⟩
abbrev main_c_96 : Ref sig .tc := ⟨.hbm, 1280, rfl⟩
abbrev main_call61_cst : Ref sig .tc := ⟨.hbm, 1281, rfl⟩
abbrev main_call61_v0 : Ref sig .tc := ⟨.hbm, 1282, rfl⟩
abbrev main_call61_v1 : Ref sig .tc := ⟨.hbm, 1283, rfl⟩
abbrev main_call61_cst_0 : Ref sig .tc := ⟨.hbm, 1284, rfl⟩
abbrev main_call61_v2 : Ref sig .tc := ⟨.hbm, 1285, rfl⟩
abbrev main_call61_v3 : Ref sig .tc := ⟨.hbm, 1286, rfl⟩
abbrev main_call61_v4 : Ref sig .tc := ⟨.hbm, 1287, rfl⟩
abbrev main_call61_v5 : Ref sig .tc := ⟨.hbm, 1288, rfl⟩
abbrev main_call61_v6 : Ref sig .tc := ⟨.hbm, 1289, rfl⟩
abbrev main_call61_v7 : Ref sig .tc := ⟨.hbm, 1290, rfl⟩
abbrev main_call61_cst_1 : Ref sig .tc := ⟨.hbm, 1291, rfl⟩
abbrev main_call61_v8 : Ref sig .tc := ⟨.hbm, 1292, rfl⟩
abbrev main_call61_cst_2 : Ref sig .tc := ⟨.hbm, 1293, rfl⟩
abbrev main_call61_v9 : Ref sig .tc := ⟨.hbm, 1294, rfl⟩
abbrev main_call61_v10 : Ref sig .tc := ⟨.hbm, 1295, rfl⟩
abbrev main_call61_v11 : Ref sig .tc := ⟨.hbm, 1296, rfl⟩
abbrev main_call61_cst_3 : Ref sig .tc := ⟨.hbm, 1297, rfl⟩
abbrev main_call61_v12 : Ref sig .tc := ⟨.hbm, 1298, rfl⟩
abbrev main_call61_cst_4 : Ref sig .tc := ⟨.hbm, 1299, rfl⟩
abbrev main_call61_call0_v0 : Ref sig .tc := ⟨.hbm, 1300, rfl⟩
abbrev main_call61_call0_v1 : Ref sig .tc := ⟨.hbm, 1301, rfl⟩
abbrev main_v812 : Ref sig .tc := ⟨.hbm, 1302, rfl⟩
abbrev main_v813 : Ref sig .tc := ⟨.hbm, 1303, rfl⟩
abbrev main_v814 : Ref sig .tc := ⟨.hbm, 1304, rfl⟩
abbrev main_v815 : Ref sig .tc := ⟨.hbm, 1305, rfl⟩
abbrev main_cst_97 : Ref sig .tc := ⟨.hbm, 1306, rfl⟩
abbrev main_v816 : Ref sig .tc := ⟨.hbm, 1307, rfl⟩
abbrev main_v817 : Ref sig .tc := ⟨.hbm, 1308, rfl⟩
abbrev main_v818 : Ref sig .tc := ⟨.hbm, 1309, rfl⟩
abbrev main_v819 : Ref sig .tc := ⟨.hbm, 1310, rfl⟩
abbrev main_v820 : Ref sig .tc := ⟨.hbm, 1311, rfl⟩
abbrev main_v821 : Ref sig .tc := ⟨.hbm, 1312, rfl⟩
abbrev main_v822 : Ref sig .tc := ⟨.hbm, 1313, rfl⟩
abbrev main_v823 : Ref sig .tc := ⟨.hbm, 1314, rfl⟩
abbrev main_v824 : Ref sig .tc := ⟨.hbm, 1315, rfl⟩
abbrev main_v825 : Ref sig .tc := ⟨.hbm, 1316, rfl⟩
abbrev main_v826 : Ref sig .tc := ⟨.hbm, 1317, rfl⟩
abbrev main_v827 : Ref sig .tc := ⟨.hbm, 1318, rfl⟩
abbrev main_v828 : Ref sig .tc := ⟨.hbm, 1319, rfl⟩
abbrev main_v829 : Ref sig .tc := ⟨.hbm, 1320, rfl⟩
abbrev main_v830 : Ref sig .tc := ⟨.hbm, 1321, rfl⟩
abbrev main_v831 : Ref sig .tc := ⟨.hbm, 1322, rfl⟩
abbrev main_v832 : Ref sig .tc := ⟨.hbm, 1323, rfl⟩
abbrev main_v833 : Ref sig .tc := ⟨.hbm, 1324, rfl⟩
abbrev main_v834 : Ref sig .tc := ⟨.hbm, 1325, rfl⟩
abbrev main_v835 : Ref sig .tc := ⟨.hbm, 1326, rfl⟩
abbrev main_v836 : Ref sig .tc := ⟨.hbm, 1327, rfl⟩
abbrev main_cst_98 : Ref sig .tc := ⟨.hbm, 1328, rfl⟩
abbrev main_v837 : Ref sig .tc := ⟨.hbm, 1329, rfl⟩
abbrev main_v838 : Ref sig .tc := ⟨.hbm, 1330, rfl⟩
abbrev main_v839 : Ref sig .tc := ⟨.hbm, 1331, rfl⟩
abbrev main_v840 : Ref sig .tc := ⟨.hbm, 1332, rfl⟩
abbrev main_cst_99 : Ref sig .tc := ⟨.hbm, 1333, rfl⟩
abbrev main_v841 : Ref sig .tc := ⟨.hbm, 1334, rfl⟩
abbrev main_v842 : Ref sig .tc := ⟨.hbm, 1335, rfl⟩
abbrev main_cst_100 : Ref sig .tc := ⟨.hbm, 1336, rfl⟩
abbrev main_v843 : Ref sig .tc := ⟨.hbm, 1337, rfl⟩
abbrev main_v844 : Ref sig .tc := ⟨.hbm, 1338, rfl⟩
abbrev main_v845 : Ref sig .tc := ⟨.hbm, 1339, rfl⟩
abbrev main_v846 : Ref sig .tc := ⟨.hbm, 1340, rfl⟩
abbrev main_v847 : Ref sig .tc := ⟨.hbm, 1341, rfl⟩
abbrev main_cst_101 : Ref sig .tc := ⟨.hbm, 1342, rfl⟩
abbrev main_v848 : Ref sig .tc := ⟨.hbm, 1343, rfl⟩
abbrev main_v849 : Ref sig .tc := ⟨.hbm, 1344, rfl⟩
abbrev main_cst_102 : Ref sig .tc := ⟨.hbm, 1345, rfl⟩
abbrev main_v850 : Ref sig .tc := ⟨.hbm, 1346, rfl⟩
abbrev main_v851 : Ref sig .tc := ⟨.hbm, 1347, rfl⟩
abbrev main_v852 : Ref sig .tc := ⟨.hbm, 1348, rfl⟩
abbrev main_v853 : Ref sig .tc := ⟨.hbm, 1349, rfl⟩
abbrev main_v854 : Ref sig .tc := ⟨.hbm, 1350, rfl⟩
abbrev main_v855 : Ref sig .tc := ⟨.hbm, 1351, rfl⟩
abbrev main_v856 : Ref sig .tc := ⟨.hbm, 1352, rfl⟩
abbrev main_v857 : Ref sig .tc := ⟨.hbm, 1353, rfl⟩
abbrev main_cst_103 : Ref sig .tc := ⟨.hbm, 1354, rfl⟩
abbrev main_v858 : Ref sig .tc := ⟨.hbm, 1355, rfl⟩
abbrev main_v859 : Ref sig .tc := ⟨.hbm, 1356, rfl⟩
abbrev main_cst_104 : Ref sig .tc := ⟨.hbm, 1357, rfl⟩
abbrev main_v860 : Ref sig .tc := ⟨.hbm, 1358, rfl⟩
abbrev main_v861 : Ref sig .tc := ⟨.hbm, 1359, rfl⟩
abbrev main_v862 : Ref sig .tc := ⟨.hbm, 1360, rfl⟩
abbrev main_v863 : Ref sig .tc := ⟨.hbm, 1361, rfl⟩
abbrev main_cst_105 : Ref sig .tc := ⟨.hbm, 1362, rfl⟩
abbrev main_v864 : Ref sig .tc := ⟨.hbm, 1363, rfl⟩
abbrev main_v865 : Ref sig .tc := ⟨.hbm, 1364, rfl⟩
abbrev main_v866 : Ref sig .tc := ⟨.hbm, 1365, rfl⟩
abbrev main_v867 : Ref sig .tc := ⟨.hbm, 1366, rfl⟩
abbrev main_v868 : Ref sig .tc := ⟨.hbm, 1367, rfl⟩
abbrev main_call62_cst : Ref sig .tc := ⟨.hbm, 1368, rfl⟩
abbrev main_call62_v0 : Ref sig .tc := ⟨.hbm, 1369, rfl⟩
abbrev main_v869 : Ref sig .tc := ⟨.hbm, 1370, rfl⟩
abbrev main_v870 : Ref sig .tc := ⟨.hbm, 1371, rfl⟩
abbrev main_v871 : Ref sig .tc := ⟨.hbm, 1372, rfl⟩
abbrev main_v872 : Ref sig .tc := ⟨.hbm, 1373, rfl⟩
abbrev main_v873 : Ref sig .tc := ⟨.hbm, 1374, rfl⟩
abbrev main_v874 : Ref sig .tc := ⟨.hbm, 1375, rfl⟩
abbrev main_v875 : Ref sig .tc := ⟨.hbm, 1376, rfl⟩
abbrev main_v876 : Ref sig .tc := ⟨.hbm, 1377, rfl⟩
abbrev main_v877 : Ref sig .tc := ⟨.hbm, 1378, rfl⟩
abbrev main_call63_cst : Ref sig .tc := ⟨.hbm, 1379, rfl⟩
abbrev main_call63_v0 : Ref sig .tc := ⟨.hbm, 1380, rfl⟩
abbrev main_v878 : Ref sig .tc := ⟨.hbm, 1381, rfl⟩
abbrev main_v879 : Ref sig .tc := ⟨.hbm, 1382, rfl⟩
abbrev main_v880 : Ref sig .tc := ⟨.hbm, 1383, rfl⟩
abbrev main_v881 : Ref sig .tc := ⟨.hbm, 1384, rfl⟩
abbrev main_v882 : Ref sig .tc := ⟨.hbm, 1385, rfl⟩
abbrev main_v883 : Ref sig .tc := ⟨.hbm, 1386, rfl⟩
abbrev main_v884 : Ref sig .tc := ⟨.hbm, 1387, rfl⟩
abbrev main_v885 : Ref sig .tc := ⟨.hbm, 1388, rfl⟩
abbrev main_v886 : Ref sig .tc := ⟨.hbm, 1389, rfl⟩
abbrev main_call64_cst : Ref sig .tc := ⟨.hbm, 1390, rfl⟩
abbrev main_call64_v0 : Ref sig .tc := ⟨.hbm, 1391, rfl⟩
abbrev main_v887 : Ref sig .tc := ⟨.hbm, 1392, rfl⟩
abbrev main_v888 : Ref sig .tc := ⟨.hbm, 1393, rfl⟩
abbrev main_v889 : Ref sig .tc := ⟨.hbm, 1394, rfl⟩
abbrev main_v890 : Ref sig .tc := ⟨.hbm, 1395, rfl⟩
abbrev main_v891 : Ref sig .tc := ⟨.hbm, 1396, rfl⟩
abbrev main_values_106 : Ref sig .tc := ⟨.hbm, 1397, rfl⟩
abbrev main_indices_107 : Ref sig .tc := ⟨.hbm, 1398, rfl⟩
abbrev main_v892 : Ref sig .tc := ⟨.hbm, 1399, rfl⟩
abbrev main_call65_cst : Ref sig .tc := ⟨.hbm, 1400, rfl⟩
abbrev main_call65_v0 : Ref sig .tc := ⟨.hbm, 1401, rfl⟩
abbrev main_call65_cst_0 : Ref sig .tc := ⟨.hbm, 1402, rfl⟩
abbrev main_call65_v1 : Ref sig .tc := ⟨.hbm, 1403, rfl⟩
abbrev main_call65_v2 : Ref sig .tc := ⟨.hbm, 1404, rfl⟩
abbrev main_call65_v3 : Ref sig .tc := ⟨.hbm, 1405, rfl⟩
abbrev main_call65_v4 : Ref sig .tc := ⟨.hbm, 1406, rfl⟩
abbrev main_call65_v5 : Ref sig .tc := ⟨.hbm, 1407, rfl⟩
abbrev main_call65_v6 : Ref sig .tc := ⟨.hbm, 1408, rfl⟩
abbrev main_call65_cst_1 : Ref sig .tc := ⟨.hbm, 1409, rfl⟩
abbrev main_call65_v7 : Ref sig .tc := ⟨.hbm, 1410, rfl⟩
abbrev main_call65_v8 : Ref sig .tc := ⟨.hbm, 1411, rfl⟩
abbrev main_call65_v9 : Ref sig .tc := ⟨.hbm, 1412, rfl⟩
abbrev main_call65_v10 : Ref sig .tc := ⟨.hbm, 1413, rfl⟩
abbrev main_v893 : Ref sig .tc := ⟨.hbm, 1414, rfl⟩
abbrev main_v894 : Ref sig .tc := ⟨.hbm, 1415, rfl⟩
abbrev main_call66_c : Ref sig .tc := ⟨.hbm, 1416, rfl⟩
abbrev main_call66_v0 : Ref sig .tc := ⟨.hbm, 1417, rfl⟩
abbrev main_call66_v1 : Ref sig .tc := ⟨.hbm, 1418, rfl⟩
abbrev main_call66_c_0 : Ref sig .tc := ⟨.hbm, 1419, rfl⟩
abbrev main_call66_v2 : Ref sig .tc := ⟨.hbm, 1420, rfl⟩
abbrev main_call66_v3 : Ref sig .tc := ⟨.hbm, 1421, rfl⟩
abbrev main_call66_v4 : Ref sig .tc := ⟨.hbm, 1422, rfl⟩
abbrev main_call66_v5 : Ref sig .tc := ⟨.hbm, 1423, rfl⟩
abbrev main_call66_c_1 : Ref sig .tc := ⟨.hbm, 1424, rfl⟩
abbrev main_call66_c_2 : Ref sig .tc := ⟨.hbm, 1425, rfl⟩
abbrev main_call66_v6 : Ref sig .tc := ⟨.hbm, 1426, rfl⟩
abbrev main_call66_v7 : Ref sig .tc := ⟨.hbm, 1427, rfl⟩
abbrev main_call66_v8 : Ref sig .tc := ⟨.hbm, 1428, rfl⟩
abbrev main_call66_v9 : Ref sig .tc := ⟨.hbm, 1429, rfl⟩
abbrev main_call66_v10 : Ref sig .tc := ⟨.hbm, 1430, rfl⟩
abbrev main_call66_v11 : Ref sig .tc := ⟨.hbm, 1431, rfl⟩
abbrev main_call66_c_3 : Ref sig .tc := ⟨.hbm, 1432, rfl⟩
abbrev main_call66_v12 : Ref sig .tc := ⟨.hbm, 1433, rfl⟩
abbrev main_call66_v13 : Ref sig .tc := ⟨.hbm, 1434, rfl⟩
abbrev main_call66_cst : Ref sig .tc := ⟨.hbm, 1435, rfl⟩
abbrev main_call66_v14 : Ref sig .tc := ⟨.hbm, 1436, rfl⟩
abbrev main_v895 : Ref sig .tc := ⟨.hbm, 1437, rfl⟩
abbrev main_v896 : Ref sig .tc := ⟨.hbm, 1438, rfl⟩
abbrev main_v897 : Ref sig .tc := ⟨.hbm, 1439, rfl⟩
abbrev main_cst_108 : Ref sig .tc := ⟨.hbm, 1440, rfl⟩
abbrev main_v898 : Ref sig .tc := ⟨.hbm, 1441, rfl⟩
abbrev main_cst_109 : Ref sig .tc := ⟨.hbm, 1442, rfl⟩
abbrev main_v899 : Ref sig .tc := ⟨.hbm, 1443, rfl⟩
abbrev main_cst_110 : Ref sig .tc := ⟨.hbm, 1444, rfl⟩
abbrev main_v900 : Ref sig .tc := ⟨.hbm, 1445, rfl⟩
abbrev main_v901 : Ref sig .tc := ⟨.hbm, 1446, rfl⟩
abbrev main_v902 : Ref sig .tc := ⟨.hbm, 1447, rfl⟩
abbrev main_v903 : Ref sig .tc := ⟨.hbm, 1448, rfl⟩
abbrev main_c_111 : Ref sig .tc := ⟨.hbm, 1449, rfl⟩
abbrev main_v904 : Ref sig .tc := ⟨.hbm, 1450, rfl⟩
abbrev main_v905 : Ref sig .tc := ⟨.hbm, 1451, rfl⟩
abbrev main_c_112 : Ref sig .tc := ⟨.hbm, 1452, rfl⟩
abbrev main_v906 : Ref sig .tc := ⟨.hbm, 1453, rfl⟩
abbrev main_v907 : Ref sig .tc := ⟨.hbm, 1454, rfl⟩
abbrev main_v908 : Ref sig .tc := ⟨.hbm, 1455, rfl⟩
abbrev main_v909 : Ref sig .tc := ⟨.hbm, 1456, rfl⟩
abbrev main_v910 : Ref sig .tc := ⟨.hbm, 1457, rfl⟩
abbrev main_v911 : Ref sig .tc := ⟨.hbm, 1458, rfl⟩
abbrev main_v912 : Ref sig .tc := ⟨.hbm, 1459, rfl⟩
abbrev main_v913 : Ref sig .tc := ⟨.hbm, 1460, rfl⟩
abbrev main_v914 : Ref sig .tc := ⟨.hbm, 1461, rfl⟩
abbrev main_v915 : Ref sig .tc := ⟨.hbm, 1462, rfl⟩
abbrev main_v916 : Ref sig .tc := ⟨.hbm, 1463, rfl⟩
abbrev main_call67_cst : Ref sig .tc := ⟨.hbm, 1464, rfl⟩
abbrev main_call67_v0 : Ref sig .tc := ⟨.hbm, 1465, rfl⟩
abbrev main_v917 : Ref sig .tc := ⟨.hbm, 1466, rfl⟩
abbrev main_v918 : Ref sig .tc := ⟨.hbm, 1467, rfl⟩
abbrev main_v919 : Ref sig .tc := ⟨.hbm, 1468, rfl⟩
abbrev main_v920 : Ref sig .tc := ⟨.hbm, 1469, rfl⟩
abbrev main_v921 : Ref sig .tc := ⟨.hbm, 1470, rfl⟩
abbrev main_v922 : Ref sig .tc := ⟨.hbm, 1471, rfl⟩
abbrev main_v923 : Ref sig .tc := ⟨.hbm, 1472, rfl⟩
abbrev main_v924 : Ref sig .tc := ⟨.hbm, 1473, rfl⟩
abbrev main_v925 : Ref sig .tc := ⟨.hbm, 1474, rfl⟩
abbrev main_call68_cst : Ref sig .tc := ⟨.hbm, 1475, rfl⟩
abbrev main_call68_v0 : Ref sig .tc := ⟨.hbm, 1476, rfl⟩
abbrev main_v926 : Ref sig .tc := ⟨.hbm, 1477, rfl⟩
abbrev main_v927 : Ref sig .tc := ⟨.hbm, 1478, rfl⟩
abbrev main_v928 : Ref sig .tc := ⟨.hbm, 1479, rfl⟩
abbrev main_v929 : Ref sig .tc := ⟨.hbm, 1480, rfl⟩
abbrev main_v930 : Ref sig .tc := ⟨.hbm, 1481, rfl⟩
abbrev main_v931 : Ref sig .tc := ⟨.hbm, 1482, rfl⟩
abbrev main_v932 : Ref sig .tc := ⟨.hbm, 1483, rfl⟩
abbrev main_v933 : Ref sig .tc := ⟨.hbm, 1484, rfl⟩
abbrev main_v934 : Ref sig .tc := ⟨.hbm, 1485, rfl⟩
abbrev main_call69_cst : Ref sig .tc := ⟨.hbm, 1486, rfl⟩
abbrev main_call69_v0 : Ref sig .tc := ⟨.hbm, 1487, rfl⟩
abbrev main_v935 : Ref sig .tc := ⟨.hbm, 1488, rfl⟩
abbrev main_v936 : Ref sig .tc := ⟨.hbm, 1489, rfl⟩
abbrev main_v937 : Ref sig .tc := ⟨.hbm, 1490, rfl⟩
abbrev main_v938 : Ref sig .tc := ⟨.hbm, 1491, rfl⟩
abbrev main_v939 : Ref sig .tc := ⟨.hbm, 1492, rfl⟩
abbrev main_cst_113 : Ref sig .tc := ⟨.hbm, 1493, rfl⟩
abbrev main_v940 : Ref sig .tc := ⟨.hbm, 1494, rfl⟩
abbrev main_v941 : Ref sig .tc := ⟨.hbm, 1495, rfl⟩
abbrev main_v942 : Ref sig .tc := ⟨.hbm, 1496, rfl⟩
abbrev main_c_114 : Ref sig .tc := ⟨.hbm, 1497, rfl⟩
abbrev main_v943 : Ref sig .tc := ⟨.hbm, 1498, rfl⟩
abbrev main_v944 : Ref sig .tc := ⟨.hbm, 1499, rfl⟩
abbrev main_c_115 : Ref sig .tc := ⟨.hbm, 1500, rfl⟩
abbrev main_v945 : Ref sig .tc := ⟨.hbm, 1501, rfl⟩
abbrev main_v946 : Ref sig .tc := ⟨.hbm, 1502, rfl⟩
abbrev main_v947 : Ref sig .tc := ⟨.hbm, 1503, rfl⟩
abbrev main_v948 : Ref sig .tc := ⟨.hbm, 1504, rfl⟩
abbrev main_v949 : Ref sig .tc := ⟨.hbm, 1505, rfl⟩
abbrev main_v950 : Ref sig .tc := ⟨.hbm, 1506, rfl⟩
abbrev main_v951 : Ref sig .tc := ⟨.hbm, 1507, rfl⟩
abbrev main_v952 : Ref sig .tc := ⟨.hbm, 1508, rfl⟩
abbrev main_v953 : Ref sig .tc := ⟨.hbm, 1509, rfl⟩
abbrev main_v954 : Ref sig .tc := ⟨.hbm, 1510, rfl⟩
abbrev main_call70_cst : Ref sig .tc := ⟨.hbm, 1511, rfl⟩
abbrev main_call70_v0 : Ref sig .tc := ⟨.hbm, 1512, rfl⟩
abbrev main_v955 : Ref sig .tc := ⟨.hbm, 1513, rfl⟩
abbrev main_v956 : Ref sig .tc := ⟨.hbm, 1514, rfl⟩
abbrev main_v957 : Ref sig .tc := ⟨.hbm, 1515, rfl⟩
abbrev main_v958 : Ref sig .tc := ⟨.hbm, 1516, rfl⟩
abbrev main_v959 : Ref sig .tc := ⟨.hbm, 1517, rfl⟩
abbrev main_v960 : Ref sig .tc := ⟨.hbm, 1518, rfl⟩
abbrev main_v961 : Ref sig .tc := ⟨.hbm, 1519, rfl⟩
abbrev main_v962 : Ref sig .tc := ⟨.hbm, 1520, rfl⟩
abbrev main_v963 : Ref sig .tc := ⟨.hbm, 1521, rfl⟩
abbrev main_call71_cst : Ref sig .tc := ⟨.hbm, 1522, rfl⟩
abbrev main_call71_v0 : Ref sig .tc := ⟨.hbm, 1523, rfl⟩
abbrev main_v964 : Ref sig .tc := ⟨.hbm, 1524, rfl⟩
abbrev main_v965 : Ref sig .tc := ⟨.hbm, 1525, rfl⟩
abbrev main_v966 : Ref sig .tc := ⟨.hbm, 1526, rfl⟩
abbrev main_v967 : Ref sig .tc := ⟨.hbm, 1527, rfl⟩
abbrev main_v968 : Ref sig .tc := ⟨.hbm, 1528, rfl⟩
abbrev main_v969 : Ref sig .tc := ⟨.hbm, 1529, rfl⟩
abbrev main_v970 : Ref sig .tc := ⟨.hbm, 1530, rfl⟩
abbrev main_v971 : Ref sig .tc := ⟨.hbm, 1531, rfl⟩
abbrev main_v972 : Ref sig .tc := ⟨.hbm, 1532, rfl⟩
abbrev main_call72_cst : Ref sig .tc := ⟨.hbm, 1533, rfl⟩
abbrev main_call72_v0 : Ref sig .tc := ⟨.hbm, 1534, rfl⟩
abbrev main_v973 : Ref sig .tc := ⟨.hbm, 1535, rfl⟩
abbrev main_v974 : Ref sig .tc := ⟨.hbm, 1536, rfl⟩
abbrev main_v975 : Ref sig .tc := ⟨.hbm, 1537, rfl⟩
abbrev main_v976 : Ref sig .tc := ⟨.hbm, 1538, rfl⟩
abbrev main_v977 : Ref sig .tc := ⟨.hbm, 1539, rfl⟩
abbrev main_cst_116 : Ref sig .tc := ⟨.hbm, 1540, rfl⟩
abbrev main_v978 : Ref sig .tc := ⟨.hbm, 1541, rfl⟩
abbrev main_cst_117 : Ref sig .tc := ⟨.hbm, 1542, rfl⟩
abbrev main_v979 : Ref sig .tc := ⟨.hbm, 1543, rfl⟩
abbrev main_v980 : Ref sig .tc := ⟨.hbm, 1544, rfl⟩
abbrev main_c_118 : Ref sig .tc := ⟨.hbm, 1545, rfl⟩
abbrev main_call73_cst : Ref sig .tc := ⟨.hbm, 1546, rfl⟩
abbrev main_call73_v0 : Ref sig .tc := ⟨.hbm, 1547, rfl⟩
abbrev main_call73_v1 : Ref sig .tc := ⟨.hbm, 1548, rfl⟩
abbrev main_call73_cst_0 : Ref sig .tc := ⟨.hbm, 1549, rfl⟩
abbrev main_call73_v2 : Ref sig .tc := ⟨.hbm, 1550, rfl⟩
abbrev main_call73_v3 : Ref sig .tc := ⟨.hbm, 1551, rfl⟩
abbrev main_call73_v4 : Ref sig .tc := ⟨.hbm, 1552, rfl⟩
abbrev main_call73_v5 : Ref sig .tc := ⟨.hbm, 1553, rfl⟩
abbrev main_call73_v6 : Ref sig .tc := ⟨.hbm, 1554, rfl⟩
abbrev main_call73_v7 : Ref sig .tc := ⟨.hbm, 1555, rfl⟩
abbrev main_call73_cst_1 : Ref sig .tc := ⟨.hbm, 1556, rfl⟩
abbrev main_call73_v8 : Ref sig .tc := ⟨.hbm, 1557, rfl⟩
abbrev main_call73_cst_2 : Ref sig .tc := ⟨.hbm, 1558, rfl⟩
abbrev main_call73_v9 : Ref sig .tc := ⟨.hbm, 1559, rfl⟩
abbrev main_call73_v10 : Ref sig .tc := ⟨.hbm, 1560, rfl⟩
abbrev main_call73_v11 : Ref sig .tc := ⟨.hbm, 1561, rfl⟩
abbrev main_call73_cst_3 : Ref sig .tc := ⟨.hbm, 1562, rfl⟩
abbrev main_call73_v12 : Ref sig .tc := ⟨.hbm, 1563, rfl⟩
abbrev main_call73_cst_4 : Ref sig .tc := ⟨.hbm, 1564, rfl⟩
abbrev main_call73_call0_v0 : Ref sig .tc := ⟨.hbm, 1565, rfl⟩
abbrev main_call73_call0_v1 : Ref sig .tc := ⟨.hbm, 1566, rfl⟩
abbrev main_v981 : Ref sig .tc := ⟨.hbm, 1567, rfl⟩
abbrev main_v982 : Ref sig .tc := ⟨.hbm, 1568, rfl⟩
abbrev main_v983 : Ref sig .tc := ⟨.hbm, 1569, rfl⟩
abbrev main_v984 : Ref sig .tc := ⟨.hbm, 1570, rfl⟩
abbrev main_cst_119 : Ref sig .tc := ⟨.hbm, 1571, rfl⟩
abbrev main_v985 : Ref sig .tc := ⟨.hbm, 1572, rfl⟩
abbrev main_v986 : Ref sig .tc := ⟨.hbm, 1573, rfl⟩
abbrev main_v987 : Ref sig .tc := ⟨.hbm, 1574, rfl⟩
abbrev main_v988 : Ref sig .tc := ⟨.hbm, 1575, rfl⟩
abbrev main_v989 : Ref sig .tc := ⟨.hbm, 1576, rfl⟩
abbrev main_v990 : Ref sig .tc := ⟨.hbm, 1577, rfl⟩
abbrev main_v991 : Ref sig .tc := ⟨.hbm, 1578, rfl⟩
abbrev main_v992 : Ref sig .tc := ⟨.hbm, 1579, rfl⟩
abbrev main_v993 : Ref sig .tc := ⟨.hbm, 1580, rfl⟩
abbrev main_v994 : Ref sig .tc := ⟨.hbm, 1581, rfl⟩
abbrev main_v995 : Ref sig .tc := ⟨.hbm, 1582, rfl⟩
abbrev main_v996 : Ref sig .tc := ⟨.hbm, 1583, rfl⟩
abbrev main_v997 : Ref sig .tc := ⟨.hbm, 1584, rfl⟩
abbrev main_v998 : Ref sig .tc := ⟨.hbm, 1585, rfl⟩
abbrev main_v999 : Ref sig .tc := ⟨.hbm, 1586, rfl⟩
abbrev main_v1000 : Ref sig .tc := ⟨.hbm, 1587, rfl⟩
abbrev main_v1001 : Ref sig .tc := ⟨.hbm, 1588, rfl⟩
abbrev main_v1002 : Ref sig .tc := ⟨.hbm, 1589, rfl⟩
abbrev main_v1003 : Ref sig .tc := ⟨.hbm, 1590, rfl⟩
abbrev main_v1004 : Ref sig .tc := ⟨.hbm, 1591, rfl⟩
abbrev main_v1005 : Ref sig .tc := ⟨.hbm, 1592, rfl⟩
abbrev main_cst_120 : Ref sig .tc := ⟨.hbm, 1593, rfl⟩
abbrev main_v1006 : Ref sig .tc := ⟨.hbm, 1594, rfl⟩
abbrev main_v1007 : Ref sig .tc := ⟨.hbm, 1595, rfl⟩
abbrev main_v1008 : Ref sig .tc := ⟨.hbm, 1596, rfl⟩
abbrev main_v1009 : Ref sig .tc := ⟨.hbm, 1597, rfl⟩
abbrev main_cst_121 : Ref sig .tc := ⟨.hbm, 1598, rfl⟩
abbrev main_v1010 : Ref sig .tc := ⟨.hbm, 1599, rfl⟩
abbrev main_v1011 : Ref sig .tc := ⟨.hbm, 1600, rfl⟩
abbrev main_cst_122 : Ref sig .tc := ⟨.hbm, 1601, rfl⟩
abbrev main_v1012 : Ref sig .tc := ⟨.hbm, 1602, rfl⟩
abbrev main_v1013 : Ref sig .tc := ⟨.hbm, 1603, rfl⟩
abbrev main_v1014 : Ref sig .tc := ⟨.hbm, 1604, rfl⟩
abbrev main_v1015 : Ref sig .tc := ⟨.hbm, 1605, rfl⟩
abbrev main_v1016 : Ref sig .tc := ⟨.hbm, 1606, rfl⟩
abbrev main_cst_123 : Ref sig .tc := ⟨.hbm, 1607, rfl⟩
abbrev main_v1017 : Ref sig .tc := ⟨.hbm, 1608, rfl⟩
abbrev main_v1018 : Ref sig .tc := ⟨.hbm, 1609, rfl⟩
abbrev main_cst_124 : Ref sig .tc := ⟨.hbm, 1610, rfl⟩
abbrev main_v1019 : Ref sig .tc := ⟨.hbm, 1611, rfl⟩
abbrev main_v1020 : Ref sig .tc := ⟨.hbm, 1612, rfl⟩
abbrev main_v1021 : Ref sig .tc := ⟨.hbm, 1613, rfl⟩
abbrev main_v1022 : Ref sig .tc := ⟨.hbm, 1614, rfl⟩
abbrev main_v1023 : Ref sig .tc := ⟨.hbm, 1615, rfl⟩
abbrev main_v1024 : Ref sig .tc := ⟨.hbm, 1616, rfl⟩
abbrev main_v1025 : Ref sig .tc := ⟨.hbm, 1617, rfl⟩
abbrev main_v1026 : Ref sig .tc := ⟨.hbm, 1618, rfl⟩
abbrev main_cst_125 : Ref sig .tc := ⟨.hbm, 1619, rfl⟩
abbrev main_v1027 : Ref sig .tc := ⟨.hbm, 1620, rfl⟩
abbrev main_v1028 : Ref sig .tc := ⟨.hbm, 1621, rfl⟩
abbrev main_cst_126 : Ref sig .tc := ⟨.hbm, 1622, rfl⟩
abbrev main_v1029 : Ref sig .tc := ⟨.hbm, 1623, rfl⟩
abbrev main_v1030 : Ref sig .tc := ⟨.hbm, 1624, rfl⟩
abbrev main_v1031 : Ref sig .tc := ⟨.hbm, 1625, rfl⟩
abbrev main_v1032 : Ref sig .tc := ⟨.hbm, 1626, rfl⟩
abbrev main_cst_127 : Ref sig .tc := ⟨.hbm, 1627, rfl⟩
abbrev main_v1033 : Ref sig .tc := ⟨.hbm, 1628, rfl⟩
abbrev main_v1034 : Ref sig .tc := ⟨.hbm, 1629, rfl⟩
abbrev main_v1035 : Ref sig .tc := ⟨.hbm, 1630, rfl⟩
abbrev main_v1036 : Ref sig .tc := ⟨.hbm, 1631, rfl⟩
abbrev main_v1037 : Ref sig .tc := ⟨.hbm, 1632, rfl⟩
abbrev main_call74_cst : Ref sig .tc := ⟨.hbm, 1633, rfl⟩
abbrev main_call74_v0 : Ref sig .tc := ⟨.hbm, 1634, rfl⟩
abbrev main_v1038 : Ref sig .tc := ⟨.hbm, 1635, rfl⟩
abbrev main_v1039 : Ref sig .tc := ⟨.hbm, 1636, rfl⟩
abbrev main_v1040 : Ref sig .tc := ⟨.hbm, 1637, rfl⟩
abbrev main_v1041 : Ref sig .tc := ⟨.hbm, 1638, rfl⟩
abbrev main_v1042 : Ref sig .tc := ⟨.hbm, 1639, rfl⟩
abbrev main_v1043 : Ref sig .tc := ⟨.hbm, 1640, rfl⟩
abbrev main_v1044 : Ref sig .tc := ⟨.hbm, 1641, rfl⟩
abbrev main_v1045 : Ref sig .tc := ⟨.hbm, 1642, rfl⟩
abbrev main_v1046 : Ref sig .tc := ⟨.hbm, 1643, rfl⟩
abbrev main_call75_cst : Ref sig .tc := ⟨.hbm, 1644, rfl⟩
abbrev main_call75_v0 : Ref sig .tc := ⟨.hbm, 1645, rfl⟩
abbrev main_v1047 : Ref sig .tc := ⟨.hbm, 1646, rfl⟩
abbrev main_v1048 : Ref sig .tc := ⟨.hbm, 1647, rfl⟩
abbrev main_v1049 : Ref sig .tc := ⟨.hbm, 1648, rfl⟩
abbrev main_v1050 : Ref sig .tc := ⟨.hbm, 1649, rfl⟩
abbrev main_v1051 : Ref sig .tc := ⟨.hbm, 1650, rfl⟩
abbrev main_v1052 : Ref sig .tc := ⟨.hbm, 1651, rfl⟩
abbrev main_v1053 : Ref sig .tc := ⟨.hbm, 1652, rfl⟩
abbrev main_v1054 : Ref sig .tc := ⟨.hbm, 1653, rfl⟩
abbrev main_v1055 : Ref sig .tc := ⟨.hbm, 1654, rfl⟩
abbrev main_call76_cst : Ref sig .tc := ⟨.hbm, 1655, rfl⟩
abbrev main_call76_v0 : Ref sig .tc := ⟨.hbm, 1656, rfl⟩
abbrev main_v1056 : Ref sig .tc := ⟨.hbm, 1657, rfl⟩
abbrev main_v1057 : Ref sig .tc := ⟨.hbm, 1658, rfl⟩
abbrev main_v1058 : Ref sig .tc := ⟨.hbm, 1659, rfl⟩
abbrev main_v1059 : Ref sig .tc := ⟨.hbm, 1660, rfl⟩
abbrev main_v1060 : Ref sig .tc := ⟨.hbm, 1661, rfl⟩
abbrev main_values_128 : Ref sig .tc := ⟨.hbm, 1662, rfl⟩
abbrev main_indices_129 : Ref sig .tc := ⟨.hbm, 1663, rfl⟩
abbrev main_v1061 : Ref sig .tc := ⟨.hbm, 1664, rfl⟩
abbrev main_call77_cst : Ref sig .tc := ⟨.hbm, 1665, rfl⟩
abbrev main_call77_v0 : Ref sig .tc := ⟨.hbm, 1666, rfl⟩
abbrev main_call77_cst_0 : Ref sig .tc := ⟨.hbm, 1667, rfl⟩
abbrev main_call77_v1 : Ref sig .tc := ⟨.hbm, 1668, rfl⟩
abbrev main_call77_v2 : Ref sig .tc := ⟨.hbm, 1669, rfl⟩
abbrev main_call77_v3 : Ref sig .tc := ⟨.hbm, 1670, rfl⟩
abbrev main_call77_v4 : Ref sig .tc := ⟨.hbm, 1671, rfl⟩
abbrev main_call77_v5 : Ref sig .tc := ⟨.hbm, 1672, rfl⟩
abbrev main_call77_v6 : Ref sig .tc := ⟨.hbm, 1673, rfl⟩
abbrev main_call77_cst_1 : Ref sig .tc := ⟨.hbm, 1674, rfl⟩
abbrev main_call77_v7 : Ref sig .tc := ⟨.hbm, 1675, rfl⟩
abbrev main_call77_v8 : Ref sig .tc := ⟨.hbm, 1676, rfl⟩
abbrev main_call77_v9 : Ref sig .tc := ⟨.hbm, 1677, rfl⟩
abbrev main_call77_v10 : Ref sig .tc := ⟨.hbm, 1678, rfl⟩
abbrev main_v1062 : Ref sig .tc := ⟨.hbm, 1679, rfl⟩
abbrev main_v1063 : Ref sig .tc := ⟨.hbm, 1680, rfl⟩
abbrev main_call78_c : Ref sig .tc := ⟨.hbm, 1681, rfl⟩
abbrev main_call78_v0 : Ref sig .tc := ⟨.hbm, 1682, rfl⟩
abbrev main_call78_v1 : Ref sig .tc := ⟨.hbm, 1683, rfl⟩
abbrev main_call78_c_0 : Ref sig .tc := ⟨.hbm, 1684, rfl⟩
abbrev main_call78_v2 : Ref sig .tc := ⟨.hbm, 1685, rfl⟩
abbrev main_call78_v3 : Ref sig .tc := ⟨.hbm, 1686, rfl⟩
abbrev main_call78_v4 : Ref sig .tc := ⟨.hbm, 1687, rfl⟩
abbrev main_call78_v5 : Ref sig .tc := ⟨.hbm, 1688, rfl⟩
abbrev main_call78_c_1 : Ref sig .tc := ⟨.hbm, 1689, rfl⟩
abbrev main_call78_c_2 : Ref sig .tc := ⟨.hbm, 1690, rfl⟩
abbrev main_call78_v6 : Ref sig .tc := ⟨.hbm, 1691, rfl⟩
abbrev main_call78_v7 : Ref sig .tc := ⟨.hbm, 1692, rfl⟩
abbrev main_call78_v8 : Ref sig .tc := ⟨.hbm, 1693, rfl⟩
abbrev main_call78_v9 : Ref sig .tc := ⟨.hbm, 1694, rfl⟩
abbrev main_call78_v10 : Ref sig .tc := ⟨.hbm, 1695, rfl⟩
abbrev main_call78_v11 : Ref sig .tc := ⟨.hbm, 1696, rfl⟩
abbrev main_call78_c_3 : Ref sig .tc := ⟨.hbm, 1697, rfl⟩
abbrev main_call78_v12 : Ref sig .tc := ⟨.hbm, 1698, rfl⟩
abbrev main_call78_v13 : Ref sig .tc := ⟨.hbm, 1699, rfl⟩
abbrev main_call78_cst : Ref sig .tc := ⟨.hbm, 1700, rfl⟩
abbrev main_call78_v14 : Ref sig .tc := ⟨.hbm, 1701, rfl⟩
abbrev main_v1064 : Ref sig .tc := ⟨.hbm, 1702, rfl⟩
abbrev main_v1065 : Ref sig .tc := ⟨.hbm, 1703, rfl⟩
abbrev main_v1066 : Ref sig .tc := ⟨.hbm, 1704, rfl⟩
abbrev main_cst_130 : Ref sig .tc := ⟨.hbm, 1705, rfl⟩
abbrev main_v1067 : Ref sig .tc := ⟨.hbm, 1706, rfl⟩
abbrev main_cst_131 : Ref sig .tc := ⟨.hbm, 1707, rfl⟩
abbrev main_v1068 : Ref sig .tc := ⟨.hbm, 1708, rfl⟩
abbrev main_cst_132 : Ref sig .tc := ⟨.hbm, 1709, rfl⟩
abbrev main_v1069 : Ref sig .tc := ⟨.hbm, 1710, rfl⟩
abbrev main_v1070 : Ref sig .tc := ⟨.hbm, 1711, rfl⟩
abbrev main_v1071 : Ref sig .tc := ⟨.hbm, 1712, rfl⟩
abbrev main_v1072 : Ref sig .tc := ⟨.hbm, 1713, rfl⟩
abbrev main_c_133 : Ref sig .tc := ⟨.hbm, 1714, rfl⟩
abbrev main_v1073 : Ref sig .tc := ⟨.hbm, 1715, rfl⟩
abbrev main_v1074 : Ref sig .tc := ⟨.hbm, 1716, rfl⟩
abbrev main_c_134 : Ref sig .tc := ⟨.hbm, 1717, rfl⟩
abbrev main_v1075 : Ref sig .tc := ⟨.hbm, 1718, rfl⟩
abbrev main_v1076 : Ref sig .tc := ⟨.hbm, 1719, rfl⟩
abbrev main_v1077 : Ref sig .tc := ⟨.hbm, 1720, rfl⟩
abbrev main_v1078 : Ref sig .tc := ⟨.hbm, 1721, rfl⟩
abbrev main_v1079 : Ref sig .tc := ⟨.hbm, 1722, rfl⟩
abbrev main_v1080 : Ref sig .tc := ⟨.hbm, 1723, rfl⟩
abbrev main_v1081 : Ref sig .tc := ⟨.hbm, 1724, rfl⟩
abbrev main_v1082 : Ref sig .tc := ⟨.hbm, 1725, rfl⟩
abbrev main_v1083 : Ref sig .tc := ⟨.hbm, 1726, rfl⟩
abbrev main_v1084 : Ref sig .tc := ⟨.hbm, 1727, rfl⟩
abbrev main_v1085 : Ref sig .tc := ⟨.hbm, 1728, rfl⟩
abbrev main_call79_cst : Ref sig .tc := ⟨.hbm, 1729, rfl⟩
abbrev main_call79_v0 : Ref sig .tc := ⟨.hbm, 1730, rfl⟩
abbrev main_v1086 : Ref sig .tc := ⟨.hbm, 1731, rfl⟩
abbrev main_v1087 : Ref sig .tc := ⟨.hbm, 1732, rfl⟩
abbrev main_v1088 : Ref sig .tc := ⟨.hbm, 1733, rfl⟩
abbrev main_v1089 : Ref sig .tc := ⟨.hbm, 1734, rfl⟩
abbrev main_v1090 : Ref sig .tc := ⟨.hbm, 1735, rfl⟩
abbrev main_v1091 : Ref sig .tc := ⟨.hbm, 1736, rfl⟩
abbrev main_v1092 : Ref sig .tc := ⟨.hbm, 1737, rfl⟩
abbrev main_v1093 : Ref sig .tc := ⟨.hbm, 1738, rfl⟩
abbrev main_v1094 : Ref sig .tc := ⟨.hbm, 1739, rfl⟩
abbrev main_call80_cst : Ref sig .tc := ⟨.hbm, 1740, rfl⟩
abbrev main_call80_v0 : Ref sig .tc := ⟨.hbm, 1741, rfl⟩
abbrev main_v1095 : Ref sig .tc := ⟨.hbm, 1742, rfl⟩
abbrev main_v1096 : Ref sig .tc := ⟨.hbm, 1743, rfl⟩
abbrev main_v1097 : Ref sig .tc := ⟨.hbm, 1744, rfl⟩
abbrev main_v1098 : Ref sig .tc := ⟨.hbm, 1745, rfl⟩
abbrev main_v1099 : Ref sig .tc := ⟨.hbm, 1746, rfl⟩
abbrev main_v1100 : Ref sig .tc := ⟨.hbm, 1747, rfl⟩
abbrev main_v1101 : Ref sig .tc := ⟨.hbm, 1748, rfl⟩
abbrev main_v1102 : Ref sig .tc := ⟨.hbm, 1749, rfl⟩
abbrev main_v1103 : Ref sig .tc := ⟨.hbm, 1750, rfl⟩
abbrev main_call81_cst : Ref sig .tc := ⟨.hbm, 1751, rfl⟩
abbrev main_call81_v0 : Ref sig .tc := ⟨.hbm, 1752, rfl⟩
abbrev main_v1104 : Ref sig .tc := ⟨.hbm, 1753, rfl⟩
abbrev main_v1105 : Ref sig .tc := ⟨.hbm, 1754, rfl⟩
abbrev main_v1106 : Ref sig .tc := ⟨.hbm, 1755, rfl⟩
abbrev main_v1107 : Ref sig .tc := ⟨.hbm, 1756, rfl⟩
abbrev main_v1108 : Ref sig .tc := ⟨.hbm, 1757, rfl⟩
abbrev main_cst_135 : Ref sig .tc := ⟨.hbm, 1758, rfl⟩
abbrev main_v1109 : Ref sig .tc := ⟨.hbm, 1759, rfl⟩
abbrev main_v1110 : Ref sig .tc := ⟨.hbm, 1760, rfl⟩
abbrev main_v1111 : Ref sig .tc := ⟨.hbm, 1761, rfl⟩
abbrev main_c_136 : Ref sig .tc := ⟨.hbm, 1762, rfl⟩
abbrev main_v1112 : Ref sig .tc := ⟨.hbm, 1763, rfl⟩
abbrev main_v1113 : Ref sig .tc := ⟨.hbm, 1764, rfl⟩
abbrev main_c_137 : Ref sig .tc := ⟨.hbm, 1765, rfl⟩
abbrev main_v1114 : Ref sig .tc := ⟨.hbm, 1766, rfl⟩
abbrev main_v1115 : Ref sig .tc := ⟨.hbm, 1767, rfl⟩
abbrev main_v1116 : Ref sig .tc := ⟨.hbm, 1768, rfl⟩
abbrev main_v1117 : Ref sig .tc := ⟨.hbm, 1769, rfl⟩
abbrev main_v1118 : Ref sig .tc := ⟨.hbm, 1770, rfl⟩
abbrev main_v1119 : Ref sig .tc := ⟨.hbm, 1771, rfl⟩
abbrev main_v1120 : Ref sig .tc := ⟨.hbm, 1772, rfl⟩
abbrev main_v1121 : Ref sig .tc := ⟨.hbm, 1773, rfl⟩
abbrev main_v1122 : Ref sig .tc := ⟨.hbm, 1774, rfl⟩
abbrev main_v1123 : Ref sig .tc := ⟨.hbm, 1775, rfl⟩
abbrev main_call82_cst : Ref sig .tc := ⟨.hbm, 1776, rfl⟩
abbrev main_call82_v0 : Ref sig .tc := ⟨.hbm, 1777, rfl⟩
abbrev main_v1124 : Ref sig .tc := ⟨.hbm, 1778, rfl⟩
abbrev main_v1125 : Ref sig .tc := ⟨.hbm, 1779, rfl⟩
abbrev main_v1126 : Ref sig .tc := ⟨.hbm, 1780, rfl⟩
abbrev main_v1127 : Ref sig .tc := ⟨.hbm, 1781, rfl⟩
abbrev main_v1128 : Ref sig .tc := ⟨.hbm, 1782, rfl⟩
abbrev main_v1129 : Ref sig .tc := ⟨.hbm, 1783, rfl⟩
abbrev main_v1130 : Ref sig .tc := ⟨.hbm, 1784, rfl⟩
abbrev main_v1131 : Ref sig .tc := ⟨.hbm, 1785, rfl⟩
abbrev main_v1132 : Ref sig .tc := ⟨.hbm, 1786, rfl⟩
abbrev main_call83_cst : Ref sig .tc := ⟨.hbm, 1787, rfl⟩
abbrev main_call83_v0 : Ref sig .tc := ⟨.hbm, 1788, rfl⟩
abbrev main_v1133 : Ref sig .tc := ⟨.hbm, 1789, rfl⟩
abbrev main_v1134 : Ref sig .tc := ⟨.hbm, 1790, rfl⟩
abbrev main_v1135 : Ref sig .tc := ⟨.hbm, 1791, rfl⟩
abbrev main_v1136 : Ref sig .tc := ⟨.hbm, 1792, rfl⟩
abbrev main_v1137 : Ref sig .tc := ⟨.hbm, 1793, rfl⟩
abbrev main_v1138 : Ref sig .tc := ⟨.hbm, 1794, rfl⟩
abbrev main_v1139 : Ref sig .tc := ⟨.hbm, 1795, rfl⟩
abbrev main_v1140 : Ref sig .tc := ⟨.hbm, 1796, rfl⟩
abbrev main_v1141 : Ref sig .tc := ⟨.hbm, 1797, rfl⟩
abbrev main_call84_cst : Ref sig .tc := ⟨.hbm, 1798, rfl⟩
abbrev main_call84_v0 : Ref sig .tc := ⟨.hbm, 1799, rfl⟩
abbrev main_v1142 : Ref sig .tc := ⟨.hbm, 1800, rfl⟩
abbrev main_v1143 : Ref sig .tc := ⟨.hbm, 1801, rfl⟩
abbrev main_v1144 : Ref sig .tc := ⟨.hbm, 1802, rfl⟩
abbrev main_v1145 : Ref sig .tc := ⟨.hbm, 1803, rfl⟩
abbrev main_v1146 : Ref sig .tc := ⟨.hbm, 1804, rfl⟩
abbrev main_cst_138 : Ref sig .tc := ⟨.hbm, 1805, rfl⟩
abbrev main_v1147 : Ref sig .tc := ⟨.hbm, 1806, rfl⟩
abbrev main_cst_139 : Ref sig .tc := ⟨.hbm, 1807, rfl⟩
abbrev main_v1148 : Ref sig .tc := ⟨.hbm, 1808, rfl⟩
abbrev main_v1149 : Ref sig .tc := ⟨.hbm, 1809, rfl⟩
abbrev main_c_140 : Ref sig .tc := ⟨.hbm, 1810, rfl⟩
abbrev main_call85_cst : Ref sig .tc := ⟨.hbm, 1811, rfl⟩
abbrev main_call85_v0 : Ref sig .tc := ⟨.hbm, 1812, rfl⟩
abbrev main_call85_v1 : Ref sig .tc := ⟨.hbm, 1813, rfl⟩
abbrev main_call85_cst_0 : Ref sig .tc := ⟨.hbm, 1814, rfl⟩
abbrev main_call85_v2 : Ref sig .tc := ⟨.hbm, 1815, rfl⟩
abbrev main_call85_v3 : Ref sig .tc := ⟨.hbm, 1816, rfl⟩
abbrev main_call85_v4 : Ref sig .tc := ⟨.hbm, 1817, rfl⟩
abbrev main_call85_v5 : Ref sig .tc := ⟨.hbm, 1818, rfl⟩
abbrev main_call85_v6 : Ref sig .tc := ⟨.hbm, 1819, rfl⟩
abbrev main_call85_v7 : Ref sig .tc := ⟨.hbm, 1820, rfl⟩
abbrev main_call85_cst_1 : Ref sig .tc := ⟨.hbm, 1821, rfl⟩
abbrev main_call85_v8 : Ref sig .tc := ⟨.hbm, 1822, rfl⟩
abbrev main_call85_cst_2 : Ref sig .tc := ⟨.hbm, 1823, rfl⟩
abbrev main_call85_v9 : Ref sig .tc := ⟨.hbm, 1824, rfl⟩
abbrev main_call85_v10 : Ref sig .tc := ⟨.hbm, 1825, rfl⟩
abbrev main_call85_v11 : Ref sig .tc := ⟨.hbm, 1826, rfl⟩
abbrev main_call85_cst_3 : Ref sig .tc := ⟨.hbm, 1827, rfl⟩
abbrev main_call85_v12 : Ref sig .tc := ⟨.hbm, 1828, rfl⟩
abbrev main_call85_cst_4 : Ref sig .tc := ⟨.hbm, 1829, rfl⟩
abbrev main_call85_call0_v0 : Ref sig .tc := ⟨.hbm, 1830, rfl⟩
abbrev main_call85_call0_v1 : Ref sig .tc := ⟨.hbm, 1831, rfl⟩
abbrev main_v1150 : Ref sig .tc := ⟨.hbm, 1832, rfl⟩
abbrev main_v1151 : Ref sig .tc := ⟨.hbm, 1833, rfl⟩
abbrev main_v1152 : Ref sig .tc := ⟨.hbm, 1834, rfl⟩
abbrev main_v1153 : Ref sig .tc := ⟨.hbm, 1835, rfl⟩
abbrev main_cst_141 : Ref sig .tc := ⟨.hbm, 1836, rfl⟩
abbrev main_v1154 : Ref sig .tc := ⟨.hbm, 1837, rfl⟩
abbrev main_v1155 : Ref sig .tc := ⟨.hbm, 1838, rfl⟩
abbrev main_v1156 : Ref sig .tc := ⟨.hbm, 1839, rfl⟩
abbrev main_v1157 : Ref sig .tc := ⟨.hbm, 1840, rfl⟩
abbrev main_v1158 : Ref sig .tc := ⟨.hbm, 1841, rfl⟩
abbrev main_v1159 : Ref sig .tc := ⟨.hbm, 1842, rfl⟩
abbrev main_v1160 : Ref sig .tc := ⟨.hbm, 1843, rfl⟩
abbrev main_v1161 : Ref sig .tc := ⟨.hbm, 1844, rfl⟩
abbrev main_v1162 : Ref sig .tc := ⟨.hbm, 1845, rfl⟩
abbrev main_v1163 : Ref sig .tc := ⟨.hbm, 1846, rfl⟩
abbrev main_v1164 : Ref sig .tc := ⟨.hbm, 1847, rfl⟩
abbrev main_v1165 : Ref sig .tc := ⟨.hbm, 1848, rfl⟩
abbrev main_v1166 : Ref sig .tc := ⟨.hbm, 1849, rfl⟩
abbrev main_v1167 : Ref sig .tc := ⟨.hbm, 1850, rfl⟩
abbrev main_v1168 : Ref sig .tc := ⟨.hbm, 1851, rfl⟩
abbrev main_v1169 : Ref sig .tc := ⟨.hbm, 1852, rfl⟩
abbrev main_v1170 : Ref sig .tc := ⟨.hbm, 1853, rfl⟩
abbrev main_v1171 : Ref sig .tc := ⟨.hbm, 1854, rfl⟩
abbrev main_v1172 : Ref sig .tc := ⟨.hbm, 1855, rfl⟩
abbrev main_v1173 : Ref sig .tc := ⟨.hbm, 1856, rfl⟩
abbrev main_v1174 : Ref sig .tc := ⟨.hbm, 1857, rfl⟩
abbrev main_cst_142 : Ref sig .tc := ⟨.hbm, 1858, rfl⟩
abbrev main_v1175 : Ref sig .tc := ⟨.hbm, 1859, rfl⟩
abbrev main_v1176 : Ref sig .tc := ⟨.hbm, 1860, rfl⟩
abbrev main_v1177 : Ref sig .tc := ⟨.hbm, 1861, rfl⟩
abbrev main_v1178 : Ref sig .tc := ⟨.hbm, 1862, rfl⟩
abbrev main_cst_143 : Ref sig .tc := ⟨.hbm, 1863, rfl⟩
abbrev main_v1179 : Ref sig .tc := ⟨.hbm, 1864, rfl⟩
abbrev main_v1180 : Ref sig .tc := ⟨.hbm, 1865, rfl⟩
abbrev main_cst_144 : Ref sig .tc := ⟨.hbm, 1866, rfl⟩
abbrev main_v1181 : Ref sig .tc := ⟨.hbm, 1867, rfl⟩
abbrev main_v1182 : Ref sig .tc := ⟨.hbm, 1868, rfl⟩
abbrev main_v1183 : Ref sig .tc := ⟨.hbm, 1869, rfl⟩
abbrev main_v1184 : Ref sig .tc := ⟨.hbm, 1870, rfl⟩
abbrev main_v1185 : Ref sig .tc := ⟨.hbm, 1871, rfl⟩
abbrev main_cst_145 : Ref sig .tc := ⟨.hbm, 1872, rfl⟩
abbrev main_v1186 : Ref sig .tc := ⟨.hbm, 1873, rfl⟩
abbrev main_v1187 : Ref sig .tc := ⟨.hbm, 1874, rfl⟩
abbrev main_cst_146 : Ref sig .tc := ⟨.hbm, 1875, rfl⟩
abbrev main_v1188 : Ref sig .tc := ⟨.hbm, 1876, rfl⟩
abbrev main_v1189 : Ref sig .tc := ⟨.hbm, 1877, rfl⟩
abbrev main_v1190 : Ref sig .tc := ⟨.hbm, 1878, rfl⟩
abbrev main_v1191 : Ref sig .tc := ⟨.hbm, 1879, rfl⟩
abbrev main_v1192 : Ref sig .tc := ⟨.hbm, 1880, rfl⟩
abbrev main_v1193 : Ref sig .tc := ⟨.hbm, 1881, rfl⟩
abbrev main_v1194 : Ref sig .tc := ⟨.hbm, 1882, rfl⟩
abbrev main_v1195 : Ref sig .tc := ⟨.hbm, 1883, rfl⟩
abbrev main_cst_147 : Ref sig .tc := ⟨.hbm, 1884, rfl⟩
abbrev main_v1196 : Ref sig .tc := ⟨.hbm, 1885, rfl⟩
abbrev main_v1197 : Ref sig .tc := ⟨.hbm, 1886, rfl⟩
abbrev main_cst_148 : Ref sig .tc := ⟨.hbm, 1887, rfl⟩
abbrev main_v1198 : Ref sig .tc := ⟨.hbm, 1888, rfl⟩
abbrev main_v1199 : Ref sig .tc := ⟨.hbm, 1889, rfl⟩
abbrev main_v1200 : Ref sig .tc := ⟨.hbm, 1890, rfl⟩
abbrev main_v1201 : Ref sig .tc := ⟨.hbm, 1891, rfl⟩
abbrev main_cst_149 : Ref sig .tc := ⟨.hbm, 1892, rfl⟩
abbrev main_v1202 : Ref sig .tc := ⟨.hbm, 1893, rfl⟩
abbrev main_v1203 : Ref sig .tc := ⟨.hbm, 1894, rfl⟩
abbrev main_v1204 : Ref sig .tc := ⟨.hbm, 1895, rfl⟩
abbrev main_v1205 : Ref sig .tc := ⟨.hbm, 1896, rfl⟩
abbrev main_v1206 : Ref sig .tc := ⟨.hbm, 1897, rfl⟩
abbrev main_call86_cst : Ref sig .tc := ⟨.hbm, 1898, rfl⟩
abbrev main_call86_v0 : Ref sig .tc := ⟨.hbm, 1899, rfl⟩
abbrev main_v1207 : Ref sig .tc := ⟨.hbm, 1900, rfl⟩
abbrev main_v1208 : Ref sig .tc := ⟨.hbm, 1901, rfl⟩
abbrev main_v1209 : Ref sig .tc := ⟨.hbm, 1902, rfl⟩
abbrev main_v1210 : Ref sig .tc := ⟨.hbm, 1903, rfl⟩
abbrev main_v1211 : Ref sig .tc := ⟨.hbm, 1904, rfl⟩
abbrev main_v1212 : Ref sig .tc := ⟨.hbm, 1905, rfl⟩
abbrev main_v1213 : Ref sig .tc := ⟨.hbm, 1906, rfl⟩
abbrev main_v1214 : Ref sig .tc := ⟨.hbm, 1907, rfl⟩
abbrev main_v1215 : Ref sig .tc := ⟨.hbm, 1908, rfl⟩
abbrev main_call87_cst : Ref sig .tc := ⟨.hbm, 1909, rfl⟩
abbrev main_call87_v0 : Ref sig .tc := ⟨.hbm, 1910, rfl⟩
abbrev main_v1216 : Ref sig .tc := ⟨.hbm, 1911, rfl⟩
abbrev main_v1217 : Ref sig .tc := ⟨.hbm, 1912, rfl⟩
abbrev main_v1218 : Ref sig .tc := ⟨.hbm, 1913, rfl⟩
abbrev main_v1219 : Ref sig .tc := ⟨.hbm, 1914, rfl⟩
abbrev main_v1220 : Ref sig .tc := ⟨.hbm, 1915, rfl⟩
abbrev main_v1221 : Ref sig .tc := ⟨.hbm, 1916, rfl⟩
abbrev main_v1222 : Ref sig .tc := ⟨.hbm, 1917, rfl⟩
abbrev main_v1223 : Ref sig .tc := ⟨.hbm, 1918, rfl⟩
abbrev main_v1224 : Ref sig .tc := ⟨.hbm, 1919, rfl⟩
abbrev main_call88_cst : Ref sig .tc := ⟨.hbm, 1920, rfl⟩
abbrev main_call88_v0 : Ref sig .tc := ⟨.hbm, 1921, rfl⟩
abbrev main_v1225 : Ref sig .tc := ⟨.hbm, 1922, rfl⟩
abbrev main_v1226 : Ref sig .tc := ⟨.hbm, 1923, rfl⟩
abbrev main_v1227 : Ref sig .tc := ⟨.hbm, 1924, rfl⟩
abbrev main_v1228 : Ref sig .tc := ⟨.hbm, 1925, rfl⟩
abbrev main_v1229 : Ref sig .tc := ⟨.hbm, 1926, rfl⟩
abbrev main_values_150 : Ref sig .tc := ⟨.hbm, 1927, rfl⟩
abbrev main_indices_151 : Ref sig .tc := ⟨.hbm, 1928, rfl⟩
abbrev main_v1230 : Ref sig .tc := ⟨.hbm, 1929, rfl⟩
abbrev main_call89_cst : Ref sig .tc := ⟨.hbm, 1930, rfl⟩
abbrev main_call89_v0 : Ref sig .tc := ⟨.hbm, 1931, rfl⟩
abbrev main_call89_cst_0 : Ref sig .tc := ⟨.hbm, 1932, rfl⟩
abbrev main_call89_v1 : Ref sig .tc := ⟨.hbm, 1933, rfl⟩
abbrev main_call89_v2 : Ref sig .tc := ⟨.hbm, 1934, rfl⟩
abbrev main_call89_v3 : Ref sig .tc := ⟨.hbm, 1935, rfl⟩
abbrev main_call89_v4 : Ref sig .tc := ⟨.hbm, 1936, rfl⟩
abbrev main_call89_v5 : Ref sig .tc := ⟨.hbm, 1937, rfl⟩
abbrev main_call89_v6 : Ref sig .tc := ⟨.hbm, 1938, rfl⟩
abbrev main_call89_cst_1 : Ref sig .tc := ⟨.hbm, 1939, rfl⟩
abbrev main_call89_v7 : Ref sig .tc := ⟨.hbm, 1940, rfl⟩
abbrev main_call89_v8 : Ref sig .tc := ⟨.hbm, 1941, rfl⟩
abbrev main_call89_v9 : Ref sig .tc := ⟨.hbm, 1942, rfl⟩
abbrev main_call89_v10 : Ref sig .tc := ⟨.hbm, 1943, rfl⟩
abbrev main_v1231 : Ref sig .tc := ⟨.hbm, 1944, rfl⟩
abbrev main_v1232 : Ref sig .tc := ⟨.hbm, 1945, rfl⟩
abbrev main_call90_c : Ref sig .tc := ⟨.hbm, 1946, rfl⟩
abbrev main_call90_v0 : Ref sig .tc := ⟨.hbm, 1947, rfl⟩
abbrev main_call90_v1 : Ref sig .tc := ⟨.hbm, 1948, rfl⟩
abbrev main_call90_c_0 : Ref sig .tc := ⟨.hbm, 1949, rfl⟩
abbrev main_call90_v2 : Ref sig .tc := ⟨.hbm, 1950, rfl⟩
abbrev main_call90_v3 : Ref sig .tc := ⟨.hbm, 1951, rfl⟩
abbrev main_call90_v4 : Ref sig .tc := ⟨.hbm, 1952, rfl⟩
abbrev main_call90_v5 : Ref sig .tc := ⟨.hbm, 1953, rfl⟩
abbrev main_call90_c_1 : Ref sig .tc := ⟨.hbm, 1954, rfl⟩
abbrev main_call90_c_2 : Ref sig .tc := ⟨.hbm, 1955, rfl⟩
abbrev main_call90_v6 : Ref sig .tc := ⟨.hbm, 1956, rfl⟩
abbrev main_call90_v7 : Ref sig .tc := ⟨.hbm, 1957, rfl⟩
abbrev main_call90_v8 : Ref sig .tc := ⟨.hbm, 1958, rfl⟩
abbrev main_call90_v9 : Ref sig .tc := ⟨.hbm, 1959, rfl⟩
abbrev main_call90_v10 : Ref sig .tc := ⟨.hbm, 1960, rfl⟩
abbrev main_call90_v11 : Ref sig .tc := ⟨.hbm, 1961, rfl⟩
abbrev main_call90_c_3 : Ref sig .tc := ⟨.hbm, 1962, rfl⟩
abbrev main_call90_v12 : Ref sig .tc := ⟨.hbm, 1963, rfl⟩
abbrev main_call90_v13 : Ref sig .tc := ⟨.hbm, 1964, rfl⟩
abbrev main_call90_cst : Ref sig .tc := ⟨.hbm, 1965, rfl⟩
abbrev main_call90_v14 : Ref sig .tc := ⟨.hbm, 1966, rfl⟩
abbrev main_v1233 : Ref sig .tc := ⟨.hbm, 1967, rfl⟩
abbrev main_v1234 : Ref sig .tc := ⟨.hbm, 1968, rfl⟩
abbrev main_v1235 : Ref sig .tc := ⟨.hbm, 1969, rfl⟩
abbrev main_cst_152 : Ref sig .tc := ⟨.hbm, 1970, rfl⟩
abbrev main_v1236 : Ref sig .tc := ⟨.hbm, 1971, rfl⟩
abbrev main_cst_153 : Ref sig .tc := ⟨.hbm, 1972, rfl⟩
abbrev main_v1237 : Ref sig .tc := ⟨.hbm, 1973, rfl⟩
abbrev main_cst_154 : Ref sig .tc := ⟨.hbm, 1974, rfl⟩
abbrev main_v1238 : Ref sig .tc := ⟨.hbm, 1975, rfl⟩
abbrev main_v1239 : Ref sig .tc := ⟨.hbm, 1976, rfl⟩
abbrev main_v1240 : Ref sig .tc := ⟨.hbm, 1977, rfl⟩
abbrev main_v1241 : Ref sig .tc := ⟨.hbm, 1978, rfl⟩
abbrev main_c_155 : Ref sig .tc := ⟨.hbm, 1979, rfl⟩
abbrev main_v1242 : Ref sig .tc := ⟨.hbm, 1980, rfl⟩
abbrev main_v1243 : Ref sig .tc := ⟨.hbm, 1981, rfl⟩
abbrev main_c_156 : Ref sig .tc := ⟨.hbm, 1982, rfl⟩
abbrev main_v1244 : Ref sig .tc := ⟨.hbm, 1983, rfl⟩
abbrev main_v1245 : Ref sig .tc := ⟨.hbm, 1984, rfl⟩
abbrev main_v1246 : Ref sig .tc := ⟨.hbm, 1985, rfl⟩
abbrev main_v1247 : Ref sig .tc := ⟨.hbm, 1986, rfl⟩
abbrev main_v1248 : Ref sig .tc := ⟨.hbm, 1987, rfl⟩
abbrev main_v1249 : Ref sig .tc := ⟨.hbm, 1988, rfl⟩
abbrev main_v1250 : Ref sig .tc := ⟨.hbm, 1989, rfl⟩
abbrev main_v1251 : Ref sig .tc := ⟨.hbm, 1990, rfl⟩
abbrev main_v1252 : Ref sig .tc := ⟨.hbm, 1991, rfl⟩
abbrev main_v1253 : Ref sig .tc := ⟨.hbm, 1992, rfl⟩
abbrev main_v1254 : Ref sig .tc := ⟨.hbm, 1993, rfl⟩
abbrev main_call91_cst : Ref sig .tc := ⟨.hbm, 1994, rfl⟩
abbrev main_call91_v0 : Ref sig .tc := ⟨.hbm, 1995, rfl⟩
abbrev main_v1255 : Ref sig .tc := ⟨.hbm, 1996, rfl⟩
abbrev main_v1256 : Ref sig .tc := ⟨.hbm, 1997, rfl⟩
abbrev main_v1257 : Ref sig .tc := ⟨.hbm, 1998, rfl⟩
abbrev main_v1258 : Ref sig .tc := ⟨.hbm, 1999, rfl⟩
abbrev main_v1259 : Ref sig .tc := ⟨.hbm, 2000, rfl⟩
abbrev main_v1260 : Ref sig .tc := ⟨.hbm, 2001, rfl⟩
abbrev main_v1261 : Ref sig .tc := ⟨.hbm, 2002, rfl⟩
abbrev main_v1262 : Ref sig .tc := ⟨.hbm, 2003, rfl⟩
abbrev main_v1263 : Ref sig .tc := ⟨.hbm, 2004, rfl⟩
abbrev main_call92_cst : Ref sig .tc := ⟨.hbm, 2005, rfl⟩
abbrev main_call92_v0 : Ref sig .tc := ⟨.hbm, 2006, rfl⟩
abbrev main_v1264 : Ref sig .tc := ⟨.hbm, 2007, rfl⟩
abbrev main_v1265 : Ref sig .tc := ⟨.hbm, 2008, rfl⟩
abbrev main_v1266 : Ref sig .tc := ⟨.hbm, 2009, rfl⟩
abbrev main_v1267 : Ref sig .tc := ⟨.hbm, 2010, rfl⟩
abbrev main_v1268 : Ref sig .tc := ⟨.hbm, 2011, rfl⟩
abbrev main_v1269 : Ref sig .tc := ⟨.hbm, 2012, rfl⟩
abbrev main_v1270 : Ref sig .tc := ⟨.hbm, 2013, rfl⟩
abbrev main_v1271 : Ref sig .tc := ⟨.hbm, 2014, rfl⟩
abbrev main_v1272 : Ref sig .tc := ⟨.hbm, 2015, rfl⟩
abbrev main_call93_cst : Ref sig .tc := ⟨.hbm, 2016, rfl⟩
abbrev main_call93_v0 : Ref sig .tc := ⟨.hbm, 2017, rfl⟩
abbrev main_v1273 : Ref sig .tc := ⟨.hbm, 2018, rfl⟩
abbrev main_v1274 : Ref sig .tc := ⟨.hbm, 2019, rfl⟩
abbrev main_v1275 : Ref sig .tc := ⟨.hbm, 2020, rfl⟩
abbrev main_v1276 : Ref sig .tc := ⟨.hbm, 2021, rfl⟩
abbrev main_v1277 : Ref sig .tc := ⟨.hbm, 2022, rfl⟩
abbrev main_cst_157 : Ref sig .tc := ⟨.hbm, 2023, rfl⟩
abbrev main_v1278 : Ref sig .tc := ⟨.hbm, 2024, rfl⟩
abbrev main_v1279 : Ref sig .tc := ⟨.hbm, 2025, rfl⟩
abbrev main_v1280 : Ref sig .tc := ⟨.hbm, 2026, rfl⟩
abbrev main_c_158 : Ref sig .tc := ⟨.hbm, 2027, rfl⟩
abbrev main_v1281 : Ref sig .tc := ⟨.hbm, 2028, rfl⟩
abbrev main_v1282 : Ref sig .tc := ⟨.hbm, 2029, rfl⟩
abbrev main_c_159 : Ref sig .tc := ⟨.hbm, 2030, rfl⟩
abbrev main_v1283 : Ref sig .tc := ⟨.hbm, 2031, rfl⟩
abbrev main_v1284 : Ref sig .tc := ⟨.hbm, 2032, rfl⟩
abbrev main_v1285 : Ref sig .tc := ⟨.hbm, 2033, rfl⟩
abbrev main_v1286 : Ref sig .tc := ⟨.hbm, 2034, rfl⟩
abbrev main_v1287 : Ref sig .tc := ⟨.hbm, 2035, rfl⟩
abbrev main_v1288 : Ref sig .tc := ⟨.hbm, 2036, rfl⟩
abbrev main_v1289 : Ref sig .tc := ⟨.hbm, 2037, rfl⟩
abbrev main_v1290 : Ref sig .tc := ⟨.hbm, 2038, rfl⟩
abbrev main_v1291 : Ref sig .tc := ⟨.hbm, 2039, rfl⟩
abbrev main_v1292 : Ref sig .tc := ⟨.hbm, 2040, rfl⟩
abbrev main_call94_cst : Ref sig .tc := ⟨.hbm, 2041, rfl⟩
abbrev main_call94_v0 : Ref sig .tc := ⟨.hbm, 2042, rfl⟩
abbrev main_v1293 : Ref sig .tc := ⟨.hbm, 2043, rfl⟩
abbrev main_v1294 : Ref sig .tc := ⟨.hbm, 2044, rfl⟩
abbrev main_v1295 : Ref sig .tc := ⟨.hbm, 2045, rfl⟩
abbrev main_v1296 : Ref sig .tc := ⟨.hbm, 2046, rfl⟩
abbrev main_v1297 : Ref sig .tc := ⟨.hbm, 2047, rfl⟩
abbrev main_v1298 : Ref sig .tc := ⟨.hbm, 2048, rfl⟩
abbrev main_v1299 : Ref sig .tc := ⟨.hbm, 2049, rfl⟩
abbrev main_v1300 : Ref sig .tc := ⟨.hbm, 2050, rfl⟩
abbrev main_v1301 : Ref sig .tc := ⟨.hbm, 2051, rfl⟩
abbrev main_call95_cst : Ref sig .tc := ⟨.hbm, 2052, rfl⟩
abbrev main_call95_v0 : Ref sig .tc := ⟨.hbm, 2053, rfl⟩
abbrev main_v1302 : Ref sig .tc := ⟨.hbm, 2054, rfl⟩
abbrev main_v1303 : Ref sig .tc := ⟨.hbm, 2055, rfl⟩
abbrev main_v1304 : Ref sig .tc := ⟨.hbm, 2056, rfl⟩
abbrev main_v1305 : Ref sig .tc := ⟨.hbm, 2057, rfl⟩
abbrev main_v1306 : Ref sig .tc := ⟨.hbm, 2058, rfl⟩
abbrev main_v1307 : Ref sig .tc := ⟨.hbm, 2059, rfl⟩
abbrev main_v1308 : Ref sig .tc := ⟨.hbm, 2060, rfl⟩
abbrev main_v1309 : Ref sig .tc := ⟨.hbm, 2061, rfl⟩
abbrev main_v1310 : Ref sig .tc := ⟨.hbm, 2062, rfl⟩
abbrev main_call96_cst : Ref sig .tc := ⟨.hbm, 2063, rfl⟩
abbrev main_call96_v0 : Ref sig .tc := ⟨.hbm, 2064, rfl⟩
abbrev main_v1311 : Ref sig .tc := ⟨.hbm, 2065, rfl⟩
abbrev main_v1312 : Ref sig .tc := ⟨.hbm, 2066, rfl⟩
abbrev main_v1313 : Ref sig .tc := ⟨.hbm, 2067, rfl⟩
abbrev main_v1314 : Ref sig .tc := ⟨.hbm, 2068, rfl⟩
abbrev main_v1315 : Ref sig .tc := ⟨.hbm, 2069, rfl⟩
abbrev main_cst_160 : Ref sig .tc := ⟨.hbm, 2070, rfl⟩
abbrev main_v1316 : Ref sig .tc := ⟨.hbm, 2071, rfl⟩
abbrev main_cst_161 : Ref sig .tc := ⟨.hbm, 2072, rfl⟩
abbrev main_v1317 : Ref sig .tc := ⟨.hbm, 2073, rfl⟩
abbrev main_v1318 : Ref sig .tc := ⟨.hbm, 2074, rfl⟩
abbrev main_c_162 : Ref sig .tc := ⟨.hbm, 2075, rfl⟩
abbrev main_call97_cst : Ref sig .tc := ⟨.hbm, 2076, rfl⟩
abbrev main_call97_v0 : Ref sig .tc := ⟨.hbm, 2077, rfl⟩
abbrev main_call97_v1 : Ref sig .tc := ⟨.hbm, 2078, rfl⟩
abbrev main_call97_cst_0 : Ref sig .tc := ⟨.hbm, 2079, rfl⟩
abbrev main_call97_v2 : Ref sig .tc := ⟨.hbm, 2080, rfl⟩
abbrev main_call97_v3 : Ref sig .tc := ⟨.hbm, 2081, rfl⟩
abbrev main_call97_v4 : Ref sig .tc := ⟨.hbm, 2082, rfl⟩
abbrev main_call97_v5 : Ref sig .tc := ⟨.hbm, 2083, rfl⟩
abbrev main_call97_v6 : Ref sig .tc := ⟨.hbm, 2084, rfl⟩
abbrev main_call97_v7 : Ref sig .tc := ⟨.hbm, 2085, rfl⟩
abbrev main_call97_cst_1 : Ref sig .tc := ⟨.hbm, 2086, rfl⟩
abbrev main_call97_v8 : Ref sig .tc := ⟨.hbm, 2087, rfl⟩
abbrev main_call97_cst_2 : Ref sig .tc := ⟨.hbm, 2088, rfl⟩
abbrev main_call97_v9 : Ref sig .tc := ⟨.hbm, 2089, rfl⟩
abbrev main_call97_v10 : Ref sig .tc := ⟨.hbm, 2090, rfl⟩
abbrev main_call97_v11 : Ref sig .tc := ⟨.hbm, 2091, rfl⟩
abbrev main_call97_cst_3 : Ref sig .tc := ⟨.hbm, 2092, rfl⟩
abbrev main_call97_v12 : Ref sig .tc := ⟨.hbm, 2093, rfl⟩
abbrev main_call97_cst_4 : Ref sig .tc := ⟨.hbm, 2094, rfl⟩
abbrev main_call97_call0_v0 : Ref sig .tc := ⟨.hbm, 2095, rfl⟩
abbrev main_call97_call0_v1 : Ref sig .tc := ⟨.hbm, 2096, rfl⟩
abbrev main_v1319 : Ref sig .tc := ⟨.hbm, 2097, rfl⟩
abbrev main_v1320 : Ref sig .tc := ⟨.hbm, 2098, rfl⟩
abbrev main_v1321 : Ref sig .tc := ⟨.hbm, 2099, rfl⟩
abbrev main_v1322 : Ref sig .tc := ⟨.hbm, 2100, rfl⟩
abbrev main_cst_163 : Ref sig .tc := ⟨.hbm, 2101, rfl⟩
abbrev main_v1323 : Ref sig .tc := ⟨.hbm, 2102, rfl⟩
abbrev main_v1324 : Ref sig .tc := ⟨.hbm, 2103, rfl⟩
abbrev main_v1325 : Ref sig .tc := ⟨.hbm, 2104, rfl⟩
abbrev main_v1326 : Ref sig .tc := ⟨.hbm, 2105, rfl⟩
abbrev main_v1327 : Ref sig .tc := ⟨.hbm, 2106, rfl⟩
abbrev main_v1328 : Ref sig .tc := ⟨.hbm, 2107, rfl⟩
abbrev main_v1329 : Ref sig .tc := ⟨.hbm, 2108, rfl⟩
abbrev main_v1330 : Ref sig .tc := ⟨.hbm, 2109, rfl⟩
abbrev main_v1331 : Ref sig .tc := ⟨.hbm, 2110, rfl⟩
abbrev main_v1332 : Ref sig .tc := ⟨.hbm, 2111, rfl⟩
abbrev main_v1333 : Ref sig .tc := ⟨.hbm, 2112, rfl⟩
abbrev main_v1334 : Ref sig .tc := ⟨.hbm, 2113, rfl⟩
abbrev main_v1335 : Ref sig .tc := ⟨.hbm, 2114, rfl⟩
abbrev main_v1336 : Ref sig .tc := ⟨.hbm, 2115, rfl⟩
abbrev main_v1337 : Ref sig .tc := ⟨.hbm, 2116, rfl⟩
abbrev main_v1338 : Ref sig .tc := ⟨.hbm, 2117, rfl⟩
abbrev main_v1339 : Ref sig .tc := ⟨.hbm, 2118, rfl⟩
abbrev main_v1340 : Ref sig .tc := ⟨.hbm, 2119, rfl⟩
abbrev main_v1341 : Ref sig .tc := ⟨.hbm, 2120, rfl⟩
abbrev main_v1342 : Ref sig .tc := ⟨.hbm, 2121, rfl⟩
abbrev main_v1343 : Ref sig .tc := ⟨.hbm, 2122, rfl⟩
abbrev main_cst_164 : Ref sig .tc := ⟨.hbm, 2123, rfl⟩
abbrev main_v1344 : Ref sig .tc := ⟨.hbm, 2124, rfl⟩
abbrev main_v1345 : Ref sig .tc := ⟨.hbm, 2125, rfl⟩
abbrev main_v1346 : Ref sig .tc := ⟨.hbm, 2126, rfl⟩
abbrev main_v1347 : Ref sig .tc := ⟨.hbm, 2127, rfl⟩
abbrev main_cst_165 : Ref sig .tc := ⟨.hbm, 2128, rfl⟩
abbrev main_v1348 : Ref sig .tc := ⟨.hbm, 2129, rfl⟩
abbrev main_v1349 : Ref sig .tc := ⟨.hbm, 2130, rfl⟩
abbrev main_cst_166 : Ref sig .tc := ⟨.hbm, 2131, rfl⟩
abbrev main_v1350 : Ref sig .tc := ⟨.hbm, 2132, rfl⟩
abbrev main_v1351 : Ref sig .tc := ⟨.hbm, 2133, rfl⟩
abbrev main_v1352 : Ref sig .tc := ⟨.hbm, 2134, rfl⟩
abbrev main_v1353 : Ref sig .tc := ⟨.hbm, 2135, rfl⟩
abbrev main_v1354 : Ref sig .tc := ⟨.hbm, 2136, rfl⟩
abbrev main_cst_167 : Ref sig .tc := ⟨.hbm, 2137, rfl⟩
abbrev main_v1355 : Ref sig .tc := ⟨.hbm, 2138, rfl⟩
abbrev main_v1356 : Ref sig .tc := ⟨.hbm, 2139, rfl⟩
abbrev main_cst_168 : Ref sig .tc := ⟨.hbm, 2140, rfl⟩
abbrev main_v1357 : Ref sig .tc := ⟨.hbm, 2141, rfl⟩
abbrev main_v1358 : Ref sig .tc := ⟨.hbm, 2142, rfl⟩
abbrev main_v1359 : Ref sig .tc := ⟨.hbm, 2143, rfl⟩
abbrev main_v1360 : Ref sig .tc := ⟨.hbm, 2144, rfl⟩
abbrev main_v1361 : Ref sig .tc := ⟨.hbm, 2145, rfl⟩
abbrev main_v1362 : Ref sig .tc := ⟨.hbm, 2146, rfl⟩
abbrev main_v1363 : Ref sig .tc := ⟨.hbm, 2147, rfl⟩
abbrev main_v1364 : Ref sig .tc := ⟨.hbm, 2148, rfl⟩
abbrev main_cst_169 : Ref sig .tc := ⟨.hbm, 2149, rfl⟩
abbrev main_v1365 : Ref sig .tc := ⟨.hbm, 2150, rfl⟩
abbrev main_v1366 : Ref sig .tc := ⟨.hbm, 2151, rfl⟩
abbrev main_cst_170 : Ref sig .tc := ⟨.hbm, 2152, rfl⟩
abbrev main_v1367 : Ref sig .tc := ⟨.hbm, 2153, rfl⟩
abbrev main_v1368 : Ref sig .tc := ⟨.hbm, 2154, rfl⟩
abbrev main_v1369 : Ref sig .tc := ⟨.hbm, 2155, rfl⟩
abbrev main_v1370 : Ref sig .tc := ⟨.hbm, 2156, rfl⟩
abbrev main_cst_171 : Ref sig .tc := ⟨.hbm, 2157, rfl⟩
abbrev main_v1371 : Ref sig .tc := ⟨.hbm, 2158, rfl⟩
abbrev main_v1372 : Ref sig .tc := ⟨.hbm, 2159, rfl⟩
abbrev main_v1373 : Ref sig .tc := ⟨.hbm, 2160, rfl⟩
abbrev main_v1374 : Ref sig .tc := ⟨.hbm, 2161, rfl⟩
abbrev main_v1375 : Ref sig .tc := ⟨.hbm, 2162, rfl⟩
abbrev main_call98_cst : Ref sig .tc := ⟨.hbm, 2163, rfl⟩
abbrev main_call98_v0 : Ref sig .tc := ⟨.hbm, 2164, rfl⟩
abbrev main_v1376 : Ref sig .tc := ⟨.hbm, 2165, rfl⟩
abbrev main_v1377 : Ref sig .tc := ⟨.hbm, 2166, rfl⟩
abbrev main_v1378 : Ref sig .tc := ⟨.hbm, 2167, rfl⟩
abbrev main_v1379 : Ref sig .tc := ⟨.hbm, 2168, rfl⟩
abbrev main_v1380 : Ref sig .tc := ⟨.hbm, 2169, rfl⟩
abbrev main_v1381 : Ref sig .tc := ⟨.hbm, 2170, rfl⟩
abbrev main_v1382 : Ref sig .tc := ⟨.hbm, 2171, rfl⟩
abbrev main_v1383 : Ref sig .tc := ⟨.hbm, 2172, rfl⟩
abbrev main_v1384 : Ref sig .tc := ⟨.hbm, 2173, rfl⟩
abbrev main_call99_cst : Ref sig .tc := ⟨.hbm, 2174, rfl⟩
abbrev main_call99_v0 : Ref sig .tc := ⟨.hbm, 2175, rfl⟩
abbrev main_v1385 : Ref sig .tc := ⟨.hbm, 2176, rfl⟩
abbrev main_v1386 : Ref sig .tc := ⟨.hbm, 2177, rfl⟩
abbrev main_v1387 : Ref sig .tc := ⟨.hbm, 2178, rfl⟩
abbrev main_v1388 : Ref sig .tc := ⟨.hbm, 2179, rfl⟩
abbrev main_v1389 : Ref sig .tc := ⟨.hbm, 2180, rfl⟩
abbrev main_v1390 : Ref sig .tc := ⟨.hbm, 2181, rfl⟩
abbrev main_v1391 : Ref sig .tc := ⟨.hbm, 2182, rfl⟩
abbrev main_v1392 : Ref sig .tc := ⟨.hbm, 2183, rfl⟩
abbrev main_v1393 : Ref sig .tc := ⟨.hbm, 2184, rfl⟩
abbrev main_call100_cst : Ref sig .tc := ⟨.hbm, 2185, rfl⟩
abbrev main_call100_v0 : Ref sig .tc := ⟨.hbm, 2186, rfl⟩
abbrev main_v1394 : Ref sig .tc := ⟨.hbm, 2187, rfl⟩
abbrev main_v1395 : Ref sig .tc := ⟨.hbm, 2188, rfl⟩
abbrev main_v1396 : Ref sig .tc := ⟨.hbm, 2189, rfl⟩
abbrev main_v1397 : Ref sig .tc := ⟨.hbm, 2190, rfl⟩
abbrev main_v1398 : Ref sig .tc := ⟨.hbm, 2191, rfl⟩
abbrev main_values_172 : Ref sig .tc := ⟨.hbm, 2192, rfl⟩
abbrev main_indices_173 : Ref sig .tc := ⟨.hbm, 2193, rfl⟩
abbrev main_v1399 : Ref sig .tc := ⟨.hbm, 2194, rfl⟩
abbrev main_call101_cst : Ref sig .tc := ⟨.hbm, 2195, rfl⟩
abbrev main_call101_v0 : Ref sig .tc := ⟨.hbm, 2196, rfl⟩
abbrev main_call101_cst_0 : Ref sig .tc := ⟨.hbm, 2197, rfl⟩
abbrev main_call101_v1 : Ref sig .tc := ⟨.hbm, 2198, rfl⟩
abbrev main_call101_v2 : Ref sig .tc := ⟨.hbm, 2199, rfl⟩
abbrev main_call101_v3 : Ref sig .tc := ⟨.hbm, 2200, rfl⟩
abbrev main_call101_v4 : Ref sig .tc := ⟨.hbm, 2201, rfl⟩
abbrev main_call101_v5 : Ref sig .tc := ⟨.hbm, 2202, rfl⟩
abbrev main_call101_v6 : Ref sig .tc := ⟨.hbm, 2203, rfl⟩
abbrev main_call101_cst_1 : Ref sig .tc := ⟨.hbm, 2204, rfl⟩
abbrev main_call101_v7 : Ref sig .tc := ⟨.hbm, 2205, rfl⟩
abbrev main_call101_v8 : Ref sig .tc := ⟨.hbm, 2206, rfl⟩
abbrev main_call101_v9 : Ref sig .tc := ⟨.hbm, 2207, rfl⟩
abbrev main_call101_v10 : Ref sig .tc := ⟨.hbm, 2208, rfl⟩
abbrev main_v1400 : Ref sig .tc := ⟨.hbm, 2209, rfl⟩
abbrev main_v1401 : Ref sig .tc := ⟨.hbm, 2210, rfl⟩
abbrev main_call102_c : Ref sig .tc := ⟨.hbm, 2211, rfl⟩
abbrev main_call102_v0 : Ref sig .tc := ⟨.hbm, 2212, rfl⟩
abbrev main_call102_v1 : Ref sig .tc := ⟨.hbm, 2213, rfl⟩
abbrev main_call102_c_0 : Ref sig .tc := ⟨.hbm, 2214, rfl⟩
abbrev main_call102_v2 : Ref sig .tc := ⟨.hbm, 2215, rfl⟩
abbrev main_call102_v3 : Ref sig .tc := ⟨.hbm, 2216, rfl⟩
abbrev main_call102_v4 : Ref sig .tc := ⟨.hbm, 2217, rfl⟩
abbrev main_call102_v5 : Ref sig .tc := ⟨.hbm, 2218, rfl⟩
abbrev main_call102_c_1 : Ref sig .tc := ⟨.hbm, 2219, rfl⟩
abbrev main_call102_c_2 : Ref sig .tc := ⟨.hbm, 2220, rfl⟩
abbrev main_call102_v6 : Ref sig .tc := ⟨.hbm, 2221, rfl⟩
abbrev main_call102_v7 : Ref sig .tc := ⟨.hbm, 2222, rfl⟩
abbrev main_call102_v8 : Ref sig .tc := ⟨.hbm, 2223, rfl⟩
abbrev main_call102_v9 : Ref sig .tc := ⟨.hbm, 2224, rfl⟩
abbrev main_call102_v10 : Ref sig .tc := ⟨.hbm, 2225, rfl⟩
abbrev main_call102_v11 : Ref sig .tc := ⟨.hbm, 2226, rfl⟩
abbrev main_call102_c_3 : Ref sig .tc := ⟨.hbm, 2227, rfl⟩
abbrev main_call102_v12 : Ref sig .tc := ⟨.hbm, 2228, rfl⟩
abbrev main_call102_v13 : Ref sig .tc := ⟨.hbm, 2229, rfl⟩
abbrev main_call102_cst : Ref sig .tc := ⟨.hbm, 2230, rfl⟩
abbrev main_call102_v14 : Ref sig .tc := ⟨.hbm, 2231, rfl⟩
abbrev main_v1402 : Ref sig .tc := ⟨.hbm, 2232, rfl⟩
abbrev main_v1403 : Ref sig .tc := ⟨.hbm, 2233, rfl⟩
abbrev main_v1404 : Ref sig .tc := ⟨.hbm, 2234, rfl⟩
abbrev main_cst_174 : Ref sig .tc := ⟨.hbm, 2235, rfl⟩
abbrev main_v1405 : Ref sig .tc := ⟨.hbm, 2236, rfl⟩
abbrev main_cst_175 : Ref sig .tc := ⟨.hbm, 2237, rfl⟩
abbrev main_v1406 : Ref sig .tc := ⟨.hbm, 2238, rfl⟩
abbrev main_cst_176 : Ref sig .tc := ⟨.hbm, 2239, rfl⟩
abbrev main_v1407 : Ref sig .tc := ⟨.hbm, 2240, rfl⟩
abbrev main_v1408 : Ref sig .tc := ⟨.hbm, 2241, rfl⟩
abbrev main_v1409 : Ref sig .tc := ⟨.hbm, 2242, rfl⟩
abbrev main_v1410 : Ref sig .tc := ⟨.hbm, 2243, rfl⟩
abbrev main_v1411 : Ref sig .tc := ⟨.hbm, 2244, rfl⟩
abbrev main_v1412 : Ref sig .tc := ⟨.hbm, 2245, rfl⟩
abbrev main_v1413 : Ref sig .tc := ⟨.hbm, 2246, rfl⟩
abbrev main_v1414 : Ref sig .tc := ⟨.hbm, 2247, rfl⟩
abbrev main_v1415 : Ref sig .tc := ⟨.hbm, 2248, rfl⟩
abbrev main_v1416 : Ref sig .tc := ⟨.hbm, 2249, rfl⟩
abbrev main_v1417 : Ref sig .tc := ⟨.hbm, 2250, rfl⟩
abbrev main_v1418 : Ref sig .tc := ⟨.hbm, 2251, rfl⟩
abbrev main_v1419 : Ref sig .tc := ⟨.hbm, 2252, rfl⟩
abbrev main_v1420 : Ref sig .tc := ⟨.hbm, 2253, rfl⟩
abbrev main_v1421 : Ref sig .tc := ⟨.hbm, 2254, rfl⟩
abbrev main_v1422 : Ref sig .tc := ⟨.hbm, 2255, rfl⟩
abbrev main_v1423 : Ref sig .tc := ⟨.hbm, 2256, rfl⟩
abbrev main_v1424 : Ref sig .tc := ⟨.hbm, 2257, rfl⟩
abbrev main_v1425 : Ref sig .tc := ⟨.hbm, 2258, rfl⟩
abbrev main_v1426 : Ref sig .tc := ⟨.hbm, 2259, rfl⟩
abbrev main_v1427 : Ref sig .tc := ⟨.hbm, 2260, rfl⟩
abbrev main_v1428 : Ref sig .tc := ⟨.hbm, 2261, rfl⟩

abbrev nD : Nat := 1
abbrev τ : Topo := Topo.v7x

variable {F : FTy → Type} [FloatOps F]
-- ==== Proof.KernelIdealFrame.lean ====
/-
  The launch of the idealized kernel: what its windows hold when the one grid point has run, the body's triple stated over the
  run of its operations, and from it that the program ends with its arguments unchanged and its counters at zero.
-/
module

public import proofs.«01_k».proof.Proof.Gen.KernelIdeal.Frame.RunA
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 35 tile its block (one store of `S8x1`), so they cover it. -/
theorem cover0_A_35 (c : Dev nD) (arg0 : Memref sig .tc .vmem S512x8 .f32) (harg0 : arg0.IsWhole) (arg1 : Memref sig .tc .vmem S512x8 .f32) (harg1 : arg1.IsWhole) (arg2 : Memref sig .tc .vmem S512x8 .i32) (harg2 : arg2.IsWhole) (arg3 : Memref sig .tc .vmem S512x8 .i32) (harg3 : arg3.IsWhole) (arg4 : Memref sig .tc .vmem S512x1 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S42x128 .f32) (harg7 : arg7.IsWhole) (arg8 : Memref sig .tc .vmem S128 .f32) (harg8 : arg8.IsWhole) (arg9 : Memref sig .tc .vmem S2x128x128 .f32) (harg9 : arg9.IsWhole) (arg10 : Memref sig .tc .vmem S2x128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S257x128 .f32) (harg13 : arg13.IsWhole) (arg14 : Memref sig .tc .vmem S128 .f32) (harg14 : arg14.IsWhole) (arg15 : Memref sig .tc .vmem S2x128x128 .f32) (harg15 : arg15.IsWhole) (arg16 : Memref sig .tc .vmem S2x128 .f32) (harg16 : arg16.IsWhole) (arg17 : Memref sig .tc .vmem S128x128 .f32) (harg17 : arg17.IsWhole) (arg18 : Memref sig .tc .vmem S128 .f32) (harg18 : arg18.IsWhole) (arg19 : Memref sig .tc .vmem S256x128 .f32) (harg19 : arg19.IsWhole) (arg20 : Memref sig .tc .vmem S128 .f32) (harg20 : arg20.IsWhole) (arg21 : Memref sig .tc .vmem S2x128x128 .f32) (harg21 : arg21.IsWhole) (arg22 : Memref sig .tc .vmem S2x128 .f32) (harg22 : arg22.IsWhole) (arg23 : Memref sig .tc .vmem S128x128 .f32) (harg23 : arg23.IsWhole) (arg24 : Memref sig .tc .vmem S128 .f32) (harg24 : arg24.IsWhole) (arg25 : Memref sig .tc .vmem S128x128 .f32) (harg25 : arg25.IsWhole) (arg26 : Memref sig .tc .vmem S128 .f32) (harg26 : arg26.IsWhole) (arg27 : Memref sig .tc .vmem S2x128x128 .f32) (harg27 : arg27.IsWhole) (arg28 : Memref sig .tc .vmem S2x128 .f32) (harg28 : arg28.IsWhole) (arg29 : Memref sig .tc .vmem S128x16 .f32) (harg29 : arg29.IsWhole) (arg30 : Memref sig .tc .vmem S16 .f32) (harg30 : arg30.IsWhole) (arg31 : Memref sig .tc .vmem S128 .f32) (harg31 : arg31.IsWhole) (arg32 : Memref sig .tc .vmem S128 .f32) (harg32 : arg32.IsWhole) (arg33 : Memref sig .tc .vmem S256x512 .f32) (harg33 : arg33.IsWhole) (arg34 : Memref sig .tc .vmem S512 .f32) (harg34 : arg34.IsWhole) (arg35 : Memref sig .tc .vmem S8x1 .f32) (harg35 : arg35.IsWhole) (arg36 : Memref sig .tc .vmem S8x512 .i32) (harg36 : arg36.IsWhole) (arg37 : Memref sig .tc .vmem S4096x256 .f32) (harg37 : arg37.IsWhole) (arg38 : Memref sig .tc .vmem S4096x256 .f32) (harg38 : arg38.IsWhole)
    (x0 : Vec F S512x8 .f32) (x1 : Vec F S512x8 .f32) (x2 : Vec F S512x8 .i32) (x3 : Vec F S512x8 .i32) (x4 : Vec F S512x1 .i32) (x5 : Vec F S512x1 .i32) (x6 : Vec F S512x1 .i32) (x7 : Vec F S42x128 .f32) (x8 : Vec F S128 .f32) (x9 : Vec F S2x128x128 .f32) (x10 : Vec F S2x128 .f32) (x11 : Vec F S128x128 .f32) (x12 : Vec F S128 .f32) (x13 : Vec F S257x128 .f32) (x14 : Vec F S128 .f32) (x15 : Vec F S2x128x128 .f32) (x16 : Vec F S2x128 .f32) (x17 : Vec F S128x128 .f32) (x18 : Vec F S128 .f32) (x19 : Vec F S256x128 .f32) (x20 : Vec F S128 .f32) (x21 : Vec F S2x128x128 .f32) (x22 : Vec F S2x128 .f32) (x23 : Vec F S128x128 .f32) (x24 : Vec F S128 .f32) (x25 : Vec F S128x128 .f32) (x26 : Vec F S128 .f32) (x27 : Vec F S2x128x128 .f32) (x28 : Vec F S2x128 .f32) (x29 : Vec F S128x16 .f32) (x30 : Vec F S16 .f32) (x31 : Vec F S128 .f32) (x32 : Vec F S128 .f32) (x33 : Vec F S256x512 .f32) (x34 : Vec F S512 .f32) (y : S8x1.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 x34).1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 x34).1 S8x1.size (by sl_kernel_rfl) y

/-- What the run leaves in output 35's staging buffer: its pieces read back over junk. -/
def out0_A_35 (c : Dev nD) (arg0 : Memref sig .tc .vmem S512x8 .f32) (harg0 : arg0.IsWhole) (arg1 : Memref sig .tc .vmem S512x8 .f32) (harg1 : arg1.IsWhole) (arg2 : Memref sig .tc .vmem S512x8 .i32) (harg2 : arg2.IsWhole) (arg3 : Memref sig .tc .vmem S512x8 .i32) (harg3 : arg3.IsWhole) (arg4 : Memref sig .tc .vmem S512x1 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S42x128 .f32) (harg7 : arg7.IsWhole) (arg8 : Memref sig .tc .vmem S128 .f32) (harg8 : arg8.IsWhole) (arg9 : Memref sig .tc .vmem S2x128x128 .f32) (harg9 : arg9.IsWhole) (arg10 : Memref sig .tc .vmem S2x128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S257x128 .f32) (harg13 : arg13.IsWhole) (arg14 : Memref sig .tc .vmem S128 .f32) (harg14 : arg14.IsWhole) (arg15 : Memref sig .tc .vmem S2x128x128 .f32) (harg15 : arg15.IsWhole) (arg16 : Memref sig .tc .vmem S2x128 .f32) (harg16 : arg16.IsWhole) (arg17 : Memref sig .tc .vmem S128x128 .f32) (harg17 : arg17.IsWhole) (arg18 : Memref sig .tc .vmem S128 .f32) (harg18 : arg18.IsWhole) (arg19 : Memref sig .tc .vmem S256x128 .f32) (harg19 : arg19.IsWhole) (arg20 : Memref sig .tc .vmem S128 .f32) (harg20 : arg20.IsWhole) (arg21 : Memref sig .tc .vmem S2x128x128 .f32) (harg21 : arg21.IsWhole) (arg22 : Memref sig .tc .vmem S2x128 .f32) (harg22 : arg22.IsWhole) (arg23 : Memref sig .tc .vmem S128x128 .f32) (harg23 : arg23.IsWhole) (arg24 : Memref sig .tc .vmem S128 .f32) (harg24 : arg24.IsWhole) (arg25 : Memref sig .tc .vmem S128x128 .f32) (harg25 : arg25.IsWhole) (arg26 : Memref sig .tc .vmem S128 .f32) (harg26 : arg26.IsWhole) (arg27 : Memref sig .tc .vmem S2x128x128 .f32) (harg27 : arg27.IsWhole) (arg28 : Memref sig .tc .vmem S2x128 .f32) (harg28 : arg28.IsWhole) (arg29 : Memref sig .tc .vmem S128x16 .f32) (harg29 : arg29.IsWhole) (arg30 : Memref sig .tc .vmem S16 .f32) (harg30 : arg30.IsWhole) (arg31 : Memref sig .tc .vmem S128 .f32) (harg31 : arg31.IsWhole) (arg32 : Memref sig .tc .vmem S128 .f32) (harg32 : arg32.IsWhole) (arg33 : Memref sig .tc .vmem S256x512 .f32) (harg33 : arg33.IsWhole) (arg34 : Memref sig .tc .vmem S512 .f32) (harg34 : arg34.IsWhole) (arg35 : Memref sig .tc .vmem S8x1 .f32) (harg35 : arg35.IsWhole) (arg36 : Memref sig .tc .vmem S8x512 .i32) (harg36 : arg36.IsWhole) (arg37 : Memref sig .tc .vmem S4096x256 .f32) (harg37 : arg37.IsWhole) (arg38 : Memref sig .tc .vmem S4096x256 .f32) (harg38 : arg38.IsWhole)
    (x0 : Vec F S512x8 .f32) (x1 : Vec F S512x8 .f32) (x2 : Vec F S512x8 .i32) (x3 : Vec F S512x8 .i32) (x4 : Vec F S512x1 .i32) (x5 : Vec F S512x1 .i32) (x6 : Vec F S512x1 .i32) (x7 : Vec F S42x128 .f32) (x8 : Vec F S128 .f32) (x9 : Vec F S2x128x128 .f32) (x10 : Vec F S2x128 .f32) (x11 : Vec F S128x128 .f32) (x12 : Vec F S128 .f32) (x13 : Vec F S257x128 .f32) (x14 : Vec F S128 .f32) (x15 : Vec F S2x128x128 .f32) (x16 : Vec F S2x128 .f32) (x17 : Vec F S128x128 .f32) (x18 : Vec F S128 .f32) (x19 : Vec F S256x128 .f32) (x20 : Vec F S128 .f32) (x21 : Vec F S2x128x128 .f32) (x22 : Vec F S2x128 .f32) (x23 : Vec F S128x128 .f32) (x24 : Vec F S128 .f32) (x25 : Vec F S128x128 .f32) (x26 : Vec F S128 .f32) (x27 : Vec F S2x128x128 .f32) (x28 : Vec F S2x128 .f32) (x29 : Vec F S128x16 .f32) (x30 : Vec F S16 .f32) (x31 : Vec F S128 .f32) (x32 : Vec F S128 .f32) (x33 : Vec F S256x512 .f32) (x34 : Vec F S512 .f32) : Vec F S8x1 .f32 :=
  VO0_35.read (Elt F) (VO0_35.writes (Elt F) VO0_35.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 x34).1)

/-- The run's pieces for output 36 tile its block (one store of `S8x512`), so they cover it. -/
theorem cover0_A_36 (c : Dev nD) (arg0 : Memref sig .tc .vmem S512x8 .f32) (harg0 : arg0.IsWhole) (arg1 : Memref sig .tc .vmem S512x8 .f32) (harg1 : arg1.IsWhole) (arg2 : Memref sig .tc .vmem S512x8 .i32) (harg2 : arg2.IsWhole) (arg3 : Memref sig .tc .vmem S512x8 .i32) (harg3 : arg3.IsWhole) (arg4 : Memref sig .tc .vmem S512x1 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S42x128 .f32) (harg7 : arg7.IsWhole) (arg8 : Memref sig .tc .vmem S128 .f32) (harg8 : arg8.IsWhole) (arg9 : Memref sig .tc .vmem S2x128x128 .f32) (harg9 : arg9.IsWhole) (arg10 : Memref sig .tc .vmem S2x128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S257x128 .f32) (harg13 : arg13.IsWhole) (arg14 : Memref sig .tc .vmem S128 .f32) (harg14 : arg14.IsWhole) (arg15 : Memref sig .tc .vmem S2x128x128 .f32) (harg15 : arg15.IsWhole) (arg16 : Memref sig .tc .vmem S2x128 .f32) (harg16 : arg16.IsWhole) (arg17 : Memref sig .tc .vmem S128x128 .f32) (harg17 : arg17.IsWhole) (arg18 : Memref sig .tc .vmem S128 .f32) (harg18 : arg18.IsWhole) (arg19 : Memref sig .tc .vmem S256x128 .f32) (harg19 : arg19.IsWhole) (arg20 : Memref sig .tc .vmem S128 .f32) (harg20 : arg20.IsWhole) (arg21 : Memref sig .tc .vmem S2x128x128 .f32) (harg21 : arg21.IsWhole) (arg22 : Memref sig .tc .vmem S2x128 .f32) (harg22 : arg22.IsWhole) (arg23 : Memref sig .tc .vmem S128x128 .f32) (harg23 : arg23.IsWhole) (arg24 : Memref sig .tc .vmem S128 .f32) (harg24 : arg24.IsWhole) (arg25 : Memref sig .tc .vmem S128x128 .f32) (harg25 : arg25.IsWhole) (arg26 : Memref sig .tc .vmem S128 .f32) (harg26 : arg26.IsWhole) (arg27 : Memref sig .tc .vmem S2x128x128 .f32) (harg27 : arg27.IsWhole) (arg28 : Memref sig .tc .vmem S2x128 .f32) (harg28 : arg28.IsWhole) (arg29 : Memref sig .tc .vmem S128x16 .f32) (harg29 : arg29.IsWhole) (arg30 : Memref sig .tc .vmem S16 .f32) (harg30 : arg30.IsWhole) (arg31 : Memref sig .tc .vmem S128 .f32) (harg31 : arg31.IsWhole) (arg32 : Memref sig .tc .vmem S128 .f32) (harg32 : arg32.IsWhole) (arg33 : Memref sig .tc .vmem S256x512 .f32) (harg33 : arg33.IsWhole) (arg34 : Memref sig .tc .vmem S512 .f32) (harg34 : arg34.IsWhole) (arg35 : Memref sig .tc .vmem S8x1 .f32) (harg35 : arg35.IsWhole) (arg36 : Memref sig .tc .vmem S8x512 .i32) (harg36 : arg36.IsWhole) (arg37 : Memref sig .tc .vmem S4096x256 .f32) (harg37 : arg37.IsWhole) (arg38 : Memref sig .tc .vmem S4096x256 .f32) (harg38 : arg38.IsWhole)
    (x0 : Vec F S512x8 .f32) (x1 : Vec F S512x8 .f32) (x2 : Vec F S512x8 .i32) (x3 : Vec F S512x8 .i32) (x4 : Vec F S512x1 .i32) (x5 : Vec F S512x1 .i32) (x6 : Vec F S512x1 .i32) (x7 : Vec F S42x128 .f32) (x8 : Vec F S128 .f32) (x9 : Vec F S2x128x128 .f32) (x10 : Vec F S2x128 .f32) (x11 : Vec F S128x128 .f32) (x12 : Vec F S128 .f32) (x13 : Vec F S257x128 .f32) (x14 : Vec F S128 .f32) (x15 : Vec F S2x128x128 .f32) (x16 : Vec F S2x128 .f32) (x17 : Vec F S128x128 .f32) (x18 : Vec F S128 .f32) (x19 : Vec F S256x128 .f32) (x20 : Vec F S128 .f32) (x21 : Vec F S2x128x128 .f32) (x22 : Vec F S2x128 .f32) (x23 : Vec F S128x128 .f32) (x24 : Vec F S128 .f32) (x25 : Vec F S128x128 .f32) (x26 : Vec F S128 .f32) (x27 : Vec F S2x128x128 .f32) (x28 : Vec F S2x128 .f32) (x29 : Vec F S128x16 .f32) (x30 : Vec F S16 .f32) (x31 : Vec F S128 .f32) (x32 : Vec F S128 .f32) (x33 : Vec F S256x512 .f32) (x34 : Vec F S512 .f32) (y : S8x512.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 x34).2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 x34).2.1 S8x512.size (by sl_kernel_rfl) y

/-- What the run leaves in output 36's staging buffer: its pieces read back over junk. -/
def out0_A_36 (c : Dev nD) (arg0 : Memref sig .tc .vmem S512x8 .f32) (harg0 : arg0.IsWhole) (arg1 : Memref sig .tc .vmem S512x8 .f32) (harg1 : arg1.IsWhole) (arg2 : Memref sig .tc .vmem S512x8 .i32) (harg2 : arg2.IsWhole) (arg3 : Memref sig .tc .vmem S512x8 .i32) (harg3 : arg3.IsWhole) (arg4 : Memref sig .tc .vmem S512x1 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S42x128 .f32) (harg7 : arg7.IsWhole) (arg8 : Memref sig .tc .vmem S128 .f32) (harg8 : arg8.IsWhole) (arg9 : Memref sig .tc .vmem S2x128x128 .f32) (harg9 : arg9.IsWhole) (arg10 : Memref sig .tc .vmem S2x128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S257x128 .f32) (harg13 : arg13.IsWhole) (arg14 : Memref sig .tc .vmem S128 .f32) (harg14 : arg14.IsWhole) (arg15 : Memref sig .tc .vmem S2x128x128 .f32) (harg15 : arg15.IsWhole) (arg16 : Memref sig .tc .vmem S2x128 .f32) (harg16 : arg16.IsWhole) (arg17 : Memref sig .tc .vmem S128x128 .f32) (harg17 : arg17.IsWhole) (arg18 : Memref sig .tc .vmem S128 .f32) (harg18 : arg18.IsWhole) (arg19 : Memref sig .tc .vmem S256x128 .f32) (harg19 : arg19.IsWhole) (arg20 : Memref sig .tc .vmem S128 .f32) (harg20 : arg20.IsWhole) (arg21 : Memref sig .tc .vmem S2x128x128 .f32) (harg21 : arg21.IsWhole) (arg22 : Memref sig .tc .vmem S2x128 .f32) (harg22 : arg22.IsWhole) (arg23 : Memref sig .tc .vmem S128x128 .f32) (harg23 : arg23.IsWhole) (arg24 : Memref sig .tc .vmem S128 .f32) (harg24 : arg24.IsWhole) (arg25 : Memref sig .tc .vmem S128x128 .f32) (harg25 : arg25.IsWhole) (arg26 : Memref sig .tc .vmem S128 .f32) (harg26 : arg26.IsWhole) (arg27 : Memref sig .tc .vmem S2x128x128 .f32) (harg27 : arg27.IsWhole) (arg28 : Memref sig .tc .vmem S2x128 .f32) (harg28 : arg28.IsWhole) (arg29 : Memref sig .tc .vmem S128x16 .f32) (harg29 : arg29.IsWhole) (arg30 : Memref sig .tc .vmem S16 .f32) (harg30 : arg30.IsWhole) (arg31 : Memref sig .tc .vmem S128 .f32) (harg31 : arg31.IsWhole) (arg32 : Memref sig .tc .vmem S128 .f32) (harg32 : arg32.IsWhole) (arg33 : Memref sig .tc .vmem S256x512 .f32) (harg33 : arg33.IsWhole) (arg34 : Memref sig .tc .vmem S512 .f32) (harg34 : arg34.IsWhole) (arg35 : Memref sig .tc .vmem S8x1 .f32) (harg35 : arg35.IsWhole) (arg36 : Memref sig .tc .vmem S8x512 .i32) (harg36 : arg36.IsWhole) (arg37 : Memref sig .tc .vmem S4096x256 .f32) (harg37 : arg37.IsWhole) (arg38 : Memref sig .tc .vmem S4096x256 .f32) (harg38 : arg38.IsWhole)
    (x0 : Vec F S512x8 .f32) (x1 : Vec F S512x8 .f32) (x2 : Vec F S512x8 .i32) (x3 : Vec F S512x8 .i32) (x4 : Vec F S512x1 .i32) (x5 : Vec F S512x1 .i32) (x6 : Vec F S512x1 .i32) (x7 : Vec F S42x128 .f32) (x8 : Vec F S128 .f32) (x9 : Vec F S2x128x128 .f32) (x10 : Vec F S2x128 .f32) (x11 : Vec F S128x128 .f32) (x12 : Vec F S128 .f32) (x13 : Vec F S257x128 .f32) (x14 : Vec F S128 .f32) (x15 : Vec F S2x128x128 .f32) (x16 : Vec F S2x128 .f32) (x17 : Vec F S128x128 .f32) (x18 : Vec F S128 .f32) (x19 : Vec F S256x128 .f32) (x20 : Vec F S128 .f32) (x21 : Vec F S2x128x128 .f32) (x22 : Vec F S2x128 .f32) (x23 : Vec F S128x128 .f32) (x24 : Vec F S128 .f32) (x25 : Vec F S128x128 .f32) (x26 : Vec F S128 .f32) (x27 : Vec F S2x128x128 .f32) (x28 : Vec F S2x128 .f32) (x29 : Vec F S128x16 .f32) (x30 : Vec F S16 .f32) (x31 : Vec F S128 .f32) (x32 : Vec F S128 .f32) (x33 : Vec F S256x512 .f32) (x34 : Vec F S512 .f32) : Vec F S8x512 .i32 :=
  VO0_36.read (Elt F) (VO0_36.writes (Elt F) VO0_36.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 x34).2.1)

/-! ## What the outputs hold after each point -/

/-- What the outputs' staging buffers hold after the body at point `t` (as a tuple, in window order): the run's contents at
    the point's memrefs and input blocks. -/
def outsAt0 (c : Dev nD) (t : Fin cfg0.N) : Vec F S8x1 .f32 × Vec F S8x512 .i32 :=
  (out0_A_35 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t), out0_A_36 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => (outsAt0 m c t).1
    | ⟨36, _⟩ => (outsAt0 m c t).2
    | ⟨_ + 37, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- When the point has run, window 1 holds the block that it was loaded with. -/
theorem after0_1 (c : Dev nD) (t : Fin cfg0.N) : (dats m 0 c).after 1 t = iblk m c 1 t := by dsimp only [dats]
/-- When the point has run, window 2 holds the block that it was loaded with. -/
theorem after0_2 (c : Dev nD) (t : Fin cfg0.N) : (dats m 0 c).after 2 t = iblk m c 2 t := by dsimp only [dats]
/-- When the point has run, window 3 holds the block that it was loaded with. -/
theorem after0_3 (c : Dev nD) (t : Fin cfg0.N) : (dats m 0 c).after 3 t = iblk m c 3 t := by dsimp only [dats]
/-- When the point has run, window 4 holds the block that it was loaded with. -/
theorem after0_4 (c : Dev nD) (t : Fin cfg0.N) : (dats m 0 c).after 4 t = iblk m c 4 t := by dsimp only [dats]
/-- When the point has run, window 5 holds the block that it was loaded with. -/
theorem after0_5 (c : Dev nD) (t : Fin cfg0.N) : (dats m 0 c).after 5 t = iblk m c 5 t := by dsimp only [dats]
/-- When the point has run, window 6 holds the block that it was loaded with. -/
theorem after0_6 (c : Dev nD) (t : Fin cfg0.N) : (dats m 0 c).after 6 t = iblk m c 6 t := by dsimp only [dats]
/-- When the point has run, window 7 holds the block that it was loaded with. -/
theorem after0_7 (c : Dev nD) (t : Fin cfg0.N) : (dats m 0 c).after 7 t = iblk m c 7 t := by dsimp only [dats]
/-- When the point has run, window 8 holds the block that it was loaded with. -/
theorem after0_8 (c : Dev nD) (t : Fin cfg0.N) : (dats m 0 c).after 8 t = iblk m c 8 t := by dsimp only [dats]
/-- When the point has run, window 9 holds the block that it was loaded with. -/
theorem after0_9 (c : Dev nD) (t : Fin cfg0.N) : (dats m 0 c).after 9 t = iblk m c 9 t := by dsimp only [dats]
/-- When the point has run, window 10 holds the block that it was loaded with. -/
theorem after0_10 (c : Dev nD) (t : Fin cfg0.N) : (dats m 0 c).after 10 t = iblk m c 10 t := by dsimp only [dats]
/-- When the point has run, window 11 holds the block that it was loaded with. -/
theorem after0_11 (c : Dev nD) (t : Fin cfg0.N) : (dats m 0 c).after 11 t = iblk m c 11 t := by dsimp only [dats]
/-- When the point has run, window 12 holds the block that it was loaded with. -/
theorem after0_12 (c : Dev nD) (t : Fin cfg0.N) : (dats m 0 c).after 12 t = iblk m c 12 t := by dsimp only [dats]
/-- When the point has run, window 13 holds the block that it was loaded with. -/
theorem after0_13 (c : Dev nD) (t : Fin cfg0.N) : (dats m 0 c).after 13 t = iblk m c 13 t := by dsimp only [dats]
/-- When the point has run, window 14 holds the block that it was loaded with. -/
theorem after0_14 (c : Dev nD) (t : Fin cfg0.N) : (dats m 0 c).after 14 t = iblk m c 14 t := by dsimp only [dats]
/-- When the point has run, window 15 holds the block that it was loaded with. -/
theorem after0_15 (c : Dev nD) (t : Fin cfg0.N) : (dats m 0 c).after 15 t = iblk m c 15 t := by dsimp only [dats]
/-- When the point has run, window 16 holds the block that it was loaded with. -/
theorem after0_16 (c : Dev nD) (t : Fin cfg0.N) : (dats m 0 c).after 16 t = iblk m c 16 t := by dsimp only [dats]
/-- When the point has run, window 17 holds the block that it was loaded with. -/
theorem after0_17 (c : Dev nD) (t : Fin cfg0.N) : (dats m 0 c).after 17 t = iblk m c 17 t := by dsimp only [dats]
/-- When the point has run, window 18 holds the block that it was loaded with. -/
theorem after0_18 (c : Dev nD) (t : Fin cfg0.N) : (dats m 0 c).after 18 t = iblk m c 18 t := by dsimp only [dats]
/-- When the point has run, window 19 holds the block that it was loaded with. -/
theorem after0_19 (c : Dev nD) (t : Fin cfg0.N) : (dats m 0 c).after 19 t = iblk m c 19 t := by dsimp only [dats]
/-- When the point has run, window 20 holds the block that it was loaded with. -/
theorem after0_20 (c : Dev nD) (t : Fin cfg0.N) : (dats m 0 c).after 20 t = iblk m c 20 t := by dsimp only [dats]
/-- When the point has run, window 21 holds the block that it was loaded with. -/
theorem after0_21 (c : Dev nD) (t : Fin cfg0.N) : (dats m 0 c).after 21 t = iblk m c 21 t := by dsimp only [dats]
/-- When the point has run, window 22 holds the block that it was loaded with. -/
theorem after0_22 (c : Dev nD) (t : Fin cfg0.N) : (dats m 0 c).after 22 t = iblk m c 22 t := by dsimp only [dats]
/-- When the point has run, window 23 holds the block that it was loaded with. -/
theorem after0_23 (c : Dev nD) (t : Fin cfg0.N) : (dats m 0 c).after 23 t = iblk m c 23 t := by dsimp only [dats]
/-- When the point has run, window 24 holds the block that it was loaded with. -/
theorem after0_24 (c : Dev nD) (t : Fin cfg0.N) : (dats m 0 c).after 24 t = iblk m c 24 t := by dsimp only [dats]
/-- When the point has run, window 25 holds the block that it was loaded with. -/
theorem after0_25 (c : Dev nD) (t : Fin cfg0.N) : (dats m 0 c).after 25 t = iblk m c 25 t := by dsimp only [dats]
/-- When the point has run, window 26 holds the block that it was loaded with. -/
theorem after0_26 (c : Dev nD) (t : Fin cfg0.N) : (dats m 0 c).after 26 t = iblk m c 26 t := by dsimp only [dats]
/-- When the point has run, window 27 holds the block that it was loaded with. -/
theorem after0_27 (c : Dev nD) (t : Fin cfg0.N) : (dats m 0 c).after 27 t = iblk m c 27 t := by dsimp only [dats]
/-- When the point has run, window 28 holds the block that it was loaded with. -/
theorem after0_28 (c : Dev nD) (t : Fin cfg0.N) : (dats m 0 c).after 28 t = iblk m c 28 t := by dsimp only [dats]
/-- When the point has run, window 29 holds the block that it was loaded with. -/
theorem after0_29 (c : Dev nD) (t : Fin cfg0.N) : (dats m 0 c).after 29 t = iblk m c 29 t := by dsimp only [dats]
/-- When the point has run, window 30 holds the block that it was loaded with. -/
theorem after0_30 (c : Dev nD) (t : Fin cfg0.N) : (dats m 0 c).after 30 t = iblk m c 30 t := by dsimp only [dats]
/-- When the point has run, window 31 holds the block that it was loaded with. -/
theorem after0_31 (c : Dev nD) (t : Fin cfg0.N) : (dats m 0 c).after 31 t = iblk m c 31 t := by dsimp only [dats]
/-- When the point has run, window 32 holds the block that it was loaded with. -/
theorem after0_32 (c : Dev nD) (t : Fin cfg0.N) : (dats m 0 c).after 32 t = iblk m c 32 t := by dsimp only [dats]
/-- When the point has run, window 33 holds the block that it was loaded with. -/
theorem after0_33 (c : Dev nD) (t : Fin cfg0.N) : (dats m 0 c).after 33 t = iblk m c 33 t := by dsimp only [dats]
/-- When the point has run, window 34 holds the block that it was loaded with. -/
theorem after0_34 (c : Dev nD) (t : Fin cfg0.N) : (dats m 0 c).after 34 t = iblk m c 34 t := by dsimp only [dats]
/-- When the point has run, window 35 holds what the body stored in it. -/
theorem after0_35 (c : Dev nD) (t : Fin cfg0.N) : (dats m 0 c).after 35 t = (outsAt0 m c t).1 := by dsimp only [dats]
/-- When the point has run, window 36 holds what the body stored in it. -/
theorem after0_36 (c : Dev nD) (t : Fin cfg0.N) : (dats m 0 c).after 36 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- When the body starts, window 1 holds its block. -/
theorem before0_1 (c : Dev nD) (t : Fin cfg0.N) (d) : (dats m 0 c).before 1 t d = iblk m c 1 t :=
  before0_1_of m (dats m 0 c) (A_eq m c 1) (after0_1 m c) t d
/-- When the body starts, window 2 holds its block. -/
theorem before0_2 (c : Dev nD) (t : Fin cfg0.N) (d) : (dats m 0 c).before 2 t d = iblk m c 2 t :=
  before0_2_of m (dats m 0 c) (A_eq m c 2) (after0_2 m c) t d
/-- When the body starts, window 3 holds its block. -/
theorem before0_3 (c : Dev nD) (t : Fin cfg0.N) (d) : (dats m 0 c).before 3 t d = iblk m c 3 t :=
  before0_3_of m (dats m 0 c) (A_eq m c 3) (after0_3 m c) t d
/-- When the body starts, window 4 holds its block. -/
theorem before0_4 (c : Dev nD) (t : Fin cfg0.N) (d) : (dats m 0 c).before 4 t d = iblk m c 4 t :=
  before0_4_of m (dats m 0 c) (A_eq m c 4) (after0_4 m c) t d
/-- When the body starts, window 5 holds its block. -/
theorem before0_5 (c : Dev nD) (t : Fin cfg0.N) (d) : (dats m 0 c).before 5 t d = iblk m c 5 t :=
  before0_5_of m (dats m 0 c) (A_eq m c 5) (after0_5 m c) t d
/-- When the body starts, window 6 holds its block. -/
theorem before0_6 (c : Dev nD) (t : Fin cfg0.N) (d) : (dats m 0 c).before 6 t d = iblk m c 6 t :=
  before0_6_of m (dats m 0 c) (A_eq m c 6) (after0_6 m c) t d
/-- When the body starts, window 7 holds its block. -/
theorem before0_7 (c : Dev nD) (t : Fin cfg0.N) (d) : (dats m 0 c).before 7 t d = iblk m c 7 t :=
  before0_7_of m (dats m 0 c) (A_eq m c 7) (after0_7 m c) t d
/-- When the body starts, window 8 holds its block. -/
theorem before0_8 (c : Dev nD) (t : Fin cfg0.N) (d) : (dats m 0 c).before 8 t d = iblk m c 8 t :=
  before0_8_of m (dats m 0 c) (A_eq m c 8) (after0_8 m c) t d
/-- When the body starts, window 9 holds its block. -/
theorem before0_9 (c : Dev nD) (t : Fin cfg0.N) (d) : (dats m 0 c).before 9 t d = iblk m c 9 t :=
  before0_9_of m (dats m 0 c) (A_eq m c 9) (after0_9 m c) t d
/-- When the body starts, window 10 holds its block. -/
theorem before0_10 (c : Dev nD) (t : Fin cfg0.N) (d) : (dats m 0 c).before 10 t d = iblk m c 10 t :=
  before0_10_of m (dats m 0 c) (A_eq m c 10) (after0_10 m c) t d
/-- When the body starts, window 11 holds its block. -/
theorem before0_11 (c : Dev nD) (t : Fin cfg0.N) (d) : (dats m 0 c).before 11 t d = iblk m c 11 t :=
  before0_11_of m (dats m 0 c) (A_eq m c 11) (after0_11 m c) t d
/-- When the body starts, window 12 holds its block. -/
theorem before0_12 (c : Dev nD) (t : Fin cfg0.N) (d) : (dats m 0 c).before 12 t d = iblk m c 12 t :=
  before0_12_of m (dats m 0 c) (A_eq m c 12) (after0_12 m c) t d
/-- When the body starts, window 13 holds its block. -/
theorem before0_13 (c : Dev nD) (t : Fin cfg0.N) (d) : (dats m 0 c).before 13 t d = iblk m c 13 t :=
  before0_13_of m (dats m 0 c) (A_eq m c 13) (after0_13 m c) t d
/-- When the body starts, window 14 holds its block. -/
theorem before0_14 (c : Dev nD) (t : Fin cfg0.N) (d) : (dats m 0 c).before 14 t d = iblk m c 14 t :=
  before0_14_of m (dats m 0 c) (A_eq m c 14) (after0_14 m c) t d
/-- When the body starts, window 15 holds its block. -/
theorem before0_15 (c : Dev nD) (t : Fin cfg0.N) (d) : (dats m 0 c).before 15 t d = iblk m c 15 t :=
  before0_15_of m (dats m 0 c) (A_eq m c 15) (after0_15 m c) t d
/-- When the body starts, window 16 holds its block. -/
theorem before0_16 (c : Dev nD) (t : Fin cfg0.N) (d) : (dats m 0 c).before 16 t d = iblk m c 16 t :=
  before0_16_of m (dats m 0 c) (A_eq m c 16) (after0_16 m c) t d
/-- When the body starts, window 17 holds its block. -/
theorem before0_17 (c : Dev nD) (t : Fin cfg0.N) (d) : (dats m 0 c).before 17 t d = iblk m c 17 t :=
  before0_17_of m (dats m 0 c) (A_eq m c 17) (after0_17 m c) t d
/-- When the body starts, window 18 holds its block. -/
theorem before0_18 (c : Dev nD) (t : Fin cfg0.N) (d) : (dats m 0 c).before 18 t d = iblk m c 18 t :=
  before0_18_of m (dats m 0 c) (A_eq m c 18) (after0_18 m c) t d
/-- When the body starts, window 19 holds its block. -/
theorem before0_19 (c : Dev nD) (t : Fin cfg0.N) (d) : (dats m 0 c).before 19 t d = iblk m c 19 t :=
  before0_19_of m (dats m 0 c) (A_eq m c 19) (after0_19 m c) t d
/-- When the body starts, window 20 holds its block. -/
theorem before0_20 (c : Dev nD) (t : Fin cfg0.N) (d) : (dats m 0 c).before 20 t d = iblk m c 20 t :=
  before0_20_of m (dats m 0 c) (A_eq m c 20) (after0_20 m c) t d
/-- When the body starts, window 21 holds its block. -/
theorem before0_21 (c : Dev nD) (t : Fin cfg0.N) (d) : (dats m 0 c).before 21 t d = iblk m c 21 t :=
  before0_21_of m (dats m 0 c) (A_eq m c 21) (after0_21 m c) t d
/-- When the body starts, window 22 holds its block. -/
theorem before0_22 (c : Dev nD) (t : Fin cfg0.N) (d) : (dats m 0 c).before 22 t d = iblk m c 22 t :=
  before0_22_of m (dats m 0 c) (A_eq m c 22) (after0_22 m c) t d
/-- When the body starts, window 23 holds its block. -/
theorem before0_23 (c : Dev nD) (t : Fin cfg0.N) (d) : (dats m 0 c).before 23 t d = iblk m c 23 t :=
  before0_23_of m (dats m 0 c) (A_eq m c 23) (after0_23 m c) t d
/-- When the body starts, window 24 holds its block. -/
theorem before0_24 (c : Dev nD) (t : Fin cfg0.N) (d) : (dats m 0 c).before 24 t d = iblk m c 24 t :=
  before0_24_of m (dats m 0 c) (A_eq m c 24) (after0_24 m c) t d
/-- When the body starts, window 25 holds its block. -/
theorem before0_25 (c : Dev nD) (t : Fin cfg0.N) (d) : (dats m 0 c).before 25 t d = iblk m c 25 t :=
  before0_25_of m (dats m 0 c) (A_eq m c 25) (after0_25 m c) t d
/-- When the body starts, window 26 holds its block. -/
theorem before0_26 (c : Dev nD) (t : Fin cfg0.N) (d) : (dats m 0 c).before 26 t d = iblk m c 26 t :=
  before0_26_of m (dats m 0 c) (A_eq m c 26) (after0_26 m c) t d
/-- When the body starts, window 27 holds its block. -/
theorem before0_27 (c : Dev nD) (t : Fin cfg0.N) (d) : (dats m 0 c).before 27 t d = iblk m c 27 t :=
  before0_27_of m (dats m 0 c) (A_eq m c 27) (after0_27 m c) t d
/-- When the body starts, window 28 holds its block. -/
theorem before0_28 (c : Dev nD) (t : Fin cfg0.N) (d) : (dats m 0 c).before 28 t d = iblk m c 28 t :=
  before0_28_of m (dats m 0 c) (A_eq m c 28) (after0_28 m c) t d
/-- When the body starts, window 29 holds its block. -/
theorem before0_29 (c : Dev nD) (t : Fin cfg0.N) (d) : (dats m 0 c).before 29 t d = iblk m c 29 t :=
  before0_29_of m (dats m 0 c) (A_eq m c 29) (after0_29 m c) t d
/-- When the body starts, window 30 holds its block. -/
theorem before0_30 (c : Dev nD) (t : Fin cfg0.N) (d) : (dats m 0 c).before 30 t d = iblk m c 30 t :=
  before0_30_of m (dats m 0 c) (A_eq m c 30) (after0_30 m c) t d
/-- When the body starts, window 31 holds its block. -/
theorem before0_31 (c : Dev nD) (t : Fin cfg0.N) (d) : (dats m 0 c).before 31 t d = iblk m c 31 t :=
  before0_31_of m (dats m 0 c) (A_eq m c 31) (after0_31 m c) t d
/-- When the body starts, window 32 holds its block. -/
theorem before0_32 (c : Dev nD) (t : Fin cfg0.N) (d) : (dats m 0 c).before 32 t d = iblk m c 32 t :=
  before0_32_of m (dats m 0 c) (A_eq m c 32) (after0_32 m c) t d
/-- When the body starts, window 33 holds its block. -/
theorem before0_33 (c : Dev nD) (t : Fin cfg0.N) (d) : (dats m 0 c).before 33 t d = iblk m c 33 t :=
  before0_33_of m (dats m 0 c) (A_eq m c 33) (after0_33 m c) t d
/-- When the body starts, window 34 holds its block. -/
theorem before0_34 (c : Dev nD) (t : Fin cfg0.N) (d) : (dats m 0 c).before 34 t d = iblk m c 34 t :=
  before0_34_of m (dats m 0 c) (A_eq m c 34) (after0_34 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t))

set_option maxHeartbeats 3600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36]
  rw [show (dats m 0 c).Φ t.castSucc = Pipeline.ΦA spec0 c from rfl, PhiA0_eq]
  unfold outsAt0
  unfold out0_A_35 out0_A_36; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
  iapply ((kernelRun0_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexists _; iexact H35
  isplitl [H36]; · iexists _; iexact H36
  isplitl [HS0]; · iexact HS0
  isplitl [HS1]; · iexact HS1
  iintro ⟨H0, H1, H2, H3, H4, H5, H6, H7, H8, H9, H10, H11, H12, H13, H14, H15, H16, H17, H18, H19, H20, H21, H22, H23, H24, H25, H26, H27, H28, H29, H30, H31, H32, H33, H34, ⟨%e35, H35⟩, ⟨%e36, H36⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]
  · unfold owns; iexists _; isplitr
    swap; · iexact H35
    ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H36
  ipureintro; exact View.read_writes_of_cover _ _ _ _ _ (cover0_A_36 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33))
      ∧ r.2.sem = fun _ => 0) :=
  θ_run_and (unchanged m ρ) ((θ_run defs _ _).mono (fun _ h => h.2) (run_main_quiescent m ρ))

end Cert.KernelIdeal.Gen

end
-- ==== Proof.Frames.lean ====
/-
  What the three programs leave alone: each runs to its end with its arguments unchanged and every counter at zero;
  and the constant the idealized kernel names is the logarithm its pattern rounds.
-/
module

public import proofs.«01_k».proof.Defs
public import proofs.«01_k».proof.Proof.KernelFrame
public import proofs.«01_k».proof.Proof.KernelIdealFrame
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem

/-- The kernel as printed ends with its arguments unchanged and its counters at zero. -/
theorem kernel : Cert.quiescent_Kernel := fun m ρ _ => Cert.Kernel.Gen.frame m ρ

/-- The idealized kernel ends with its arguments unchanged and its counters at zero. -/
theorem kernelIdeal : Cert.quiescent_KernelIdeal := fun m ρ _ => Cert.KernelIdeal.Gen.frame m ρ

/-- The reference ends with its arguments unchanged and its counters at zero. -/
theorem referenceIdeal : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The named constant is the logarithm of two. -/
theorem preserves : Cert.preserves_Kernel_KernelIdeal :=
  IdealRules.named_const.statement Cert.KernelIdeal.κ "ln2" .f32 0x3F317218#32 ((Real.log 2 : ℝ) : EReal) rfl

end Cert.Frames

end
-- ==== Proof.Spec.lean ====
/-
  The network in plain mathematics: rows are functions on a finite index, values are extended reals.
  Everything here is written over the rows of the node table (8 nodes to each of the 512 problems).
-/
module

public import Idealize.ShloMosaic.Lib.Pointwise

@[expose] public section

noncomputable section

namespace Cert.Net

open Idealize.ShloMosaic

/-- A row of `n` extended reals. -/
abbrev Row (n : ℕ) := Fin n → EReal
/-- `n` rows of `m` extended reals. -/
abbrev Mat (n m : ℕ) := Fin n → Fin m → EReal

variable {k n m : ℕ}

/-- One dense layer on one row. -/
def lin (W : Mat k m) (b : Row m) (x : Row k) : Row m := fun c => (∑ t, x t * W t c) + b c

/-- The rectifier on one row. -/
def relu (x : Row n) : Row n := fun c => max (x c) 0

/-- The weights of a perceptron with three rectified hidden layers of width 128. -/
structure Mlp (k m : ℕ) where
  win : Mat k 128
  bin : Row 128
  wh : Fin 2 → Mat 128 128
  bh : Fin 2 → Row 128
  wout : Mat 128 m
  bout : Row m

/-- The three dense layers before the last rectifier. -/
def Mlp.hidden (P : Mlp k m) (x : Row k) : Row 128 :=
  lin (P.wh 1) (P.bh 1) (relu (lin (P.wh 0) (P.bh 0) (relu (lin P.win P.bin x))))

/-- The perceptron on one row. -/
def Mlp.eval (P : Mlp k m) (x : Row k) : Row m := lin P.wout P.bout (relu (P.hidden x))

/-- Two rows of width 128 side by side. -/
def pair (a b : Row 128) : Row 256 := fun c => if h : c.val < 128 then a ⟨c.val, h⟩ else b ⟨c.val - 128, by omega⟩

/-- Node `i` of the problem that node `r` belongs to. -/
def nb (r : Fin 4096) (i : Fin 8) : Fin 4096 := ⟨8 * (r.val / 8) + i.val, by omega⟩

/-- Node `i` of problem `b`. -/
def node (b : Fin 512) (i : Fin 8) : Fin 4096 := ⟨8 * b.val + i.val, by omega⟩

/-- The weights the eight steps use. -/
structure Weights where
  msg : Mlp 256 128
  post : Mlp 256 128
  out : Mlp 128 16
  gamma : Row 128
  beta : Row 128
  lstmW : Mat 256 512
  lstmb : Row 512

variable (w : Weights)

/-- The messages that arrive at each node, summed over the eight senders. -/
def agg (x : Mat 4096 128) : Mat 4096 128 := fun r c => ∑ i : Fin 8, w.msg.eval (pair (x (nb r i)) (x r)) c

/-- The node update before normalisation. -/
def upd (x0 x : Mat 4096 128) : Mat 4096 128 := fun r => w.post.eval (pair (agg w x r) (x0 r))

/-- The number of nodes, as the programs write it. -/
abbrev nodes : EReal := Ideal.ofBits .f32 0x45800000#32

/-- The mean of each column. -/
def mean (y : Mat 4096 128) : Row 128 := fun c => Ideal.div (∑ r, y r c) nodes

/-- The variance of each column. -/
def var (y : Mat 4096 128) : Row 128 := fun c => Ideal.div (∑ r, (y r c - mean y c) * (y r c - mean y c)) nodes

/-- The batch normalisation. -/
def norm (y : Mat 4096 128) : Mat 4096 128 := fun r c =>
  Ideal.div (y r c - mean y c) (Ideal.sqrt (var y c + Ideal.ofBits .f32 0x3A83126F#32)) * w.gamma c + w.beta c

/-- The four gates of the recurrent cell, side by side. -/
def gates (y h : Mat 4096 128) : Mat 4096 512 := fun r => lin w.lstmW w.lstmb (pair (norm w y r) (h r))

/-- The cell's memory after a step. -/
def cell (g : Mat 4096 512) (c : Mat 4096 128) : Mat 4096 128 := fun r k =>
  Ideal.logistic (g r ⟨256 + k.val, by omega⟩ + 1) * c r k
    + Ideal.logistic (g r ⟨k.val, by omega⟩) * Ideal.tanh (g r ⟨128 + k.val, by omega⟩)

/-- The cell's output after a step, from its memory after it. -/
def emit (g : Mat 4096 512) (c : Mat 4096 128) : Mat 4096 128 := fun r k =>
  Ideal.tanh (c r k) * Ideal.logistic (g r ⟨384 + k.val, by omega⟩)

/-- What a step carries to the next: the node table, the cell's output and its memory. -/
structure St where
  x : Mat 4096 128
  h : Mat 4096 128
  c : Mat 4096 128

/-- One step. -/
def step (x0 : Mat 4096 128) (s : St) : St :=
  let g := gates w (upd w x0 s.x) s.h
  ⟨emit g (cell g s.c), emit g (cell g s.c), cell g s.c⟩

/-- The state before the first step. -/
def start (x0 : Mat 4096 128) : St := ⟨x0, fun _ _ => 0, fun _ _ => 0⟩

/-- The state after `t` steps. -/
def stateAt (x0 : Mat 4096 128) : ℕ → St
  | 0 => start x0
  | t + 1 => step w x0 (stateAt x0 t)

/-- The class scores of each problem. -/
def logits (h : Mat 4096 128) : Mat 512 16 := fun b => w.out.eval fun k => ∑ i : Fin 8, h (node b i) k

end Cert.Net

end
-- ==== Proof.Ops.lean ====
/-
  The layers as the two programs write them, each read at one row: the dense layer with its bias, the rectifier, and
  the four-layer perceptron built of them, for the kernel's operations and for the host's.
-/
module

public import proofs.«01_k».proof.Proof.Spec
public import Idealize.ShloMosaic.Lib.MatmulPlain
public import Idealize.ShloMosaic.Lib.StackMember

@[expose] public section

noncomputable section

namespace Cert.Net

open Idealize.ShloMosaic

/-- The shape of `n` rows of `m`. -/
abbrev mat (n m : ℕ) : Shape := ⟨2, ![n, m]⟩
/-- The shape of a row of `n`. -/
abbrev vec (n : ℕ) : Shape := ⟨1, ![n]⟩

/-- A table as a function of its row and column. -/
abbrev toMat {N M : ℕ} (x : FVec Ideal (mat N M) .f32) : Mat N M := fun r c => x (ix2 r c)
/-- A vector as a function of its position. -/
abbrev toRow {M : ℕ} (x : FVec Ideal (vec M) .f32) : Row M := fun c => x (ix1 c)

/-- What the programs state of the shapes they lay a bias along. -/
abbrev KRow (M : ℕ) : Prop := (vec M).ShapeCasts (mat 1 M)
/-- One row can be spread over all rows, in the kernel. -/
abbrev KCol (N M : ℕ) : Prop := (mat 1 M).Broadcasts (mat N M)
/-- A vector can be read as one row, on the host. -/
abbrev HRow (M : ℕ) : Prop := (vec M).BroadcastsInDim (mat 1 M) (![1] : Fin 1 → Fin (mat 1 M).rank)
/-- One row can be spread over all rows, on the host. -/
abbrev HCol (N M : ℕ) : Prop := (mat 1 M).BroadcastsInDim (mat N M) (![0, 1] : Fin 2 → Fin (mat N M).rank)
/-- One number can be spread over a matrix, on the host. -/
abbrev HAll (N M : ℕ) : Prop := (⟨0, ![]⟩ : Shape).BroadcastsInDim (mat N M) (![] : Fin 0 → Fin (mat N M).rank)

variable {N K M : ℕ}

/-! ### The kernel's operations -/

/-- The kernel's bias: a vector laid along every row. -/
def kBias (N : ℕ) (b : FVec Ideal (vec M) .f32) (h : KRow M) (h' : KCol N M) :
    FVec Ideal (mat N M) .f32 := broadcastTo (mat N M) (shapeCast (mat 1 M) b h) h'

/-- The kernel's dense layer. -/
def kLin (W : FVec Ideal (mat K M) .f32) (b : FVec Ideal (vec M) .f32) (h : KRow M) (h' : KCol N M) (x : FVec Ideal (mat N K) .f32) : FVec Ideal (mat N M) .f32 :=
  addf (matmul (DotDims.plain N K M) none x W (constant (mat N M) .f32 0x00000000#32)) (kBias N b h h')

/-- The kernel's rectifier. -/
def kRelu (x : FVec Ideal (mat N M) .f32) : FVec Ideal (mat N M) .f32 :=
  maximumf x (broadcast (mat N M) (Scalar.ofBits (F := Ideal) .f32 0x00000000#32))

/-- The kernel's bias of 128 columns is the same in every row. -/
theorem kBias128 (b : FVec Ideal (vec 128) .f32) (h h') (r : Fin N) (c : Fin 128) : kBias N b h h' (ix2 r c) = b (ix1 c) := by
  pointwise [kBias]

/-- The kernel's bias of 512 columns is the same in every row. -/
theorem kBias512 (b : FVec Ideal (vec 512) .f32) (h h') (r : Fin N) (c : Fin 512) : kBias N b h h' (ix2 r c) = b (ix1 c) := by
  pointwise [kBias]

/-- The kernel's bias of 16 columns is the same in every row. -/
theorem kBias16 (b : FVec Ideal (vec 16) .f32) (h h') (r : Fin N) (c : Fin 16) : kBias N b h h' (ix2 r c) = b (ix1 c) := by
  pointwise [kBias]

/-- The kernel's dense layer, row by row, for a bias that reads as its vector. -/
theorem kLin_apply (W : FVec Ideal (mat K M) .f32) (b : FVec Ideal (vec M) .f32) (h h') (x : FVec Ideal (mat N K) .f32)
    (r : Fin N) (hb : ∀ c, kBias N b h h' (ix2 r c) = b (ix1 c)) :
    toMat (kLin W b h h' x) r = lin (toMat W) (toRow b) (toMat x r) := by
  funext c
  show FloatOps.matmul (DotDims.plain N K M) none x W _ (ix2 r c) + kBias N b h h' (ix2 r c) = _
  rw [hb, ix2_eq_valueIdx r c, Ideal.matmul_plain_apply]
  simp only [← ix2_eq_valueIdx]
  show (Ideal.ofBits .f32 0x00000000#32 + _) + _ = _
  rw [Ideal.ofBits_zero_f32, zero_add]
  rfl

/-- The kernel's dense layer, read at a row, is the dense layer of that row. -/
theorem kLin128_apply (W : FVec Ideal (mat K 128) .f32) (b : FVec Ideal (vec 128) .f32) (h h') (x : FVec Ideal (mat N K) .f32)
    (r : Fin N) : toMat (kLin W b h h' x) r = lin (toMat W) (toRow b) (toMat x r) :=
  kLin_apply W b h h' x r (kBias128 b h h' r)

/-- The kernel's rectifier acts on each row. -/
theorem kRelu_apply (x : FVec Ideal (mat N M) .f32) (r : Fin N) : toMat (kRelu x) r = relu (toMat x r) := by
  funext c
  pointwise [kRelu, relu]

/-! ### The host's operations -/

/-- The host's bias: a vector laid along every row. -/
def hBias (N : ℕ) (b : FVec Ideal (vec M) .f32) (h : HRow M) (h' : HCol N M) : FVec Ideal (mat N M) .f32 :=
  broadcastInDim (mat N M) ![0, 1] h' (broadcastInDim (mat 1 M) ![1] h b)

/-- The host's dense layer. -/
def hLin (W : FVec Ideal (mat K M) .f32) (b : FVec Ideal (vec M) .f32)
    (h : HRow M) (h' : HCol N M) (x : FVec Ideal (mat N K) .f32) :
    FVec Ideal (mat N M) .f32 :=
  addf (Host.dotGeneral (DotDims.plain N K M) none x W) (hBias N b h h')

/-- The host's rectifier. -/
def hRelu (h : HAll N M) (x : FVec Ideal (mat N M) .f32) :
    FVec Ideal (mat N M) .f32 :=
  maximumf x (broadcastInDim (mat N M) ![] h (constant ⟨0, ![]⟩ .f32 0x00000000#32))

/-- The host's bias of 128 columns is the same in every row. -/
theorem hBias128 (b : FVec Ideal (vec 128) .f32) (h h') (r : Fin N) (c : Fin 128) : hBias N b h h' (ix2 r c) = b (ix1 c) := by
  pointwise [hBias]

/-- The host's bias of 512 columns is the same in every row. -/
theorem hBias512 (b : FVec Ideal (vec 512) .f32) (h h') (r : Fin N) (c : Fin 512) : hBias N b h h' (ix2 r c) = b (ix1 c) := by
  pointwise [hBias]

/-- The host's bias of 16 columns is the same in every row. -/
theorem hBias16 (b : FVec Ideal (vec 16) .f32) (h h') (r : Fin N) (c : Fin 16) : hBias N b h h' (ix2 r c) = b (ix1 c) := by
  pointwise [hBias]

/-- The host's dense layer, row by row, for a bias that reads as its vector. -/
theorem hLin_apply (W : FVec Ideal (mat K M) .f32) (b : FVec Ideal (vec M) .f32) (h h') (x : FVec Ideal (mat N K) .f32)
    (r : Fin N) (hb : ∀ c, hBias N b h h' (ix2 r c) = b (ix1 c)) :
    toMat (hLin W b h h' x) r = lin (toMat W) (toRow b) (toMat x r) := by
  funext c
  show Host.dotGeneral (DotDims.plain N K M) none x W (ix2 r c) + hBias N b h h' (ix2 r c) = _
  rw [hb, ix2_eq_valueIdx r c, StackMember.dotGeneral_plain_apply]
  simp only [← ix2_eq_valueIdx]
  rfl

/-- The host's dense layer, read at a row, is the dense layer of that row. -/
theorem hLin128_apply (W : FVec Ideal (mat K 128) .f32) (b : FVec Ideal (vec 128) .f32) (h h') (x : FVec Ideal (mat N K) .f32)
    (r : Fin N) : toMat (hLin W b h h' x) r = lin (toMat W) (toRow b) (toMat x r) :=
  hLin_apply W b h h' x r (hBias128 b h h' r)

/-- The host's rectifier acts on each row. -/
theorem hRelu_apply (h) (x : FVec Ideal (mat N M) .f32) (r : Fin N) : toMat (hRelu h x) r = relu (toMat x r) := by
  funext c
  pointwise [hRelu, relu]

/-! ### The perceptron -/

/-- The weights of a perceptron as the programs hold them. -/
def mlpOf (win : FVec Ideal (mat K 128) .f32) (bin : FVec Ideal (vec 128) .f32) (w0 : FVec Ideal (mat 128 128) .f32)
    (b0 : FVec Ideal (vec 128) .f32) (w1 : FVec Ideal (mat 128 128) .f32) (b1 : FVec Ideal (vec 128) .f32)
    (wout : FVec Ideal (mat 128 M) .f32) (bout : FVec Ideal (vec M) .f32) : Mlp K M where
  win := toMat win
  bin := toRow bin
  wh := ![toMat w0, toMat w1]
  bh := ![toRow b0, toRow b1]
  wout := toMat wout
  bout := toRow bout

/-- The kernel's perceptron. -/
def kMlp (h : KRow 128) (h' : KCol N 128) (g : KRow M) (g' : KCol N M) (win : FVec Ideal (mat K 128) .f32) (bin : FVec Ideal (vec 128) .f32)
    (w0 : FVec Ideal (mat 128 128) .f32) (b0 : FVec Ideal (vec 128) .f32) (w1 : FVec Ideal (mat 128 128) .f32)
    (b1 : FVec Ideal (vec 128) .f32) (wout : FVec Ideal (mat 128 M) .f32) (bout : FVec Ideal (vec M) .f32)
    (x : FVec Ideal (mat N K) .f32) : FVec Ideal (mat N M) .f32 :=
  kLin wout bout g g' (kRelu (kLin w1 b1 h h' (kRelu (kLin w0 b0 h h' (kRelu (kLin win bin h h' x))))))

/-- The host's perceptron. -/
def hMlp (h : HRow 128) (h' : HCol N 128) (g : HRow M) (g' : HCol N M) (e : HAll N 128) (win : FVec Ideal (mat K 128) .f32) (bin : FVec Ideal (vec 128) .f32)
    (w0 : FVec Ideal (mat 128 128) .f32) (b0 : FVec Ideal (vec 128) .f32) (w1 : FVec Ideal (mat 128 128) .f32)
    (b1 : FVec Ideal (vec 128) .f32) (wout : FVec Ideal (mat 128 M) .f32) (bout : FVec Ideal (vec M) .f32)
    (x : FVec Ideal (mat N K) .f32) : FVec Ideal (mat N M) .f32 :=
  hLin wout bout g g' (hRelu e (hLin w1 b1 h h' (hRelu e (hLin w0 b0 h h' (hRelu e (hLin win bin h h' x))))))

/-- The kernel's perceptron on one row, for a last bias that reads as its vector. -/
theorem kMlp_apply (h h') (g g') (win : FVec Ideal (mat K 128) .f32) (bin w0 b0 w1 b1) (wout : FVec Ideal (mat 128 M) .f32)
    (bout) (x : FVec Ideal (mat N K) .f32) (r : Fin N) (hb : ∀ c, kBias N bout g g' (ix2 r c) = bout (ix1 c)) :
    toMat (kMlp h h' g g' win bin w0 b0 w1 b1 wout bout x) r
      = (mlpOf win bin w0 b0 w1 b1 wout bout).eval (toMat x r) := by
  simp only [kMlp, kLin_apply (hb := hb), kLin128_apply, kRelu_apply, Mlp.eval, Mlp.hidden, mlpOf,
    Matrix.cons_val_zero, Matrix.cons_val_one]

/-- The host's perceptron on one row, for a last bias that reads as its vector. -/
theorem hMlp_apply (h h') (g g') (e) (win : FVec Ideal (mat K 128) .f32) (bin w0 b0 w1 b1) (wout : FVec Ideal (mat 128 M) .f32)
    (bout) (x : FVec Ideal (mat N K) .f32) (r : Fin N) (hb : ∀ c, hBias N bout g g' (ix2 r c) = bout (ix1 c)) :
    toMat (hMlp h h' g g' e win bin w0 b0 w1 b1 wout bout x) r
      = (mlpOf win bin w0 b0 w1 b1 wout bout).eval (toMat x r) := by
  simp only [hMlp, hLin_apply (hb := hb), hLin128_apply, hRelu_apply, Mlp.eval, Mlp.hidden, mlpOf,
    Matrix.cons_val_zero, Matrix.cons_val_one]

end Cert.Net

end
-- ==== Proof.KernelStep.lean ====
/-
  One step of the kernel after its messages are summed, in the kernel's own operations, each read at a row: the node
  update's normalisation, the gates, the cell, the class scores and what the step adds to the two results.
-/
module

public import proofs.«01_k».proof.Proof.Ops

@[expose] public section

noncomputable section

namespace Cert.Net

open Idealize.ShloMosaic

/-- The node table. -/
abbrev Tab := FVec Ideal (mat 4096 128) .f32
/-- The table of gates. -/
abbrev Gat := FVec Ideal (mat 4096 512) .f32
/-- The class scores. -/
abbrev Sco := FVec Ideal (mat 512 16) .f32
/-- The node table by problems. -/
abbrev cube : Shape := ⟨3, ![512, 8, 128]⟩

/-- The kernel's column sums. -/
def kColSum (y : Tab) : FVec Ideal (vec 128) .f32 :=
  multiReduction .add [0] (vec 128) y 0x00000000#32 (by decide) (.inl rfl) rfl

/-- The kernel's deviation from the mean, as the variance takes it. -/
def kDev (y : Tab) : Tab :=
  subf y (broadcastTo (mat 4096 128) (divf (shapeCast (mat 1 128) (kColSum y) (by decide))
    (broadcast (mat 1 128) (Scalar.ofBits (F := Ideal) .f32 0x45800000#32))) (by decide))

/-- The kernel's count of rows, less the zero degrees of freedom it takes off. -/
def kCount : Ideal .f32 := Scalar.subf (Scalar.ofBits .f32 0x45800000#32) (Scalar.sitofp .f32 0#32)

/-- The kernel's variance of each column. -/
def kVar (y : Tab) : FVec Ideal (vec 128) .f32 :=
  Scalar.select (Scalar.cmpf .ogt kCount (Scalar.ofBits .f32 0x00000000#32))
    (divf (multiReduction .add [0] (vec 128) (mulf (kDev y) (kDev y)) 0x00000000#32 (by decide) (.inl rfl) rfl)
      (broadcast (vec 128) kCount))
    (broadcast (vec 128) (Scalar.ofBits (F := Ideal) .f32 0x7FC00000#32))

/-- The kernel's deviation from the mean, as the normalisation takes it. -/
def kCent (y : Tab) : Tab :=
  subf y (kBias 4096 (divf (kColSum y) (broadcast (vec 128) (Scalar.ofBits (F := Ideal) .f32 0x45800000#32))) (by decide) (by decide))

/-- The kernel's normalisation, from the variance and the centred table. -/
def kScale (gamma beta : FVec Ideal (vec 128) .f32) (v : FVec Ideal (vec 128) .f32) (d : Tab) : Tab :=
  addf (mulf (divf d (kBias 4096 (sqrt (addf v (broadcast (vec 128) (Scalar.ofBits (F := Ideal) .f32 0x3A83126F#32)))) (by decide) (by decide)))
    (kBias 4096 gamma (by decide) (by decide))) (kBias 4096 beta (by decide) (by decide))

/-- Two tables of width 128 side by side make one of width 256. -/
theorem sideBySide : Shape.Concatenates [mat 4096 128, mat 4096 128] (mat 4096 256) 1 := by decide

/-- Two tables side by side. -/
def kPair (a b : Tab) : FVec Ideal (mat 4096 256) .f32 :=
  concatenate (mat 4096 256) 1 [⟨mat 4096 128, a⟩, ⟨mat 4096 128, b⟩] sideBySide

/-- The kernel's gates, from the variance and the centred table. -/
def kGates (gamma beta : FVec Ideal (vec 128) .f32) (W : FVec Ideal (mat 256 512) .f32) (b : FVec Ideal (vec 512) .f32)
    (h : Tab) (v : FVec Ideal (vec 128) .f32) (d : Tab) : Gat :=
  kLin W b (by decide) (by decide) (kPair (kScale gamma beta v d) h)

/-- The kernel's cell memory. -/
def kCell (g : Gat) (c : Tab) : Tab :=
  addf (mulf (logistic (addf (extractStridedSlice (mat 4096 128) ![0, 256] g (by decide))
      (broadcast (mat 4096 128) (Scalar.ofBits (F := Ideal) .f32 0x3F800000#32)))) c)
    (mulf (logistic (extractStridedSlice (mat 4096 128) ![0, 0] g (by decide))) (tanh (extractStridedSlice (mat 4096 128) ![0, 128] g (by decide))))

/-- The kernel's cell output. -/
def kEmit (g : Gat) (c : Tab) : Tab :=
  mulf (tanh c) (logistic (extractStridedSlice (mat 4096 128) ![0, 384] g (by decide)))

/-- The kernel's sum over the nodes of each problem. -/
def kPool (h : Tab) : FVec Ideal (mat 512 128) .f32 :=
  multiReduction .add [1] (mat 512 128) (shapeCast cube h (by decide)) 0x00000000#32 (by decide) (.inl rfl) rfl

/-! ### Read at a row -/

/-- The literal of the number of nodes is 4096. -/
theorem nodes_eq : Ideal.ofBits .f32 0x45800000#32 = ((4096 : ℝ) : EReal) := by
  simp [Ideal.ofBits, Ideal.ieee, -EReal.coe_mul]
  norm_num

/-- The kernel's sum over the rows is a column's sum. -/
theorem kColSum_apply (y : Tab) (c : Fin 128) : kColSum y (ix1 c) = ∑ r, y (ix2 r c) := by
  pointwise [kColSum]

/-- The deviation that the variance squares is the entry less its column's mean. -/
theorem kDev_apply (y : Tab) (r : Fin 4096) (c : Fin 128) : kDev y (ix2 r c) = y (ix2 r c) - mean (toMat y) c := by
  pointwise [kDev, kColSum]
  rfl

/-- The centred entry is the entry less its column's mean. -/
theorem kCent_apply (y : Tab) (r : Fin 4096) (c : Fin 128) : kCent y (ix2 r c) = y (ix2 r c) - mean (toMat y) c := by
  pointwise [kCent, kColSum, kBias]
  rfl

/-- The count that the variance divides by is the number of nodes. -/
theorem kCount_eq : kCount = nodes := by
  have h : (Scalar.sitofp .f32 0#32 : Ideal .f32) = (0 : EReal) := by
    show ((((0#32 : BitVec 32).toInt : ℤ) : ℝ) : EReal) = 0
    simp
  show (Ideal.ofBits .f32 0x45800000#32 : EReal) - (Scalar.sitofp .f32 0#32 : Ideal .f32) = _
  rw [h, sub_zero]

/-- The count is greater than zero. -/
theorem ogt_nodes : Scalar.cmpf .ogt kCount (Scalar.ofBits (F := Ideal) .f32 0x00000000#32) = 1 := by
  rw [kCount_eq]
  show Ideal.cmp .ogt nodes (Ideal.ofBits .f32 0x00000000#32) = 1
  have : (0 : EReal) < nodes := by
    rw [nodes, nodes_eq]
    exact_mod_cast (by norm_num : (0 : ℝ) < 4096)
  simp [Ideal.cmp, Ideal.ofBits_zero_f32, this]

/-- The kernel's variance is the variance of the column. -/
theorem kVar_apply (y : Tab) (c : Fin 128) : kVar y (ix1 c) = var (toMat y) c := by
  rw [kVar, ogt_nodes, Scalar.select, if_pos rfl, kCount_eq]
  pointwise [var]
  simp only [kDev_apply]

/-- A row of two tables side by side is their rows side by side. -/
theorem kPair_apply (a b : Tab) (r : Fin 4096) : toMat (kPair a b) r = pair (toMat a r) (toMat b r) := by
  funext c
  pointwise [kPair, pair]

/-- The kernel's normalisation is the network's. -/
theorem kScale_apply (w : Weights) (gamma beta : FVec Ideal (vec 128) .f32) (hg : w.gamma = toRow gamma)
    (hb : w.beta = toRow beta) (y : Tab) : toMat (kScale gamma beta (kVar y) (kCent y)) = norm w (toMat y) := by
  funext r c
  show kScale gamma beta (kVar y) (kCent y) (ix2 r c) = norm w (toMat y) r c
  pointwise [kScale, kBias]
  rw [kCent_apply, kVar_apply]
  simp only [norm, hg, hb]

/-- The kernel's gates are the network's gates of the normalised table and the hidden table. -/
theorem kGates_apply (w : Weights) (gamma beta : FVec Ideal (vec 128) .f32) (W : FVec Ideal (mat 256 512) .f32)
    (b : FVec Ideal (vec 512) .f32) (hg : w.gamma = toRow gamma) (hb : w.beta = toRow beta) (hW : w.lstmW = toMat W)
    (hB : w.lstmb = toRow b) (h y : Tab) :
    toMat (kGates gamma beta W b h (kVar y) (kCent y)) = gates w (toMat y) (toMat h) := by
  funext r
  rw [kGates, kLin_apply (hb := kBias512 b _ _ r), kPair_apply, kScale_apply w gamma beta hg hb, gates, hW, hB]

/-- The kernel's new memory is the network's. -/
theorem kCell_apply (g : Gat) (c : Tab) : toMat (kCell g c) = cell (toMat g) (toMat c) := by
  funext r k
  show kCell g c (ix2 r k) = _
  pointwise [kCell, cell]

/-- The kernel's new hidden table is the network's. -/
theorem kEmit_apply (g : Gat) (c : Tab) : toMat (kEmit g c) = emit (toMat g) (toMat c) := by
  funext r k
  show kEmit g c (ix2 r k) = _
  pointwise [kEmit, emit]

/-- The kernel's pooled row of a problem is the sum of its eight nodes' rows. -/
theorem kPool_apply (h : Tab) (b : Fin 512) (k : Fin 128) : kPool h (ix2 b k) = ∑ i, h (ix2 (node b i) k) := by
  pointwise [kPool, node]
  simp only [Nat.mul_comm]

end Cert.Net

end
-- ==== Proof.KernelRound.lean ====
/-
  One step of the kernel in the kernel's own operations: the tables it keeps in scratch and reads back, the messages
  of the eight senders, the node update, the step's two results; and each read at a row as the network's step.
-/
module

public import proofs.«01_k».proof.Proof.KernelStep
public import Idealize.ShloMosaic.Lib.Pipeline.ReadBack

@[expose] public section

noncomputable section

namespace Cert.Net

open Idealize.ShloMosaic

/-- A bias, as long as a row. -/
abbrev Vc := FVec Ideal (vec 128) .f32
/-- A square weight. -/
abbrev Sq := FVec Ideal (mat 128 128) .f32
/-- A pair of tables side by side. -/
abbrev Wide := FVec Ideal (mat 4096 256) .f32

/-- The weights the kernel's steps use, as it holds them. -/
structure KW where
  mW : FVec Ideal (mat 256 128) .f32
  mB : Vc
  mW0 : Sq
  mB0 : Vc
  mW1 : Sq
  mB1 : Vc
  mWo : Sq
  mBo : Vc
  pW : FVec Ideal (mat 256 128) .f32
  pB : Vc
  pW0 : Sq
  pB0 : Vc
  pW1 : Sq
  pB1 : Vc
  pWo : Sq
  pBo : Vc
  oW : Sq
  oB : Vc
  oW0 : Sq
  oB0 : Vc
  oW1 : Sq
  oB1 : Vc
  oWo : FVec Ideal (mat 128 16) .f32
  oBo : FVec Ideal (vec 16) .f32
  gamma : Vc
  beta : Vc
  lW : FVec Ideal (mat 256 512) .f32
  lB : FVec Ideal (vec 512) .f32

/-- The same weights as functions of their positions. -/
def KW.toW (W : KW) : Weights where
  msg := mlpOf W.mW W.mB W.mW0 W.mB0 W.mW1 W.mB1 W.mWo W.mBo
  post := mlpOf W.pW W.pB W.pW0 W.pB0 W.pW1 W.pB1 W.pWo W.pBo
  out := mlpOf W.oW W.oB W.oW0 W.oB0 W.oW1 W.oB1 W.oWo W.oBo
  gamma := toRow W.gamma
  beta := toRow W.beta
  lstmW := toMat W.lW
  lstmb := toRow W.lB

/-- The table of zeros. -/
def kZero : Tab := broadcast (mat 4096 128) (Scalar.ofBits (F := Ideal) .f32 0x00000000#32)

/-- One sender of each problem can be cut out of the cube. -/
theorem senderSlice (i : Fin 8) : cube.Slices ![0, i.val, 0] ⟨3, ![512, 1, 128]⟩ := by
  revert i; decide

/-- The row of sender `i` laid on every node of its problem. -/
def kBc (x : Tab) (i : Fin 8) : Tab :=
  shapeCast (mat 4096 128) (shapeCast (mat 4096 128) (broadcastTo cube
    (shapeCast ⟨3, ![512, 1, 128]⟩ (shapeCast ⟨3, ![512, 1, 128]⟩ (shapeCast (mat 512 128)
      (extractStridedSlice ⟨3, ![512, 1, 128]⟩ ![0, i.val, 0] (shapeCast cube x (by decide)) (senderSlice i))
      (by decide)) (by decide)) (by decide)) (by decide)) (by decide)) (by decide)

/-- The table itself, as the kernel stores it. -/
def kSelf (x : Tab) : Tab := shapeCast (mat 4096 128) x (by decide)

/-- The messages of one sender. -/
def kMsg (W : KW) (P : Wide) : Tab :=
  kMlp (by decide) (by decide) (by decide) (by decide) W.mW W.mB W.mW0 W.mB0 W.mW1 W.mB1 W.mWo W.mBo P

/-- The messages summed, from the eight pairs. -/
def kAgg8 (W : KW) (P0 P1 P2 P3 P4 P5 P6 P7 : Wide) : Tab :=
  addf (addf (addf (addf (addf (addf (addf (addf kZero (kMsg W P0)) (kMsg W P1)) (kMsg W P2)) (kMsg W P3))
    (kMsg W P4)) (kMsg W P5)) (kMsg W P6)) (kMsg W P7)

/-- The messages summed. -/
def kAgg (W : KW) (x : Tab) : Tab :=
  kAgg8 W (kPair (kBc x 0) (kSelf x)) (kPair (kBc x 1) (kSelf x)) (kPair (kBc x 2) (kSelf x)) (kPair (kBc x 3) (kSelf x))
    (kPair (kBc x 4) (kSelf x)) (kPair (kBc x 5) (kSelf x)) (kPair (kBc x 6) (kSelf x)) (kPair (kBc x 7) (kSelf x))

/-- The node update before normalisation, from the summed messages. -/
def kUpd (W : KW) (x0 a : Tab) : Tab :=
  kMlp (by decide) (by decide) (by decide) (by decide) W.pW W.pB W.pW0 W.pB0 W.pW1 W.pB1 W.pWo W.pBo (kPair a x0)

/-- The gates of a step, from the node update. -/
def kGate (W : KW) (y h : Tab) : Gat := kGates W.gamma W.beta W.lW W.lB h (kVar y) (kCent y)

/-- The class scores of a table. -/
def kLogits (W : KW) (h : Tab) : Sco :=
  kMlp (by decide) (by decide) (by decide) (by decide) W.oW W.oB W.oW0 W.oB0 W.oW1 W.oB1 W.oWo W.oBo (kPool h)

/-- The largest score of each problem, as a column. -/
def kMax (z : Sco) : Sco :=
  broadcastTo (mat 512 16) (shapeCast (mat 512 1) (multiReduction .maximumf [1] (vec 512) z 0xFF800000#32 (by decide) (.inl rfl) rfl)
    (by decide)) (by decide)

/-- The first class whose score is the largest. -/
def kIdx (z : Sco) : IVec (vec 512) 32 :=
  multiReductionI .minsi [1] (vec 512) (select (cmpf .oeq z (kMax z)) (iota .tc (mat 512 16) 32 [1] (by decide))
    (broadcast (mat 512 16) 16#32)) 2147483647#32 (by decide) rfl

/-- The logarithm of the softmax. -/
def kLsm (z : Sco) : Sco :=
  subf (subf z (kMax z)) (broadcastTo (mat 512 16) (log (shapeCast (mat 512 1)
    (multiReduction .add [1] (vec 512) (exp (subf z (kMax z))) 0x00000000#32 (by decide) (.inl rfl) rfl) (by decide))) (by decide))

/-- The loss of each problem. -/
def kCe (hot z : Sco) : FVec Ideal (vec 512) .f32 :=
  subf (broadcast (vec 512) (Scalar.ofBits (F := Ideal) .f32 0x00000000#32))
    (multiReduction .add [1] (vec 512) (mulf (kLsm z) hot) 0x00000000#32 (by decide) (.inl rfl) rfl)

/-- The mean loss in units of `n`. -/
def kLoss (n : Ideal .f32) (hot z : Sco) : Ideal .f32 :=
  Scalar.divf (Scalar.divf (extractAt ![0, 0] (shapeCast (mat 1 1) (multiReduction .add [1] (vec 1)
    (shapeCast (mat 1 512) (kCe hot z) (by decide)) 0x00000000#32 (by decide) (.inl rfl) rfl) (by decide)) (by decide))
      (Scalar.ofBits .f32 0x44000000#32)) n

/-- Eight rows of classes, one under the other. -/
def kStackI (a b c d e f g h : IVec (vec 512) 32) : IVec (mat 8 512) 32 :=
  concatenate (mat 8 512) 0 [⟨mat 1 512, shapeCast (mat 1 512) a (by decide)⟩, ⟨mat 1 512, shapeCast (mat 1 512) b (by decide)⟩,
    ⟨mat 1 512, shapeCast (mat 1 512) c (by decide)⟩, ⟨mat 1 512, shapeCast (mat 1 512) d (by decide)⟩,
    ⟨mat 1 512, shapeCast (mat 1 512) e (by decide)⟩, ⟨mat 1 512, shapeCast (mat 1 512) f (by decide)⟩,
    ⟨mat 1 512, shapeCast (mat 1 512) g (by decide)⟩, ⟨mat 1 512, shapeCast (mat 1 512) h (by decide)⟩]
    (show Shape.Concatenates [mat 1 512, mat 1 512, mat 1 512, mat 1 512, mat 1 512, mat 1 512, mat 1 512, mat 1 512] (mat 8 512) 0 by decide)

/-- Eight losses, one under the other. -/
def kStackF (a b c d e f g h : Ideal .f32) : FVec Ideal (mat 8 1) .f32 :=
  shapeCast (mat 8 1) (concatenate (vec 8) 0 [⟨vec 1, broadcast (vec 1) a⟩, ⟨vec 1, broadcast (vec 1) b⟩,
    ⟨vec 1, broadcast (vec 1) c⟩, ⟨vec 1, broadcast (vec 1) d⟩, ⟨vec 1, broadcast (vec 1) e⟩,
    ⟨vec 1, broadcast (vec 1) f⟩, ⟨vec 1, broadcast (vec 1) g⟩, ⟨vec 1, broadcast (vec 1) h⟩]
    (show Shape.Concatenates [vec 1, vec 1, vec 1, vec 1, vec 1, vec 1, vec 1, vec 1] (vec 8) 0 by decide)) (by decide)

/-! ### The tables read back from scratch -/

section Scratch

variable {sig : RefSig} {κ : Kind} {sp : Space}

/-- The left and the right half of a scratch table, and the whole of it. -/
abbrev half0 (h : ∀ a, (![0, 0] : Fin 2 → ℕ) a + (mat 4096 128).size a ≤ (mat 4096 256).size a) : Rect (mat 4096 256) :=
  Rect.unit ![0, 0] (mat 4096 128).size h
/-- The right half of a scratch buffer. -/
abbrev half1 (h : ∀ a, (![0, 128] : Fin 2 → ℕ) a + (mat 4096 128).size a ≤ (mat 4096 256).size a) : Rect (mat 4096 256) :=
  Rect.unit ![0, 128] (mat 4096 128).size h
/-- The whole of a scratch buffer. -/
abbrev allOf (h : ∀ a, (![0, 0] : Fin 2 → ℕ) a + (mat 4096 256).size a ≤ (mat 4096 256).size a) : Rect (mat 4096 256) :=
  Rect.unit ![0, 0] (mat 4096 256).size h

/-- The two halves do not meet. -/
theorem halves (h0 h1) : LoadRect.disj (half0 h0) (half1 h1).toLoadRect = true := by
  decide +revert

/-- What was stored last in the right half is read there. -/
theorem right_head (v : View sig κ sp (mat 4096 256) .f32) {h1} (b : Tab) (L : List (View.Piece (Elt Ideal) (mat 4096 256) .f32)) :
    v.readCov (⟨half1 h1, b⟩ :: L) (half1 h1).toLoadRect = b := View.readCov_cons_toLoadRect ..

/-- A store in the left half leaves the right half. -/
theorem right_skip (v : View sig κ sp (mat 4096 256) .f32) {h0 h1} (a b : Tab) (L : List (View.Piece (Elt Ideal) (mat 4096 256) .f32))
    (h : v.readCov L (half1 h1).toLoadRect = b) : v.readCov (⟨half0 h0, a⟩ :: L) (half1 h1).toLoadRect = b :=
  (View.readCov_skip _ _ _ _ _ (halves h0 h1)).trans h

/-- After a store in the left half the whole reads as the two halves side by side. -/
theorem read_pair (v : View sig κ sp (mat 4096 256) .f32) {h0 h1 h} (a b : Tab) (L : List (View.Piece (Elt Ideal) (mat 4096 256) .f32))
    (hb : v.readCov L (half1 h1).toLoadRect = b) : v.readCov (⟨half0 h0, a⟩ :: L) (allOf h).toLoadRect = kPair a b := by
  rw [View.readCov_eq_canon'] at hb ⊢
  funext y
  obtain ⟨r, c, rfl⟩ : ∃ r c, y = ix2 r c := ⟨y 0, y 1, by funext q; fin_cases q <;> rfl⟩
  refine Eq.trans ?_ (congrFun (kPair_apply a b r) c).symm
  rcases Nat.lt_or_ge c.val 128 with hc | hc
  · have e : (allOf h).toLoadRect.idx (ix2 r c) = (half0 h0).emb (ix2 r ⟨c.val, hc⟩) := by
      funext q; apply Fin.ext
      fin_cases q <;> rfl
    rw [e, View.canon_cons_emb, pair, dif_pos hc]
  · have e : (allOf h).toLoadRect.idx (ix2 r c) = (half1 h1).toLoadRect.idx (ix2 r ⟨c.val - 128, by omega⟩) := by
      funext q; apply Fin.ext
      fin_cases q
      · rfl
      · show 0 + 1 * c.val = 128 + 1 * (c.val - 128)
        omega
    have hn := LoadRect.idx_not_mem_of_disj (halves h0 h1) (ix2 r ⟨c.val - 128, by omega⟩)
    rw [e, View.canon_cons_of_not_mem ⟨half0 h0, a⟩ L hn, pair, dif_neg (by omega)]
    exact congrFun hb (ix2 r ⟨c.val - 128, by omega⟩)

/-- The whole, after one, two, three or four stores in the left half since the right half was stored. -/
theorem read_one (v : View sig κ sp (mat 4096 256) .f32) {h0 h1 h} (a b : Tab) (L : List (View.Piece (Elt Ideal) (mat 4096 256) .f32)) :
    v.readCov (⟨half0 h0, a⟩ :: ⟨half1 h1, b⟩ :: L) (allOf h).toLoadRect = kPair a b :=
  read_pair v a b _ (right_head v b L)

/-- The whole, after two stores in the left half since the right half was stored: the last one counts. -/
theorem read_two (v : View sig κ sp (mat 4096 256) .f32) {h0 h0' h1 h} (a a' b : Tab) (L : List (View.Piece (Elt Ideal) (mat 4096 256) .f32)) :
    v.readCov (⟨half0 h0, a⟩ :: ⟨half0 h0', a'⟩ :: ⟨half1 h1, b⟩ :: L) (allOf h).toLoadRect = kPair a b :=
  read_pair v a b _ (right_skip v a' b _ (right_head v b L))

/-- The whole, after three stores in the left half since the right half was stored: the last one counts. -/
theorem read_three (v : View sig κ sp (mat 4096 256) .f32) {h0 h0' h0'' h1 h} (a a' a'' b : Tab)
    (L : List (View.Piece (Elt Ideal) (mat 4096 256) .f32)) :
    v.readCov (⟨half0 h0, a⟩ :: ⟨half0 h0', a'⟩ :: ⟨half0 h0'', a''⟩ :: ⟨half1 h1, b⟩ :: L) (allOf h).toLoadRect = kPair a b :=
  read_pair v a b _ (right_skip v a' b _ (right_skip v a'' b _ (right_head v b L)))

/-- The whole, after four stores in the left half since the right half was stored: the last one counts. -/
theorem read_four (v : View sig κ sp (mat 4096 256) .f32) {h0 h0' h0'' h3 h1 h} (a a' a'' a3 b : Tab)
    (L : List (View.Piece (Elt Ideal) (mat 4096 256) .f32)) :
    v.readCov (⟨half0 h0, a⟩ :: ⟨half0 h0', a'⟩ :: ⟨half0 h0'', a''⟩ :: ⟨half0 h3, a3⟩ :: ⟨half1 h1, b⟩ :: L) (allOf h).toLoadRect = kPair a b :=
  read_pair v a b _ (right_skip v a' b _ (right_skip v a'' b _ (right_skip v a3 b _ (right_head v b L))))

end Scratch

/-- The summed messages, when the eight pairs are read as they were stored. -/
theorem agg_of_reads (W : KW) (x : Tab) {P0 P1 P2 P3 P4 P5 P6 P7 : Wide}
    (h0 : P0 = kPair (kBc x 0) (kSelf x)) (h1 : P1 = kPair (kBc x 1) (kSelf x)) (h2 : P2 = kPair (kBc x 2) (kSelf x))
    (h3 : P3 = kPair (kBc x 3) (kSelf x)) (h4 : P4 = kPair (kBc x 4) (kSelf x)) (h5 : P5 = kPair (kBc x 5) (kSelf x))
    (h6 : P6 = kPair (kBc x 6) (kSelf x)) (h7 : P7 = kPair (kBc x 7) (kSelf x)) :
    kAgg8 W P0 P1 P2 P3 P4 P5 P6 P7 = kAgg W x := by
  subst h0 h1 h2 h3 h4 h5 h6 h7; rfl

/-! ### Read at a row -/

/-- The table of zeros is zero everywhere. -/
theorem kZero_apply (r : Fin 4096) (c : Fin 128) : kZero (ix2 r c) = 0 := by
  pointwise [kZero]

/-- The receivers' rows are the table's own rows. -/
theorem kSelf_apply (x : Tab) (r : Fin 4096) (c : Fin 128) : kSelf x (ix2 r c) = x (ix2 r c) := by
  pointwise [kSelf]

/-- The spread rows of the i-th sender have at each node the row of the i-th node of its problem. -/
theorem kBc_apply (x : Tab) (i : Fin 8) (r : Fin 4096) (c : Fin 128) : kBc x i (ix2 r c) = x (ix2 (nb r i) c) := by
  pointwise [kBc, nb]
  simp only [Nat.mul_comm]

/-- One sender's messages at a node. -/
theorem kMsg_apply (W : KW) (x : Tab) (i : Fin 8) (r : Fin 4096) (c : Fin 128) :
    kMsg W (kPair (kBc x i) (kSelf x)) (ix2 r c) = W.toW.msg.eval (pair (toMat x (nb r i)) (toMat x r)) c := by
  have h := kMlp_apply (by decide) (by decide) (by decide) (by decide) W.mW W.mB W.mW0 W.mB0 W.mW1 W.mB1 W.mWo W.mBo
    (kPair (kBc x i) (kSelf x)) r (kBias128 _ _ _ _)
  refine (congrFun h c).trans ?_
  rw [kPair_apply, show toMat (kBc x i) r = toMat x (nb r i) from funext (kBc_apply x i r),
    show toMat (kSelf x) r = toMat x r from funext (kSelf_apply x r)]
  rfl

/-- The kernel's summed messages are the network's. -/
theorem kAgg_apply (W : KW) (x : Tab) : toMat (kAgg W x) = agg W.toW (toMat x) := by
  funext r c
  show kZero (ix2 r c) + _ + _ + _ + _ + _ + _ + _ + _ = _
  simp only [kMsg_apply, kZero_apply, agg, Fin.sum_univ_eight, zero_add]

/-- The kernel's update of the node table is the network's. -/
theorem kUpd_apply (W : KW) (x0 x : Tab) : toMat (kUpd W x0 (kAgg W x)) = upd W.toW (toMat x0) (toMat x) := by
  funext r
  rw [kUpd, kMlp_apply (hb := kBias128 _ _ _ _), kPair_apply, kAgg_apply]
  rfl

/-- The kernel's gates are the network's. -/
theorem kGate_apply (W : KW) (y h : Tab) : toMat (kGate W y h) = gates W.toW (toMat y) (toMat h) :=
  kGates_apply W.toW _ _ _ _ rfl rfl rfl rfl h y

/-- The kernel's scores are the network's. -/
theorem kLogits_apply (W : KW) (h : Tab) : toMat (kLogits W h) = logits W.toW (toMat h) := by
  funext b
  rw [kLogits, kMlp_apply (hb := kBias16 _ _ _ _), show toMat (kPool h) b = _ from funext (kPool_apply h b)]
  rfl

end Cert.Net

end
-- ==== Proof.KernelNames.lean ====
/-
  The values of the kernel's run that the proof names, and how each is computed from the ones before it.
-/
module

public import proofs.«01_k».proof.Proof.KernelIdealFrame
public import proofs.«01_k».proof.Proof.KernelRound

@[expose] public section

set_option maxRecDepth 16384

noncomputable section

namespace Cert.KernelIdeal.Link

open Idealize.ShloMosaic Idealize.ShloMosaic.TcCoe Cert.KernelIdeal.Gen

variable (m : (ℓ : Loc nD τ sig) → Buf (Elt Ideal) ℓ) (c : Dev nD) (t : Fin cfg0.N)

/-- The kernel's node features before the first step. -/
def first : Net.Tab :=
  kernelRun0_A.sl.v108 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t)

/-- The targets, one hot. -/
def hot : Net.Sco :=
  kernelRun0_A.sl.v75 (F := Ideal) c (ms0_6 t) (hs0_6 t) (iblk m c 6 t)

/-- The summed messages of the first step. -/
def sum1 : Net.Tab :=
  kernelRun0_A.sl.v473 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- The cell memory after the first step. -/
def mem1 : Net.Tab :=
  kernelRun0_A.sl.v560 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The node table after the first step. -/
def hid1 : Net.Tab :=
  kernelRun0_A.sl.v563 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The summed messages of the second step. -/
def sum2 : Net.Tab :=
  kernelRun0_A.sl.v985 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The cell memory after the second step. -/
def mem2 : Net.Tab :=
  kernelRun0_A.sl.v1072 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The node table after the second step. -/
def hid2 : Net.Tab :=
  kernelRun0_A.sl.v1075 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The summed messages of the third step. -/
def sum3 : Net.Tab :=
  kernelRun0_A.sl.v1497 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The cell memory after the third step. -/
def mem3 : Net.Tab :=
  kernelRun0_A.sl.v1584 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The node table after the third step. -/
def hid3 : Net.Tab :=
  kernelRun0_A.sl.v1587 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The summed messages of the fourth step. -/
def sum4 : Net.Tab :=
  kernelRun0_A.sl.v2009 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The cell memory after the fourth step. -/
def mem4 : Net.Tab :=
  kernelRun0_A.sl.v2096 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The node table after the fourth step. -/
def hid4 : Net.Tab :=
  kernelRun0_A.sl.v2099 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The summed messages of the fifth step. -/
def sum5 : Net.Tab :=
  kernelRun0_A.sl.v2521 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The cell memory after the fifth step. -/
def mem5 : Net.Tab :=
  kernelRun0_A.sl.v2608 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The node table after the fifth step. -/
def hid5 : Net.Tab :=
  kernelRun0_A.sl.v2611 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The summed messages of the sixth step. -/
def sum6 : Net.Tab :=
  kernelRun0_A.sl.v3033 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The cell memory after the sixth step. -/
def mem6 : Net.Tab :=
  kernelRun0_A.sl.v3120 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The node table after the sixth step. -/
def hid6 : Net.Tab :=
  kernelRun0_A.sl.v3123 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The summed messages of the seventh step. -/
def sum7 : Net.Tab :=
  kernelRun0_A.sl.v3545 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The cell memory after the seventh step. -/
def mem7 : Net.Tab :=
  kernelRun0_A.sl.v3632 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The node table after the seventh step. -/
def hid7 : Net.Tab :=
  kernelRun0_A.sl.v3635 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The summed messages of the eighth step. -/
def sum8 : Net.Tab :=
  kernelRun0_A.sl.v4057 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The cell memory after the eighth step. -/
def mem8 : Net.Tab :=
  kernelRun0_A.sl.v4144 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The node table after the eighth step. -/
def hid8 : Net.Tab :=
  kernelRun0_A.sl.v4147 (F := Ideal) c (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_31 t) (hs0_31 t) (ms0_32 t) (hs0_32 t) (ms0_33 t) (hs0_33 t) (ms0_34 t) (hs0_34 t) scM0_0 scM0_1 (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 31 t) (iblk m c 32 t) (iblk m c 33 t) (iblk m c 34 t)

/-- The weights as the kernel loads them. -/
def kw : Net.KW where
  mW := kernelRun0_A.sl.r_3 (F := Ideal) c (ms0_13 t) (hs0_13 t) (iblk m c 13 t)
  mB := kernelRun0_A.sl.r_6 (F := Ideal) c (ms0_14 t) (hs0_14 t) (iblk m c 14 t)
  mW0 := kernelRun0_A.sl.v134 (F := Ideal) c (ms0_15 t) (hs0_15 t) (iblk m c 15 t)
  mB0 := kernelRun0_A.sl.v136 (F := Ideal) c (ms0_16 t) (hs0_16 t) (iblk m c 16 t)
  mW1 := kernelRun0_A.sl.v138 (F := Ideal) c (ms0_15 t) (hs0_15 t) (iblk m c 15 t)
  mB1 := kernelRun0_A.sl.v140 (F := Ideal) c (ms0_16 t) (hs0_16 t) (iblk m c 16 t)
  mWo := kernelRun0_A.sl.r_4 (F := Ideal) c (ms0_17 t) (hs0_17 t) (iblk m c 17 t)
  mBo := kernelRun0_A.sl.r_5 (F := Ideal) c (ms0_18 t) (hs0_18 t) (iblk m c 18 t)
  pW := kernelRun0_A.sl.r_7 (F := Ideal) c (ms0_19 t) (hs0_19 t) (iblk m c 19 t)
  pB := kernelRun0_A.sl.r_8 (F := Ideal) c (ms0_20 t) (hs0_20 t) (iblk m c 20 t)
  pW0 := kernelRun0_A.sl.v478 (F := Ideal) c (ms0_21 t) (hs0_21 t) (iblk m c 21 t)
  pB0 := kernelRun0_A.sl.v480 (F := Ideal) c (ms0_22 t) (hs0_22 t) (iblk m c 22 t)
  pW1 := kernelRun0_A.sl.v482 (F := Ideal) c (ms0_21 t) (hs0_21 t) (iblk m c 21 t)
  pB1 := kernelRun0_A.sl.v484 (F := Ideal) c (ms0_22 t) (hs0_22 t) (iblk m c 22 t)
  pWo := kernelRun0_A.sl.r_9 (F := Ideal) c (ms0_23 t) (hs0_23 t) (iblk m c 23 t)
  pBo := kernelRun0_A.sl.r_23 (F := Ideal) c (ms0_24 t) (hs0_24 t) (iblk m c 24 t)
  oW := kernelRun0_A.sl.r_10 (F := Ideal) c (ms0_25 t) (hs0_25 t) (iblk m c 25 t)
  oB := kernelRun0_A.sl.r_11 (F := Ideal) c (ms0_26 t) (hs0_26 t) (iblk m c 26 t)
  oW0 := kernelRun0_A.sl.v569 (F := Ideal) c (ms0_27 t) (hs0_27 t) (iblk m c 27 t)
  oB0 := kernelRun0_A.sl.v571 (F := Ideal) c (ms0_28 t) (hs0_28 t) (iblk m c 28 t)
  oW1 := kernelRun0_A.sl.v573 (F := Ideal) c (ms0_27 t) (hs0_27 t) (iblk m c 27 t)
  oB1 := kernelRun0_A.sl.v575 (F := Ideal) c (ms0_28 t) (hs0_28 t) (iblk m c 28 t)
  oWo := kernelRun0_A.sl.r_24 (F := Ideal) c (ms0_29 t) (hs0_29 t) (iblk m c 29 t)
  oBo := kernelRun0_A.sl.r_25 (F := Ideal) c (ms0_30 t) (hs0_30 t) (iblk m c 30 t)
  gamma := kernelRun0_A.sl.r_1 (F := Ideal) c (ms0_31 t) (hs0_31 t) (iblk m c 31 t)
  beta := kernelRun0_A.sl.r_2 (F := Ideal) c (ms0_32 t) (hs0_32 t) (iblk m c 32 t)
  lW := View.readAt (Elt Ideal) (ms0_33 t).view (Rect.unit ![0, 0] S256x512.size inb_S256x512_S256x512_0_0).toLoadRect ((hs0_33 t).unread (iblk m c 33 t))
  lB := View.readAt (Elt Ideal) (ms0_34 t).view (Rect.unit ![0] S512.size inb_S512_S512_0).toLoadRect ((hs0_34 t).unread (iblk m c 34 t))

end Cert.KernelIdeal.Link

end
-- ==== Proof.KernelLink.lean ====
/-
  How each value the proof names is computed from the ones before it.
-/
module

public import proofs.«01_k».proof.Proof.KernelNames

@[expose] public section

set_option maxRecDepth 16384

noncomputable section

namespace Cert.KernelIdeal.Link

open Idealize.ShloMosaic Idealize.ShloMosaic.TcCoe Cert.KernelIdeal.Gen

variable (m : (ℓ : Loc nD τ sig) → Buf (Elt Ideal) ℓ) (c : Dev nD) (t : Fin cfg0.N)

/-- The memory after step 1 is the cell of that step's gates and the memory before. -/
theorem mem1_eq : mem1 m c t = Net.kCell (Net.kGate (kw m c t) (Net.kUpd (kw m c t) (first m c t) (sum1 m c t)) (Net.kZero)) (Net.kZero) := rfl
/-- The hidden table after step 1 is what that step's gates let out of the memory. -/
theorem hid1_eq : hid1 m c t = Net.kEmit (Net.kGate (kw m c t) (Net.kUpd (kw m c t) (first m c t) (sum1 m c t)) (Net.kZero)) (mem1 m c t) := rfl

/-- The memory after step 2 is the cell of that step's gates and the memory before. -/
theorem mem2_eq : mem2 m c t = Net.kCell (Net.kGate (kw m c t) (Net.kUpd (kw m c t) (first m c t) (sum2 m c t)) (hid1 m c t)) (mem1 m c t) := rfl
/-- The hidden table after step 2 is what that step's gates let out of the memory. -/
theorem hid2_eq : hid2 m c t = Net.kEmit (Net.kGate (kw m c t) (Net.kUpd (kw m c t) (first m c t) (sum2 m c t)) (hid1 m c t)) (mem2 m c t) := rfl

/-- The memory after step 3 is the cell of that step's gates and the memory before. -/
theorem mem3_eq : mem3 m c t = Net.kCell (Net.kGate (kw m c t) (Net.kUpd (kw m c t) (first m c t) (sum3 m c t)) (hid2 m c t)) (mem2 m c t) := rfl
/-- The hidden table after step 3 is what that step's gates let out of the memory. -/
theorem hid3_eq : hid3 m c t = Net.kEmit (Net.kGate (kw m c t) (Net.kUpd (kw m c t) (first m c t) (sum3 m c t)) (hid2 m c t)) (mem3 m c t) := rfl

/-- The memory after step 4 is the cell of that step's gates and the memory before. -/
theorem mem4_eq : mem4 m c t = Net.kCell (Net.kGate (kw m c t) (Net.kUpd (kw m c t) (first m c t) (sum4 m c t)) (hid3 m c t)) (mem3 m c t) := rfl
/-- The hidden table after step 4 is what that step's gates let out of the memory. -/
theorem hid4_eq : hid4 m c t = Net.kEmit (Net.kGate (kw m c t) (Net.kUpd (kw m c t) (first m c t) (sum4 m c t)) (hid3 m c t)) (mem4 m c t) := rfl

/-- The memory after step 5 is the cell of that step's gates and the memory before. -/
theorem mem5_eq : mem5 m c t = Net.kCell (Net.kGate (kw m c t) (Net.kUpd (kw m c t) (first m c t) (sum5 m c t)) (hid4 m c t)) (mem4 m c t) := rfl
/-- The hidden table after step 5 is what that step's gates let out of the memory. -/
theorem hid5_eq : hid5 m c t = Net.kEmit (Net.kGate (kw m c t) (Net.kUpd (kw m c t) (first m c t) (sum5 m c t)) (hid4 m c t)) (mem5 m c t) := rfl

/-- The memory after step 6 is the cell of that step's gates and the memory before. -/
theorem mem6_eq : mem6 m c t = Net.kCell (Net.kGate (kw m c t) (Net.kUpd (kw m c t) (first m c t) (sum6 m c t)) (hid5 m c t)) (mem5 m c t) := rfl
/-- The hidden table after step 6 is what that step's gates let out of the memory. -/
theorem hid6_eq : hid6 m c t = Net.kEmit (Net.kGate (kw m c t) (Net.kUpd (kw m c t) (first m c t) (sum6 m c t)) (hid5 m c t)) (mem6 m c t) := rfl

/-- The memory after step 7 is the cell of that step's gates and the memory before. -/
theorem mem7_eq : mem7 m c t = Net.kCell (Net.kGate (kw m c t) (Net.kUpd (kw m c t) (first m c t) (sum7 m c t)) (hid6 m c t)) (mem6 m c t) := rfl
/-- The hidden table after step 7 is what that step's gates let out of the memory. -/
theorem hid7_eq : hid7 m c t = Net.kEmit (Net.kGate (kw m c t) (Net.kUpd (kw m c t) (first m c t) (sum7 m c t)) (hid6 m c t)) (mem7 m c t) := rfl

/-- The memory after step 8 is the cell of that step's gates and the memory before. -/
theorem mem8_eq : mem8 m c t = Net.kCell (Net.kGate (kw m c t) (Net.kUpd (kw m c t) (first m c t) (sum8 m c t)) (hid7 m c t)) (mem7 m c t) := rfl
/-- The hidden table after step 8 is what that step's gates let out of the memory. -/
theorem hid8_eq : hid8 m c t = Net.kEmit (Net.kGate (kw m c t) (Net.kUpd (kw m c t) (first m c t) (sum8 m c t)) (hid7 m c t)) (mem8 m c t) := rfl

end Cert.KernelIdeal.Link

end
-- ==== Proof.KernelSums.lean ====
/-
  The summed messages of each step: the pairs it reads back from scratch are those it stored.
-/
module

public import proofs.«01_k».proof.Proof.KernelNames

@[expose] public section

set_option maxRecDepth 16384

noncomputable section

namespace Cert.KernelIdeal.Link

open Idealize.ShloMosaic Idealize.ShloMosaic.TcCoe Cert.KernelIdeal.Gen

variable (m : (ℓ : Loc nD τ sig) → Buf (Elt Ideal) ℓ) (c : Dev nD) (t : Fin cfg0.N)

/-- The sum of step 1 is the summed messages of the node table before it. -/
theorem sum1_eq : sum1 m c t = Net.kAgg (kw m c t) (first m c t) := by
  refine Net.agg_of_reads (kw m c t) (first m c t) ?_ ?_ ?_ ?_ ?_ ?_ ?_ ?_
  · exact (Net.read_one ..).trans rfl
  · exact (Net.read_one ..).trans rfl
  · exact (Net.read_two ..).trans rfl
  · exact (Net.read_two ..).trans rfl
  · exact (Net.read_three ..).trans rfl
  · exact (Net.read_three ..).trans rfl
  · exact (Net.read_four ..).trans rfl
  · exact (Net.read_four ..).trans rfl

/-- The sum of step 2 is the summed messages of the node table before it. -/
theorem sum2_eq : sum2 m c t = Net.kAgg (kw m c t) (hid1 m c t) := by
  refine Net.agg_of_reads (kw m c t) (hid1 m c t) ?_ ?_ ?_ ?_ ?_ ?_ ?_ ?_
  · exact (Net.read_one ..).trans rfl
  · exact (Net.read_one ..).trans rfl
  · exact (Net.read_two ..).trans rfl
  · exact (Net.read_two ..).trans rfl
  · exact (Net.read_three ..).trans rfl
  · exact (Net.read_three ..).trans rfl
  · exact (Net.read_four ..).trans rfl
  · exact (Net.read_four ..).trans rfl

/-- The sum of step 3 is the summed messages of the node table before it. -/
theorem sum3_eq : sum3 m c t = Net.kAgg (kw m c t) (hid2 m c t) := by
  refine Net.agg_of_reads (kw m c t) (hid2 m c t) ?_ ?_ ?_ ?_ ?_ ?_ ?_ ?_
  · exact (Net.read_one ..).trans rfl
  · exact (Net.read_one ..).trans rfl
  · exact (Net.read_two ..).trans rfl
  · exact (Net.read_two ..).trans rfl
  · exact (Net.read_three ..).trans rfl
  · exact (Net.read_three ..).trans rfl
  · exact (Net.read_four ..).trans rfl
  · exact (Net.read_four ..).trans rfl

/-- The sum of step 4 is the summed messages of the node table before it. -/
theorem sum4_eq : sum4 m c t = Net.kAgg (kw m c t) (hid3 m c t) := by
  refine Net.agg_of_reads (kw m c t) (hid3 m c t) ?_ ?_ ?_ ?_ ?_ ?_ ?_ ?_
  · exact (Net.read_one ..).trans rfl
  · exact (Net.read_one ..).trans rfl
  · exact (Net.read_two ..).trans rfl
  · exact (Net.read_two ..).trans rfl
  · exact (Net.read_three ..).trans rfl
  · exact (Net.read_three ..).trans rfl
  · exact (Net.read_four ..).trans rfl
  · exact (Net.read_four ..).trans rfl

/-- The sum of step 5 is the summed messages of the node table before it. -/
theorem sum5_eq : sum5 m c t = Net.kAgg (kw m c t) (hid4 m c t) := by
  refine Net.agg_of_reads (kw m c t) (hid4 m c t) ?_ ?_ ?_ ?_ ?_ ?_ ?_ ?_
  · exact (Net.read_one ..).trans rfl
  · exact (Net.read_one ..).trans rfl
  · exact (Net.read_two ..).trans rfl
  · exact (Net.read_two ..).trans rfl
  · exact (Net.read_three ..).trans rfl
  · exact (Net.read_three ..).trans rfl
  · exact (Net.read_four ..).trans rfl
  · exact (Net.read_four ..).trans rfl

/-- The sum of step 6 is the summed messages of the node table before it. -/
theorem sum6_eq : sum6 m c t = Net.kAgg (kw m c t) (hid5 m c t) := by
  refine Net.agg_of_reads (kw m c t) (hid5 m c t) ?_ ?_ ?_ ?_ ?_ ?_ ?_ ?_
  · exact (Net.read_one ..).trans rfl
  · exact (Net.read_one ..).trans rfl
  · exact (Net.read_two ..).trans rfl
  · exact (Net.read_two ..).trans rfl
  · exact (Net.read_three ..).trans rfl
  · exact (Net.read_three ..).trans rfl
  · exact (Net.read_four ..).trans rfl
  · exact (Net.read_four ..).trans rfl

/-- The sum of step 7 is the summed messages of the node table before it. -/
theorem sum7_eq : sum7 m c t = Net.kAgg (kw m c t) (hid6 m c t) := by
  refine Net.agg_of_reads (kw m c t) (hid6 m c t) ?_ ?_ ?_ ?_ ?_ ?_ ?_ ?_
  · exact (Net.read_one ..).trans rfl
  · exact (Net.read_one ..).trans rfl
  · exact (Net.read_two ..).trans rfl
  · exact (Net.read_two ..).trans rfl
  · exact (Net.read_three ..).trans rfl
  · exact (Net.read_three ..).trans rfl
  · exact (Net.read_four ..).trans rfl
  · exact (Net.read_four ..).trans rfl

/-- The sum of step 8 is the summed messages of the node table before it. -/
theorem sum8_eq : sum8 m c t = Net.kAgg (kw m c t) (hid7 m c t) := by
  refine Net.agg_of_reads (kw m c t) (hid7 m c t) ?_ ?_ ?_ ?_ ?_ ?_ ?_ ?_
  · exact (Net.read_one ..).trans rfl
  · exact (Net.read_one ..).trans rfl
  · exact (Net.read_two ..).trans rfl
  · exact (Net.read_two ..).trans rfl
  · exact (Net.read_three ..).trans rfl
  · exact (Net.read_three ..).trans rfl
  · exact (Net.read_four ..).trans rfl
  · exact (Net.read_four ..).trans rfl

end Cert.KernelIdeal.Link

end
-- ==== Proof.KernelOut.lean ====
/-
  What the kernel leaves in its two output windows: the eight steps' classes and losses.
-/
module

public import proofs.«01_k».proof.Proof.KernelLink
public import proofs.«01_k».proof.Proof.KernelSums
public import Idealize.ShloMosaic.Lib.Pipeline.ValueKit

@[expose] public section

set_option maxRecDepth 16384

noncomputable section

namespace Cert.KernelIdeal.Link

open Idealize.ShloMosaic Idealize.ShloMosaic.Tactic Idealize.ShloMosaic.TcCoe Cert.KernelIdeal.Gen

variable (m : (ℓ : Loc nD τ sig) → Buf (Elt Ideal) ℓ) (c : Dev nD) (t : Fin cfg0.N)

/-- The class scores the kernel finds from a node table. -/
def sco (h : Net.Tab) : Net.Sco := Net.kLogits (kw m c t) h

/-- The loss the kernel finds from a node table. -/
def los (h : Net.Tab) : Ideal .f32 := Net.kLoss (Named.named κ "ln2" 0x3F317218#32) (hot m c t) (sco m c t h)

/-- The class the kernel finds from a node table. -/
def cls (h : Net.Tab) : IVec (Net.vec 512) 32 := Net.kIdx (sco m c t h)

/-- The second result is the stack of the classes after each step. -/
theorem out_idx : (outsAt0 m c t).2 = Net.kStackI (cls m c t (hid1 m c t)) (cls m c t (hid2 m c t)) (cls m c t (hid3 m c t))
    (cls m c t (hid4 m c t)) (cls m c t (hid5 m c t)) (cls m c t (hid6 m c t)) (cls m c t (hid7 m c t)) (cls m c t (hid8 m c t)) := by
  unfold outsAt0
  dsimp only
  frame_open
  rw [View.read_writes_junk_eq_canon]
  exact (View.canon_unit_zero (by funext a; fin_cases a <;> rfl) _ _).trans rfl

/-- The first result is the stack of the losses after each step. -/
theorem out_loss : (outsAt0 m c t).1 = Net.kStackF (los m c t (hid1 m c t)) (los m c t (hid2 m c t)) (los m c t (hid3 m c t))
    (los m c t (hid4 m c t)) (los m c t (hid5 m c t)) (los m c t (hid6 m c t)) (los m c t (hid7 m c t)) (los m c t (hid8 m c t)) := by
  unfold outsAt0
  dsimp only
  frame_open
  rw [View.read_writes_junk_eq_canon]
  exact (View.canon_unit_zero (by funext a; fin_cases a <;> rfl) _ _).trans rfl

end Cert.KernelIdeal.Link

end
-- ==== Proof.KernelState.lean ====
/-
  The kernel's node table and cell memory after each step, as the network's state.
-/
module

public import proofs.«01_k».proof.Proof.KernelOut

@[expose] public section

set_option maxRecDepth 16384

noncomputable section

namespace Cert.Net

open Idealize.ShloMosaic

/-- One step in the kernel's own operations is one step of the network. -/
theorem kStep_apply (W : KW) (x0 x h c sm mem hid : Tab) (hs : sm = kAgg W x)
    (hm : mem = kCell (kGate W (kUpd W x0 sm) h) c) (hh : hid = kEmit (kGate W (kUpd W x0 sm) h) mem) :
    (⟨toMat hid, toMat hid, toMat mem⟩ : St) = step W.toW (toMat x0) ⟨toMat x, toMat h, toMat c⟩ := by
  have e : toMat mem = cell (gates W.toW (upd W.toW (toMat x0) (toMat x)) (toMat h)) (toMat c) := by
    rw [hm, hs, kCell_apply, kGate_apply, kUpd_apply]
  have e' : toMat hid = emit (gates W.toW (upd W.toW (toMat x0) (toMat x)) (toMat h)) (toMat mem) := by
    rw [hh, hs, kEmit_apply, kGate_apply, kUpd_apply]
  rw [e', e]
  rfl

/-- The same after a state already known. -/
theorem kStep_next (W : KW) (x0 hid0 mem0 sm mem hid : Tab) (k : ℕ)
    (hp : (⟨toMat hid0, toMat hid0, toMat mem0⟩ : St) = stateAt W.toW (toMat x0) k) (hs : sm = kAgg W hid0)
    (hm : mem = kCell (kGate W (kUpd W x0 sm) hid0) mem0) (hh : hid = kEmit (kGate W (kUpd W x0 sm) hid0) mem) :
    (⟨toMat hid, toMat hid, toMat mem⟩ : St) = stateAt W.toW (toMat x0) (k + 1) := by
  rw [kStep_apply W x0 hid0 hid0 mem0 sm mem hid hs hm hh, hp]
  rfl

/-- The first step, from the table of zeros. -/
theorem kStep_first (W : KW) (x0 sm mem hid : Tab) (hs : sm = kAgg W x0)
    (hm : mem = kCell (kGate W (kUpd W x0 sm) kZero) kZero) (hh : hid = kEmit (kGate W (kUpd W x0 sm) kZero) mem) :
    (⟨toMat hid, toMat hid, toMat mem⟩ : St) = stateAt W.toW (toMat x0) 1 := by
  rw [kStep_apply W x0 x0 kZero kZero sm mem hid hs hm hh,
    show toMat kZero = fun _ _ => 0 from funext fun r => funext fun c => kZero_apply r c]
  rfl

end Cert.Net

namespace Cert.KernelIdeal.Link

open Idealize.ShloMosaic Idealize.ShloMosaic.TcCoe Cert.KernelIdeal.Gen

variable (m : (ℓ : Loc nD τ sig) → Buf (Elt Ideal) ℓ) (c : Dev nD) (t : Fin cfg0.N)

/-- The state of the network with the kernel's weights and first table. -/
def kSt (k : ℕ) : Net.St := Net.stateAt (kw m c t).toW (Net.toMat (first m c t)) k

/-- After the first step. -/
theorem st1 : (⟨Net.toMat (hid1 m c t), Net.toMat (hid1 m c t), Net.toMat (mem1 m c t)⟩ : Net.St) = kSt m c t 1 :=
  Net.kStep_first _ _ _ _ _ (sum1_eq m c t) (mem1_eq m c t) (hid1_eq m c t)

/-- After the second step. -/
theorem st2 : (⟨Net.toMat (hid2 m c t), Net.toMat (hid2 m c t), Net.toMat (mem2 m c t)⟩ : Net.St) = kSt m c t 2 :=
  Net.kStep_next _ _ _ _ _ _ _ _ (st1 m c t) (sum2_eq m c t) (mem2_eq m c t) (hid2_eq m c t)

/-- After the third step. -/
theorem st3 : (⟨Net.toMat (hid3 m c t), Net.toMat (hid3 m c t), Net.toMat (mem3 m c t)⟩ : Net.St) = kSt m c t 3 :=
  Net.kStep_next _ _ _ _ _ _ _ _ (st2 m c t) (sum3_eq m c t) (mem3_eq m c t) (hid3_eq m c t)

/-- After the fourth step. -/
theorem st4 : (⟨Net.toMat (hid4 m c t), Net.toMat (hid4 m c t), Net.toMat (mem4 m c t)⟩ : Net.St) = kSt m c t 4 :=
  Net.kStep_next _ _ _ _ _ _ _ _ (st3 m c t) (sum4_eq m c t) (mem4_eq m c t) (hid4_eq m c t)

/-- After the fifth step. -/
theorem st5 : (⟨Net.toMat (hid5 m c t), Net.toMat (hid5 m c t), Net.toMat (mem5 m c t)⟩ : Net.St) = kSt m c t 5 :=
  Net.kStep_next _ _ _ _ _ _ _ _ (st4 m c t) (sum5_eq m c t) (mem5_eq m c t) (hid5_eq m c t)

/-- After the sixth step. -/
theorem st6 : (⟨Net.toMat (hid6 m c t), Net.toMat (hid6 m c t), Net.toMat (mem6 m c t)⟩ : Net.St) = kSt m c t 6 :=
  Net.kStep_next _ _ _ _ _ _ _ _ (st5 m c t) (sum6_eq m c t) (mem6_eq m c t) (hid6_eq m c t)

/-- After the seventh step. -/
theorem st7 : (⟨Net.toMat (hid7 m c t), Net.toMat (hid7 m c t), Net.toMat (mem7 m c t)⟩ : Net.St) = kSt m c t 7 :=
  Net.kStep_next _ _ _ _ _ _ _ _ (st6 m c t) (sum7_eq m c t) (mem7_eq m c t) (hid7_eq m c t)

/-- After the eighth step. -/
theorem st8 : (⟨Net.toMat (hid8 m c t), Net.toMat (hid8 m c t), Net.toMat (mem8 m c t)⟩ : Net.St) = kSt m c t 8 :=
  Net.kStep_next _ _ _ _ _ _ _ _ (st7 m c t) (sum8_eq m c t) (mem8_eq m c t) (hid8_eq m c t)

end Cert.KernelIdeal.Link

end
-- ==== Proof.HostEdges.lean ====
/-
  The messages as the host sends them: a table of edges made of iotas, the rows of both ends gathered along it, and the
  messages summed where they arrive; each read at an index.
-/
module

public import proofs.«01_k».proof.Proof.KernelRound
public import Idealize.ShloMosaic.Lib.Routing.Ops
public import Idealize.ShloMosaic.Lib.Routing.OpsPair

@[expose] public section

noncomputable section

namespace Cert.Net

open Idealize.ShloMosaic

/-- The shape of the edges by problem, sender and receiver. -/
abbrev edg : Shape := ⟨3, ![512, 8, 8]⟩
/-- The same with one node number to each. -/
abbrev edg1 : Shape := ⟨4, ![512, 8, 8, 1]⟩
/-- The same with both ends to each. -/
abbrev edg2 : Shape := ⟨4, ![512, 8, 8, 2]⟩

/-- Eight times the problem's number, as words. -/
def hBase : IVec edg 32 := muli (broadcastInDim edg ![] (by decide) (constantI ⟨0, ![]⟩ 32 8#32)) (iotaInDim edg 32 0)

/-- Two columns of node numbers side by side. -/
theorem edgeSides : Shape.Concatenates [edg1, edg1] edg2 3 := by decide

/-- The table of edges: sender and receiver of each. -/
def hEdges : IVec (mat 32768 2) 32 :=
  shapeCast (mat 32768 2) (concatenate edg2 3
    [⟨edg1, broadcastInDim edg1 ![0, 1, 2] (by decide) (addi hBase (iotaInDim edg 32 1))⟩,
      ⟨edg1, broadcastInDim edg1 ![0, 1, 2] (by decide) (addi hBase (iotaInDim edg 32 2))⟩] edgeSides) (by decide)

/-- Both ends of every edge, one after the other. -/
def hEnds : IVec (vec 65536) 32 := shapeCast (vec 65536) hEdges (by decide)

/-- The receiver of every edge. -/
def hDst : IVec (vec 32768) 32 :=
  shapeCast (vec 32768) (extractStridedSlice (mat 32768 1) ![0, 1] hEdges (by decide)) (by decide)

/-- A node number that may be counted from the end, as a column. -/
def hWrapEnds (e : IVec (vec 65536) 32) : IVec (mat 65536 1) 32 :=
  broadcastInDim (mat 65536 1) ![0] (by decide)
    (select (cmpi .slt e (broadcastInDim (vec 65536) ![] (by decide) (constantI ⟨0, ![]⟩ 32 0#32)))
      (addi e (broadcastInDim (vec 65536) ![] (by decide) (constantI ⟨0, ![]⟩ 32 4096#32))) e)

/-- The receivers as the scatter takes them: negative ones wrapped, one to a row. -/
def hWrapDst (e : IVec (vec 32768) 32) : IVec (mat 32768 1) 32 :=
  broadcastInDim (mat 32768 1) ![0] (by decide)
    (select (cmpi .slt e (broadcastInDim (vec 32768) ![] (by decide) (constantI ⟨0, ![]⟩ 32 0#32)))
      (addi e (broadcastInDim (vec 32768) ![] (by decide) (constantI ⟨0, ![]⟩ 32 4096#32))) e)

/-- How the rows of the node table are gathered. -/
def takeRowsOf : GatherDims (mat 4096 128) (mat 65536 1) (mat 65536 128) where
  offsetDims := [1]
  collapsedSliceDims := [0]
  operandBatchingDims := []
  startIndicesBatchingDims := []
  startIndexMap := [0]
  indexVectorDim := 1
  sliceSizes := ![1, 128]
  wf := by decide

/-- How the messages are added into the node table. -/
def addRowsTo : ScatterDims (mat 4096 128) (mat 32768 1) (mat 32768 128) where
  updateWindowDims := [1]
  insertedWindowDims := [0]
  scatterDimsToOperandDims := [0]
  indexVectorDim := 1
  wf := by decide

/-- The column of edge features, all zero. -/
def hNil : FVec Ideal (mat 32768 1) .f32 := broadcastInDim (mat 32768 1) ![] (by decide) (constant ⟨0, ![]⟩ .f32 0x00000000#32)

/-- The gathered ends and the edge feature fit side by side. -/
theorem endsSides : Shape.Concatenates [mat 32768 256, mat 32768 1] (mat 32768 257) 1 := by decide

/-- The rows of both ends of every edge, and its feature. -/
def hPairs (x : Tab) : FVec Ideal (mat 32768 257) .f32 :=
  concatenate (mat 32768 257) 1
    [⟨mat 32768 256, shapeCast (mat 32768 256) (Host.gather takeRowsOf x (hWrapEnds hEnds)) (by decide)⟩, ⟨mat 32768 1, hNil⟩]
    endsSides

/-- The host's table of zeros. -/
def hZero : Tab := broadcastInDim (mat 4096 128) ![] (by decide) (constant ⟨0, ![]⟩ .f32 0x00000000#32)

/-- The messages added into the rows of their receivers. -/
def hSum (u : FVec Ideal (mat 32768 128) .f32) : Tab := Host.scatterAdd addRowsTo hZero (hWrapDst hDst) u

end Cert.Net

end
-- ==== Proof.HostAgg.lean ====
/-
  The host's messages read at an index: what is gathered along an edge, and what is summed at a node.
-/
module

public import proofs.«01_k».proof.Proof.HostEdges

@[expose] public section

noncomputable section

namespace Cert.Net

open Idealize.ShloMosaic

/-- The sender of edge `e`. -/
def srcOf (e : Fin 32768) : Fin 4096 := ⟨8 * (e.val / 64) + e.val / 8 % 8, by omega⟩
/-- The receiver of edge `e`. -/
def dstOf (e : Fin 32768) : Fin 4096 := ⟨8 * (e.val / 64) + e.val % 8, by omega⟩
/-- The edge on which node `r` hears sender `i`. -/
def edgeTo (r : Fin 4096) (i : Fin 8) : Fin 32768 := ⟨64 * (r.val / 8) + 8 * i.val + r.val % 8, by omega⟩

/-- The word of 8 n + k, computed in words. -/
theorem word_of (n k : ℕ) : (8#32 * BitVec.ofNat 32 n + BitVec.ofNat 32 k) = BitVec.ofNat 32 (8 * n + k) := by
  apply BitVec.eq_of_toNat_eq
  simp [BitVec.toNat_add, BitVec.toNat_mul, BitVec.toNat_ofNat]

/-- The table of edges has the sender of each edge in its first column. -/
theorem hEdges_src (e : Fin 32768) : hEdges (ix2 e 0) = BitVec.ofNat 32 (srcOf e).val := by
  pointwise [hEdges, hBase, srcOf]
  exact word_of _ _

/-- The table of edges has the receiver of each edge in its second column. -/
theorem hEdges_dst (e : Fin 32768) : hEdges (ix2 e 1) = BitVec.ofNat 32 (dstOf e).val := by
  pointwise [hEdges, hBase, dstOf]
  exact word_of _ _

/-- The ends in one line are the table of edges read row by row. -/
theorem hEnds_apply (n : Fin 65536) : hEnds (ix1 n) = hEdges (ix2 ⟨n.val / 2, by omega⟩ ⟨n.val % 2, by omega⟩) := by
  pointwise [hEnds]

/-- The line of receivers has the receiver of each edge. -/
theorem hDst_apply (e : Fin 32768) : hDst (ix1 e) = BitVec.ofNat 32 (dstOf e).val := by
  rw [← hEdges_dst]
  pointwise [hDst]

/-- A node's word is not negative, so the wrapping of negative indices leaves it. -/
theorem wrap_word (n : ℕ) (hn : n < 4096) (a : BitVec 32) :
    Scalar.select (IntOp.cmpi .slt (BitVec.ofNat 32 n) 0#32) a (BitVec.ofNat 32 n) = BitVec.ofNat 32 n := by
  refine Routing.wrap_of_lt _ _ ?_
  rw [BitVec.toNat_ofNat]
  exact (Nat.mod_le _ _).trans_lt (by omega)

/-- The wrapped receivers are the receivers. -/
theorem hWrapDst_apply (e : Fin 32768) : hWrapDst hDst (ix2 e 0) = BitVec.ofNat 32 (dstOf e).val := by
  pointwise [hWrapDst]
  rw [hDst_apply, wrap_word _ (dstOf e).isLt]

/-- The wrapped ends have the sender of an edge at its even place. -/
theorem hWrapEnds_src (e : Fin 32768) (h : 2 * e.val < 65536) :
    hWrapEnds hEnds (ix2 ⟨2 * e.val, h⟩ 0) = BitVec.ofNat 32 (srcOf e).val := by
  have h0 : hEnds (ix1 ⟨2 * e.val, h⟩) = BitVec.ofNat 32 (srcOf e).val := by
    rw [hEnds_apply, ← hEdges_src]
    congr 2 <;> apply Fin.ext <;> simp <;> omega
  pointwise [hWrapEnds]
  rw [h0, wrap_word _ (srcOf e).isLt]

/-- The wrapped ends have the receiver of an edge at its odd place. -/
theorem hWrapEnds_dst (e : Fin 32768) (h : 2 * e.val + 1 < 65536) :
    hWrapEnds hEnds (ix2 ⟨2 * e.val + 1, h⟩ 0) = BitVec.ofNat 32 (dstOf e).val := by
  have h0 : hEnds (ix1 ⟨2 * e.val + 1, h⟩) = BitVec.ofNat 32 (dstOf e).val := by
    rw [hEnds_apply, ← hEdges_dst]
    congr 2 <;> apply Fin.ext <;> simp <;> omega
  pointwise [hWrapEnds]
  rw [h0, wrap_word _ (dstOf e).isLt]

/-- A gathered row. -/
theorem take_apply (x : Tab) (n : Fin 65536) (c : Fin 128) (b : Fin 4096) (hb : hWrapEnds hEnds (ix2 n 0) = BitVec.ofNat 32 b.val) :
    Host.gather takeRowsOf x (hWrapEnds hEnds) (ix2 n c) = x (ix2 b c) := by
  rw [ix2_eq_valueIdx n c, ix2_eq_valueIdx b c]
  rw [ix2_eq_valueIdx n 0] at hb
  exact Routing.gather_row takeRowsOf rfl rfl rfl rfl rfl x _ n c b hb (by norm_num)

/-- The gathered rows of an edge, and its feature. -/
theorem hPairs_apply (x : Tab) (e : Fin 32768) (k : Fin 257) : hPairs x (ix2 e k)
    = if h : k.val < 256 then pair (toMat x (srcOf e)) (toMat x (dstOf e)) ⟨k.val, h⟩ else 0 := by
  pointwise [hPairs, hNil]
  by_cases h : k.val < 256
  · rw [dif_pos h, dif_pos h, pair]
    by_cases hc : k.val < 128
    · rw [dif_pos hc, take_apply x _ _ (srcOf e)]
      · congr 1; congr 1; apply Fin.ext; show k.val % 128 = k.val; omega
      · rw [← hWrapEnds_src e (by omega)]
        congr 2; apply Fin.ext; show e.val * 2 + k.val / 128 = 2 * e.val; omega
    · rw [dif_neg hc, take_apply x _ _ (dstOf e)]
      · congr 1; congr 1; apply Fin.ext; show k.val % 128 = k.val - 128; omega
      · rw [← hWrapEnds_dst e (by omega)]
        congr 2; apply Fin.ext; show e.val * 2 + k.val / 128 = 2 * e.val + 1; omega
  · rw [dif_neg h, dif_neg h]

/-- Where an update lands. -/
theorem lands_row (idx : IVec (mat 32768 1) 32) (e : Fin 32768) (c' : Fin 128) (r : Fin 4096) (c : Fin 128) :
    addRowsTo.resultIdx? (ix2 e c') idx = some (ix2 r c) ↔ (idx (ix2 e 0)).toInt = (r.val : ℤ) ∧ c' = c := by
  have hs0 : addRowsTo.start (ix2 e c') idx 0 = (idx (ix2 e 0)).toInt := by
    unfold ScatterDims.start
    rw [dif_pos (show (0 : Fin 2) ∈ addRowsTo.scatterDimsToOperandDims from List.mem_singleton.mpr rfl)]
    congr 2
    funext q; apply Fin.ext
    match q with
    | ⟨0, _⟩ => rfl
    | ⟨1, _⟩ => rfl
  have hs1 : addRowsTo.start (ix2 e c') idx 1 = 0 := by
    unfold ScatterDims.start
    rw [dif_neg (by decide)]
  have hw0 : addRowsTo.window (ix2 e c') 0 = 0 := by
    unfold ScatterDims.window
    rw [dif_neg (by decide)]
  have hw1 : addRowsTo.window (ix2 e c') 1 = c'.val := by
    unfold ScatterDims.window
    rw [dif_pos (by decide)]
    rfl
  have h := Routing.resultIdx?_eq_some addRowsTo (ix2 e c') idx (ix2 r c)
  rw [h]
  constructor
  · intro hh
    have a0 := hh 0
    have a1 := hh 1
    rw [hs0, hw0] at a0
    rw [hs1, hw1] at a1
    refine ⟨by simpa using a0, Fin.ext ?_⟩
    have : ((c'.val : ℤ)) = (c.val : ℤ) := by simpa using a1
    exact_mod_cast this
  · rintro ⟨h0, rfl⟩ a
    match a with
    | ⟨0, _⟩ =>
      show addRowsTo.start (ix2 e c') idx 0 + (addRowsTo.window (ix2 e c') 0 : ℤ) = (r.val : ℤ)
      rw [hs0, hw0, h0]; simp
    | ⟨1, _⟩ =>
      show addRowsTo.start (ix2 e c') idx 1 + (addRowsTo.window (ix2 e c') 1 : ℤ) = (c'.val : ℤ)
      rw [hs1, hw1]; simp

/-- An edge's receiver is a node exactly when the edge is one of the eight into that node. -/
theorem dst_iff (e : Fin 32768) (r : Fin 4096) : dstOf e = r ↔ ∃ i, edgeTo r i = e := by
  constructor
  · rintro rfl
    refine ⟨⟨e.val / 8 % 8, by omega⟩, Fin.ext ?_⟩
    simp only [edgeTo, dstOf]
    omega
  · rintro ⟨i, rfl⟩
    apply Fin.ext
    simp only [edgeTo, dstOf]
    omega

/-- The eight edges into a node differ. -/
theorem edgeTo_inj (r : Fin 4096) : Function.Injective (edgeTo r) := by
  intro i j h
  have := congrArg Fin.val h
  simp only [edgeTo] at this
  exact Fin.ext (by omega)

/-- The sender of the i-th edge into a node is the i-th node of its problem. -/
theorem srcOf_edgeTo (r : Fin 4096) (i : Fin 8) : srcOf (edgeTo r i) = nb r i := by
  apply Fin.ext
  simp only [edgeTo, srcOf, nb]
  omega

/-- The receiver of an edge into a node is that node. -/
theorem dstOf_edgeTo (r : Fin 4096) (i : Fin 8) : dstOf (edgeTo r i) = r := (dst_iff _ _).2 ⟨i, rfl⟩

/-- What is summed at a node: the messages of its eight senders. -/
theorem hSum_apply (u : FVec Ideal (mat 32768 128) .f32) (r : Fin 4096) (c : Fin 128) :
    hSum u (ix2 r c) = ∑ i, u (ix2 (edgeTo r i) c) := by
  have hz : hZero (ix2 r c) = 0 := by pointwise [hZero]
  show hZero (ix2 r c) + ∑ j ∈ Finset.univ.filter (fun j => addRowsTo.resultIdx? j (hWrapDst hDst) = some (ix2 r c)), u j = _
  rw [hz, zero_add]
  symm
  refine Finset.sum_bij (fun i _ => ix2 (edgeTo r i) c) ?_ ?_ ?_ ?_
  · intro i _
    rw [Finset.mem_filter]
    refine ⟨Finset.mem_univ _, (lands_row _ _ _ _ _).2 ⟨?_, rfl⟩⟩
    rw [hWrapDst_apply, dstOf_edgeTo]
    exact StableHlo.Predicate.toInt_ofNat_small _ (by omega)
  · intro i _ j _ h
    exact edgeTo_inj r (congrFun h 0)
  · intro j hj
    obtain ⟨e, c', rfl⟩ : ∃ e c', j = ix2 e c' := ⟨j 0, j 1, by funext q; fin_cases q <;> rfl⟩
    obtain ⟨h1, rfl⟩ := (lands_row _ _ _ _ _).1 (Finset.mem_filter.1 hj).2
    rw [hWrapDst_apply, StableHlo.Predicate.toInt_ofNat_small _ (by omega)] at h1
    obtain ⟨i, hi⟩ := (dst_iff e r).1 (Fin.ext (by exact_mod_cast h1))
    exact ⟨i, Finset.mem_univ _, by rw [hi]⟩
  · intro i _
    rfl

end Cert.Net

end
-- ==== Proof.HostStep.lean ====
/-
  One step of the host program in the host's own operations, each read at a row as the network's step.
-/
module

public import proofs.«01_k».proof.Proof.HostAgg

@[expose] public section

noncomputable section

namespace Cert.Net

open Idealize.ShloMosaic

/-- Two square weights, one behind the other. -/
abbrev two : Shape := ⟨3, ![2, 128, 128]⟩
/-- The nodes' positions. -/
abbrev pts : Shape := ⟨3, ![512, 8, 2]⟩

/-- The arguments both programs take. -/
structure Args where
  pos : FVec Ideal pts .f32
  col : IVec (mat 512 8) 32
  mar : IVec (mat 512 8) 32
  anc : IVec (vec 512) 32
  jmp : IVec (vec 512) 32
  tgt : IVec (vec 512) 32
  eW : FVec Ideal (mat 42 128) .f32
  eB : Vc
  eWh : FVec Ideal two .f32
  eBh : FVec Ideal (mat 2 128) .f32
  eWo : Sq
  eBo : Vc
  mW : FVec Ideal (mat 257 128) .f32
  mB : Vc
  mWh : FVec Ideal two .f32
  mBh : FVec Ideal (mat 2 128) .f32
  mWo : Sq
  mBo : Vc
  pW : FVec Ideal (mat 256 128) .f32
  pB : Vc
  pWh : FVec Ideal two .f32
  pBh : FVec Ideal (mat 2 128) .f32
  pWo : Sq
  pBo : Vc
  oW : Sq
  oB : Vc
  oWh : FVec Ideal two .f32
  oBh : FVec Ideal (mat 2 128) .f32
  oWo : FVec Ideal (mat 128 16) .f32
  oBo : FVec Ideal (vec 16) .f32
  gamma : Vc
  beta : Vc
  lW : FVec Ideal (mat 256 512) .f32
  lB : FVec Ideal (vec 512) .f32

/-- One of two square weights. -/
def hSq0 (W : FVec Ideal two .f32) : Sq :=
  shapeCast (mat 128 128) (extractStridedSlice ⟨3, ![1, 128, 128]⟩ ![0, 0, 0] W (by decide)) (by decide)
/-- The other of two square weights. -/
def hSq1 (W : FVec Ideal two .f32) : Sq :=
  shapeCast (mat 128 128) (extractStridedSlice ⟨3, ![1, 128, 128]⟩ ![1, 0, 0] W (by decide)) (by decide)
/-- One of two biases. -/
def hVc0 (b : FVec Ideal (mat 2 128) .f32) : Vc :=
  shapeCast (vec 128) (extractStridedSlice (mat 1 128) ![0, 0] b (by decide)) (by decide)
/-- The other of two biases. -/
def hVc1 (b : FVec Ideal (mat 2 128) .f32) : Vc :=
  shapeCast (vec 128) (extractStridedSlice (mat 1 128) ![1, 0] b (by decide)) (by decide)

/-- The rows of the message weight that meet the two ends of an edge. -/
def topRows (W : FVec Ideal (mat 257 128) .f32) : FVec Ideal (mat 256 128) .f32 :=
  fun j => W (ix2 ⟨(j 0).val, Nat.lt_succ_of_lt (j 0).isLt⟩ (j 1))

/-- The weights the steps use. -/
def Args.w (A : Args) : Weights where
  msg := mlpOf (topRows A.mW) A.mB (hSq0 A.mWh) (hVc0 A.mBh) (hSq1 A.mWh) (hVc1 A.mBh) A.mWo A.mBo
  post := mlpOf A.pW A.pB (hSq0 A.pWh) (hVc0 A.pBh) (hSq1 A.pWh) (hVc1 A.pBh) A.pWo A.pBo
  out := mlpOf A.oW A.oB (hSq0 A.oWh) (hVc0 A.oBh) (hSq1 A.oWh) (hVc1 A.oBh) A.oWo A.oBo
  gamma := toRow A.gamma
  beta := toRow A.beta
  lstmW := toMat A.lW
  lstmb := toRow A.lB

variable (A : Args)

/-- The host's messages along every edge. -/
def hMsgs (x : Tab) : FVec Ideal (mat 32768 128) .f32 :=
  hMlp (by decide) (by decide) (by decide) (by decide) (by decide) A.mW A.mB (hSq0 A.mWh) (hVc0 A.mBh) (hSq1 A.mWh) (hVc1 A.mBh) A.mWo A.mBo (hPairs x)

/-- The three layers of the node update before its last rectifier. -/
def hUpdHid (x0 x : Tab) : Tab :=
  hLin (hSq1 A.pWh) (hVc1 A.pBh) (by decide) (by decide) (hRelu (by decide) (hLin (hSq0 A.pWh) (hVc0 A.pBh) (by decide) (by decide)
    (hRelu (by decide) (hLin A.pW A.pB (by decide) (by decide) (kPair (hSum (hMsgs A x)) x0)))))

/-- The node update, from the layers before its last rectifier. -/
def hUpdOut (z : Tab) : Tab := hLin A.pWo A.pBo (by decide) (by decide) (hRelu (by decide) z)

/-- The host's column sums. -/
def hColSum (y : Tab) : Vc :=
  Host.reduceAdd (axes := [0]) (t := vec 128) y (constant ⟨0, ![]⟩ .f32 0x00000000#32) (by decide) (by decide)

/-- The host's deviation from the mean, as the variance takes it. -/
def hDev (y : Tab) : Tab :=
  subf y (broadcastInDim (mat 4096 128) ![0, 1] (by decide) (Host.divf (broadcastInDim (mat 1 128) ![1] (by decide) (hColSum y))
    (broadcastInDim (mat 1 128) ![] (by decide) (constant ⟨0, ![]⟩ .f32 0x45800000#32))))

/-- The host's count of rows, less the zero degrees of freedom it takes off. -/
def hCount : FVec Ideal ⟨0, ![]⟩ .f32 := subf (constant ⟨0, ![]⟩ .f32 0x45800000#32) (sitofp .f32 (constantI ⟨0, ![]⟩ 32 0#32))

/-- The host's variance of each column, from the deviation and the count. -/
def hVarOf (d : Tab) (n : FVec Ideal ⟨0, ![]⟩ .f32) : Vc :=
  select (broadcastInDim (vec 128) ![] (by decide) (cmpf .ogt n (constant ⟨0, ![]⟩ .f32 0x00000000#32)))
    (Host.divf (hColSum (mulf d d)) (broadcastInDim (vec 128) ![] (by decide) n))
    (broadcastInDim (vec 128) ![] (by decide) (id (constant ⟨0, ![]⟩ .f32 0x7FC00000#32)))

/-- The host's normalisation, from the variance. -/
def hNorm (y : Tab) (v : Vc) : Tab :=
  addf (mulf (Host.divf (subf y (hBias 4096 (Host.divf (hColSum y) (broadcastInDim (vec 128) ![] (by decide) (constant ⟨0, ![]⟩ .f32 0x45800000#32))) (by decide) (by decide)))
    (hBias 4096 (Host.sqrt (addf v (broadcastInDim (vec 128) ![] (by decide) (constant ⟨0, ![]⟩ .f32 0x3A83126F#32)))) (by decide) (by decide)))
    (hBias 4096 A.gamma (by decide) (by decide))) (hBias 4096 A.beta (by decide) (by decide))

/-- The host's gates, from the node update and the deviation and the count it is normalised by. -/
def hGates (y d : Tab) (n : FVec Ideal ⟨0, ![]⟩ .f32) (h : Tab) : Gat :=
  hLin A.lW A.lB (by decide) (by decide) (kPair (hNorm A y (hVarOf d n)) h)

/-- The host's one at every place. -/
def hOne : Tab := broadcastInDim (mat 4096 128) ![] (by decide) (constant ⟨0, ![]⟩ .f32 0x3F800000#32)

/-- The host's logistic. -/
def hSig (z : Tab) : Tab := Host.divf hOne (addf hOne (Host.exp (Host.negf z)))

/-- The host's cell memory. -/
def hCell (g : Gat) (c : Tab) : Tab :=
  addf (mulf (hSig (addf (extractStridedSlice (mat 4096 128) ![0, 256] g (by decide)) hOne)) c)
    (mulf (hSig (extractStridedSlice (mat 4096 128) ![0, 0] g (by decide))) (Host.tanh (extractStridedSlice (mat 4096 128) ![0, 128] g (by decide))))

/-- The host's cell output. -/
def hEmit (g : Gat) (c : Tab) : Tab :=
  mulf (Host.tanh c) (hSig (extractStridedSlice (mat 4096 128) ![0, 384] g (by decide)))

/-- The host's sum over the nodes of each problem. -/
def hPool (h : Tab) : FVec Ideal (mat 512 128) .f32 :=
  Host.reduceAdd (axes := [1]) (t := mat 512 128) (shapeCast cube h (by decide)) (constant ⟨0, ![]⟩ .f32 0x00000000#32) (by decide) (by decide)

/-- The host's class scores. -/
def hLogits (h : Tab) : Sco :=
  hMlp (by decide) (by decide) (by decide) (by decide) (by decide) A.oW A.oB (hSq0 A.oWh) (hVc0 A.oBh) (hSq1 A.oWh) (hVc1 A.oBh) A.oWo A.oBo (hPool h)

/-! ### Read at a row -/

theorem hZero_apply (r : Fin 4096) (c : Fin 128) : hZero (ix2 r c) = 0 := by
  pointwise [hZero]

/-- A first layer of 257 inputs, the last of them zero, is one of 256. -/
theorem lin_top (W : FVec Ideal (mat 257 128) .f32) (b : Row 128) (x : Row 257) (y : Row 256)
    (hx : ∀ k : Fin 257, x k = if h : k.val < 256 then y ⟨k.val, h⟩ else 0) :
    lin (toMat W) b x = lin (toMat (topRows W)) b y := by
  funext c
  show (∑ t, x t * W (ix2 t c)) + b c = (∑ t, y t * topRows W (ix2 t c)) + b c
  rw [Fin.sum_univ_castSucc]
  have h1 : x (Fin.last 256) = 0 := by
    rw [hx, dif_neg]
    exact Nat.lt_irrefl 256
  rw [h1, zero_mul, add_zero]
  congr 1
  refine Finset.sum_congr rfl fun t _ => ?_
  rw [hx, dif_pos (show (Fin.castSucc t).val < 256 from t.isLt)]
  rfl

/-- One message of the host. -/
theorem hMsgs_apply (x : Tab) (e : Fin 32768) :
    toMat (hMsgs A x) e = A.w.msg.eval (pair (toMat x (srcOf e)) (toMat x (dstOf e))) := by
  rw [hMsgs, hMlp_apply (hb := hBias128 _ _ _ _)]
  have h := lin_top A.mW (toRow A.mB) (toMat (hPairs x) e) (pair (toMat x (srcOf e)) (toMat x (dstOf e))) (fun k => hPairs_apply x e k)
  show lin (toMat A.mWo) (toRow A.mBo) (relu (lin (toMat (hSq1 A.mWh)) (toRow (hVc1 A.mBh)) (relu (lin (toMat (hSq0 A.mWh))
    (toRow (hVc0 A.mBh)) (relu (lin (toMat A.mW) (toRow A.mB) (toMat (hPairs x) e))))))) = _
  rw [h]
  rfl

theorem hAgg_apply (x : Tab) : toMat (hSum (hMsgs A x)) = agg A.w (toMat x) := by
  funext r c
  show hSum (hMsgs A x) (ix2 r c) = _
  rw [hSum_apply, agg]
  refine Finset.sum_congr rfl fun i _ => ?_
  have h := congrFun (hMsgs_apply A x (edgeTo r i)) c
  rw [srcOf_edgeTo, dstOf_edgeTo] at h
  exact h

theorem hUpd_apply (x0 x : Tab) : toMat (hUpdOut A (hUpdHid A x0 x)) = upd A.w (toMat x0) (toMat x) := by
  funext r
  have h := hMlp_apply (by decide) (by decide) (by decide) (by decide) (by decide) A.pW A.pB (hSq0 A.pWh) (hVc0 A.pBh) (hSq1 A.pWh)
    (hVc1 A.pBh) A.pWo A.pBo (kPair (hSum (hMsgs A x)) x0) r (hBias128 _ _ _ _)
  rw [kPair_apply, hAgg_apply] at h
  exact h

/-- The host's sum over the rows is a column's sum. -/
theorem hColSum_apply (y : Tab) (c : Fin 128) : hColSum y (ix1 c) = ∑ r, y (ix2 r c) := by
  pointwise [hColSum]

/-- The deviation of an entry is the entry less its column's mean. -/
theorem hDev_apply (y : Tab) (r : Fin 4096) (c : Fin 128) : hDev y (ix2 r c) = y (ix2 r c) - mean (toMat y) c := by
  pointwise [hDev, hColSum]
  rfl

/-- The count that the variance divides by is the number of nodes. -/
theorem hCount_eq (i) : hCount i = nodes := by
  have h : (sitofp .f32 (constantI ⟨0, ![]⟩ 32 0#32) : FVec Ideal ⟨0, ![]⟩ .f32) i = (0 : EReal) := by
    show ((((0#32 : BitVec 32).toInt : ℤ) : ℝ) : EReal) = 0
    simp
  show (Ideal.ofBits .f32 0x45800000#32 : EReal) - (sitofp .f32 (constantI ⟨0, ![]⟩ 32 0#32) : FVec Ideal ⟨0, ![]⟩ .f32) i = _
  rw [h, sub_zero]

/-- The host's variance is the variance of the column: its guard on the count is open. -/
theorem hVar_apply (y : Tab) (c : Fin 128) : hVarOf (hDev y) hCount (ix1 c) = var (toMat y) c := by
  have hp : (0 : EReal) < nodes := by
    rw [nodes, nodes_eq]
    exact_mod_cast (by norm_num : (0 : ℝ) < 4096)
  pointwise [hVarOf, var]
  rw [hCount_eq, if_pos hp, hColSum_apply]
  pointwise
  simp only [hDev_apply]

/-- The host's normalisation is the network's. -/
theorem hNorm_apply (y : Tab) : toMat (hNorm A y (hVarOf (hDev y) hCount)) = norm A.w (toMat y) := by
  funext r c
  show hNorm A y (hVarOf (hDev y) hCount) (ix2 r c) = norm A.w (toMat y) r c
  pointwise [hNorm, hBias, hColSum]
  rw [hVar_apply]
  rfl

/-- The host's gates are the network's gates of the normalised table and the hidden table. -/
theorem hGates_apply (y h : Tab) : toMat (hGates A y (hDev y) hCount h) = gates A.w (toMat y) (toMat h) := by
  funext r
  rw [hGates, hLin_apply (hb := hBias512 _ _ _ r), kPair_apply, hNorm_apply]
  rfl

/-- The host's sigmoid is the logistic function of each entry. -/
theorem hSig_apply (z : Tab) (r : Fin 4096) (c : Fin 128) : hSig z (ix2 r c) = Ideal.logistic (z (ix2 r c)) := by
  pointwise [hSig, hOne]
  rfl

/-- The host's new memory is the network's. -/
theorem hCell_apply (g : Gat) (c : Tab) : toMat (hCell g c) = cell (toMat g) (toMat c) := by
  funext r k
  show hSig _ (ix2 r k) * _ + hSig _ (ix2 r k) * _ = _
  rw [hSig_apply, hSig_apply]
  pointwise [cell, hOne]

/-- The host's new hidden table is the network's. -/
theorem hEmit_apply (g : Gat) (c : Tab) : toMat (hEmit g c) = emit (toMat g) (toMat c) := by
  funext r k
  show _ * hSig _ (ix2 r k) = _
  rw [hSig_apply]
  pointwise [emit]

/-- The host's pooled row of a problem is the sum of its eight nodes' rows. -/
theorem hPool_apply (h : Tab) (b : Fin 512) (k : Fin 128) : hPool h (ix2 b k) = ∑ i, h (ix2 (node b i) k) := by
  pointwise [hPool, node]
  simp only [Nat.mul_comm]

/-- The host's scores are the network's scores. -/
theorem hLogits_apply (h : Tab) : toMat (hLogits A h) = logits A.w (toMat h) := by
  funext b
  rw [hLogits, hMlp_apply (hb := hBias16 _ _ _ _), show toMat (hPool h) b = _ from funext (hPool_apply h b)]
  rfl

/-- One step in the host's own operations is one step of the network. -/
theorem hStep_apply (x0 x h c y mem hid : Tab) (gt : Gat) (hy : y = hUpdOut A (hUpdHid A x0 x))
    (hg : gt = hGates A y (hDev y) hCount h) (hm : mem = hCell gt c) (hh : hid = hEmit gt mem) :
    (⟨toMat hid, toMat hid, toMat mem⟩ : St) = step A.w (toMat x0) ⟨toMat x, toMat h, toMat c⟩ := by
  have e : toMat gt = gates A.w (upd A.w (toMat x0) (toMat x)) (toMat h) := by rw [hg, hGates_apply, hy, hUpd_apply]
  have e1 : toMat mem = cell (gates A.w (upd A.w (toMat x0) (toMat x)) (toMat h)) (toMat c) := by rw [hm, hCell_apply, e]
  have e2 : toMat hid = emit (gates A.w (upd A.w (toMat x0) (toMat x)) (toMat h)) (toMat mem) := by rw [hh, hEmit_apply, e]
  rw [e2, e1]
  rfl

/-- The same after a state already known. -/
theorem hStep_next (x0 hid0 mem0 y mem hid : Tab) (gt : Gat) (k : ℕ)
    (hp : (⟨toMat hid0, toMat hid0, toMat mem0⟩ : St) = stateAt A.w (toMat x0) k) (hy : y = hUpdOut A (hUpdHid A x0 hid0))
    (hg : gt = hGates A y (hDev y) hCount hid0) (hm : mem = hCell gt mem0) (hh : hid = hEmit gt mem) :
    (⟨toMat hid, toMat hid, toMat mem⟩ : St) = stateAt A.w (toMat x0) (k + 1) := by
  rw [hStep_apply A x0 hid0 hid0 mem0 y mem hid gt hy hg hm hh, hp]
  rfl

/-- The first step, from the table of zeros. -/
theorem hStep_first (x0 y mem hid : Tab) (gt : Gat) (hy : y = hUpdOut A (hUpdHid A x0 x0))
    (hg : gt = hGates A y (hDev y) hCount hZero) (hm : mem = hCell gt hZero) (hh : hid = hEmit gt mem) :
    (⟨toMat hid, toMat hid, toMat mem⟩ : St) = stateAt A.w (toMat x0) 1 := by
  rw [hStep_apply A x0 x0 hZero hZero y mem hid gt hy hg hm hh,
    show toMat hZero = fun _ _ => 0 from funext fun r => funext fun c => hZero_apply r c]
  rfl

end Cert.Net

end
-- ==== Proof.KernelIdealValue.lean ====
/-
  What the two results of the idealized kernel hold when it has run: the arrays of its two output windows.
-/
module

public import proofs.«01_k».proof.Proof.KernelIdealFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 35's array: the run's contents for that window after the body (`Gen.outsAt0`: its component 0), read through the window's block. -/
theorem flushed35 (c : Dev nD) (t : Fin cfg0.N) :
    (dats m 0 c).flushed 35 t = (cfg0.win 35).cut (grid0.coords t) ((outsAt0 m c t).1) := by
  show (cfg0.win 35).cut (grid0.coords t) ((dats m 0 c).after 35 t) = _
  rw [after0_35]

/-- … so at a point where case A runs, what its write-back would write is that case's NAMED TERM for the window (`Gen.out0_A_35`: the pieces
    its run found, read back) at the point's memrefs and input blocks, and for an output the case reads back what the point before left (`Gen.outsAt0` at `t - 1`) — the kernel's one case, `Gen.outsAt0` by definition. -/
theorem flushed35_A (c : Dev nD) (t : Fin cfg0.N) :
    (dats m 0 c).flushed 35 t = (cfg0.win 35).cut (grid0.coords t) (out0_A_35 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t)) := by
  simp only [flushed35, outsAt0]

/-- The index map sends distinct grid points to distinct block indices (decided over the 1 point). -/
theorem idx_inj35 : ∀ t t' : Fin cfg0.N, win0_35.index t = win0_35.index t' → t = t' :=
  (by decide +kernel : ∀ t t' : Fin grid0.N, win0_35.index t = win0_35.index t' → t = t')

/-- So two flushing points' blocks share no array index (Lib/Pipeline/Cells.lean `Window.disjoint_blk`). -/
theorem disjoint35 : ∀ t t' : Fin cfg0.N, (cfg0.win 35).flush t = true → (cfg0.win 35).flush t' = true → t ≠ t' →
    Disjoint ((cfg0.win 35).blk t).view.set ((cfg0.win 35).blk t').view.set :=
  fun t t' _ _ hne => (cfg0.win 35).disjoint_blk fun h => hne (idx_inj35 t t' h)

/-- BLOCK `t` OF THE FINAL ARRAY, read back through the window, is what point `t` wrote back (`flushed35`), for every
    point that writes back: no other point's block meets it. -/
theorem blocks35 (c : Dev nD) (t : Fin cfg0.N) (hf : (cfg0.win 35).flush t = true) :
    ((cfg0.win 35).blk t).view.read (Elt F) ((dats m 0 c).arrAt 35 cfg0.N) = (dats m 0 c).flushed 35 t :=
  (dats m 0 c).read_blk_arrAt_eq_flushed 35 disjoint35 cfg0.N t t.isLt hf

/-- An index that no flushing point's block covers keeps output window 35's array contents at region entry. -/
theorem entry35 (c : Dev nD) (i : S8x1.Idx) (h : ∀ t : Fin cfg0.N, (cfg0.win 35).flush t = true → i ∉ ((cfg0.win 35).blk t).view.set) :
    (dats m 0 c).arrAt 35 cfg0.N i = V m c (Pipeline.arrRef spec0 35) i := by
  rw [(dats m 0 c).arrAt_apply_of_forall_not_mem 35 cfg0.N i (fun t _ hf => h t hf), A_eq]

/-- WHAT POINT `t` WRITES BACK to output window 36's array: the run's contents for that window after the body (`Gen.outsAt0`: its component 1), read through the window's block. -/
theorem flushed36 (c : Dev nD) (t : Fin cfg0.N) :
    (dats m 0 c).flushed 36 t = (cfg0.win 36).cut (grid0.coords t) ((outsAt0 m c t).2) := by
  show (cfg0.win 36).cut (grid0.coords t) ((dats m 0 c).after 36 t) = _
  rw [after0_36]

/-- … so at a point where case A runs, what its write-back would write is that case's NAMED TERM for the window (`Gen.out0_A_36`: the pieces
    its run found, read back) at the point's memrefs and input blocks, and for an output the case reads back what the point before left (`Gen.outsAt0` at `t - 1`) — the kernel's one case, `Gen.outsAt0` by definition. -/
theorem flushed36_A (c : Dev nD) (t : Fin cfg0.N) :
    (dats m 0 c).flushed 36 t = (cfg0.win 36).cut (grid0.coords t) (out0_A_36 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t)) := by
  simp only [flushed36, outsAt0]

/-- The index map sends distinct grid points to distinct block indices (decided over the 1 point). -/
theorem idx_inj36 : ∀ t t' : Fin cfg0.N, win0_36.index t = win0_36.index t' → t = t' :=
  (by decide +kernel : ∀ t t' : Fin grid0.N, win0_36.index t = win0_36.index t' → t = t')

/-- So two flushing points' blocks share no array index (Lib/Pipeline/Cells.lean `Window.disjoint_blk`). -/
theorem disjoint36 : ∀ t t' : Fin cfg0.N, (cfg0.win 36).flush t = true → (cfg0.win 36).flush t' = true → t ≠ t' →
    Disjoint ((cfg0.win 36).blk t).view.set ((cfg0.win 36).blk t').view.set :=
  fun t t' _ _ hne => (cfg0.win 36).disjoint_blk fun h => hne (idx_inj36 t t' h)

/-- BLOCK `t` OF THE FINAL ARRAY, read back through the window, is what point `t` wrote back (`flushed36`), for every
    point that writes back: no other point's block meets it. -/
theorem blocks36 (c : Dev nD) (t : Fin cfg0.N) (hf : (cfg0.win 36).flush t = true) :
    ((cfg0.win 36).blk t).view.read (Elt F) ((dats m 0 c).arrAt 36 cfg0.N) = (dats m 0 c).flushed 36 t :=
  (dats m 0 c).read_blk_arrAt_eq_flushed 36 disjoint36 cfg0.N t t.isLt hf

/-- An index that no flushing point's block covers keeps output window 36's array contents at region entry. -/
theorem entry36 (c : Dev nD) (i : S8x512.Idx) (h : ∀ t : Fin cfg0.N, (cfg0.win 36).flush t = true → i ∉ ((cfg0.win 36).blk t).view.set) :
    (dats m 0 c).arrAt 36 cfg0.N i = V m c (Pipeline.arrRef spec0 36) i := by
  rw [(dats m 0 c).arrAt_apply_of_forall_not_mem 36 cfg0.N i (fun t _ hf => h t hf), A_eq]

/-- After the frame run, output window 35's array is `(dats m 0 c).arrAt 35 N`. -/
theorem post35 (r : PUnit × MemSt nD τ sig (Elt F)) (h : Pipeline.FramePost cfgs (dats m) 0 (V m) r) (c : Dev nD) :
    r.2.mem ((c : Thread nD τ).loc main_v7_0) = (dats m 0 c).arrAt 35 cfg0.N :=
  (h c).1 35

/-- After the frame run, output window 36's array is `(dats m 0 c).arrAt 36 N`. -/
theorem post36 (r : PUnit × MemSt nD τ sig (Elt F)) (h : Pipeline.FramePost cfgs (dats m) 0 (V m) r) (c : Dev nD) :
    r.2.mem ((c : Thread nD τ).loc main_v7_1) = (dats m 0 c).arrAt 36 cfg0.N :=
  (h c).1 36

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 7 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 7).trans (((dats m 0 c).arrAt_in 7 rfl _).trans ((A_eq m c 7).trans (V_main_arg6 m c)))

/-- After the frame run, argument `main_arg7` is as launched: input window 8 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 8).trans (((dats m 0 c).arrAt_in 8 rfl _).trans ((A_eq m c 8).trans (V_main_arg7 m c)))

/-- After the frame run, argument `main_arg8` is as launched: input window 9 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 9).trans (((dats m 0 c).arrAt_in 9 rfl _).trans ((A_eq m c 9).trans (V_main_arg8 m c)))

/-- After the frame run, argument `main_arg9` is as launched: input window 10 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 10).trans (((dats m 0 c).arrAt_in 10 rfl _).trans ((A_eq m c 10).trans (V_main_arg9 m c)))

/-- After the frame run, argument `main_arg10` is as launched: input window 11 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 11).trans (((dats m 0 c).arrAt_in 11 rfl _).trans ((A_eq m c 11).trans (V_main_arg10 m c)))

/-- After the frame run, argument `main_arg11` is as launched: input window 12 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 12).trans (((dats m 0 c).arrAt_in 12 rfl _).trans ((A_eq m c 12).trans (V_main_arg11 m c)))

/-- After the frame run, argument `main_arg12` is as launched: input window 13 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 13).trans (((dats m 0 c).arrAt_in 13 rfl _).trans ((A_eq m c 13).trans (V_main_arg12 m c)))

/-- After the frame run, argument `main_arg13` is as launched: input window 14 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 14).trans (((dats m 0 c).arrAt_in 14 rfl _).trans ((A_eq m c 14).trans (V_main_arg13 m c)))

/-- After the frame run, argument `main_arg14` is as launched: input window 15 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 15).trans (((dats m 0 c).arrAt_in 15 rfl _).trans ((A_eq m c 15).trans (V_main_arg14 m c)))

/-- After the frame run, argument `main_arg15` is as launched: input window 16 stages it and never writes it back. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 16).trans (((dats m 0 c).arrAt_in 16 rfl _).trans ((A_eq m c 16).trans (V_main_arg15 m c)))

/-- After the frame run, argument `main_arg16` is as launched: input window 17 stages it and never writes it back. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).1 17).trans (((dats m 0 c).arrAt_in 17 rfl _).trans ((A_eq m c 17).trans (V_main_arg16 m c)))

/-- After the frame run, argument `main_arg17` is as launched: input window 18 stages it and never writes it back. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).1 18).trans (((dats m 0 c).arrAt_in 18 rfl _).trans ((A_eq m c 18).trans (V_main_arg17 m c)))

/-- After the frame run, argument `main_arg18` is as launched: input window 19 stages it and never writes it back. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).1 19).trans (((dats m 0 c).arrAt_in 19 rfl _).trans ((A_eq m c 19).trans (V_main_arg18 m c)))

/-- After the frame run, argument `main_arg19` is as launched: input window 20 stages it and never writes it back. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).1 20).trans (((dats m 0 c).arrAt_in 20 rfl _).trans ((A_eq m c 20).trans (V_main_arg19 m c)))

/-- After the frame run, argument `main_arg20` is as launched: input window 21 stages it and never writes it back. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).1 21).trans (((dats m 0 c).arrAt_in 21 rfl _).trans ((A_eq m c 21).trans (V_main_arg20 m c)))

/-- After the frame run, argument `main_arg21` is as launched: input window 22 stages it and never writes it back. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).1 22).trans (((dats m 0 c).arrAt_in 22 rfl _).trans ((A_eq m c 22).trans (V_main_arg21 m c)))

/-- After the frame run, argument `main_arg22` is as launched: input window 23 stages it and never writes it back. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).1 23).trans (((dats m 0 c).arrAt_in 23 rfl _).trans ((A_eq m c 23).trans (V_main_arg22 m c)))

/-- After the frame run, argument `main_arg23` is as launched: input window 24 stages it and never writes it back. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).1 24).trans (((dats m 0 c).arrAt_in 24 rfl _).trans ((A_eq m c 24).trans (V_main_arg23 m c)))

/-- After the frame run, argument `main_arg24` is as launched: input window 25 stages it and never writes it back. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).1 25).trans (((dats m 0 c).arrAt_in 25 rfl _).trans ((A_eq m c 25).trans (V_main_arg24 m c)))

/-- After the frame run, argument `main_arg25` is as launched: input window 26 stages it and never writes it back. -/
theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).1 26).trans (((dats m 0 c).arrAt_in 26 rfl _).trans ((A_eq m c 26).trans (V_main_arg25 m c)))

/-- After the frame run, argument `main_arg26` is as launched: input window 27 stages it and never writes it back. -/
theorem kept_main_arg26 (r : PUnit × MemSt nD τ sig (Elt F)) (h : Pipeline.FramePost cfgs (dats m) 0 (V m) r) (c : Dev nD) :
    r.2.mem ((c : Thread nD τ).loc main_arg26) = m ((c : Thread nD τ).loc main_arg26) :=
  ((h c).1 27).trans (((dats m 0 c).arrAt_in 27 rfl _).trans ((A_eq m c 27).trans (V_main_arg26 m c)))

/-- After the frame run, argument `main_arg27` is as launched: input window 28 stages it and never writes it back. -/
theorem kept_main_arg27 (r : PUnit × MemSt nD τ sig (Elt F)) (h : Pipeline.FramePost cfgs (dats m) 0 (V m) r) (c : Dev nD) :
    r.2.mem ((c : Thread nD τ).loc main_arg27) = m ((c : Thread nD τ).loc main_arg27) :=
  ((h c).1 28).trans (((dats m 0 c).arrAt_in 28 rfl _).trans ((A_eq m c 28).trans (V_main_arg27 m c)))

/-- After the frame run, argument `main_arg28` is as launched: input window 29 stages it and never writes it back. -/
theorem kept_main_arg28 (r : PUnit × MemSt nD τ sig (Elt F)) (h : Pipeline.FramePost cfgs (dats m) 0 (V m) r) (c : Dev nD) :
    r.2.mem ((c : Thread nD τ).loc main_arg28) = m ((c : Thread nD τ).loc main_arg28) :=
  ((h c).1 29).trans (((dats m 0 c).arrAt_in 29 rfl _).trans ((A_eq m c 29).trans (V_main_arg28 m c)))

/-- After the frame run, argument `main_arg29` is as launched: input window 30 stages it and never writes it back. -/
theorem kept_main_arg29 (r : PUnit × MemSt nD τ sig (Elt F)) (h : Pipeline.FramePost cfgs (dats m) 0 (V m) r) (c : Dev nD) :
    r.2.mem ((c : Thread nD τ).loc main_arg29) = m ((c : Thread nD τ).loc main_arg29) :=
  ((h c).1 30).trans (((dats m 0 c).arrAt_in 30 rfl _).trans ((A_eq m c 30).trans (V_main_arg29 m c)))

/-- After the frame run, argument `main_arg30` is as launched: input window 31 stages it and never writes it back. -/
theorem kept_main_arg30 (r : PUnit × MemSt nD τ sig (Elt F)) (h : Pipeline.FramePost cfgs (dats m) 0 (V m) r) (c : Dev nD) :
    r.2.mem ((c : Thread nD τ).loc main_arg30) = m ((c : Thread nD τ).loc main_arg30) :=
  ((h c).1 31).trans (((dats m 0 c).arrAt_in 31 rfl _).trans ((A_eq m c 31).trans (V_main_arg30 m c)))

/-- After the frame run, argument `main_arg31` is as launched: input window 32 stages it and never writes it back. -/
theorem kept_main_arg31 (r : PUnit × MemSt nD τ sig (Elt F)) (h : Pipeline.FramePost cfgs (dats m) 0 (V m) r) (c : Dev nD) :
    r.2.mem ((c : Thread nD τ).loc main_arg31) = m ((c : Thread nD τ).loc main_arg31) :=
  ((h c).1 32).trans (((dats m 0 c).arrAt_in 32 rfl _).trans ((A_eq m c 32).trans (V_main_arg31 m c)))

/-- After the frame run, argument `main_arg32` is as launched: input window 33 stages it and never writes it back. -/
theorem kept_main_arg32 (r : PUnit × MemSt nD τ sig (Elt F)) (h : Pipeline.FramePost cfgs (dats m) 0 (V m) r) (c : Dev nD) :
    r.2.mem ((c : Thread nD τ).loc main_arg32) = m ((c : Thread nD τ).loc main_arg32) :=
  ((h c).1 33).trans (((dats m 0 c).arrAt_in 33 rfl _).trans ((A_eq m c 33).trans (V_main_arg32 m c)))

/-- After the frame run, argument `main_arg33` is as launched: input window 34 stages it and never writes it back. -/
theorem kept_main_arg33 (r : PUnit × MemSt nD τ sig (Elt F)) (h : Pipeline.FramePost cfgs (dats m) 0 (V m) r) (c : Dev nD) :
    r.2.mem ((c : Thread nD τ).loc main_arg33) = m ((c : Thread nD τ).loc main_arg33) :=
  ((h c).1 34).trans (((dats m 0 c).arrAt_in 34 rfl _).trans ((A_eq m c 34).trans (V_main_arg33 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v7_0) = (dats m 0 c).arrAt 35 cfg0.N
      ∧ r.2.mem ((c : Thread nD τ).loc main_v7_1) = (dats m 0 c).arrAt 36 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33) :=
  (θ_run defs _ _).mono (fun r h c => ⟨post35 m r h c,
      post36 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c,
      kept_main_arg27 m r h c,
      kept_main_arg28 m r h c,
      kept_main_arg29 m r h c,
      kept_main_arg30 m r h c,
      kept_main_arg31 m r h c,
      kept_main_arg32 m r h c,
      kept_main_arg33 m r h c⟩)
    (run_main m ρ)

end Cert.KernelIdeal.Value

end
-- ==== Proof.KernelBlocks.lean ====
/-
  The blocks the kernel sees. The launch has one point, so each window's block there is its whole array, and each array is
  an argument as the host lays it out.
-/
module

public import proofs.«01_k».proof.Proof.KernelState
public import proofs.«01_k».proof.Proof.HostStep
public import proofs.«01_k».proof.Proof.KernelIdealValue

@[expose] public section

set_option maxRecDepth 16384

noncomputable section

namespace Cert.KernelIdeal.Link

open Idealize.ShloMosaic Idealize.ShloMosaic.TcCoe Cert.KernelIdeal.Gen

variable (m : (ℓ : Loc nD τ sig) → Buf (Elt Ideal) ℓ) (c : Dev nD)

/-- The arguments of the launch, by name. -/
def args : Net.Args where
  pos := m ((c : Thread nD τ).loc main_arg0)
  col := m ((c : Thread nD τ).loc main_arg1)
  mar := m ((c : Thread nD τ).loc main_arg2)
  anc := m ((c : Thread nD τ).loc main_arg3)
  jmp := m ((c : Thread nD τ).loc main_arg4)
  tgt := m ((c : Thread nD τ).loc main_arg5)
  eW := m ((c : Thread nD τ).loc main_arg6)
  eB := m ((c : Thread nD τ).loc main_arg7)
  eWh := m ((c : Thread nD τ).loc main_arg8)
  eBh := m ((c : Thread nD τ).loc main_arg9)
  eWo := m ((c : Thread nD τ).loc main_arg10)
  eBo := m ((c : Thread nD τ).loc main_arg11)
  mW := m ((c : Thread nD τ).loc main_arg12)
  mB := m ((c : Thread nD τ).loc main_arg13)
  mWh := m ((c : Thread nD τ).loc main_arg14)
  mBh := m ((c : Thread nD τ).loc main_arg15)
  mWo := m ((c : Thread nD τ).loc main_arg16)
  mBo := m ((c : Thread nD τ).loc main_arg17)
  pW := m ((c : Thread nD τ).loc main_arg18)
  pB := m ((c : Thread nD τ).loc main_arg19)
  pWh := m ((c : Thread nD τ).loc main_arg20)
  pBh := m ((c : Thread nD τ).loc main_arg21)
  pWo := m ((c : Thread nD τ).loc main_arg22)
  pBo := m ((c : Thread nD τ).loc main_arg23)
  oW := m ((c : Thread nD τ).loc main_arg24)
  oB := m ((c : Thread nD τ).loc main_arg25)
  oWh := m ((c : Thread nD τ).loc main_arg26)
  oBh := m ((c : Thread nD τ).loc main_arg27)
  oWo := m ((c : Thread nD τ).loc main_arg28)
  oBo := m ((c : Thread nD τ).loc main_arg29)
  gamma := m ((c : Thread nD τ).loc main_arg30)
  beta := m ((c : Thread nD τ).loc main_arg31)
  lW := m ((c : Thread nD τ).loc main_arg32)
  lB := m ((c : Thread nD τ).loc main_arg33)

/-- The one point of the launch is the first block of every window. -/
theorem at0 : win0_0.index t0_0 = ![0, 0] ∧ win0_1.index t0_0 = ![0, 0] ∧ win0_2.index t0_0 = ![0, 0] ∧ win0_3.index t0_0 = ![0, 0]
    ∧ win0_4.index t0_0 = ![0, 0] ∧ win0_5.index t0_0 = ![0, 0] ∧ win0_6.index t0_0 = ![0, 0] := by decide +kernel

/-- The same, for windows 7 to 12. -/
theorem at7 : win0_7.index t0_0 = ![0, 0]
    ∧ win0_8.index t0_0 = ![0]
    ∧ win0_9.index t0_0 = ![0, 0, 0]
    ∧ win0_10.index t0_0 = ![0, 0]
    ∧ win0_11.index t0_0 = ![0, 0]
    ∧ win0_12.index t0_0 = ![0] := by decide +kernel

/-- The same, for windows 13 to 18. -/
theorem at13 : win0_13.index t0_0 = ![0, 0]
    ∧ win0_14.index t0_0 = ![0]
    ∧ win0_15.index t0_0 = ![0, 0, 0]
    ∧ win0_16.index t0_0 = ![0, 0]
    ∧ win0_17.index t0_0 = ![0, 0]
    ∧ win0_18.index t0_0 = ![0] := by decide +kernel

/-- The same, for windows 19 to 24. -/
theorem at19 : win0_19.index t0_0 = ![0, 0]
    ∧ win0_20.index t0_0 = ![0]
    ∧ win0_21.index t0_0 = ![0, 0, 0]
    ∧ win0_22.index t0_0 = ![0, 0]
    ∧ win0_23.index t0_0 = ![0, 0]
    ∧ win0_24.index t0_0 = ![0] := by decide +kernel

/-- The same, for windows 25 to 30. -/
theorem at25 : win0_25.index t0_0 = ![0, 0]
    ∧ win0_26.index t0_0 = ![0]
    ∧ win0_27.index t0_0 = ![0, 0, 0]
    ∧ win0_28.index t0_0 = ![0, 0]
    ∧ win0_29.index t0_0 = ![0, 0]
    ∧ win0_30.index t0_0 = ![0] := by decide +kernel

/-- The same, for windows 31 to 34. -/
theorem at31 : win0_31.index t0_0 = ![0]
    ∧ win0_32.index t0_0 = ![0]
    ∧ win0_33.index t0_0 = ![0, 0]
    ∧ win0_34.index t0_0 = ![0] := by decide +kernel

/-- The first coordinates of the points, as the kernel sees them. -/
theorem blk0 (b : Fin 512) (i : Fin 8) : (iblk m c 0 t0_0 : FVec Ideal (Net.mat 512 8) .f32) (ix2 b i) = (args m c).pos (ix3 b i 0) := by
  blk_ext! [iblk, V, at0.1]

/-- The second coordinates. -/
theorem blk1 (b : Fin 512) (i : Fin 8) : (iblk m c 1 t0_0 : FVec Ideal (Net.mat 512 8) .f32) (ix2 b i) = (args m c).pos (ix3 b i 1) := by
  blk_ext! [iblk, V, at0.2.1]

/-- The colours. -/
theorem blk2 : iblk m c 2 t0_0 = (args m c).col := by blk_ext! [iblk, V, at0.2.2.1]

/-- The marks. -/
theorem blk3 : iblk m c 3 t0_0 = (args m c).mar := by blk_ext! [iblk, V, at0.2.2.2.1]

/-- The anchors. -/
theorem blk4 (b : Fin 512) : (iblk m c 4 t0_0 : IVec (Net.mat 512 1) 32) (ix2 b 0) = (args m c).anc (ix1 b) := by
  blk_ext! [iblk, V, at0.2.2.2.2.1]

/-- The jumps. -/
theorem blk5 (b : Fin 512) : (iblk m c 5 t0_0 : IVec (Net.mat 512 1) 32) (ix2 b 0) = (args m c).jmp (ix1 b) := by
  blk_ext! [iblk, V, at0.2.2.2.2.2.1]

/-- The targets. -/
theorem blk6 (b : Fin 512) : (iblk m c 6 t0_0 : IVec (Net.mat 512 1) 32) (ix2 b 0) = (args m c).tgt (ix1 b) := by
  blk_ext! [iblk, V, at0.2.2.2.2.2.2]

/-- Window 7 holds its argument. -/
theorem blk7 : iblk m c 7 t0_0 = (args m c).eW := by blk_ext! [iblk, V, at7.1]

/-- Window 8 holds its argument. -/
theorem blk8 : iblk m c 8 t0_0 = (args m c).eB := by blk_ext! [iblk, V, at7.2.1]

/-- Window 9 holds its argument. -/
theorem blk9 : iblk m c 9 t0_0 = (args m c).eWh := by blk_ext! [iblk, V, at7.2.2.1]

/-- Window 10 holds its argument. -/
theorem blk10 : iblk m c 10 t0_0 = (args m c).eBh := by blk_ext! [iblk, V, at7.2.2.2.1]

/-- Window 11 holds its argument. -/
theorem blk11 : iblk m c 11 t0_0 = (args m c).eWo := by blk_ext! [iblk, V, at7.2.2.2.2.1]

/-- Window 12 holds its argument. -/
theorem blk12 : iblk m c 12 t0_0 = (args m c).eBo := by blk_ext! [iblk, V, at7.2.2.2.2.2]

/-- Window 13 holds its argument. -/
theorem blk13 : iblk m c 13 t0_0 = (args m c).mW := by blk_ext! [iblk, V, at13.1]

/-- Window 14 holds its argument. -/
theorem blk14 : iblk m c 14 t0_0 = (args m c).mB := by blk_ext! [iblk, V, at13.2.1]

/-- Window 15 holds its argument. -/
theorem blk15 : iblk m c 15 t0_0 = (args m c).mWh := by blk_ext! [iblk, V, at13.2.2.1]

/-- Window 16 holds its argument. -/
theorem blk16 : iblk m c 16 t0_0 = (args m c).mBh := by blk_ext! [iblk, V, at13.2.2.2.1]

/-- Window 17 holds its argument. -/
theorem blk17 : iblk m c 17 t0_0 = (args m c).mWo := by blk_ext! [iblk, V, at13.2.2.2.2.1]

/-- Window 18 holds its argument. -/
theorem blk18 : iblk m c 18 t0_0 = (args m c).mBo := by blk_ext! [iblk, V, at13.2.2.2.2.2]

/-- Window 19 holds its argument. -/
theorem blk19 : iblk m c 19 t0_0 = (args m c).pW := by blk_ext! [iblk, V, at19.1]

/-- Window 20 holds its argument. -/
theorem blk20 : iblk m c 20 t0_0 = (args m c).pB := by blk_ext! [iblk, V, at19.2.1]

/-- Window 21 holds its argument. -/
theorem blk21 : iblk m c 21 t0_0 = (args m c).pWh := by blk_ext! [iblk, V, at19.2.2.1]

/-- Window 22 holds its argument. -/
theorem blk22 : iblk m c 22 t0_0 = (args m c).pBh := by blk_ext! [iblk, V, at19.2.2.2.1]

/-- Window 23 holds its argument. -/
theorem blk23 : iblk m c 23 t0_0 = (args m c).pWo := by blk_ext! [iblk, V, at19.2.2.2.2.1]

/-- Window 24 holds its argument. -/
theorem blk24 : iblk m c 24 t0_0 = (args m c).pBo := by blk_ext! [iblk, V, at19.2.2.2.2.2]

/-- Window 25 holds its argument. -/
theorem blk25 : iblk m c 25 t0_0 = (args m c).oW := by blk_ext! [iblk, V, at25.1]

/-- Window 26 holds its argument. -/
theorem blk26 : iblk m c 26 t0_0 = (args m c).oB := by blk_ext! [iblk, V, at25.2.1]

/-- Window 27 holds its argument. -/
theorem blk27 : iblk m c 27 t0_0 = (args m c).oWh := by blk_ext! [iblk, V, at25.2.2.1]

/-- Window 28 holds its argument. -/
theorem blk28 : iblk m c 28 t0_0 = (args m c).oBh := by blk_ext! [iblk, V, at25.2.2.2.1]

/-- Window 29 holds its argument. -/
theorem blk29 : iblk m c 29 t0_0 = (args m c).oWo := by blk_ext! [iblk, V, at25.2.2.2.2.1]

/-- Window 30 holds its argument. -/
theorem blk30 : iblk m c 30 t0_0 = (args m c).oBo := by blk_ext! [iblk, V, at25.2.2.2.2.2]

/-- Window 31 holds its argument. -/
theorem blk31 : iblk m c 31 t0_0 = (args m c).gamma := by blk_ext! [iblk, V, at31.1]

/-- Window 32 holds its argument. -/
theorem blk32 : iblk m c 32 t0_0 = (args m c).beta := by blk_ext! [iblk, V, at31.2.1]

/-- Window 33 holds its argument. -/
theorem blk33 : iblk m c 33 t0_0 = (args m c).lW := by blk_ext! [iblk, V, at31.2.2.1]

/-- Window 34 holds its argument. -/
theorem blk34 : iblk m c 34 t0_0 = (args m c).lB := by blk_ext! [iblk, V, at31.2.2.2]

end Cert.KernelIdeal.Link

end
-- ==== Proof.KernelLoads.lean ====
/-
  What the kernel loads. A load of a whole block reads the block; a load of one of two stacked weights reads that weight;
  and the weights the kernel loads are the network's.
-/
module

public import proofs.«01_k».proof.Proof.KernelBlocks

@[expose] public section

set_option maxRecDepth 16384

noncomputable section

namespace Cert.KernelIdeal.Link

open Idealize.ShloMosaic Idealize.ShloMosaic.TcCoe Cert.KernelIdeal.Gen

variable (m : (ℓ : Loc nD τ sig) → Buf (Elt Ideal) ℓ) (c : Dev nD)

section Loads

variable {s : Shape} {e : EltTy}

/-- A load of a whole block reads the block. -/
theorem load (M : Memref sig .tc .vmem s e) (h : M.IsWhole) (X : s.Idx → Elt Ideal e) (o : Fin s.rank → ℕ) (i : ∀ a, o a + s.size a ≤ s.size a)
    (ho : ∀ a, o a = 0) : View.readAt (Elt Ideal) M.view (Rect.unit o s.size i).toLoadRect (h.unread X) = X := by
  rw [View.readAt_eq_ld, Memref.IsWhole.read_unread]
  exact View.ld_unit_lit i X ho

/-- The first of two stacked weights. -/
theorem load_sq0 (M : Memref sig .tc .vmem S2x128x128 .f32) (h : M.IsWhole) (X : FVec Ideal Net.two .f32) (i : ∀ a, (![0, 0, 0] : Fin 3 → ℕ) a + S1x128x128.size a ≤ S2x128x128.size a) (k) :
    shapeCast S128x128 (View.readAt (Elt Ideal) M.view (Rect.unit (s := S2x128x128) ![0, 0, 0] S1x128x128.size i).toLoadRect (h.unread X)) k = Net.hSq0 X := by
  rw [View.readAt_eq_ld, Memref.IsWhole.read_unread]
  unfold Net.hSq0
  refine congrArg (fun v => shapeCast (Net.mat 128 128) v k) ?_
  funext j
  exact congrArg X (funext fun a => Fin.ext (congrArg (HAdd.hAdd _) (Nat.one_mul _)))

/-- The second of two stacked weights. -/
theorem load_sq1 (M : Memref sig .tc .vmem S2x128x128 .f32) (h : M.IsWhole) (X : FVec Ideal Net.two .f32) (i : ∀ a, (![1, 0, 0] : Fin 3 → ℕ) a + S1x128x128.size a ≤ S2x128x128.size a) (k) :
    shapeCast S128x128 (View.readAt (Elt Ideal) M.view (Rect.unit (s := S2x128x128) ![1, 0, 0] S1x128x128.size i).toLoadRect (h.unread X)) k = Net.hSq1 X := by
  rw [View.readAt_eq_ld, Memref.IsWhole.read_unread]
  unfold Net.hSq1
  refine congrArg (fun v => shapeCast (Net.mat 128 128) v k) ?_
  funext j
  exact congrArg X (funext fun a => Fin.ext (congrArg (HAdd.hAdd _) (Nat.one_mul _)))

/-- The first of two stacked biases. -/
theorem load_vc0 (M : Memref sig .tc .vmem S2x128 .f32) (h : M.IsWhole) (X : FVec Ideal (Net.mat 2 128) .f32) (i : ∀ a, (![0, 0] : Fin 2 → ℕ) a + S1x128.size a ≤ S2x128.size a) (k) :
    shapeCast S128 (View.readAt (Elt Ideal) M.view (Rect.unit (s := S2x128) ![0, 0] S1x128.size i).toLoadRect (h.unread X)) k = Net.hVc0 X := by
  rw [View.readAt_eq_ld, Memref.IsWhole.read_unread]
  unfold Net.hVc0
  refine congrArg (fun v => shapeCast (Net.vec 128) v k) ?_
  funext j
  exact congrArg X (funext fun a => Fin.ext (congrArg (HAdd.hAdd _) (Nat.one_mul _)))

/-- The second of two stacked biases. -/
theorem load_vc1 (M : Memref sig .tc .vmem S2x128 .f32) (h : M.IsWhole) (X : FVec Ideal (Net.mat 2 128) .f32) (i : ∀ a, (![1, 0] : Fin 2 → ℕ) a + S1x128.size a ≤ S2x128.size a) (k) :
    shapeCast S128 (View.readAt (Elt Ideal) M.view (Rect.unit (s := S2x128) ![1, 0] S1x128.size i).toLoadRect (h.unread X)) k = Net.hVc1 X := by
  rw [View.readAt_eq_ld, Memref.IsWhole.read_unread]
  unfold Net.hVc1
  refine congrArg (fun v => shapeCast (Net.vec 128) v k) ?_
  funext j
  exact congrArg X (funext fun a => Fin.ext (congrArg (HAdd.hAdd _) (Nat.one_mul _)))

/-- The message weight without its last row, which meets the zero of every edge. -/
theorem load_top (M : Memref sig .tc .vmem S257x128 .f32) (h : M.IsWhole) (X : FVec Ideal (Net.mat 257 128) .f32) (i : ∀ a, (![0, 0] : Fin 2 → ℕ) a + S256x128.size a ≤ S257x128.size a) :
    View.readAt (Elt Ideal) M.view (Rect.unit (s := S257x128) ![0, 0] S256x128.size i).toLoadRect (h.unread X) = Net.topRows X := by
  rw [View.readAt_eq_ld, Memref.IsWhole.read_unread]
  funext j
  refine congrArg X (funext fun a => ?_)
  fin_cases a <;> exact Fin.ext ((Nat.zero_add _).trans (Nat.one_mul _))

end Loads

/-- The weights the kernel loads are the network's. -/
theorem loads : (kw m c t0_0).toW = (args m c).w := by
  have e1 : (kw m c t0_0).mW = Net.topRows (args m c).mW := (load_top (ms0_13 t0_0) (hs0_13 t0_0) (iblk m c 13 t0_0) (by decide)).trans (congrArg Net.topRows (blk13 m c))
  have e2 : (kw m c t0_0).mB = (args m c).mB := (load (ms0_14 t0_0) (hs0_14 t0_0) (iblk m c 14 t0_0) ![0] (by decide) (by decide)).trans (blk14 m c)
  have e3 : (kw m c t0_0).mW0 = Net.hSq0 (args m c).mWh := (load_sq0 (ms0_15 t0_0) (hs0_15 t0_0) (iblk m c 15 t0_0) (by decide) (by decide)).trans (congrArg Net.hSq0 (blk15 m c))
  have e4 : (kw m c t0_0).mB0 = Net.hVc0 (args m c).mBh := (load_vc0 (ms0_16 t0_0) (hs0_16 t0_0) (iblk m c 16 t0_0) (by decide) (by decide)).trans (congrArg Net.hVc0 (blk16 m c))
  have e5 : (kw m c t0_0).mW1 = Net.hSq1 (args m c).mWh := (load_sq1 (ms0_15 t0_0) (hs0_15 t0_0) (iblk m c 15 t0_0) (by decide) (by decide)).trans (congrArg Net.hSq1 (blk15 m c))
  have e6 : (kw m c t0_0).mB1 = Net.hVc1 (args m c).mBh := (load_vc1 (ms0_16 t0_0) (hs0_16 t0_0) (iblk m c 16 t0_0) (by decide) (by decide)).trans (congrArg Net.hVc1 (blk16 m c))
  have e7 : (kw m c t0_0).mWo = (args m c).mWo := (load (ms0_17 t0_0) (hs0_17 t0_0) (iblk m c 17 t0_0) ![0, 0] (by decide) (by decide)).trans (blk17 m c)
  have e8 : (kw m c t0_0).mBo = (args m c).mBo := (load (ms0_18 t0_0) (hs0_18 t0_0) (iblk m c 18 t0_0) ![0] (by decide) (by decide)).trans (blk18 m c)
  have e9 : (kw m c t0_0).pW = (args m c).pW := (load (ms0_19 t0_0) (hs0_19 t0_0) (iblk m c 19 t0_0) ![0, 0] (by decide) (by decide)).trans (blk19 m c)
  have e10 : (kw m c t0_0).pB = (args m c).pB := (load (ms0_20 t0_0) (hs0_20 t0_0) (iblk m c 20 t0_0) ![0] (by decide) (by decide)).trans (blk20 m c)
  have e11 : (kw m c t0_0).pW0 = Net.hSq0 (args m c).pWh := (load_sq0 (ms0_21 t0_0) (hs0_21 t0_0) (iblk m c 21 t0_0) (by decide) (by decide)).trans (congrArg Net.hSq0 (blk21 m c))
  have e12 : (kw m c t0_0).pB0 = Net.hVc0 (args m c).pBh := (load_vc0 (ms0_22 t0_0) (hs0_22 t0_0) (iblk m c 22 t0_0) (by decide) (by decide)).trans (congrArg Net.hVc0 (blk22 m c))
  have e13 : (kw m c t0_0).pW1 = Net.hSq1 (args m c).pWh := (load_sq1 (ms0_21 t0_0) (hs0_21 t0_0) (iblk m c 21 t0_0) (by decide) (by decide)).trans (congrArg Net.hSq1 (blk21 m c))
  have e14 : (kw m c t0_0).pB1 = Net.hVc1 (args m c).pBh := (load_vc1 (ms0_22 t0_0) (hs0_22 t0_0) (iblk m c 22 t0_0) (by decide) (by decide)).trans (congrArg Net.hVc1 (blk22 m c))
  have e15 : (kw m c t0_0).pWo = (args m c).pWo := (load (ms0_23 t0_0) (hs0_23 t0_0) (iblk m c 23 t0_0) ![0, 0] (by decide) (by decide)).trans (blk23 m c)
  have e16 : (kw m c t0_0).pBo = (args m c).pBo := (load (ms0_24 t0_0) (hs0_24 t0_0) (iblk m c 24 t0_0) ![0] (by decide) (by decide)).trans (blk24 m c)
  have e17 : (kw m c t0_0).oW = (args m c).oW := (load (ms0_25 t0_0) (hs0_25 t0_0) (iblk m c 25 t0_0) ![0, 0] (by decide) (by decide)).trans (blk25 m c)
  have e18 : (kw m c t0_0).oB = (args m c).oB := (load (ms0_26 t0_0) (hs0_26 t0_0) (iblk m c 26 t0_0) ![0] (by decide) (by decide)).trans (blk26 m c)
  have e19 : (kw m c t0_0).oW0 = Net.hSq0 (args m c).oWh := (load_sq0 (ms0_27 t0_0) (hs0_27 t0_0) (iblk m c 27 t0_0) (by decide) (by decide)).trans (congrArg Net.hSq0 (blk27 m c))
  have e20 : (kw m c t0_0).oB0 = Net.hVc0 (args m c).oBh := (load_vc0 (ms0_28 t0_0) (hs0_28 t0_0) (iblk m c 28 t0_0) (by decide) (by decide)).trans (congrArg Net.hVc0 (blk28 m c))
  have e21 : (kw m c t0_0).oW1 = Net.hSq1 (args m c).oWh := (load_sq1 (ms0_27 t0_0) (hs0_27 t0_0) (iblk m c 27 t0_0) (by decide) (by decide)).trans (congrArg Net.hSq1 (blk27 m c))
  have e22 : (kw m c t0_0).oB1 = Net.hVc1 (args m c).oBh := (load_vc1 (ms0_28 t0_0) (hs0_28 t0_0) (iblk m c 28 t0_0) (by decide) (by decide)).trans (congrArg Net.hVc1 (blk28 m c))
  have e23 : (kw m c t0_0).oWo = (args m c).oWo := (load (ms0_29 t0_0) (hs0_29 t0_0) (iblk m c 29 t0_0) ![0, 0] (by decide) (by decide)).trans (blk29 m c)
  have e24 : (kw m c t0_0).oBo = (args m c).oBo := (load (ms0_30 t0_0) (hs0_30 t0_0) (iblk m c 30 t0_0) ![0] (by decide) (by decide)).trans (blk30 m c)
  have e25 : (kw m c t0_0).gamma = (args m c).gamma := (load (ms0_31 t0_0) (hs0_31 t0_0) (iblk m c 31 t0_0) ![0] (by decide) (by decide)).trans (blk31 m c)
  have e26 : (kw m c t0_0).beta = (args m c).beta := (load (ms0_32 t0_0) (hs0_32 t0_0) (iblk m c 32 t0_0) ![0] (by decide) (by decide)).trans (blk32 m c)
  have e27 : (kw m c t0_0).lW = (args m c).lW := (load (ms0_33 t0_0) (hs0_33 t0_0) (iblk m c 33 t0_0) ![0, 0] (by decide) (by decide)).trans (blk33 m c)
  have e28 : (kw m c t0_0).lB = (args m c).lB := (load (ms0_34 t0_0) (hs0_34 t0_0) (iblk m c 34 t0_0) ![0] (by decide) (by decide)).trans (blk34 m c)
  unfold Net.KW.toW Net.Args.w
  rw [e1, e2, e3, e4, e5, e6, e7, e8, e9, e10, e11, e12, e13, e14, e15, e16, e17, e18, e19, e20, e21, e22, e23, e24, e25, e26, e27, e28]

end Cert.KernelIdeal.Link

end
-- ==== Proof.HostLoss.lean ====
/-
  What each step of the host adds to the two results, in the host's own operations.
-/
module

public import proofs.«01_k».proof.Proof.HostStep

@[expose] public section

noncomputable section

namespace Cert.Net

open Idealize.ShloMosaic

/-- The shape of one number. -/
abbrev one0 : Shape := ⟨0, ![]⟩
/-- The shape of the targets as places to gather from. -/
abbrev tg3 : Shape := ⟨3, ![512, 1, 1]⟩

/-- The host's scores less the largest of their problem. -/
def hShift (z : Sco) : Sco :=
  subf z (broadcastInDim (mat 512 16) ![0, 1] (by decide) (broadcastInDim (mat 512 1) ![0] (by decide)
    (maximumf (broadcastInDim (vec 512) ![] (by decide) (constant one0 .f32 0xFF800000#32))
      (Host.reduce (axes := [1]) (t := vec 512) FloatOps.maximumf z (constant one0 .f32 0xFF800000#32) (by decide) (by decide)))))

/-- The logarithm of the softmax, from the shifted scores. -/
def hLsm (s : Sco) : Sco :=
  subf s (broadcastInDim (mat 512 16) ![0, 1] (by decide) (Host.log (broadcastInDim (mat 512 1) ![0] (by decide)
    (Host.reduceAdd (axes := [1]) (t := vec 512) (Host.exp s) (constant one0 .f32 0x00000000#32) (by decide) (by decide)))))

/-- The targets as a column. -/
def hTgtCol (t : IVec (vec 512) 32) : IVec (mat 512 1) 32 := broadcastInDim (mat 512 1) ![0] (by decide) t

/-- The targets as places to gather from. -/
def hTgt (t : IVec (vec 512) 32) : IVec tg3 32 :=
  shapeCast tg3 (select (cmpi .slt (hTgtCol t) (broadcastInDim (mat 512 1) ![] (by decide) (constantI one0 32 0#32)))
    (addi (hTgtCol t) (broadcastInDim (mat 512 1) ![] (by decide) (constantI one0 32 16#32))) (hTgtCol t)) (by decide)

/-- How one score of each problem is gathered. -/
def takeOne : GatherDims (mat 512 16) tg3 (mat 512 1) where
  offsetDims := []
  collapsedSliceDims := [1]
  operandBatchingDims := [0]
  startIndicesBatchingDims := [0]
  startIndexMap := [1]
  indexVectorDim := 2
  sliceSizes := ![1, 1]
  wf := by decide

/-- Whether each target is a class. -/
def hInside (T : IVec tg3 32) : IVec (mat 512 1) 1 :=
  Host.reduce (axes := [2]) (t := mat 512 1) IntOp.andi (andi (cmpi .sge T (broadcastInDim tg3 ![] (by decide) (constantI one0 32 0#32)))
    (cmpi .sle T (broadcastInDim tg3 ![0, 1, 2] (by decide) (broadcastInDim ⟨3, ![1, 1, 1]⟩ ![2] (by decide) (constantI (vec 1) 32 15#32)))))
    (constantI one0 1 1#1) (by decide) (by decide)

/-- The target's log-probability, for each problem. -/
def hPick (l : Sco) (T : IVec tg3 32) : FVec Ideal (vec 512) .f32 :=
  shapeCast (vec 512) (select (hInside T) (Host.gather takeOne l T) (broadcastInDim (mat 512 1) ![] (by decide) (constant one0 .f32 0x7FC00000#32))) (by decide)

/-- The host's mean loss in bits, from the shifted scores. -/
def hLoss (s : Sco) (T : IVec tg3 32) : FVec Ideal one0 .f32 :=
  Host.divf (Host.divf (Host.reduceAdd (axes := [0]) (t := one0) (Host.negf (hPick (hLsm s) T)) (constant one0 .f32 0x00000000#32) (by decide) (by decide))
    (constant one0 .f32 0x44000000#32)) (id (Host.log (constant one0 .f32 0x40000000#32)))

/-- One class of the sixteen can be cut off. -/
theorem firstCol : (mat 512 16).Slices (fun _ => 0) (mat 512 1) := by decide

/-- The host's class of the largest score. -/
def hIdx (z : Sco) : IVec (vec 512) 32 :=
  shapeCast (vec 512) (Host.topK (mat 512 1) 1 (FloatOps.cmpfTotal (F := Ideal) (φ := .f32) .gt) z firstCol).2 (by decide)

/-- Eight rows of classes, one under the other, as the host stacks them. -/
def hStackI (a b c d e f g h : IVec (vec 512) 32) : IVec (mat 8 512) 32 :=
  concatenate (mat 8 512) 0 [⟨mat 1 512, broadcastInDim (mat 1 512) ![1] (by decide) a⟩, ⟨mat 1 512, broadcastInDim (mat 1 512) ![1] (by decide) b⟩,
    ⟨mat 1 512, broadcastInDim (mat 1 512) ![1] (by decide) c⟩, ⟨mat 1 512, broadcastInDim (mat 1 512) ![1] (by decide) d⟩,
    ⟨mat 1 512, broadcastInDim (mat 1 512) ![1] (by decide) e⟩, ⟨mat 1 512, broadcastInDim (mat 1 512) ![1] (by decide) f⟩,
    ⟨mat 1 512, broadcastInDim (mat 1 512) ![1] (by decide) g⟩, ⟨mat 1 512, broadcastInDim (mat 1 512) ![1] (by decide) h⟩]
    (show Shape.Concatenates [mat 1 512, mat 1 512, mat 1 512, mat 1 512, mat 1 512, mat 1 512, mat 1 512, mat 1 512] (mat 8 512) 0 by decide)

/-- Eight losses, one under the other, as the host stacks them. -/
def hStackF (a b c d e f g h : FVec Ideal one0 .f32) : FVec Ideal (mat 8 1) .f32 :=
  broadcastInDim (mat 8 1) ![0] (by decide) (concatenate (vec 8) 0 [⟨vec 1, broadcastInDim (vec 1) ![] (by decide) a⟩,
    ⟨vec 1, broadcastInDim (vec 1) ![] (by decide) b⟩, ⟨vec 1, broadcastInDim (vec 1) ![] (by decide) c⟩, ⟨vec 1, broadcastInDim (vec 1) ![] (by decide) d⟩,
    ⟨vec 1, broadcastInDim (vec 1) ![] (by decide) e⟩, ⟨vec 1, broadcastInDim (vec 1) ![] (by decide) f⟩, ⟨vec 1, broadcastInDim (vec 1) ![] (by decide) g⟩,
    ⟨vec 1, broadcastInDim (vec 1) ![] (by decide) h⟩]
    (show Shape.Concatenates [vec 1, vec 1, vec 1, vec 1, vec 1, vec 1, vec 1, vec 1] (vec 8) 0 by decide))

end Cert.Net

end
-- ==== Proof.Features.lean ====
/-
  The features of the nodes and the perceptron before the first step, in each program's own operations, read at a row.
-/
module

public import proofs.«01_k».proof.Proof.HostLoss

@[expose] public section

noncomputable section

namespace Cert.Net

open Idealize.ShloMosaic

/-- One where a word is a number, zero where it is not. -/
def ind (w : BitVec 32) (n : ℕ) : EReal := if w = BitVec.ofNat 32 n then 1 else 0

/-- The problem of a node. -/
def prob (r : Fin 4096) : Fin 512 := ⟨r.val / 8, by omega⟩
/-- The place of a node in its problem. -/
def seat (r : Fin 4096) : Fin 8 := ⟨r.val % 8, by omega⟩

/-- The features of a node: its position, then its column, its mark, its anchor and its jump, each one hot. -/
def Args.feat (A : Args) (r : Fin 4096) : Row 42 := fun j =>
  if h : j.val < 2 then A.pos (ix3 (prob r) (seat r) ⟨j.val, h⟩)
  else if j.val < 10 then ind (A.col (ix2 (prob r) (seat r))) (j.val - 2)
  else if j.val < 18 then ind (A.mar (ix2 (prob r) (seat r))) (j.val - 10)
  else if j.val < 34 then ind (A.anc (ix1 (prob r))) (j.val - 18)
  else ind (A.jmp (ix1 (prob r))) (j.val - 34)

/-- The perceptron before the first step. -/
def Args.pre (A : Args) : Mlp 42 128 := mlpOf A.eW A.eB (hSq0 A.eWh) (hVc0 A.eBh) (hSq1 A.eWh) (hVc1 A.eBh) A.eWo A.eBo

/-! ### The host's features -/

/-- A comparison, as a number. -/
theorem eq_number (a b : BitVec 32) : FloatOps.uitofp (F := Ideal) .f32 (IntOp.cmpi .eq a b) = if a = b then (1 : EReal) else 0 := by
  show (((IntOp.cmpi .eq a b).toNat : ℝ) : EReal) = _
  show (((BitVec.ofBool (a == b)).toNat : ℝ) : EReal) = _
  by_cases h : a = b <;> simp [h]

/-- A word of each node, one hot. -/
def hNodeHot (x : IVec (mat 512 8) 32) : FVec Ideal (mat 4096 8) .f32 :=
  shapeCast (mat 4096 8) (uitofp .f32 (cmpi .eq (broadcastInDim ⟨3, ![512, 8, 8]⟩ ![0, 1, 2] (by decide) (broadcastInDim ⟨3, ![512, 8, 1]⟩ ![0, 1] (by decide) x))
    (broadcastInDim ⟨3, ![512, 8, 8]⟩ ![0, 1, 2] (by decide) (iotaInDim ⟨3, ![1, 1, 8]⟩ 32 2)))) (by decide)

/-- The anchor of each problem, one hot. -/
def hAncHot (x : IVec (vec 512) 32) : FVec Ideal (mat 512 16) .f32 :=
  uitofp .f32 (cmpi .eq (broadcastInDim (mat 512 16) ![0, 1] (by decide) (broadcastInDim (mat 512 1) ![0] (by decide) x))
    (broadcastInDim (mat 512 16) ![0, 1] (by decide) (iotaInDim (mat 1 16) 32 1)))

/-- The jump of each problem, one hot. -/
def hJmpHot (x : IVec (vec 512) 32) : FVec Ideal (mat 512 8) .f32 :=
  uitofp .f32 (cmpi .eq (broadcastInDim (mat 512 8) ![0, 1] (by decide) (broadcastInDim (mat 512 1) ![0] (by decide) x))
    (broadcastInDim (mat 512 8) ![0, 1] (by decide) (iotaInDim (mat 1 8) 32 1)))

/-- The features a node has of its own. -/
def hOwn (A : Args) : FVec Ideal (mat 4096 18) .f32 :=
  concatenate (mat 4096 18) 1 [⟨mat 4096 2, shapeCast (mat 4096 2) A.pos (by decide)⟩, ⟨mat 4096 8, hNodeHot A.col⟩, ⟨mat 4096 8, hNodeHot A.mar⟩]
    (show Shape.Concatenates [mat 4096 2, mat 4096 8, mat 4096 8] (mat 4096 18) 1 by decide)

/-- The features a node has of its problem. -/
def hShared (A : Args) : FVec Ideal (mat 512 24) .f32 :=
  concatenate (mat 512 24) 1 [⟨mat 512 16, hAncHot A.anc⟩, ⟨mat 512 8, hJmpHot A.jmp⟩]
    (show Shape.Concatenates [mat 512 16, mat 512 8] (mat 512 24) 1 by decide)

/-- The features of a problem laid on its nodes. -/
def hSpread (x : FVec Ideal (mat 512 24) .f32) : FVec Ideal (mat 4096 24) .f32 :=
  shapeCast (mat 4096 24) (shapeCast ⟨3, ![512, 8, 24]⟩ (broadcastInDim ⟨6, ![1, 512, 8, 1, 1, 24]⟩ ![0, 1, 2, 3, 4, 5] (by decide)
    (shapeCast ⟨6, ![1, 512, 1, 1, 1, 24]⟩ (broadcastInDim ⟨3, ![512, 1, 24]⟩ ![0, 2] (by decide) x) (by decide))) (by decide)) (by decide)

/-- All the features. -/
def hFeat (A : Args) : FVec Ideal (mat 4096 42) .f32 :=
  concatenate (mat 4096 42) 1 [⟨mat 4096 18, hOwn A⟩, ⟨mat 4096 24, hSpread (hShared A)⟩]
    (show Shape.Concatenates [mat 4096 18, mat 4096 24] (mat 4096 42) 1 by decide)

/-- The host's node table before the first step. -/
def hFirst (A : Args) : Tab :=
  hMlp (by decide) (by decide) (by decide) (by decide) (by decide) A.eW A.eB (hSq0 A.eWh) (hVc0 A.eBh) (hSq1 A.eWh) (hVc1 A.eBh) A.eWo A.eBo (hFeat A)

/-- The host's one-hot table of a word of each node has at a row the marks of that node's word. -/
theorem hNodeHot_apply (x : IVec (mat 512 8) 32) (r : Fin 4096) (k : Fin 8) :
    hNodeHot x (ix2 r k) = ind (x (ix2 (prob r) (seat r))) k.val := by
  pointwise [hNodeHot]
  rw [eq_number]
  rfl

/-- The host's one-hot table of the anchors has in a problem's row the marks of its anchor. -/
theorem hAncHot_apply (x : IVec (vec 512) 32) (b : Fin 512) (k : Fin 16) : hAncHot x (ix2 b k) = ind (x (ix1 b)) k.val := by
  pointwise [hAncHot]
  exact eq_number _ _

/-- The host's one-hot table of the jumps has in a problem's row the marks of its jump count. -/
theorem hJmpHot_apply (x : IVec (vec 512) 32) (b : Fin 512) (k : Fin 8) : hJmpHot x (ix2 b k) = ind (x (ix1 b)) k.val := by
  pointwise [hJmpHot]
  exact eq_number _ _

/-- The tiled question gives every node of a problem the problem's row. -/
theorem hSpread_apply (x : FVec Ideal (mat 512 24) .f32) (r : Fin 4096) (k : Fin 24) : hSpread x (ix2 r k) = x (ix2 (prob r) k) := by
  pointwise [hSpread]
  rfl

/-- A row of the host's features is the 42 numbers of that node. -/
theorem hFeat_apply (A : Args) (r : Fin 4096) : toMat (hFeat A) r = A.feat r := by
  funext j
  show hFeat A (ix2 r j) = A.feat r j
  have hs : ∀ k : Fin 24, hShared A (ix2 (prob r) k)
      = if h : k.val < 16 then ind (A.anc (ix1 (prob r))) k.val else ind (A.jmp (ix1 (prob r))) (k.val - 16) := fun k => by
    pointwise [hShared]
    simp only [hAncHot_apply, hJmpHot_apply]
  pointwise [hFeat, hOwn]
  simp only [hNodeHot_apply, hSpread_apply, hs]
  unfold Args.feat
  by_cases h2 : j.val < 2
  · rw [dif_pos (show j.val < 18 by omega), dif_pos h2, dif_pos h2]
    rfl
  rw [dif_neg h2]
  by_cases h10 : j.val < 10
  · rw [if_pos h10, dif_pos (show j.val < 18 by omega), dif_neg h2, dif_pos (show j.val - 2 < 8 by omega)]
  rw [if_neg h10]
  by_cases h18 : j.val < 18
  · rw [if_pos h18, dif_pos h18, dif_neg h2, dif_neg (show ¬ j.val - 2 < 8 by omega), show j.val - 2 - 8 = j.val - 10 by omega]
  rw [if_neg h18, dif_neg h18]
  by_cases h34 : j.val < 34
  · rw [if_pos h34, dif_pos (show j.val - 18 < 16 by omega)]
  rw [if_neg h34, dif_neg (show ¬ j.val - 18 < 16 by omega), show j.val - 18 - 16 = j.val - 34 by omega]

/-- A row of the host's first node table is the first perceptron of the node's features. -/
theorem hFirst_apply (A : Args) (r : Fin 4096) : toMat (hFirst A) r = A.pre.eval (A.feat r) := by
  unfold hFirst
  rw [hMlp_apply, hFeat_apply]
  · rfl
  · exact fun c => hBias128 _ _ _ _ c

/-! ### The kernel's features -/

/-- A word for every node. -/
abbrev node3 : Shape := ⟨3, ![512, 8, 1]⟩
/-- A word for every problem. -/
abbrev prob3 : Shape := ⟨3, ![512, 1, 1]⟩

/-- The place of a lane. -/
def kLane : IVec cube 32 := iota .tc cube 32 [2] (by decide)

/-- A number of each node in one lane. -/
def kPut (k : BitVec 32) (x : FVec Ideal (mat 512 8) .f32) : FVec Ideal cube .f32 :=
  select (cmpi .eq kLane (broadcast cube k)) (broadcastTo cube (shapeCast node3 (shapeCast node3 (shapeCast (mat 512 8) x (by decide)) (by decide)) (by decide)) (by decide))
    (broadcast cube (Scalar.ofBits (F := Ideal) .f32 0x00000000#32))

/-- One in the lane a word names, counted from lane `k`, the words laid out as `x`. -/
def kHot (k : BitVec 32) (x : IVec cube 32) : FVec Ideal cube .f32 :=
  select (cmpi .eq (subi kLane (broadcast cube k)) x) (broadcast cube (Scalar.ofBits (F := Ideal) .f32 0x3F800000#32))
    (broadcast cube (Scalar.ofBits (F := Ideal) .f32 0x00000000#32))

/-- The words of the nodes in every lane. -/
def kNodeWord (x : IVec (mat 512 8) 32) : IVec cube 32 := broadcastTo cube (shapeCast node3 x (by decide)) (by decide)

/-- The words of the problems in every lane. -/
def kProbWord (x : IVec (mat 512 1) 32) : IVec cube 32 :=
  broadcastTo cube (shapeCast prob3 (shapeCast (mat 512 1) x (by decide)) (by decide)) (by decide)

/-- All the features, over 128 lanes. -/
def kFeat (p0 p1 : FVec Ideal (mat 512 8) .f32) (col mar : IVec (mat 512 8) 32) (anc jmp : IVec (mat 512 1) 32) : Tab :=
  shapeCast (mat 4096 128) (addf (addf (addf (addf (addf (kPut 0#32 p0) (kPut 1#32 p1)) (kHot 2#32 (kNodeWord col))) (kHot 10#32 (kNodeWord mar)))
    (kHot 18#32 (kProbWord anc))) (kHot 34#32 (kProbWord jmp))) (by decide)

/-- The first weight over 128 lanes: rows of zeros under its own. -/
def kPad (W : FVec Ideal (mat 42 128) .f32) : Sq :=
  concatenate (mat 128 128) 0 [⟨mat 42 128, W⟩, ⟨mat 86 128, broadcast (mat 86 128) (Scalar.ofBits (F := Ideal) .f32 0x00000000#32)⟩]
    (show Shape.Concatenates [mat 42 128, mat 86 128] (mat 128 128) 0 by decide)

/-- The kernel's node table before the first step. -/
def kFirst (W : FVec Ideal (mat 42 128) .f32) (b : Vc) (w0 : Sq) (b0 : Vc) (w1 : Sq) (b1 : Vc) (wo : Sq) (bo : Vc) (x : Tab) : Tab :=
  kMlp (by decide) (by decide) (by decide) (by decide) (kPad W) b w0 b0 w1 b1 wo bo x

/-- The kernel's targets, one hot. -/
def kTgtHot (t : IVec (mat 512 1) 32) : Sco :=
  select (cmpi .eq (subi (iota .tc (mat 512 16) 32 [1] (by decide)) (broadcast (mat 512 16) 0#32))
    (broadcastTo (mat 512 16) (shapeCast (mat 512 1) t (by decide)) (by decide)))
    (broadcast (mat 512 16) (Scalar.ofBits (F := Ideal) .f32 0x3F800000#32)) (broadcast (mat 512 16) (Scalar.ofBits (F := Ideal) .f32 0x00000000#32))

/-- A choice by a comparison. -/
theorem select_eq {α : Type} (a b : BitVec 32) (x y : α) : Scalar.select (IntOp.cmpi .eq a b) x y = if a = b then x else y := by
  show (if BitVec.ofBool (a == b) = 1#1 then x else y) = _
  by_cases h : a = b
  · rw [if_pos h, if_pos (by rw [h, beq_self_eq_true]; rfl)]
  · rw [if_neg h, if_neg (by rw [beq_eq_false_iff_ne.2 h]; decide)]

/-- Small numbers are equal when their words are. -/
theorem word_inj (a b : ℕ) (ha : a < 128) (hb : b < 128) : BitVec.ofNat 32 a = BitVec.ofNat 32 b ↔ a = b := by
  refine ⟨fun h => ?_, fun h => h ▸ rfl⟩
  have := congrArg BitVec.toNat h
  simp at this
  omega

/-- The kernel's mask of the targets marks, in a problem's row, the class that the target names. -/
theorem kTgtHot_apply (t : IVec (mat 512 1) 32) (b : Fin 512) (n : Fin 16) (ht : t (ix2 b 0) = BitVec.ofNat 32 n.val) (k : Fin 16) :
    kTgtHot t (ix2 b k) = if k = n then 1 else 0 := by
  pointwise [kTgtHot]
  rw [ht, select_eq, show IntOp.subi (BitVec.ofNat 32 k.val) 0#32 = BitVec.ofNat 32 k.val from BitVec.sub_zero _]
  simp only [word_inj k.val n.val (by omega) (by omega), Fin.ext_iff]

/-- A lane names a word counted from `k` when it is that many lanes on. -/
theorem lane_iff (j k n : ℕ) (hj : j < 128) (hk : k < 64) (hn : n < 64) : BitVec.ofNat 32 j - BitVec.ofNat 32 k = BitVec.ofNat 32 n ↔ j = k + n := by
  constructor
  · intro h
    have := congrArg BitVec.toNat h
    simp [BitVec.toNat_sub] at this
    omega
  · rintro rfl
    refine BitVec.eq_of_toNat_eq ?_
    simp [BitVec.toNat_sub]
    omega

/-- The mark of a small number at a place is one at that number and zero elsewhere. -/
theorem ind_ofNat (n k : ℕ) (hn : n < 64) (hk : k < 64) : ind (BitVec.ofNat 32 n) k = if n = k then 1 else 0 := by
  unfold ind
  congr 1
  refine propext ⟨fun h => ?_, fun h => h ▸ rfl⟩
  have := congrArg BitVec.toNat h
  simp at this
  omega

/-- A position, put on one lane, is there on that lane and zero on the others. -/
theorem kPut_apply (k : ℕ) (hk : k < 64) (x : FVec Ideal (mat 512 8) .f32) (b : Fin 512) (i : Fin 8) (j : Fin 128) :
    kPut (BitVec.ofNat 32 k) x (ix3 b i j) = if j.val = k then x (ix2 b i) else 0 := by
  pointwise [kPut, kLane]
  rw [select_eq]
  simp only [word_inj j.val k j.isLt (by omega)]

/-- A band of the kernel's features is one on the lane as far from the band's start as the word says, and zero elsewhere. -/
theorem kHot_apply (k n : ℕ) (hk : k < 64) (hn : n < 64) (x : IVec cube 32) (b : Fin 512) (i : Fin 8) (j : Fin 128) (hx : x (ix3 b i j) = BitVec.ofNat 32 n) :
    kHot (BitVec.ofNat 32 k) x (ix3 b i j) = if j.val = k + n then 1 else 0 := by
  pointwise [kHot, kLane]
  rw [hx, select_eq]
  have h : IntOp.subi (BitVec.ofNat 32 j.val) (BitVec.ofNat 32 k) = BitVec.ofNat 32 n ↔ _ := lane_iff j.val k n j.isLt hk hn
  by_cases e : j.val = k + n
  · rw [if_pos e, if_pos (h.2 e)]
  · rw [if_neg e, if_neg (fun q => e (h.1 q))]

/-- A word of each node, laid over the lanes, is the node's word on every lane. -/
theorem kNodeWord_apply (x : IVec (mat 512 8) 32) (b : Fin 512) (i : Fin 8) (j : Fin 128) : kNodeWord x (ix3 b i j) = x (ix2 b i) := by
  pointwise [kNodeWord]

/-- A word of each problem, laid over nodes and lanes, is the problem's word everywhere. -/
theorem kProbWord_apply (x : IVec (mat 512 1) 32) (b : Fin 512) (i : Fin 8) (j : Fin 128) : kProbWord x (ix3 b i j) = x (ix2 b 0) := by
  pointwise [kProbWord]

/-- The kernel's features at a node, when its words are in range: the node's features, then zeros. -/
theorem kFeat_apply (A : Args) (p0 p1 : FVec Ideal (mat 512 8) .f32) (anc jmp : IVec (mat 512 1) 32) (r : Fin 4096)
    (h0 : p0 (ix2 (prob r) (seat r)) = A.pos (ix3 (prob r) (seat r) 0)) (h1 : p1 (ix2 (prob r) (seat r)) = A.pos (ix3 (prob r) (seat r) 1))
    (ha : anc (ix2 (prob r) 0) = A.anc (ix1 (prob r))) (hj : jmp (ix2 (prob r) 0) = A.jmp (ix1 (prob r)))
    (a b d e : ℕ) (la : a < 8) (lb : b < 8) (ld : d < 16) (le : e < 8)
    (ea : A.col (ix2 (prob r) (seat r)) = BitVec.ofNat 32 a) (eb : A.mar (ix2 (prob r) (seat r)) = BitVec.ofNat 32 b)
    (ed : A.anc (ix1 (prob r)) = BitVec.ofNat 32 d) (ee : A.jmp (ix1 (prob r)) = BitVec.ofNat 32 e) (j : Fin 128) (hlt : j.val < 42) :
    kFeat p0 p1 A.col A.mar anc jmp (ix2 r j) = A.feat r ⟨j.val, hlt⟩ := by
  have hr : kFeat p0 p1 A.col A.mar anc jmp (ix2 r j)
      = ((((kPut 0#32 p0 (ix3 (prob r) (seat r) j) + kPut 1#32 p1 (ix3 (prob r) (seat r) j)) + kHot 2#32 (kNodeWord A.col) (ix3 (prob r) (seat r) j))
        + kHot 10#32 (kNodeWord A.mar) (ix3 (prob r) (seat r) j)) + kHot 18#32 (kProbWord anc) (ix3 (prob r) (seat r) j))
        + kHot 34#32 (kProbWord jmp) (ix3 (prob r) (seat r) j) := by
    pointwise [kFeat]
    rfl
  rw [hr, kPut_apply 0 (by omega), kPut_apply 1 (by omega), kHot_apply 2 a (by omega) (by omega) _ _ _ _ ((kNodeWord_apply _ _ _ _).trans ea),
    kHot_apply 10 b (by omega) (by omega) _ _ _ _ ((kNodeWord_apply _ _ _ _).trans eb),
    kHot_apply 18 d (by omega) (by omega) _ _ _ _ ((kProbWord_apply _ _ _ _).trans (ha.trans ed)),
    kHot_apply 34 e (by omega) (by omega) _ _ _ _ ((kProbWord_apply _ _ _ _).trans (hj.trans ee)), h0, h1]
  unfold Args.feat
  dsimp only
  rw [ea, eb, ed, ee, ind_ofNat a _ (by omega) (by omega), ind_ofNat b _ (by omega) (by omega), ind_ofNat d _ (by omega) (by omega), ind_ofNat e _ (by omega) (by omega)]
  by_cases h2 : j.val < 2
  · rw [dif_pos h2, if_neg (show ¬ j.val = 2 + a by omega), if_neg (show ¬ j.val = 10 + b by omega), if_neg (show ¬ j.val = 18 + d by omega),
      if_neg (show ¬ j.val = 34 + e by omega)]
    simp only [add_zero]
    by_cases h : j.val = 0
    · rw [if_pos h, if_neg (show ¬ j.val = 1 by omega), add_zero]
      congr 2
      exact Fin.ext h.symm
    · rw [if_neg h, if_pos (show j.val = 1 by omega), zero_add]
      congr 2
      exact Fin.ext (show 1 = j.val by omega)
  rw [dif_neg h2, if_neg (show ¬ j.val = 0 by omega), if_neg (show ¬ j.val = 1 by omega)]
  by_cases h10 : j.val < 10
  · rw [if_pos h10, if_neg (show ¬ j.val = 10 + b by omega), if_neg (show ¬ j.val = 18 + d by omega), if_neg (show ¬ j.val = 34 + e by omega)]
    simp only [add_zero, zero_add]
    exact if_congr (by omega) rfl rfl
  rw [if_neg h10, if_neg (show ¬ j.val = 2 + a by omega)]
  by_cases h18 : j.val < 18
  · rw [if_pos h18, if_neg (show ¬ j.val = 18 + d by omega), if_neg (show ¬ j.val = 34 + e by omega)]
    simp only [add_zero, zero_add]
    exact if_congr (by omega) rfl rfl
  rw [if_neg h18, if_neg (show ¬ j.val = 10 + b by omega)]
  by_cases h34 : j.val < 34
  · rw [if_pos h34, if_neg (show ¬ j.val = 34 + e by omega)]
    simp only [add_zero, zero_add]
    exact if_congr (by omega) rfl rfl
  rw [if_neg h34, if_neg (show ¬ j.val = 18 + d by omega)]
  simp only [add_zero, zero_add]
  exact if_congr (by omega) rfl rfl

/-- The padded first weight has the weight's rows first and zeros after them. -/
theorem kPad_apply (W : FVec Ideal (mat 42 128) .f32) (j : Fin 128) (k : Fin 128) :
    kPad W (ix2 j k) = if h : j.val < 42 then W (ix2 ⟨j.val, h⟩ k) else 0 := by
  pointwise [kPad]

/-- The first dense layer over 128 lanes is the one over the features. -/
theorem lin_pad (W : FVec Ideal (mat 42 128) .f32) (b : Row 128) (x : Row 128) (y : Row 42) (h : ∀ (j : Fin 128) (hj : j.val < 42), x j = y ⟨j.val, hj⟩) :
    lin (toMat (kPad W)) b x = lin (toMat W) b y := by
  funext k
  show (∑ j : Fin 128, x j * kPad W (ix2 j k)) + b k = (∑ j : Fin 42, y j * W (ix2 j k)) + b k
  congr 1
  simp only [kPad_apply]
  refine (Fin.sum_univ_add (a := 42) (b := 86) (fun j : Fin 128 => x j * if h : j.val < 42 then W (ix2 ⟨j.val, h⟩ k) else 0)).trans ?_
  have hz : ∀ j : Fin 86, (x (Fin.natAdd 42 j) * if h : (Fin.natAdd 42 j : Fin 128).val < 42 then W (ix2 ⟨(Fin.natAdd 42 j : Fin 128).val, h⟩ k) else 0) = 0 := fun j => by
    rw [dif_neg (show ¬ (Fin.natAdd 42 j).val < 42 from Nat.not_lt.2 (Nat.le_add_right _ _)), mul_zero]
  rw [Finset.sum_eq_zero (s := (Finset.univ : Finset (Fin 86))) fun j _ => hz j, add_zero]
  refine Finset.sum_congr rfl fun j _ => ?_
  rw [dif_pos (show (Fin.castAdd 86 j).val < 42 from j.isLt), h _ (show (Fin.castAdd 86 j).val < 42 from j.isLt)]
  rfl

/-- The kernel's node table before the first step, when the features are the node's. -/
theorem kFirst_apply (W : FVec Ideal (mat 42 128) .f32) (b : Vc) (w0 : Sq) (b0 : Vc) (w1 : Sq) (b1 : Vc) (wo : Sq) (bo : Vc) (x : Tab) (r : Fin 4096) (y : Row 42)
    (h : ∀ (j : Fin 128) (hj : j.val < 42), x (ix2 r j) = y ⟨j.val, hj⟩) :
    toMat (kFirst W b w0 b0 w1 b1 wo bo x) r = (mlpOf W b w0 b0 w1 b1 wo bo).eval y := by
  unfold kFirst
  rw [kMlp_apply _ _ _ _ _ _ _ _ _ _ _ _ _ r (kBias128 _ _ _ r)]
  unfold Mlp.eval Mlp.hidden
  have e := lin_pad W (toRow b) (toMat x r) y h
  show lin (toMat wo) (toRow bo) (relu (lin (toMat w1) (toRow b1) (relu (lin (toMat w0) (toRow b0) (relu (lin (toMat (kPad W)) (toRow b) (toMat x r))))))) = _
  rw [e]
  rfl

end Cert.Net

end
-- ==== Proof.KernelFirst.lean ====
/-
  The kernel's node table before the first step and its targets, as functions of what it loads.
-/
module

public import proofs.«01_k».proof.Proof.KernelLoads
public import proofs.«01_k».proof.Proof.Features

@[expose] public section

set_option maxRecDepth 16384

noncomputable section

namespace Cert.KernelIdeal.Link

open Idealize.ShloMosaic Idealize.ShloMosaic.TcCoe Cert.KernelIdeal.Gen

variable (m : (ℓ : Loc nD τ sig) → Buf (Elt Ideal) ℓ) (c : Dev nD)

/-- The targets are the one hot words of the sixth window. -/
theorem hot_eq : hot m c t0_0 = Net.kTgtHot (iblk m c 6 t0_0) := by
  have e := load (ms0_6 t0_0) (hs0_6 t0_0) (iblk m c 6 t0_0) ![0, 0] (by decide) (by decide)
  refine Eq.trans ?_ (congrArg Net.kTgtHot e)
  rfl

/-- The first node table is the one the loaded features give. -/
theorem first_eq : first m c t0_0 = Net.kFirst (args m c).eW (args m c).eB (Net.hSq0 (args m c).eWh) (Net.hVc0 (args m c).eBh)
    (Net.hSq1 (args m c).eWh) (Net.hVc1 (args m c).eBh) (args m c).eWo (args m c).eBo
    (Net.kFeat (iblk m c 0 t0_0) (iblk m c 1 t0_0) (args m c).col (args m c).mar (iblk m c 4 t0_0) (iblk m c 5 t0_0)) := by
  rw [← load (ms0_0 t0_0) (hs0_0 t0_0) (iblk m c 0 t0_0) ![0, 0] (by decide) (by decide),
    ← load (ms0_1 t0_0) (hs0_1 t0_0) (iblk m c 1 t0_0) ![0, 0] (by decide) (by decide),
    ← load (ms0_4 t0_0) (hs0_4 t0_0) (iblk m c 4 t0_0) ![0, 0] (by decide) (by decide),
    ← load (ms0_5 t0_0) (hs0_5 t0_0) (iblk m c 5 t0_0) ![0, 0] (by decide) (by decide),
    ← blk2, ← blk3, ← blk7, ← blk8, ← blk9, ← blk10, ← blk11, ← blk12,
    ← load (ms0_2 t0_0) (hs0_2 t0_0) (iblk m c 2 t0_0) ![0, 0] (by decide) (by decide),
    ← load (ms0_3 t0_0) (hs0_3 t0_0) (iblk m c 3 t0_0) ![0, 0] (by decide) (by decide),
    ← load (ms0_7 t0_0) (hs0_7 t0_0) (iblk m c 7 t0_0) ![0, 0] (by decide) (by decide),
    ← load (ms0_8 t0_0) (hs0_8 t0_0) (iblk m c 8 t0_0) ![0] (by decide) (by decide),
    ← load_sq0 (ms0_9 t0_0) (hs0_9 t0_0) (iblk m c 9 t0_0) (by decide) (by decide),
    ← load_sq1 (ms0_9 t0_0) (hs0_9 t0_0) (iblk m c 9 t0_0) (by decide) (by decide),
    ← load_vc0 (ms0_10 t0_0) (hs0_10 t0_0) (iblk m c 10 t0_0) (by decide) (by decide),
    ← load_vc1 (ms0_10 t0_0) (hs0_10 t0_0) (iblk m c 10 t0_0) (by decide) (by decide),
    ← load (ms0_11 t0_0) (hs0_11 t0_0) (iblk m c 11 t0_0) ![0, 0] (by decide) (by decide),
    ← load (ms0_12 t0_0) (hs0_12 t0_0) (iblk m c 12 t0_0) ![0] (by decide) (by decide)]
  rfl

end Cert.KernelIdeal.Link

end
-- ==== Proof.KernelArrays.lean ====
/-
  The kernel's result arrays: at its one point each output window is the whole array.
-/
module

public import proofs.«01_k».proof.Proof.KernelOut
public import proofs.«01_k».proof.Proof.KernelIdealValue

@[expose] public section

set_option maxRecDepth 16384

noncomputable section

namespace Cert.KernelIdeal.Link

open Idealize.ShloMosaic Idealize.ShloMosaic.TcCoe Cert.KernelIdeal.Gen

variable (m : (ℓ : Loc nD τ sig) → Buf (Elt Ideal) ℓ) (c : Dev nD)

/-- The one point is the first block of the output windows. -/
theorem at35 : win0_35.index t0_0 = ![0, 0] ∧ win0_36.index t0_0 = ![0, 0] := by decide +kernel

/-- The losses the kernel leaves. -/
theorem arr35 : (dats m 0 c).arrAt 35 cfg0.N = (outsAt0 m c t0_0).1 := by
  refine (dats m 0 c).arrAt_eq_of_after_last 35 t0_0 (by decide +kernel) _ fun j => ?_
  blk_simp
  rw [after0_35]

/-- The classes the kernel leaves. -/
theorem arr36 : (dats m 0 c).arrAt 36 cfg0.N = (outsAt0 m c t0_0).2 := by
  refine (dats m 0 c).arrAt_eq_of_after_last 36 t0_0 (by decide +kernel) _ fun j => ?_
  blk_simp
  rw [after0_36]

end Cert.KernelIdeal.Link

end
-- ==== Proof.HostLink.lean ====
/-
  The values of the host program's run that the proof names: how each step's are computed from the ones before it, and
  the network's state they are.
-/
module

public import proofs.«01_k».proof.Proof.Gen.ReferenceIdeal.Run
public import proofs.«01_k».proof.Proof.HostLoss

@[expose] public section

set_option maxRecDepth 16384

noncomputable section

namespace Cert.ReferenceIdeal.Link

open Idealize.ShloMosaic Idealize.ShloMosaic.TcCoe Cert.ReferenceIdeal Cert.ReferenceIdeal.Gen Cert.ReferenceIdeal.Value

variable (V0 : Valuation τ sig (Elt Ideal))

/-- The arguments the host program starts from. -/
def args : Net.Args where
  pos := V0 (Proc.devRef .tc main_arg0)
  col := V0 (Proc.devRef .tc main_arg1)
  mar := V0 (Proc.devRef .tc main_arg2)
  anc := V0 (Proc.devRef .tc main_arg3)
  jmp := V0 (Proc.devRef .tc main_arg4)
  tgt := V0 (Proc.devRef .tc main_arg5)
  eW := V0 (Proc.devRef .tc main_arg6)
  eB := V0 (Proc.devRef .tc main_arg7)
  eWh := V0 (Proc.devRef .tc main_arg8)
  eBh := V0 (Proc.devRef .tc main_arg9)
  eWo := V0 (Proc.devRef .tc main_arg10)
  eBo := V0 (Proc.devRef .tc main_arg11)
  mW := V0 (Proc.devRef .tc main_arg12)
  mB := V0 (Proc.devRef .tc main_arg13)
  mWh := V0 (Proc.devRef .tc main_arg14)
  mBh := V0 (Proc.devRef .tc main_arg15)
  mWo := V0 (Proc.devRef .tc main_arg16)
  mBo := V0 (Proc.devRef .tc main_arg17)
  pW := V0 (Proc.devRef .tc main_arg18)
  pB := V0 (Proc.devRef .tc main_arg19)
  pWh := V0 (Proc.devRef .tc main_arg20)
  pBh := V0 (Proc.devRef .tc main_arg21)
  pWo := V0 (Proc.devRef .tc main_arg22)
  pBo := V0 (Proc.devRef .tc main_arg23)
  oW := V0 (Proc.devRef .tc main_arg24)
  oB := V0 (Proc.devRef .tc main_arg25)
  oWh := V0 (Proc.devRef .tc main_arg26)
  oBh := V0 (Proc.devRef .tc main_arg27)
  oWo := V0 (Proc.devRef .tc main_arg28)
  oBo := V0 (Proc.devRef .tc main_arg29)
  gamma := V0 (Proc.devRef .tc main_arg30)
  beta := V0 (Proc.devRef .tc main_arg31)
  lW := V0 (Proc.devRef .tc main_arg32)
  lB := V0 (Proc.devRef .tc main_arg33)

/-- The network's state from the host's first node table. -/
def rSt (k : ℕ) : Net.St := Net.stateAt (args V0).w (Net.toMat (res_main_v55 V0)) k

/-- The table that step 1 normalises is the update of the node table before it, with the first table. -/
theorem upd1 : res_main_v132 V0 = Net.hUpdOut (args V0) (Net.hUpdHid (args V0) (res_main_v55 V0) (res_main_v55 V0)) := rfl
/-- The gates of step 1 are those of that table, normalised, and the hidden table before. -/
theorem gate1 : res_main_v156 V0 = Net.hGates (args V0) (res_main_v132 V0) (Net.hDev (res_main_v132 V0)) Net.hCount Net.hZero := rfl
/-- After the first step. -/
theorem rst1 : (⟨Net.toMat (res_main_v186 V0), Net.toMat (res_main_v186 V0), Net.toMat (res_main_v178 V0)⟩ : Net.St) = rSt V0 1 :=
  Net.hStep_first (args V0) _ _ _ _ _ (upd1 V0) (gate1 V0) rfl rfl

/-- The table that step 2 normalises is the update of the node table before it, with the first table. -/
theorem upd2 : res_main_v301 V0 = Net.hUpdOut (args V0) (Net.hUpdHid (args V0) (res_main_v55 V0) (res_main_v186 V0)) := rfl
/-- The gates of step 2 are those of that table, normalised, and the hidden table before. -/
theorem gate2 : res_main_v325 V0 = Net.hGates (args V0) (res_main_v301 V0) (Net.hDev (res_main_v301 V0)) Net.hCount (res_main_v186 V0) := rfl
/-- After the second step. -/
theorem rst2 : (⟨Net.toMat (res_main_v355 V0), Net.toMat (res_main_v355 V0), Net.toMat (res_main_v347 V0)⟩ : Net.St) = rSt V0 2 :=
  Net.hStep_next (args V0) _ _ _ _ _ _ _ _ (rst1 V0) (upd2 V0) (gate2 V0) rfl rfl

/-- The table that step 3 normalises is the update of the node table before it, with the first table. -/
theorem upd3 : res_main_v470 V0 = Net.hUpdOut (args V0) (Net.hUpdHid (args V0) (res_main_v55 V0) (res_main_v355 V0)) := rfl
/-- The gates of step 3 are those of that table, normalised, and the hidden table before. -/
theorem gate3 : res_main_v494 V0 = Net.hGates (args V0) (res_main_v470 V0) (Net.hDev (res_main_v470 V0)) Net.hCount (res_main_v355 V0) := rfl
/-- After the third step. -/
theorem rst3 : (⟨Net.toMat (res_main_v524 V0), Net.toMat (res_main_v524 V0), Net.toMat (res_main_v516 V0)⟩ : Net.St) = rSt V0 3 :=
  Net.hStep_next (args V0) _ _ _ _ _ _ _ _ (rst2 V0) (upd3 V0) (gate3 V0) rfl rfl

/-- The table that step 4 normalises is the update of the node table before it, with the first table. -/
theorem upd4 : res_main_v639 V0 = Net.hUpdOut (args V0) (Net.hUpdHid (args V0) (res_main_v55 V0) (res_main_v524 V0)) := rfl
/-- The gates of step 4 are those of that table, normalised, and the hidden table before. -/
theorem gate4 : res_main_v663 V0 = Net.hGates (args V0) (res_main_v639 V0) (Net.hDev (res_main_v639 V0)) Net.hCount (res_main_v524 V0) := rfl
/-- After the fourth step. -/
theorem rst4 : (⟨Net.toMat (res_main_v693 V0), Net.toMat (res_main_v693 V0), Net.toMat (res_main_v685 V0)⟩ : Net.St) = rSt V0 4 :=
  Net.hStep_next (args V0) _ _ _ _ _ _ _ _ (rst3 V0) (upd4 V0) (gate4 V0) rfl rfl

/-- The table that step 5 normalises is the update of the node table before it, with the first table. -/
theorem upd5 : res_main_v808 V0 = Net.hUpdOut (args V0) (Net.hUpdHid (args V0) (res_main_v55 V0) (res_main_v693 V0)) := rfl
/-- The gates of step 5 are those of that table, normalised, and the hidden table before. -/
theorem gate5 : res_main_v832 V0 = Net.hGates (args V0) (res_main_v808 V0) (Net.hDev (res_main_v808 V0)) Net.hCount (res_main_v693 V0) := rfl
/-- After the fifth step. -/
theorem rst5 : (⟨Net.toMat (res_main_v862 V0), Net.toMat (res_main_v862 V0), Net.toMat (res_main_v854 V0)⟩ : Net.St) = rSt V0 5 :=
  Net.hStep_next (args V0) _ _ _ _ _ _ _ _ (rst4 V0) (upd5 V0) (gate5 V0) rfl rfl

/-- The table that step 6 normalises is the update of the node table before it, with the first table. -/
theorem upd6 : res_main_v977 V0 = Net.hUpdOut (args V0) (Net.hUpdHid (args V0) (res_main_v55 V0) (res_main_v862 V0)) := rfl
/-- The gates of step 6 are those of that table, normalised, and the hidden table before. -/
theorem gate6 : res_main_v1001 V0 = Net.hGates (args V0) (res_main_v977 V0) (Net.hDev (res_main_v977 V0)) Net.hCount (res_main_v862 V0) := rfl
/-- After the sixth step. -/
theorem rst6 : (⟨Net.toMat (res_main_v1031 V0), Net.toMat (res_main_v1031 V0), Net.toMat (res_main_v1023 V0)⟩ : Net.St) = rSt V0 6 :=
  Net.hStep_next (args V0) _ _ _ _ _ _ _ _ (rst5 V0) (upd6 V0) (gate6 V0) rfl rfl

/-- The table that step 7 normalises is the update of the node table before it, with the first table. -/
theorem upd7 : res_main_v1146 V0 = Net.hUpdOut (args V0) (Net.hUpdHid (args V0) (res_main_v55 V0) (res_main_v1031 V0)) := rfl
/-- The gates of step 7 are those of that table, normalised, and the hidden table before. -/
theorem gate7 : res_main_v1170 V0 = Net.hGates (args V0) (res_main_v1146 V0) (Net.hDev (res_main_v1146 V0)) Net.hCount (res_main_v1031 V0) := rfl
/-- After the seventh step. -/
theorem rst7 : (⟨Net.toMat (res_main_v1200 V0), Net.toMat (res_main_v1200 V0), Net.toMat (res_main_v1192 V0)⟩ : Net.St) = rSt V0 7 :=
  Net.hStep_next (args V0) _ _ _ _ _ _ _ _ (rst6 V0) (upd7 V0) (gate7 V0) rfl rfl

/-- The table that step 8 normalises is the update of the node table before it, with the first table. -/
theorem upd8 : res_main_v1315 V0 = Net.hUpdOut (args V0) (Net.hUpdHid (args V0) (res_main_v55 V0) (res_main_v1200 V0)) := rfl
/-- The gates of step 8 are those of that table, normalised, and the hidden table before. -/
theorem gate8 : res_main_v1339 V0 = Net.hGates (args V0) (res_main_v1315 V0) (Net.hDev (res_main_v1315 V0)) Net.hCount (res_main_v1200 V0) := rfl
/-- After the eighth step. -/
theorem rst8 : (⟨Net.toMat (Net.hEmit (res_main_v1339 V0) (Net.hCell (res_main_v1339 V0) (res_main_v1192 V0))), Net.toMat (Net.hEmit (res_main_v1339 V0) (Net.hCell (res_main_v1339 V0) (res_main_v1192 V0))), Net.toMat (Net.hCell (res_main_v1339 V0) (res_main_v1192 V0))⟩ : Net.St) = rSt V0 8 :=
  Net.hStep_next (args V0) _ _ _ _ _ _ _ _ (rst7 V0) (upd8 V0) (gate8 V0) rfl rfl

/-- The scores of step 1 are those of the hidden table after it. -/
theorem score1 : res_main_v215 V0 = Net.hLogits (args V0) (res_main_v186 V0) := rfl
/-- The scores of step 2 are those of the hidden table after it. -/
theorem score2 : res_main_v384 V0 = Net.hLogits (args V0) (res_main_v355 V0) := rfl
/-- The scores of step 3 are those of the hidden table after it. -/
theorem score3 : res_main_v553 V0 = Net.hLogits (args V0) (res_main_v524 V0) := rfl
/-- The scores of step 4 are those of the hidden table after it. -/
theorem score4 : res_main_v722 V0 = Net.hLogits (args V0) (res_main_v693 V0) := rfl
/-- The scores of step 5 are those of the hidden table after it. -/
theorem score5 : res_main_v891 V0 = Net.hLogits (args V0) (res_main_v862 V0) := rfl
/-- The scores of step 6 are those of the hidden table after it. -/
theorem score6 : res_main_v1060 V0 = Net.hLogits (args V0) (res_main_v1031 V0) := rfl
/-- The scores of step 7 are those of the hidden table after it. -/
theorem score7 : res_main_v1229 V0 = Net.hLogits (args V0) (res_main_v1200 V0) := rfl
/-- The scores of step 8 are those of the hidden table after it. -/
theorem score8 : res_main_v1398 V0 = Net.hLogits (args V0) (Net.hEmit (res_main_v1339 V0) (Net.hCell (res_main_v1339 V0) (res_main_v1192 V0))) := rfl

/-- The loss the host finds from a node table. -/
def rLos (h : Net.Tab) : FVec Ideal Net.one0 .f32 := Net.hLoss (Net.hShift (Net.hLogits (args V0) h)) (Net.hTgt (args V0).tgt)

/-- The class the host finds from a node table. -/
def rCls (h : Net.Tab) : IVec (Net.vec 512) 32 := Net.hIdx (Net.hLogits (args V0) h)

/-- The host's first result. -/
theorem out_loss : broadcastInDim S8x1 ![0] bcast_S8_S8x1_0 (res_main_v1418 V0) = Net.hStackF
    (rLos V0 (res_main_v186 V0))
    (rLos V0 (res_main_v355 V0))
    (rLos V0 (res_main_v524 V0))
    (rLos V0 (res_main_v693 V0))
    (rLos V0 (res_main_v862 V0))
    (rLos V0 (res_main_v1031 V0))
    (rLos V0 (res_main_v1200 V0))
    (rLos V0 (Net.hEmit (res_main_v1339 V0) (Net.hCell (res_main_v1339 V0) (res_main_v1192 V0)))) := rfl

/-- The host's second result. -/
theorem out_idx : (concatenate S8x512 0 [⟨S1x512, ((broadcastInDim S1x512 ![1] bcast_S512_S1x512_1 (shapeCast _ ((Host.topK S512x1 1 (FloatOps.cmpfTotal (F := Ideal) (φ := .f32) .gt) (res_main_v215 V0) sliceFits_S512x16_S512x1).2) shapeCasts_S512x1_S512)) : (⟨S1x512, .i32⟩ : BufTy).Contents (Elt Ideal))⟩, ⟨S1x512, ((broadcastInDim S1x512 ![1] bcast_S512_S1x512_1 (shapeCast _ ((Host.topK S512x1 1 (FloatOps.cmpfTotal (F := Ideal) (φ := .f32) .gt) (res_main_v384 V0) sliceFits_S512x16_S512x1).2) shapeCasts_S512x1_S512)) : (⟨S1x512, .i32⟩ : BufTy).Contents (Elt Ideal))⟩, ⟨S1x512, ((broadcastInDim S1x512 ![1] bcast_S512_S1x512_1 (shapeCast _ ((Host.topK S512x1 1 (FloatOps.cmpfTotal (F := Ideal) (φ := .f32) .gt) (res_main_v553 V0) sliceFits_S512x16_S512x1).2) shapeCasts_S512x1_S512)) : (⟨S1x512, .i32⟩ : BufTy).Contents (Elt Ideal))⟩, ⟨S1x512, ((broadcastInDim S1x512 ![1] bcast_S512_S1x512_1 (shapeCast _ ((Host.topK S512x1 1 (FloatOps.cmpfTotal (F := Ideal) (φ := .f32) .gt) (res_main_v722 V0) sliceFits_S512x16_S512x1).2) shapeCasts_S512x1_S512)) : (⟨S1x512, .i32⟩ : BufTy).Contents (Elt Ideal))⟩, ⟨S1x512, ((broadcastInDim S1x512 ![1] bcast_S512_S1x512_1 (shapeCast _ ((Host.topK S512x1 1 (FloatOps.cmpfTotal (F := Ideal) (φ := .f32) .gt) (res_main_v891 V0) sliceFits_S512x16_S512x1).2) shapeCasts_S512x1_S512)) : (⟨S1x512, .i32⟩ : BufTy).Contents (Elt Ideal))⟩, ⟨S1x512, ((broadcastInDim S1x512 ![1] bcast_S512_S1x512_1 (shapeCast _ ((Host.topK S512x1 1 (FloatOps.cmpfTotal (F := Ideal) (φ := .f32) .gt) (res_main_v1060 V0) sliceFits_S512x16_S512x1).2) shapeCasts_S512x1_S512)) : (⟨S1x512, .i32⟩ : BufTy).Contents (Elt Ideal))⟩, ⟨S1x512, ((broadcastInDim S1x512 ![1] bcast_S512_S1x512_1 (shapeCast _ ((Host.topK S512x1 1 (FloatOps.cmpfTotal (F := Ideal) (φ := .f32) .gt) (res_main_v1229 V0) sliceFits_S512x16_S512x1).2) shapeCasts_S512x1_S512)) : (⟨S1x512, .i32⟩ : BufTy).Contents (Elt Ideal))⟩, ⟨S1x512, ((broadcastInDim S1x512 ![1] bcast_S512_S1x512_1 (shapeCast _ ((Host.topK S512x1 1 (FloatOps.cmpfTotal (F := Ideal) (φ := .f32) .gt) (res_main_v1398 V0) sliceFits_S512x16_S512x1).2) shapeCasts_S512x1_S512)) : (⟨S1x512, .i32⟩ : BufTy).Contents (Elt Ideal))⟩] concatenates_S1x512_S1x512_S1x512_S1x512_S1x512_S1x512_S1x512_S1x512_S8x512_d0 : (⟨S8x512, .i32⟩ : BufTy).Contents (Elt Ideal)) = Net.hStackI
    (rCls V0 (res_main_v186 V0))
    (rCls V0 (res_main_v355 V0))
    (rCls V0 (res_main_v524 V0))
    (rCls V0 (res_main_v693 V0))
    (rCls V0 (res_main_v862 V0))
    (rCls V0 (res_main_v1031 V0))
    (rCls V0 (res_main_v1200 V0))
    (rCls V0 (Net.hEmit (res_main_v1339 V0) (Net.hCell (res_main_v1339 V0) (res_main_v1192 V0)))) := rfl

end Cert.ReferenceIdeal.Link

end
-- ==== Proof.HostFirst.lean ====
/-
  The reference's node table before the first step is the one the features give.
-/
module

public import proofs.«01_k».proof.Proof.HostLink
public import proofs.«01_k».proof.Proof.Features

@[expose] public section

set_option maxRecDepth 16384

noncomputable section

namespace Cert.ReferenceIdeal.Link

open Idealize.ShloMosaic Idealize.ShloMosaic.TcCoe Cert.ReferenceIdeal Cert.ReferenceIdeal.Gen Cert.ReferenceIdeal.Value

variable (V0 : Valuation τ sig (Elt Ideal))

/-- The reference's first node table. -/
theorem first : res_main_v55 V0 = Net.hFirst (args V0) := rfl

end Cert.ReferenceIdeal.Link

end
-- ==== Proof.Range.lean ====
/-
  What the precondition says: the words of a problem are small numbers.
-/
module

public import proofs.«01_k».proof.Pre_in_range
public import proofs.«01_k».proof.Proof.HostStep

@[expose] public section

set_option maxRecDepth 16384

noncomputable section

namespace Cert.Pre_in_range

open Idealize.ShloMosaic

/-- The shape relations the precondition's operations take. -/
theorem facts : Facts where
  bcast_S_S512 := by decide
  bcast_S_S512x8 := by decide
  bcast_S512_S512x1_0 := by decide
  bcast_S512x1_S512x8_0_1 := by decide

end Cert.Pre_in_range

namespace Cert.Net

open Idealize.ShloMosaic

/-- Both of two bits. -/
theorem both (a b : BitVec 1) : IntOp.andi a b = 1#1 ↔ a = 1#1 ∧ b = 1#1 := by
  revert a b
  decide

/-- A word between zero and a small number is a smaller number. -/
theorem small (x : BitVec 32) (n : ℕ) (hn : n < 64) (h0 : IntOp.cmpi .sge x 0#32 = 1#1) (h1 : IntOp.cmpi .slt x (BitVec.ofNat 32 n) = 1#1) :
    ∃ k, k < n ∧ x = BitVec.ofNat 32 k := by
  have e0 : BitVec.sle 0#32 x = true := by
    cases h : BitVec.sle 0#32 x with
    | true => rfl
    | false => exact absurd (show BitVec.ofBool (BitVec.sle 0#32 x) = 1#1 from h0) (by rw [h]; decide)
  have e1 : BitVec.slt x (BitVec.ofNat 32 n) = true := by
    cases h : BitVec.slt x (BitVec.ofNat 32 n) with
    | true => rfl
    | false => exact absurd (show BitVec.ofBool (BitVec.slt x (BitVec.ofNat 32 n)) = 1#1 from h1) (by rw [h]; decide)
  have i0 : (0 : ℤ) ≤ x.toInt := by simpa [BitVec.sle] using e0
  have i1 : x.toInt < (n : ℤ) := by
    have := of_decide_eq_true (show decide (x.toInt < (BitVec.ofNat 32 n).toInt) = true from e1)
    rwa [StableHlo.Predicate.toInt_ofNat_small _ (by omega)] at this
  refine ⟨x.toNat, ?_, BitVec.eq_of_toNat_eq (by rw [BitVec.toNat_ofNat, Nat.mod_eq_of_lt x.isLt])⟩
  rw [BitVec.toInt_eq_toNat_cond] at i0 i1
  split at i0 <;> rename_i h <;> [rw [if_pos h] at i1; rw [if_neg h] at i1] <;> omega

/-- The words of every problem are in range. -/
def Args.Small (A : Args) : Prop :=
  (∀ b i, ∃ k, k < 8 ∧ A.col (ix2 b i) = BitVec.ofNat 32 k) ∧ (∀ b i, ∃ k, k < 8 ∧ A.mar (ix2 b i) = BitVec.ofNat 32 k)
    ∧ (∀ b, ∃ k, k < 16 ∧ A.anc (ix1 b) = BitVec.ofNat 32 k) ∧ (∀ b, ∃ k, k < 8 ∧ A.jmp (ix1 b) = BitVec.ofNat 32 k)
    ∧ (∀ b, ∃ k, k < 16 ∧ A.tgt (ix1 b) = BitVec.ofNat 32 k)

/-- The precondition says so. -/
theorem small_of_pre [hp : Cert.Pre_in_range.Facts] (A : Args)
    (h : Cert.Pre_in_range.fn (F := Ideal) A.pos A.col A.mar A.anc A.jmp A.tgt A.eW A.eB A.eWh A.eBh A.eWo A.eBo A.mW A.mB A.mWh A.mBh A.mWo A.mBo
      A.pW A.pB A.pWh A.pBh A.pWo A.pBo A.oW A.oB A.oWh A.oBh A.oWo A.oBo A.gamma A.beta A.lW A.lB = fun _ => 1#1) : A.Small := by
  have key : ∀ (b : Fin 512) (i : Fin 8),
      (((IntOp.cmpi .sge (A.col (ix2 b i)) 0#32 = 1#1 ∧ IntOp.cmpi .slt (A.col (ix2 b i)) 8#32 = 1#1)
        ∧ IntOp.cmpi .sge (A.mar (ix2 b i)) 0#32 = 1#1) ∧ IntOp.cmpi .slt (A.mar (ix2 b i)) 8#32 = 1#1)
      ∧ ((((IntOp.cmpi .sge (A.anc (ix1 b)) 0#32 = 1#1 ∧ IntOp.cmpi .slt (A.anc (ix1 b)) 16#32 = 1#1)
        ∧ IntOp.cmpi .sge (A.jmp (ix1 b)) 0#32 = 1#1) ∧ IntOp.cmpi .slt (A.jmp (ix1 b)) 8#32 = 1#1)
        ∧ IntOp.cmpi .sge (A.tgt (ix1 b)) 0#32 = 1#1) ∧ IntOp.cmpi .slt (A.tgt (ix1 b)) 16#32 = 1#1 := fun b i => by
    have e := congrFun h (ix2 b i)
    unfold Cert.Pre_in_range.fn Cert.Pre_in_range.fn_part1 at e
    revert e
    pointwise []
    simp only [both]
    exact id
  exact ⟨fun b i => small _ 8 (by omega) (key b i).1.1.1.1 (key b i).1.1.1.2, fun b i => small _ 8 (by omega) (key b i).1.1.2 (key b i).1.2,
    fun b => small _ 16 (by omega) (key b 0).2.1.1.1.1.1 (key b 0).2.1.1.1.1.2, fun b => small _ 8 (by omega) (key b 0).2.1.1.1.2 (key b 0).2.1.1.2,
    fun b => small _ 16 (by omega) (key b 0).2.1.2 (key b 0).2.2⟩

end Cert.Net

end
-- ==== Proof.SameLoss.lean ====
/-
  What a step adds to the two results is the same for both programs.
-/
module

public import proofs.«01_k».proof.Proof.HostLoss
public import Idealize.ShloMosaic.Lib.SortFacts
public import Idealize.ShloMosaic.Lib.SortNet.Extract

@[expose] public section

noncomputable section

namespace Cert.Net

open Idealize.ShloMosaic

/-- The largest of a row. -/
def top {n : ℕ} (x : Row n) : EReal := Finset.univ.fold max ⊥ x

/-- The literal that the maximum starts from is the least extended real. -/
theorem neg_inf : Ideal.ofBits .f32 0xFF800000#32 = (⊥ : EReal) := by
  simp [Ideal.ofBits, Ideal.ieee]

/-- The kernel's maximum, spread over a row, is the row's greatest score. -/
theorem kMax_apply (z : Sco) (b : Fin 512) (k : Fin 16) : kMax z (ix2 b k) = top (toMat z b) := by
  pointwise [kMax]
  rw [neg_inf]
  rfl

/-- The host's shifted score is the score less the row's greatest. -/
theorem hShift_apply (z : Sco) (b : Fin 512) (k : Fin 16) : hShift z (ix2 b k) = z (ix2 b k) - top (toMat z b) := by
  pointwise [hShift]
  rw [neg_inf, max_eq_right bot_le]
  rfl

/-- The two logarithms of the softmax. -/
theorem kLsm_eq (z : Sco) : kLsm z = hLsm (hShift z) := by
  funext j
  obtain ⟨b, k, rfl⟩ : ∃ b k, j = ix2 b k := ⟨j 0, j 1, by funext q; fin_cases q <;> rfl⟩
  pointwise [kLsm, hLsm]
  simp only [kMax_apply, hShift_apply]

/-- A target that is a class, as a place to gather from. -/
theorem hTgt_apply (t : IVec (vec 512) 32) (b : Fin 512) (n : ℕ) (hn : n < 16) (ht : t (ix1 b) = BitVec.ofNat 32 n) :
    hTgt t (ix3 b 0 0) = BitVec.ofNat 32 n := by
  pointwise [hTgt, hTgtCol]
  rw [ht, wrap_word n (by omega)]

/-- A target that is a class is inside. -/
theorem hInside_apply (T : IVec tg3 32) (b : Fin 512) (n : ℕ) (hn : n < 16) (ht : T (ix3 b 0 0) = BitVec.ofNat 32 n) :
    hInside T (ix2 b 0) = 1#1 := by
  have h0 : IntOp.cmpi .sge (BitVec.ofNat 32 n) 0#32 = 1#1 := by interval_cases n <;> rfl
  have h1 : IntOp.cmpi .sle (BitVec.ofNat 32 n) 15#32 = 1#1 := by interval_cases n <;> rfl
  pointwise [hInside]
  rw [Finset.univ_unique, Finset.fold_singleton]
  show IntOp.andi (IntOp.andi (IntOp.cmpi .sge (T (ix3 b 0 0)) 0#32) (IntOp.cmpi .sle (T (ix3 b 0 0)) 15#32)) 1#1 = 1#1
  rw [ht, h0, h1]
  rfl

/-- The score gathered for a problem. -/
theorem takeOne_apply (l : Sco) (T : IVec tg3 32) (b : Fin 512) (n : ℕ) (hn : n < 16) (ht : T (ix3 b 0 0) = BitVec.ofNat 32 n) :
    Host.gather takeOne l T (ix2 b 0) = l (ix2 b ⟨n, hn⟩) := by
  unfold Host.gather
  congr 1
  funext a
  refine Fin.ext ?_
  show takeOne.start (ix2 b 0) T a + takeOne.batchCoord (ix2 b 0) a + takeOne.offCoord (ix2 b 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ takeOne.operandBatchingDims from List.mem_singleton.mpr rfl)]
    simp only [Nat.zero_add, Nat.add_zero]
    rfl
  · rw [GatherDims.batchCoord_eq_zero _ _ _ (fun h => by simp [takeOne] at h),
      GatherDims.offCoord_eq_zero _ _ _ (fun h => ((GatherDims.mem_sKept _ _).mp h).1 (List.mem_singleton.mpr rfl))]
    unfold GatherDims.start
    rw [dif_pos (show (1 : Fin 2) ∈ takeOne.startIndexMap from List.mem_singleton.mpr rfl)]
    have hsi : takeOne.siIdx (ix2 b 0) ⟨List.idxOf (1 : Fin 2) takeOne.startIndexMap,
        List.idxOf_lt_length_iff.2 (List.mem_singleton.mpr rfl)⟩ = ix3 b 0 0 := by
      funext q
      refine Fin.ext ?_
      match q with
      | ⟨0, _⟩ => rfl
      | ⟨1, _⟩ => rfl
      | ⟨2, _⟩ => rfl
    rw [hsi, ht]
    show min (BitVec.ofNat 32 n).toInt.toNat (16 - 1) + 0 + 0 = n
    interval_cases n <;> rfl

/-- The target's log-probability. -/
theorem hPick_apply (l : Sco) (T : IVec tg3 32) (b : Fin 512) (n : ℕ) (hn : n < 16) (ht : T (ix3 b 0 0) = BitVec.ofNat 32 n) :
    hPick l T (ix1 b) = l (ix2 b ⟨n, hn⟩) := by
  pointwise [hPick]
  rw [hInside_apply T b n hn ht, takeOne_apply l T b n hn ht]
  rfl

/-- The loss of a problem whose target is a class. -/
theorem kCe_apply (hot z : Sco) (b : Fin 512) (n : Fin 16) (hh : ∀ k, hot (ix2 b k) = if k = n then 1 else 0) :
    kCe hot z (ix1 b) = -kLsm z (ix2 b n) := by
  pointwise [kCe]
  simp only [hh, mul_ite, mul_one, mul_zero, Finset.sum_ite_eq', Finset.mem_univ, if_true, zero_sub]

/-- The host's logarithm of two is the logarithm of two. -/
theorem ln_two : (Host.log (constant one0 .f32 0x40000000#32) : FVec Ideal one0 .f32) ix0 = ((Real.log 2 : ℝ) : EReal) := by
  show Ideal.log (Ideal.ofBits .f32 0x40000000#32) = _
  have h : Ideal.ofBits .f32 0x40000000#32 = ((2 : ℝ) : EReal) := by
    simp [Ideal.ofBits, Ideal.ieee, -EReal.coe_mul]
    try norm_num
  rw [h]
  show (if (2 : ℝ) ≤ 0 then (⊥ : EReal) else (Real.log 2 : EReal)) = _
  rw [if_neg (by norm_num)]

/-- The two mean losses, when every target is a class. -/
theorem kLoss_eq (n : Ideal .f32) (hn : n = ((Real.log 2 : ℝ) : EReal)) (hot z : Sco) (t : IVec (vec 512) 32) (cl : Fin 512 → Fin 16)
    (ht : ∀ b, t (ix1 b) = BitVec.ofNat 32 (cl b).val) (hh : ∀ b k, hot (ix2 b k) = if k = cl b then 1 else 0) :
    kLoss n hot z = hLoss (hShift z) (hTgt t) ix0 := by
  have hp : ∀ b, kCe hot z (ix1 b) = -hPick (hLsm (hShift z)) (hTgt t) (ix1 b) := fun b => by
    rw [kCe_apply hot z b (cl b) (hh b), hPick_apply _ _ b (cl b).val (cl b).isLt (hTgt_apply t b _ (cl b).isLt (ht b)), kLsm_eq]
  have hl := ln_two
  pointwise [kLoss, hLoss]
  rw [hn]
  show _ = Ideal.div _ ((Host.log (constant one0 .f32 0x40000000#32) : FVec Ideal one0 .f32) ix0)
  rw [hl]
  simp only [hp]

/-! ### The class of the largest score -/

/-- The first place of a stable sort, greatest first, is the first place of the greatest. -/
theorem head_sorted {n : ℕ} (z : Fin n → EReal) (R : Fin n → Fin n → Bool) (hR : ∀ a b, R a b = true ↔ z b < z a) :
    ∀ l : List (Fin n), l.Pairwise (· < ·) → ∀ h ∈ (stableSort R l).head?, h ∈ l ∧ ∀ x ∈ l, z x ≤ z h ∧ (x < h → z x < z h)
  | [], _, h, hh => by simp [stableSort] at hh
  | a :: l, hl, h, hh => by
    rw [List.pairwise_cons] at hl
    have ih := head_sorted z R hR l hl.2
    unfold stableSort at hh
    cases hs : stableSort R l with
    | nil =>
      have : l = [] := by
        have := length_stableSort R l
        rw [hs] at this
        exact List.eq_nil_of_length_eq_zero this.symm
      subst this
      rw [hs] at hh
      simp [insertBefore] at hh
      subst hh
      simp
    | cons b m =>
      rw [hs] at hh
      have hb := ih b (by rw [hs]; rfl)
      unfold insertBefore at hh
      by_cases hc : R b a = true
      · rw [if_pos hc] at hh
        have e : b = h := by simpa using hh
        subst e
        have hlt := (hR _ _).1 hc
        refine ⟨List.mem_cons_of_mem _ hb.1, fun x hx => ?_⟩
        rcases List.mem_cons.1 hx with rfl | hx
        · exact ⟨hlt.le, fun _ => hlt⟩
        · exact hb.2 x hx
      · rw [if_neg hc] at hh
        have e : a = h := by simpa using hh
        subst e
        have hle : z b ≤ z a := not_lt.1 fun hlt => hc ((hR _ _).2 hlt)
        refine ⟨List.mem_cons_self, fun x hx => ?_⟩
        rcases List.mem_cons.1 hx with rfl | hx
        · exact ⟨le_rfl, fun h => absurd h (lt_irrefl _)⟩
        · exact ⟨(hb.2 x hx).1.trans hle, fun h => absurd (hl.1 x hx) (not_lt.2 h.le)⟩

/-- The comparison the host sorts the scores of a problem by. -/
def above (z : Sco) (b : Fin 512) (k k' : Fin 16) : Bool := FloatOps.cmpfTotal (F := Ideal) (φ := .f32) .gt (z (ix2 b k)) (z (ix2 b k')) == 1#1

/-- The comparison puts the greater score first. -/
theorem above_iff (z : Sco) (b : Fin 512) (k k' : Fin 16) : above z b k k' = true ↔ z (ix2 b k') < z (ix2 b k) := by
  show (BitVec.ofBool (decide (z (ix2 b k') < z (ix2 b k))) == 1#1) = true ↔ _
  by_cases h : z (ix2 b k') < z (ix2 b k) <;> simp [h]

/-- The place the host's sort puts first. -/
def lead (z : Sco) (b : Fin 512) : Fin 16 := sortedFrom (above z b) 0

/-- The place that comes first has a greatest score, and every place before it has a smaller one. -/
theorem lead_spec (z : Sco) (b : Fin 512) (k : Fin 16) :
    z (ix2 b k) ≤ z (ix2 b (lead z b)) ∧ (k < lead z b → z (ix2 b k) < z (ix2 b (lead z b))) := by
  have hs : lead z b ∈ (stableSort (above z b) (List.finRange 16)).head? := by
    rw [List.head?_eq_getElem?]
    exact List.getElem?_eq_getElem _
  exact (head_sorted (fun k => z (ix2 b k)) (above z b) (above_iff z b) _ (List.pairwise_lt_finRange 16) _ hs).2 k (List.mem_finRange k)

section
attribute [local irreducible] sortedFrom

/-- The host's sorted places, read in its first column. -/
theorem sort_first (z : Sco) (b : Fin 512) (y : IVec (mat 512 16) 32) (hy : ∀ k : Fin 16, y (ix2 b k) = BitVec.ofNat 32 k.val) :
    (Host.sort2 (mat 512 16) 1 (fun l r => FloatOps.cmpfTotal (F := Ideal) (φ := .f32) .gt l.1 r.1) z y).2 (ix2 b 0) = BitVec.ofNat 32 (lead z b).val := by
  have al : ∀ k : Fin 16, (ix2 b 0 : (mat 512 16).Idx).along (1 : Fin 2) k = ix2 b k := fun k => by
    funext q
    fin_cases q <;> rfl
  unfold Host.sort2
  rw [dif_pos (show 1 < (mat 512 16).rank by decide)]
  show y ((ix2 b 0 : (mat 512 16).Idx).along (1 : Fin 2) (sortedFrom (n := 16) (fun k k' => FloatOps.cmpfTotal (F := Ideal) (φ := .f32) .gt
    (z ((ix2 b 0 : (mat 512 16).Idx).along (1 : Fin 2) k)) (z ((ix2 b 0 : (mat 512 16).Idx).along (1 : Fin 2) k')) == 1#1) 0)) = _
  simp only [al]
  exact hy (lead z b)

/-- The host's class: the first of those with the largest score. -/
theorem hIdx_apply (z : Sco) (b : Fin 512) : hIdx z (ix1 b) = BitVec.ofNat 32 (lead z b).val := by
  have e : hIdx z (ix1 b) = (Host.topK (mat 512 1) 1 (FloatOps.cmpfTotal (F := Ideal) (φ := .f32) .gt) z firstCol).2 (ix2 b 0) := by
    pointwise [hIdx]
  rw [e]
  unfold Host.topK
  dsimp only
  rw [← sort_first z b (fun i => if hd : 1 < (mat 512 16).rank then iotaInDim (mat 512 16) 32 ⟨1, hd⟩ i else 0#32) fun k => by
    rw [dif_pos (by decide)]
    rfl]
  unfold extractStridedSlice
  refine congrArg (Host.sort2 (mat 512 16) 1 (fun l r => FloatOps.cmpfTotal (F := Ideal) (φ := .f32) .gt l.1 r.1) z fun i =>
    if hd : 1 < (mat 512 16).rank then iotaInDim (mat 512 16) 32 ⟨1, hd⟩ i else 0#32).2 ?_
  funext q
  fin_cases q <;> exact Fin.ext (Nat.zero_add _)

end

/-- The kernel's class, given the first of those with the largest score. -/
theorem kIdx_of (z : Sco) (b : Fin 512) (n : Fin 16) (hz : ∀ k, z (ix2 b k) ≤ z (ix2 b n) ∧ (k < n → z (ix2 b k) < z (ix2 b n))) :
    kIdx z (ix1 b) = BitVec.ofNat 32 n.val := by
  have ht : top (toMat z b) = z (ix2 b n) := by
    refine le_antisymm ?_ ?_
    · exact (Finset.fold_max_le _).2 ⟨bot_le, fun k _ => (hz k).1⟩
    · exact (Finset.le_fold_max _).2 (Or.inr ⟨n, Finset.mem_univ _, le_rfl⟩)
  pointwise [kIdx]
  simp only [kMax_apply, ht]
  have hi : ∀ k : Fin 16, (BitVec.ofNat 32 k.val).toInt = k.val := fun k =>
    StableHlo.Predicate.toInt_ofNat_small _ (by omega)
  have e : ∀ s : Finset (Fin 16), (s.fold IntOp.minsi (2147483647#32)
      (fun x => if z (ix2 b x) = z (ix2 b n) then BitVec.ofNat 32 x.val else 16#32)).toInt
        = s.fold min 2147483647 (fun x => if z (ix2 b x) = z (ix2 b n) then (x.val : ℤ) else 16) := fun s => by
    induction s using Finset.induction with
    | empty => rfl
    | insert a s ha ih =>
      rw [Finset.fold_insert ha, Finset.fold_insert ha, SortNet.toInt_minsi, ih]
      congr 1
      split_ifs
      · exact hi a
      · rfl
  refine BitVec.eq_of_toInt_eq ?_
  rw [e, hi]
  refine le_antisymm ?_ ?_
  · exact (Finset.fold_min_le _).2 (Or.inr ⟨n, Finset.mem_univ _, by rw [if_pos rfl]⟩)
  · refine (Finset.le_fold_min _).2 ⟨by omega, fun k _ => ?_⟩
    split_ifs with h
    · exact_mod_cast not_lt.1 fun hk => ((hz k).2 hk).ne h
    · omega

/-- The kernel's classes are the host's. -/
theorem kIdx_eq (z : Sco) : kIdx z = hIdx z := by
  funext j
  obtain ⟨b, rfl⟩ : ∃ b, j = ix1 b := ⟨j 0, by funext q; fin_cases q; rfl⟩
  rw [hIdx_apply, kIdx_of z b (lead z b) (lead_spec z b)]

/-! ### The stacks -/

/-- The kernel's stack of eight rows of classes is the host's. -/
theorem kStackI_eq (a b c d e f g h : IVec (vec 512) 32) : kStackI a b c d e f g h = hStackI a b c d e f g h := by
  have e1 : ∀ x : IVec (vec 512) 32, shapeCast (mat 1 512) x (by decide) = broadcastInDim (mat 1 512) ![1] (by decide) x := fun x => by
    funext j
    pointwise
  unfold kStackI hStackI
  rw [e1 a, e1 b, e1 c, e1 d, e1 e, e1 f, e1 g, e1 h]

/-- The kernel's stack of eight losses is the host's. -/
theorem kStackF_eq (a b c d e f g h : FVec Ideal one0 .f32) :
    kStackF (a ix0) (b ix0) (c ix0) (d ix0) (e ix0) (f ix0) (g ix0) (h ix0) = hStackF a b c d e f g h := by
  funext j
  obtain ⟨b, k, rfl⟩ : ∃ b k, j = ix2 b k := ⟨j 0, j 1, by funext q; fin_cases q <;> rfl⟩
  pointwise [kStackF, hStackF]

end Cert.Net

end
-- ==== Proof.Same.lean ====
/-
  The kernel's two results are the reference's, when the words are in range.
-/
module

public import proofs.«01_k».proof.Proof.KernelFirst
public import proofs.«01_k».proof.Proof.KernelArrays
public import proofs.«01_k».proof.Proof.HostFirst
public import proofs.«01_k».proof.Proof.Range
public import proofs.«01_k».proof.Proof.SameLoss

@[expose] public section

set_option maxRecDepth 16384

noncomputable section

namespace Cert.Net

open Idealize.ShloMosaic

/-- Two tables with the same rows are the same. -/
theorem mat_ext {n k : ℕ} (x y : FVec Ideal (mat n k) .f32) (h : toMat x = toMat y) : x = y := by
  funext i
  have e : i = ix2 (i 0) (i 1) := by
    funext a
    fin_cases a <;> rfl
  rw [e]
  exact congrFun (congrFun h (i 0)) (i 1)

/-- The class of each problem, when the words are in range. -/
theorem Args.Small.classes {A : Args} (h : A.Small) : ∃ cl : Fin 512 → Fin 16, ∀ b, A.tgt (ix1 b) = BitVec.ofNat 32 (cl b).val := by
  choose f hf using h.2.2.2.2
  exact ⟨fun b => ⟨f b, (hf b).1⟩, fun b => (hf b).2⟩

end Cert.Net

namespace Cert.KernelIdeal.Link

open Idealize.ShloMosaic Idealize.ShloMosaic.TcCoe Cert.KernelIdeal.Gen

variable (m : (ℓ : Loc nD τ sig) → Buf (Elt Ideal) ℓ) (c : Dev nD)

/-- Before the first step the kernel's node table is the reference's. -/
theorem first_same (h : (args m c).Small) : Net.toMat (first m c t0_0) = Net.toMat (Net.hFirst (args m c)) := by
  funext r
  obtain ⟨a, la, ea⟩ := h.1 (Net.prob r) (Net.seat r)
  obtain ⟨b, lb, eb⟩ := h.2.1 (Net.prob r) (Net.seat r)
  obtain ⟨d, ld, ed⟩ := h.2.2.1 (Net.prob r)
  obtain ⟨e, le, ee⟩ := h.2.2.2.1 (Net.prob r)
  rw [first_eq, Net.hFirst_apply]
  exact Net.kFirst_apply _ _ _ _ _ _ _ _ _ r _ fun j hj =>
    Net.kFeat_apply (args m c) _ _ _ _ r (blk0 m c _ _) (blk1 m c _ _) (blk4 m c _) (blk5 m c _) a b d e la lb ld le ea eb ed ee j hj

/-- The kernel's scores from a node table are the reference's from the same. -/
theorem sco_same (x y : Net.Tab) (h : Net.toMat x = Net.toMat y) : sco m c t0_0 x = Net.hLogits (args m c) y := by
  refine Net.mat_ext _ _ ?_
  rw [sco, Net.kLogits_apply, Net.hLogits_apply, loads, h]

/-- The classes are the same. -/
theorem cls_same (x y : Net.Tab) (h : Net.toMat x = Net.toMat y) : cls m c t0_0 x = Net.hIdx (Net.hLogits (args m c) y) := by
  rw [cls, sco_same m c x y h, Net.kIdx_eq]

/-- The losses are the same. -/
theorem los_same (hs : (args m c).Small) (x y : Net.Tab) (h : Net.toMat x = Net.toMat y) :
    los m c t0_0 x = Net.hLoss (Net.hShift (Net.hLogits (args m c) y)) (Net.hTgt (args m c).tgt) ix0 := by
  obtain ⟨cl, hc⟩ := hs.classes
  rw [los, sco_same m c x y h]
  refine Net.kLoss_eq _ (IdealRules.named_const.ideal_named_scalar _ _ _ _ rfl) _ _ _ cl hc fun b k => ?_
  rw [hot_eq]
  exact Net.kTgtHot_apply _ b (cl b) ((blk6 m c b).trans (hc b)) k

end Cert.KernelIdeal.Link

end
-- ==== Proof.Algebraic.lean ====
/-
  The kernel and the reference, from arguments that agree and words in range, end with the same results.
-/
module

public import proofs.«01_k».proof.Proof.Same
public import proofs.«01_k».proof.Proof.Frames

@[expose] public section

set_option maxRecDepth 16384

noncomputable section

namespace Cert.Same

open Idealize.ShloMosaic Idealize.ShloMosaic.TcCoe Idealize.SL.Sem

variable (m : (ℓ : Loc KernelIdeal.nD KernelIdeal.τ KernelIdeal.sig) → Buf (Elt Ideal) ℓ) (c : Dev KernelIdeal.nD)
  (V0 : Valuation ReferenceIdeal.τ ReferenceIdeal.sig (Elt Ideal)) (hV : ReferenceIdeal.Link.args V0 = KernelIdeal.Link.args m c)
  (hs : (KernelIdeal.Link.args m c).Small)

include hV

/-- The loss from one node table. -/
theorem los (hs : (KernelIdeal.Link.args m c).Small) (x y : Net.Tab) (h : Net.toMat x = Net.toMat y) :
    KernelIdeal.Link.los m c KernelIdeal.Gen.t0_0 x = ReferenceIdeal.Link.rLos V0 y ix0 := by
  rw [KernelIdeal.Link.los_same m c hs x y h, ReferenceIdeal.Link.rLos, hV]

/-- The classes from one node table. -/
theorem cls (x y : Net.Tab) (h : Net.toMat x = Net.toMat y) :
    KernelIdeal.Link.cls m c KernelIdeal.Gen.t0_0 x = ReferenceIdeal.Link.rCls V0 y := by
  rw [KernelIdeal.Link.cls_same m c x y h, ReferenceIdeal.Link.rCls, hV]

include hs

/-- After every step both hold the same state. -/
theorem state (k : ℕ) : KernelIdeal.Link.kSt m c KernelIdeal.Gen.t0_0 k = ReferenceIdeal.Link.rSt V0 k := by
  rw [KernelIdeal.Link.kSt, ReferenceIdeal.Link.rSt, KernelIdeal.Link.loads, KernelIdeal.Link.first_same m c hs, ReferenceIdeal.Link.first, hV]

/-- A node table of the one is the other's. -/
theorem table (k : ℕ) {x y : Net.Tab} {h d h' d' : Net.Mat 4096 128} (e : (⟨Net.toMat x, h, d⟩ : Net.St) = KernelIdeal.Link.kSt m c KernelIdeal.Gen.t0_0 k)
    (e' : (⟨Net.toMat y, h', d'⟩ : Net.St) = ReferenceIdeal.Link.rSt V0 k) : Net.toMat x = Net.toMat y :=
  congrArg Net.St.x (e.trans ((state m c V0 hV hs k).trans e'.symm))

end Cert.Same

namespace Cert.Same

open Idealize.ShloMosaic Idealize.ShloMosaic.TcCoe Idealize.SL.Sem Cert.KernelIdeal.Link Cert.ReferenceIdeal.Value

variable (m : (ℓ : Loc KernelIdeal.nD KernelIdeal.τ KernelIdeal.sig) → Buf (Elt Ideal) ℓ) (c : Dev KernelIdeal.nD)
  (V0 : Valuation ReferenceIdeal.τ ReferenceIdeal.sig (Elt Ideal)) (hV : ReferenceIdeal.Link.args V0 = KernelIdeal.Link.args m c)
  (hs : (KernelIdeal.Link.args m c).Small)

include hV hs

/-- The losses the kernel leaves are the reference's. -/
theorem losses : broadcastInDim ReferenceIdeal.S8x1 ![0] ReferenceIdeal.Gen.bcast_S8_S8x1_0 (res_main_v1418 V0)
    = (KernelIdeal.Gen.dats m 0 c).arrAt 35 KernelIdeal.cfg0.N := by
  have t := @table m c V0 hV hs
  refine Eq.trans ?_ (arr35 m c).symm
  rw [KernelIdeal.Link.out_loss]
  refine (ReferenceIdeal.Link.out_loss V0).trans ?_
  rw [los m c V0 hV hs _ _ (t 1 (st1 m c _) (ReferenceIdeal.Link.rst1 V0)), los m c V0 hV hs _ _ (t 2 (st2 m c _) (ReferenceIdeal.Link.rst2 V0)),
    los m c V0 hV hs _ _ (t 3 (st3 m c _) (ReferenceIdeal.Link.rst3 V0)), los m c V0 hV hs _ _ (t 4 (st4 m c _) (ReferenceIdeal.Link.rst4 V0)),
    los m c V0 hV hs _ _ (t 5 (st5 m c _) (ReferenceIdeal.Link.rst5 V0)), los m c V0 hV hs _ _ (t 6 (st6 m c _) (ReferenceIdeal.Link.rst6 V0)),
    los m c V0 hV hs _ _ (t 7 (st7 m c _) (ReferenceIdeal.Link.rst7 V0)), los m c V0 hV hs _ _ (t 8 (st8 m c _) (ReferenceIdeal.Link.rst8 V0))]
  exact (Net.kStackF_eq _ _ _ _ _ _ _ _).symm

/-- The classes the kernel leaves, from the reference's. -/
theorem classes : (KernelIdeal.Gen.dats m 0 c).arrAt 36 KernelIdeal.cfg0.N = Net.hStackI
    (ReferenceIdeal.Link.rCls V0 (res_main_v186 V0)) (ReferenceIdeal.Link.rCls V0 (res_main_v355 V0))
    (ReferenceIdeal.Link.rCls V0 (res_main_v524 V0)) (ReferenceIdeal.Link.rCls V0 (res_main_v693 V0))
    (ReferenceIdeal.Link.rCls V0 (res_main_v862 V0)) (ReferenceIdeal.Link.rCls V0 (res_main_v1031 V0))
    (ReferenceIdeal.Link.rCls V0 (res_main_v1200 V0))
    (ReferenceIdeal.Link.rCls V0 (Net.hEmit (res_main_v1339 V0) (Net.hCell (res_main_v1339 V0) (res_main_v1192 V0)))) := by
  have t := @table m c V0 hV hs
  refine (arr36 m c).trans ?_
  rw [KernelIdeal.Link.out_idx]
  rw [cls m c V0 hV _ _ (t 1 (st1 m c _) (ReferenceIdeal.Link.rst1 V0)), cls m c V0 hV _ _ (t 2 (st2 m c _) (ReferenceIdeal.Link.rst2 V0)),
    cls m c V0 hV _ _ (t 3 (st3 m c _) (ReferenceIdeal.Link.rst3 V0)), cls m c V0 hV _ _ (t 4 (st4 m c _) (ReferenceIdeal.Link.rst4 V0)),
    cls m c V0 hV _ _ (t 5 (st5 m c _) (ReferenceIdeal.Link.rst5 V0)), cls m c V0 hV _ _ (t 6 (st6 m c _) (ReferenceIdeal.Link.rst6 V0)),
    cls m c V0 hV _ _ (t 7 (st7 m c _) (ReferenceIdeal.Link.rst7 V0)), cls m c V0 hV _ _ (t 8 (st8 m c _) (ReferenceIdeal.Link.rst8 V0))]
  exact Net.kStackI_eq _ _ _ _ _ _ _ _

omit hV hs

/-- From arguments that agree, with words in range, the kernel's results and the reference's are the same. -/
theorem algebraic [hp : Cert.Pre_in_range.Facts] : Cert.algebraic_KernelIdeal_ReferenceIdeal_pre_in_range := by
  intro m g m' g' hpre hag
  refine ⟨fun c => (KernelIdeal.Gen.dats m 0 c).arrAt 35 KernelIdeal.cfg0.N, fun c => (KernelIdeal.Gen.dats m 0 c).arrAt 36 KernelIdeal.cfg0.N,
    KernelIdeal.Value.run_blocks m g, ?_⟩
  refine (θ_run Cert.ReferenceIdeal.defs _ _).mono (fun _ h c => ?_) (Cert.ReferenceIdeal.Value.run (F := Ideal) m' g')
  have hV : ReferenceIdeal.Link.args (StableHlo.launchContents m' c) = KernelIdeal.Link.args m c := by
    unfold ReferenceIdeal.Link.args KernelIdeal.Link.args
    rw [Net.Args.mk.injEq]
    exact hag c
  have hs : (KernelIdeal.Link.args m c).Small := Net.small_of_pre _ (hpre c)
  exact ⟨(h c).1.trans (losses m c _ hV hs),
    (h c).2.1.trans ((ReferenceIdeal.Link.out_idx (StableHlo.launchContents m' c)).trans (classes m c _ hV hs).symm), (h c).2.2⟩

end Cert.Same

end
-- ==== Proof.lean ====
/-
  The certificate of the relational network: the programs' stated facts, then each claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_in_range.facts,
    Cert.Frames.kernel, Cert.Frames.kernelIdeal, fun m ρ _ => Cert.Frames.kernelIdeal m ρ trivial,
    Cert.Frames.referenceIdeal, fun m ρ _ => Cert.Frames.referenceIdeal m ρ trivial,
    Cert.Frames.preserves, Cert.Same.algebraic (hp := Cert.Pre_in_range.facts)⟩

end Cert.Proof

end
